-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_EvenProj (m : (ℓ : Loc Cert.EvenProj.nD Cert.EvenProj.τ Cert.EvenProj.sig) → Buf (Elt Bits) ℓ) : Prop :=
  True

def Pre_EvenProjIdeal (m : (ℓ : Loc Cert.EvenProjIdeal.nD Cert.EvenProjIdeal.τ Cert.EvenProjIdeal.sig) → Buf (Elt Ideal) ℓ) : Prop :=
  True

def Pre_EvenProjReferenceIdeal (m : (ℓ : Loc Cert.EvenProjReferenceIdeal.nD Cert.EvenProjReferenceIdeal.τ Cert.EvenProjReferenceIdeal.sig) → Buf (Elt Ideal) ℓ) : Prop :=
  True

def Pre_OddProj (m : (ℓ : Loc Cert.OddProj.nD Cert.OddProj.τ Cert.OddProj.sig) → Buf (Elt Bits) ℓ) : Prop :=
  True

def Pre_OddProjIdeal (m : (ℓ : Loc Cert.OddProjIdeal.nD Cert.OddProjIdeal.τ Cert.OddProjIdeal.sig) → Buf (Elt Ideal) ℓ) : Prop :=
  True

def Pre_OddProjReferenceIdeal (m : (ℓ : Loc Cert.OddProjReferenceIdeal.nD Cert.OddProjReferenceIdeal.τ Cert.OddProjReferenceIdeal.sig) → Buf (Elt Ideal) ℓ) : Prop :=
  True

def Pre_SampleEvenProj (m : (ℓ : Loc Cert.SampleEvenProj.nD Cert.SampleEvenProj.τ Cert.SampleEvenProj.sig) → Buf (Elt Bits) ℓ) : Prop :=
  True

def Pre_SampleEvenProjIdeal (m : (ℓ : Loc Cert.SampleEvenProjIdeal.nD Cert.SampleEvenProjIdeal.τ Cert.SampleEvenProjIdeal.sig) → Buf (Elt Ideal) ℓ) : Prop :=
  True

def Pre_SampleEvenProjReferenceIdeal (m : (ℓ : Loc Cert.SampleEvenProjReferenceIdeal.nD Cert.SampleEvenProjReferenceIdeal.τ Cert.SampleEvenProjReferenceIdeal.sig) → Buf (Elt Ideal) ℓ) : Prop :=
  True

def Pre_SampleOddProj (m : (ℓ : Loc Cert.SampleOddProj.nD Cert.SampleOddProj.τ Cert.SampleOddProj.sig) → Buf (Elt Bits) ℓ) : Prop :=
  True

def Pre_SampleOddProjIdeal (m : (ℓ : Loc Cert.SampleOddProjIdeal.nD Cert.SampleOddProjIdeal.τ Cert.SampleOddProjIdeal.sig) → Buf (Elt Ideal) ℓ) : Prop :=
  True

def Pre_SampleOddProjReferenceIdeal (m : (ℓ : Loc Cert.SampleOddProjReferenceIdeal.nD Cert.SampleOddProjReferenceIdeal.τ Cert.SampleOddProjReferenceIdeal.sig) → Buf (Elt Ideal) ℓ) : Prop :=
  True

def Pre_EvenFfn (m : (ℓ : Loc Cert.EvenFfn.nD Cert.EvenFfn.τ Cert.EvenFfn.sig) → Buf (Elt Bits) ℓ) : Prop :=
  True

def Pre_EvenFfnIdeal (m : (ℓ : Loc Cert.EvenFfnIdeal.nD Cert.EvenFfnIdeal.τ Cert.EvenFfnIdeal.sig) → Buf (Elt Ideal) ℓ) : Prop :=
  True

def Pre_EvenFfnReferenceIdeal (m : (ℓ : Loc Cert.EvenFfnReferenceIdeal.nD Cert.EvenFfnReferenceIdeal.τ Cert.EvenFfnReferenceIdeal.sig) → Buf (Elt Ideal) ℓ) : Prop :=
  True

def Pre_SampleFfn (m : (ℓ : Loc Cert.SampleFfn.nD Cert.SampleFfn.τ Cert.SampleFfn.sig) → Buf (Elt Bits) ℓ) : Prop :=
  True

def Pre_SampleFfnIdeal (m : (ℓ : Loc Cert.SampleFfnIdeal.nD Cert.SampleFfnIdeal.τ Cert.SampleFfnIdeal.sig) → Buf (Elt Ideal) ℓ) : Prop :=
  True

def Pre_SampleFfnReferenceIdeal (m : (ℓ : Loc Cert.SampleFfnReferenceIdeal.nD Cert.SampleFfnReferenceIdeal.τ Cert.SampleFfnReferenceIdeal.sig) → Buf (Elt Ideal) ℓ) : Prop :=
  True

def Pre_FoxGates (m : (ℓ : Loc Cert.FoxGates.nD Cert.FoxGates.τ Cert.FoxGates.sig) → Buf (Elt Bits) ℓ) : Prop :=
  True

def Pre_FoxGatesIdeal (m : (ℓ : Loc Cert.FoxGatesIdeal.nD Cert.FoxGatesIdeal.τ Cert.FoxGatesIdeal.sig) → Buf (Elt Ideal) ℓ) : Prop :=
  True

def Pre_FoxGatesReferenceIdeal (m : (ℓ : Loc Cert.FoxGatesReferenceIdeal.nD Cert.FoxGatesReferenceIdeal.τ Cert.FoxGatesReferenceIdeal.sig) → Buf (Elt Ideal) ℓ) : Prop :=
  True

def Pre_SampleMlstm (m : (ℓ : Loc Cert.SampleMlstm.nD Cert.SampleMlstm.τ Cert.SampleMlstm.sig) → Buf (Elt Bits) ℓ) : Prop :=
  True

def Pre_SampleMlstmIdeal (m : (ℓ : Loc Cert.SampleMlstmIdeal.nD Cert.SampleMlstmIdeal.τ Cert.SampleMlstmIdeal.sig) → Buf (Elt Ideal) ℓ) : Prop :=
  True

def Pre_SampleMlstmReferenceIdeal (m : (ℓ : Loc Cert.SampleMlstmReferenceIdeal.nD Cert.SampleMlstmReferenceIdeal.τ Cert.SampleMlstmReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def quiescent_EvenProj [hEvenProj : Cert.EvenProj.Facts] : Prop :=
  ∀ (m : (ℓ : Loc Cert.EvenProj.nD Cert.EvenProj.τ Cert.EvenProj.sig) → Buf (Elt Bits) ℓ) (g : Dev Cert.EvenProj.nD → PrngReg), Pre_EvenProj m →
    θ_run (Cert.EvenProj.defs (F := Bits)) (onTc (τ := Cert.EvenProj.τ) (Cert.EvenProj.main (F := Bits))) ⟨m, fun _ => 0, g⟩ (fun r => (∀ c : Dev Cert.EvenProj.nD,
      r.2.mem ((c.tc : Thread Cert.EvenProj.nD Cert.EvenProj.τ).loc Cert.EvenProj.main_arg0) = m ((c.tc : Thread Cert.EvenProj.nD Cert.EvenProj.τ).loc Cert.EvenProj.main_arg0)
      ∧ r.2.mem ((c.tc : Thread Cert.EvenProj.nD Cert.EvenProj.τ).loc Cert.EvenProj.main_arg1) = m ((c.tc : Thread Cert.EvenProj.nD Cert.EvenProj.τ).loc Cert.EvenProj.main_arg1)
      ∧ r.2.mem ((c.tc : Thread Cert.EvenProj.nD Cert.EvenProj.τ).loc Cert.EvenProj.main_arg2) = m ((c.tc : Thread Cert.EvenProj.nD Cert.EvenProj.τ).loc Cert.EvenProj.main_arg2))
      ∧ r.2.sem = fun _ => 0)

def quiescent_EvenProjIdeal [hEvenProjIdeal : Cert.EvenProjIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg), Pre_EvenProjIdeal m →
    θ_run (Cert.EvenProjIdeal.defs (F := Ideal)) (onTc (τ := Cert.EvenProjIdeal.τ) (Cert.EvenProjIdeal.main (F := Ideal))) ⟨m, fun _ => 0, g⟩ (fun r => (∀ c : Dev Cert.EvenProjIdeal.nD,
      r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
      ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
      ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2))
      ∧ r.2.sem = fun _ => 0)

def quiescent_EvenProjReferenceIdeal [hEvenProjReferenceIdeal : Cert.EvenProjReferenceIdeal.Facts] : Prop :=
  ∀ (m : (ℓ : Loc Cert.EvenProjReferenceIdeal.nD Cert.EvenProjReferenceIdeal.τ Cert.EvenProjReferenceIdeal.sig) → Buf (Elt Ideal) ℓ) (g : Dev Cert.EvenProjReferenceIdeal.nD → PrngReg), Pre_EvenProjReferenceIdeal m →
    θ_run (Cert.EvenProjReferenceIdeal.defs (F := Ideal)) (onTc (τ := Cert.EvenProjReferenceIdeal.τ) (Cert.EvenProjReferenceIdeal.main (F := Ideal))) ⟨m, fun _ => 0, g⟩ (fun r => (∀ c : Dev Cert.EvenProjReferenceIdeal.nD,
      r.2.mem ((c.tc : Thread Cert.EvenProjReferenceIdeal.nD Cert.EvenProjReferenceIdeal.τ).loc Cert.EvenProjReferenceIdeal.main_arg0) = m ((c.tc : Thread Cert.EvenProjReferenceIdeal.nD Cert.EvenProjReferenceIdeal.τ).loc Cert.EvenProjReferenceIdeal.main_arg0)
      ∧ r.2.mem ((c.tc : Thread Cert.EvenProjReferenceIdeal.nD Cert.EvenProjReferenceIdeal.τ).loc Cert.EvenProjReferenceIdeal.main_arg1) = m ((c.tc : Thread Cert.EvenProjReferenceIdeal.nD Cert.EvenProjReferenceIdeal.τ).loc Cert.EvenProjReferenceIdeal.main_arg1)
      ∧ r.2.mem ((c.tc : Thread Cert.EvenProjReferenceIdeal.nD Cert.EvenProjReferenceIdeal.τ).loc Cert.EvenProjReferenceIdeal.main_arg2) = m ((c.tc : Thread Cert.EvenProjReferenceIdeal.nD Cert.EvenProjReferenceIdeal.τ).loc Cert.EvenProjReferenceIdeal.main_arg2))
      ∧ r.2.sem = fun _ => 0)

def quiescent_OddProj [hOddProj : Cert.OddProj.Facts] : Prop :=
  ∀ (m : (ℓ : Loc Cert.OddProj.nD Cert.OddProj.τ Cert.OddProj.sig) → Buf (Elt Bits) ℓ) (g : Dev Cert.OddProj.nD → PrngReg), Pre_OddProj m →
    θ_run (Cert.OddProj.defs (F := Bits)) (onTc (τ := Cert.OddProj.τ) (Cert.OddProj.main (F := Bits))) ⟨m, fun _ => 0, g⟩ (fun r => (∀ c : Dev Cert.OddProj.nD,
      r.2.mem ((c.tc : Thread Cert.OddProj.nD Cert.OddProj.τ).loc Cert.OddProj.main_arg0) = m ((c.tc : Thread Cert.OddProj.nD Cert.OddProj.τ).loc Cert.OddProj.main_arg0)
      ∧ r.2.mem ((c.tc : Thread Cert.OddProj.nD Cert.OddProj.τ).loc Cert.OddProj.main_arg1) = m ((c.tc : Thread Cert.OddProj.nD Cert.OddProj.τ).loc Cert.OddProj.main_arg1)
      ∧ r.2.mem ((c.tc : Thread Cert.OddProj.nD Cert.OddProj.τ).loc Cert.OddProj.main_arg2) = m ((c.tc : Thread Cert.OddProj.nD Cert.OddProj.τ).loc Cert.OddProj.main_arg2))
      ∧ r.2.sem = fun _ => 0)

def quiescent_OddProjIdeal [hOddProjIdeal : Cert.OddProjIdeal.Facts] : Prop :=
  ∀ (m : (ℓ : Loc Cert.OddProjIdeal.nD Cert.OddProjIdeal.τ Cert.OddProjIdeal.sig) → Buf (Elt Ideal) ℓ) (g : Dev Cert.OddProjIdeal.nD → PrngReg), Pre_OddProjIdeal m →
    θ_run (Cert.OddProjIdeal.defs (F := Ideal)) (onTc (τ := Cert.OddProjIdeal.τ) (Cert.OddProjIdeal.main (F := Ideal))) ⟨m, fun _ => 0, g⟩ (fun r => (∀ c : Dev Cert.OddProjIdeal.nD,
      r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
      ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1)
      ∧ r.2.mem ((c.tc : Thread Cert.OddProjIdeal.nD Cert.OddProjIdeal.τ).loc Cert.OddProjIdeal.main_arg2) = m ((c.tc : Thread Cert.OddProjIdeal.nD Cert.OddProjIdeal.τ).loc Cert.OddProjIdeal.main_arg2))
      ∧ r.2.sem = fun _ => 0)

def quiescent_OddProjReferenceIdeal [hOddProjReferenceIdeal : Cert.OddProjReferenceIdeal.Facts] : Prop :=
  ∀ (m : (ℓ : Loc Cert.OddProjReferenceIdeal.nD Cert.OddProjReferenceIdeal.τ Cert.OddProjReferenceIdeal.sig) → Buf (Elt Ideal) ℓ) (g : Dev Cert.OddProjReferenceIdeal.nD → PrngReg), Pre_OddProjReferenceIdeal m →
    θ_run (Cert.OddProjReferenceIdeal.defs (F := Ideal)) (onTc (τ := Cert.OddProjReferenceIdeal.τ) (Cert.OddProjReferenceIdeal.main (F := Ideal))) ⟨m, fun _ => 0, g⟩ (fun r => (∀ c : Dev Cert.OddProjReferenceIdeal.nD,
      r.2.mem ((c.tc : Thread Cert.OddProjReferenceIdeal.nD Cert.OddProjReferenceIdeal.τ).loc Cert.OddProjReferenceIdeal.main_arg0) = m ((c.tc : Thread Cert.OddProjReferenceIdeal.nD Cert.OddProjReferenceIdeal.τ).loc Cert.OddProjReferenceIdeal.main_arg0)
      ∧ r.2.mem ((c.tc : Thread Cert.OddProjReferenceIdeal.nD Cert.OddProjReferenceIdeal.τ).loc Cert.OddProjReferenceIdeal.main_arg1) = m ((c.tc : Thread Cert.OddProjReferenceIdeal.nD Cert.OddProjReferenceIdeal.τ).loc Cert.OddProjReferenceIdeal.main_arg1)
      ∧ r.2.mem ((c.tc : Thread Cert.OddProjReferenceIdeal.nD Cert.OddProjReferenceIdeal.τ).loc Cert.OddProjReferenceIdeal.main_arg2) = m ((c.tc : Thread Cert.OddProjReferenceIdeal.nD Cert.OddProjReferenceIdeal.τ).loc Cert.OddProjReferenceIdeal.main_arg2))
      ∧ r.2.sem = fun _ => 0)

def quiescent_SampleEvenProj [hSampleEvenProj : Cert.SampleEvenProj.Facts] : Prop :=
  ∀ (m : (ℓ : Loc Cert.SampleEvenProj.nD Cert.SampleEvenProj.τ Cert.SampleEvenProj.sig) → Buf (Elt Bits) ℓ) (g : Dev Cert.SampleEvenProj.nD → PrngReg), Pre_SampleEvenProj m →
    θ_run (Cert.SampleEvenProj.defs (F := Bits)) (onTc (τ := Cert.SampleEvenProj.τ) (Cert.SampleEvenProj.main (F := Bits))) ⟨m, fun _ => 0, g⟩ (fun r => (∀ c : Dev Cert.SampleEvenProj.nD,
      r.2.mem ((c.tc : Thread Cert.SampleEvenProj.nD Cert.SampleEvenProj.τ).loc Cert.SampleEvenProj.main_arg0) = m ((c.tc : Thread Cert.SampleEvenProj.nD Cert.SampleEvenProj.τ).loc Cert.SampleEvenProj.main_arg0)
      ∧ r.2.mem ((c.tc : Thread Cert.SampleEvenProj.nD Cert.SampleEvenProj.τ).loc Cert.SampleEvenProj.main_arg1) = m ((c.tc : Thread Cert.SampleEvenProj.nD Cert.SampleEvenProj.τ).loc Cert.SampleEvenProj.main_arg1)
      ∧ r.2.mem ((c.tc : Thread Cert.SampleEvenProj.nD Cert.SampleEvenProj.τ).loc Cert.SampleEvenProj.main_arg2) = m ((c.tc : Thread Cert.SampleEvenProj.nD Cert.SampleEvenProj.τ).loc Cert.SampleEvenProj.main_arg2))
      ∧ r.2.sem = fun _ => 0)

def quiescent_SampleEvenProjIdeal [hSampleEvenProjIdeal : Cert.SampleEvenProjIdeal.Facts] : Prop :=
  ∀ (m : (ℓ : Loc Cert.SampleEvenProjIdeal.nD Cert.SampleEvenProjIdeal.τ Cert.SampleEvenProjIdeal.sig) → Buf (Elt Ideal) ℓ) (g : Dev Cert.SampleEvenProjIdeal.nD → PrngReg), Pre_SampleEvenProjIdeal m →
    θ_run (Cert.SampleEvenProjIdeal.defs (F := Ideal)) (onTc (τ := Cert.SampleEvenProjIdeal.τ) (Cert.SampleEvenProjIdeal.main (F := Ideal))) ⟨m, fun _ => 0, g⟩ (fun r => (∀ c : Dev Cert.SampleEvenProjIdeal.nD,
      r.2.mem ((c.tc : Thread Cert.SampleEvenProjIdeal.nD Cert.SampleEvenProjIdeal.τ).loc Cert.SampleEvenProjIdeal.main_arg0) = m ((c.tc : Thread Cert.SampleEvenProjIdeal.nD Cert.SampleEvenProjIdeal.τ).loc Cert.SampleEvenProjIdeal.main_arg0)
      ∧ r.2.mem ((c.tc : Thread Cert.SampleEvenProjIdeal.nD Cert.SampleEvenProjIdeal.τ).loc Cert.SampleEvenProjIdeal.main_arg1) = m ((c.tc : Thread Cert.SampleEvenProjIdeal.nD Cert.SampleEvenProjIdeal.τ).loc Cert.SampleEvenProjIdeal.main_arg1)
      ∧ r.2.mem ((c.tc : Thread Cert.SampleEvenProjIdeal.nD Cert.SampleEvenProjIdeal.τ).loc Cert.SampleEvenProjIdeal.main_arg2) = m ((c.tc : Thread Cert.SampleEvenProjIdeal.nD Cert.SampleEvenProjIdeal.τ).loc Cert.SampleEvenProjIdeal.main_arg2))
      ∧ r.2.sem = fun _ => 0)

def quiescent_SampleEvenProjReferenceIdeal [hSampleEvenProjReferenceIdeal : Cert.SampleEvenProjReferenceIdeal.Facts] : Prop :=
  ∀ (m : (ℓ : Loc Cert.SampleEvenProjReferenceIdeal.nD Cert.SampleEvenProjReferenceIdeal.τ Cert.SampleEvenProjReferenceIdeal.sig) → Buf (Elt Ideal) ℓ) (g : Dev Cert.SampleEvenProjReferenceIdeal.nD → PrngReg), Pre_SampleEvenProjReferenceIdeal m →
    θ_run (Cert.SampleEvenProjReferenceIdeal.defs (F := Ideal)) (onTc (τ := Cert.SampleEvenProjReferenceIdeal.τ) (Cert.SampleEvenProjReferenceIdeal.main (F := Ideal))) ⟨m, fun _ => 0, g⟩ (fun r => (∀ c : Dev Cert.SampleEvenProjReferenceIdeal.nD,
      r.2.mem ((c.tc : Thread Cert.SampleEvenProjReferenceIdeal.nD Cert.SampleEvenProjReferenceIdeal.τ).loc Cert.SampleEvenProjReferenceIdeal.main_arg0) = m ((c.tc : Thread Cert.SampleEvenProjReferenceIdeal.nD Cert.SampleEvenProjReferenceIdeal.τ).loc Cert.SampleEvenProjReferenceIdeal.main_arg0)
      ∧ r.2.mem ((c.tc : Thread Cert.SampleEvenProjReferenceIdeal.nD Cert.SampleEvenProjReferenceIdeal.τ).loc Cert.SampleEvenProjReferenceIdeal.main_arg1) = m ((c.tc : Thread Cert.SampleEvenProjReferenceIdeal.nD Cert.SampleEvenProjReferenceIdeal.τ).loc Cert.SampleEvenProjReferenceIdeal.main_arg1)
      ∧ r.2.mem ((c.tc : Thread Cert.SampleEvenProjReferenceIdeal.nD Cert.SampleEvenProjReferenceIdeal.τ).loc Cert.SampleEvenProjReferenceIdeal.main_arg2) = m ((c.tc : Thread Cert.SampleEvenProjReferenceIdeal.nD Cert.SampleEvenProjReferenceIdeal.τ).loc Cert.SampleEvenProjReferenceIdeal.main_arg2))
      ∧ r.2.sem = fun _ => 0)

def quiescent_SampleOddProj [hSampleOddProj : Cert.SampleOddProj.Facts] : Prop :=
  ∀ (m : (ℓ : Loc Cert.SampleOddProj.nD Cert.SampleOddProj.τ Cert.SampleOddProj.sig) → Buf (Elt Bits) ℓ) (g : Dev Cert.SampleOddProj.nD → PrngReg), Pre_SampleOddProj m →
    θ_run (Cert.SampleOddProj.defs (F := Bits)) (onTc (τ := Cert.SampleOddProj.τ) (Cert.SampleOddProj.main (F := Bits))) ⟨m, fun _ => 0, g⟩ (fun r => (∀ c : Dev Cert.SampleOddProj.nD,
      r.2.mem ((c.tc : Thread Cert.SampleOddProj.nD Cert.SampleOddProj.τ).loc Cert.SampleOddProj.main_arg0) = m ((c.tc : Thread Cert.SampleOddProj.nD Cert.SampleOddProj.τ).loc Cert.SampleOddProj.main_arg0)
      ∧ r.2.mem ((c.tc : Thread Cert.SampleOddProj.nD Cert.SampleOddProj.τ).loc Cert.SampleOddProj.main_arg1) = m ((c.tc : Thread Cert.SampleOddProj.nD Cert.SampleOddProj.τ).loc Cert.SampleOddProj.main_arg1)
      ∧ r.2.mem ((c.tc : Thread Cert.SampleOddProj.nD Cert.SampleOddProj.τ).loc Cert.SampleOddProj.main_arg2) = m ((c.tc : Thread Cert.SampleOddProj.nD Cert.SampleOddProj.τ).loc Cert.SampleOddProj.main_arg2))
      ∧ r.2.sem = fun _ => 0)

def quiescent_SampleOddProjIdeal [hSampleOddProjIdeal : Cert.SampleOddProjIdeal.Facts] : Prop :=
  ∀ (m : (ℓ : Loc Cert.SampleOddProjIdeal.nD Cert.SampleOddProjIdeal.τ Cert.SampleOddProjIdeal.sig) → Buf (Elt Ideal) ℓ) (g : Dev Cert.SampleOddProjIdeal.nD → PrngReg), Pre_SampleOddProjIdeal m →
    θ_run (Cert.SampleOddProjIdeal.defs (F := Ideal)) (onTc (τ := Cert.SampleOddProjIdeal.τ) (Cert.SampleOddProjIdeal.main (F := Ideal))) ⟨m, fun _ => 0, g⟩ (fun r => (∀ c : Dev Cert.SampleOddProjIdeal.nD,
      r.2.mem ((c.tc : Thread Cert.SampleOddProjIdeal.nD Cert.SampleOddProjIdeal.τ).loc Cert.SampleOddProjIdeal.main_arg0) = m ((c.tc : Thread Cert.SampleOddProjIdeal.nD Cert.SampleOddProjIdeal.τ).loc Cert.SampleOddProjIdeal.main_arg0)
      ∧ r.2.mem ((c.tc : Thread Cert.SampleOddProjIdeal.nD Cert.SampleOddProjIdeal.τ).loc Cert.SampleOddProjIdeal.main_arg1) = m ((c.tc : Thread Cert.SampleOddProjIdeal.nD Cert.SampleOddProjIdeal.τ).loc Cert.SampleOddProjIdeal.main_arg1)
      ∧ r.2.mem ((c.tc : Thread Cert.SampleOddProjIdeal.nD Cert.SampleOddProjIdeal.τ).loc Cert.SampleOddProjIdeal.main_arg2) = m ((c.tc : Thread Cert.SampleOddProjIdeal.nD Cert.SampleOddProjIdeal.τ).loc Cert.SampleOddProjIdeal.main_arg2))
      ∧ r.2.sem = fun _ => 0)

def quiescent_SampleOddProjReferenceIdeal [hSampleOddProjReferenceIdeal : Cert.SampleOddProjReferenceIdeal.Facts] : Prop :=
  ∀ (m : (ℓ : Loc Cert.SampleOddProjReferenceIdeal.nD Cert.SampleOddProjReferenceIdeal.τ Cert.SampleOddProjReferenceIdeal.sig) → Buf (Elt Ideal) ℓ) (g : Dev Cert.SampleOddProjReferenceIdeal.nD → PrngReg), Pre_SampleOddProjReferenceIdeal m →
    θ_run (Cert.SampleOddProjReferenceIdeal.defs (F := Ideal)) (onTc (τ := Cert.SampleOddProjReferenceIdeal.τ) (Cert.SampleOddProjReferenceIdeal.main (F := Ideal))) ⟨m, fun _ => 0, g⟩ (fun r => (∀ c : Dev Cert.SampleOddProjReferenceIdeal.nD,
      r.2.mem ((c.tc : Thread Cert.SampleOddProjReferenceIdeal.nD Cert.SampleOddProjReferenceIdeal.τ).loc Cert.SampleOddProjReferenceIdeal.main_arg0) = m ((c.tc : Thread Cert.SampleOddProjReferenceIdeal.nD Cert.SampleOddProjReferenceIdeal.τ).loc Cert.SampleOddProjReferenceIdeal.main_arg0)
      ∧ r.2.mem ((c.tc : Thread Cert.SampleOddProjReferenceIdeal.nD Cert.SampleOddProjReferenceIdeal.τ).loc Cert.SampleOddProjReferenceIdeal.main_arg1) = m ((c.tc : Thread Cert.SampleOddProjReferenceIdeal.nD Cert.SampleOddProjReferenceIdeal.τ).loc Cert.SampleOddProjReferenceIdeal.main_arg1)
      ∧ r.2.mem ((c.tc : Thread Cert.SampleOddProjReferenceIdeal.nD Cert.SampleOddProjReferenceIdeal.τ).loc Cert.SampleOddProjReferenceIdeal.main_arg2) = m ((c.tc : Thread Cert.SampleOddProjReferenceIdeal.nD Cert.SampleOddProjReferenceIdeal.τ).loc Cert.SampleOddProjReferenceIdeal.main_arg2))
      ∧ r.2.sem = fun _ => 0)

def quiescent_EvenFfn [hEvenFfn : Cert.EvenFfn.Facts] : Prop :=
  ∀ (m : (ℓ : Loc Cert.EvenFfn.nD Cert.EvenFfn.τ Cert.EvenFfn.sig) → Buf (Elt Bits) ℓ) (g : Dev Cert.EvenFfn.nD → PrngReg), Pre_EvenFfn m →
    θ_run (Cert.EvenFfn.defs (F := Bits)) (onTc (τ := Cert.EvenFfn.τ) (Cert.EvenFfn.main (F := Bits))) ⟨m, fun _ => 0, g⟩ (fun r => (∀ c : Dev Cert.EvenFfn.nD,
      r.2.mem ((c.tc : Thread Cert.EvenFfn.nD Cert.EvenFfn.τ).loc Cert.EvenFfn.main_arg0) = m ((c.tc : Thread Cert.EvenFfn.nD Cert.EvenFfn.τ).loc Cert.EvenFfn.main_arg0)
      ∧ r.2.mem ((c.tc : Thread Cert.EvenFfn.nD Cert.EvenFfn.τ).loc Cert.EvenFfn.main_arg1) = m ((c.tc : Thread Cert.EvenFfn.nD Cert.EvenFfn.τ).loc Cert.EvenFfn.main_arg1)
      ∧ r.2.mem ((c.tc : Thread Cert.EvenFfn.nD Cert.EvenFfn.τ).loc Cert.EvenFfn.main_arg2) = m ((c.tc : Thread Cert.EvenFfn.nD Cert.EvenFfn.τ).loc Cert.EvenFfn.main_arg2)
      ∧ r.2.mem ((c.tc : Thread Cert.EvenFfn.nD Cert.EvenFfn.τ).loc Cert.EvenFfn.main_arg3) = m ((c.tc : Thread Cert.EvenFfn.nD Cert.EvenFfn.τ).loc Cert.EvenFfn.main_arg3)
      ∧ r.2.mem ((c.tc : Thread Cert.EvenFfn.nD Cert.EvenFfn.τ).loc Cert.EvenFfn.main_arg4) = m ((c.tc : Thread Cert.EvenFfn.nD Cert.EvenFfn.τ).loc Cert.EvenFfn.main_arg4)
      ∧ r.2.mem ((c.tc : Thread Cert.EvenFfn.nD Cert.EvenFfn.τ).loc Cert.EvenFfn.main_arg5) = m ((c.tc : Thread Cert.EvenFfn.nD Cert.EvenFfn.τ).loc Cert.EvenFfn.main_arg5)
      ∧ r.2.mem ((c.tc : Thread Cert.EvenFfn.nD Cert.EvenFfn.τ).loc Cert.EvenFfn.main_arg6) = m ((c.tc : Thread Cert.EvenFfn.nD Cert.EvenFfn.τ).loc Cert.EvenFfn.main_arg6)
      ∧ r.2.mem ((c.tc : Thread Cert.EvenFfn.nD Cert.EvenFfn.τ).loc Cert.EvenFfn.main_arg7) = m ((c.tc : Thread Cert.EvenFfn.nD Cert.EvenFfn.τ).loc Cert.EvenFfn.main_arg7)
      ∧ r.2.mem ((c.tc : Thread Cert.EvenFfn.nD Cert.EvenFfn.τ).loc Cert.EvenFfn.main_arg8) = m ((c.tc : Thread Cert.EvenFfn.nD Cert.EvenFfn.τ).loc Cert.EvenFfn.main_arg8))
      ∧ r.2.sem = fun _ => 0)

def quiescent_EvenFfnIdeal [hEvenFfnIdeal : Cert.EvenFfnIdeal.Facts] : Prop :=
  ∀ (m : (ℓ : Loc Cert.EvenFfnIdeal.nD Cert.EvenFfnIdeal.τ Cert.EvenFfnIdeal.sig) → Buf (Elt Ideal) ℓ) (g : Dev Cert.EvenFfnIdeal.nD → PrngReg), Pre_EvenFfnIdeal m →
    θ_run (Cert.EvenFfnIdeal.defs (F := Ideal)) (onTc (τ := Cert.EvenFfnIdeal.τ) (Cert.EvenFfnIdeal.main (F := Ideal))) ⟨m, fun _ => 0, g⟩ (fun r => (∀ c : Dev Cert.EvenFfnIdeal.nD,
      r.2.mem ((c.tc : Thread Cert.EvenFfnIdeal.nD Cert.EvenFfnIdeal.τ).loc Cert.EvenFfnIdeal.main_arg0) = m ((c.tc : Thread Cert.EvenFfnIdeal.nD Cert.EvenFfnIdeal.τ).loc Cert.EvenFfnIdeal.main_arg0)
      ∧ r.2.mem ((c.tc : Thread Cert.EvenFfnIdeal.nD Cert.EvenFfnIdeal.τ).loc Cert.EvenFfnIdeal.main_arg1) = m ((c.tc : Thread Cert.EvenFfnIdeal.nD Cert.EvenFfnIdeal.τ).loc Cert.EvenFfnIdeal.main_arg1)
      ∧ r.2.mem ((c.tc : Thread Cert.EvenFfnIdeal.nD Cert.EvenFfnIdeal.τ).loc Cert.EvenFfnIdeal.main_arg2) = m ((c.tc : Thread Cert.EvenFfnIdeal.nD Cert.EvenFfnIdeal.τ).loc Cert.EvenFfnIdeal.main_arg2)
      ∧ r.2.mem ((c.tc : Thread Cert.EvenFfnIdeal.nD Cert.EvenFfnIdeal.τ).loc Cert.EvenFfnIdeal.main_arg3) = m ((c.tc : Thread Cert.EvenFfnIdeal.nD Cert.EvenFfnIdeal.τ).loc Cert.EvenFfnIdeal.main_arg3)
      ∧ r.2.mem ((c.tc : Thread Cert.EvenFfnIdeal.nD Cert.EvenFfnIdeal.τ).loc Cert.EvenFfnIdeal.main_arg4) = m ((c.tc : Thread Cert.EvenFfnIdeal.nD Cert.EvenFfnIdeal.τ).loc Cert.EvenFfnIdeal.main_arg4)
      ∧ r.2.mem ((c.tc : Thread Cert.EvenFfnIdeal.nD Cert.EvenFfnIdeal.τ).loc Cert.EvenFfnIdeal.main_arg5) = m ((c.tc : Thread Cert.EvenFfnIdeal.nD Cert.EvenFfnIdeal.τ).loc Cert.EvenFfnIdeal.main_arg5)
      ∧ r.2.mem ((c.tc : Thread Cert.EvenFfnIdeal.nD Cert.EvenFfnIdeal.τ).loc Cert.EvenFfnIdeal.main_arg6) = m ((c.tc : Thread Cert.EvenFfnIdeal.nD Cert.EvenFfnIdeal.τ).loc Cert.EvenFfnIdeal.main_arg6)
      ∧ r.2.mem ((c.tc : Thread Cert.EvenFfnIdeal.nD Cert.EvenFfnIdeal.τ).loc Cert.EvenFfnIdeal.main_arg7) = m ((c.tc : Thread Cert.EvenFfnIdeal.nD Cert.EvenFfnIdeal.τ).loc Cert.EvenFfnIdeal.main_arg7)
      ∧ r.2.mem ((c.tc : Thread Cert.EvenFfnIdeal.nD Cert.EvenFfnIdeal.τ).loc Cert.EvenFfnIdeal.main_arg8) = m ((c.tc : Thread Cert.EvenFfnIdeal.nD Cert.EvenFfnIdeal.τ).loc Cert.EvenFfnIdeal.main_arg8))
      ∧ r.2.sem = fun _ => 0)

def quiescent_EvenFfnReferenceIdeal [hEvenFfnReferenceIdeal : Cert.EvenFfnReferenceIdeal.Facts] : Prop :=
  ∀ (m : (ℓ : Loc Cert.EvenFfnReferenceIdeal.nD Cert.EvenFfnReferenceIdeal.τ Cert.EvenFfnReferenceIdeal.sig) → Buf (Elt Ideal) ℓ) (g : Dev Cert.EvenFfnReferenceIdeal.nD → PrngReg), Pre_EvenFfnReferenceIdeal m →
    θ_run (Cert.EvenFfnReferenceIdeal.defs (F := Ideal)) (onTc (τ := Cert.EvenFfnReferenceIdeal.τ) (Cert.EvenFfnReferenceIdeal.main (F := Ideal))) ⟨m, fun _ => 0, g⟩ (fun r => (∀ c : Dev Cert.EvenFfnReferenceIdeal.nD,
      r.2.mem ((c.tc : Thread Cert.EvenFfnReferenceIdeal.nD Cert.EvenFfnReferenceIdeal.τ).loc Cert.EvenFfnReferenceIdeal.main_arg0) = m ((c.tc : Thread Cert.EvenFfnReferenceIdeal.nD Cert.EvenFfnReferenceIdeal.τ).loc Cert.EvenFfnReferenceIdeal.main_arg0)
      ∧ r.2.mem ((c.tc : Thread Cert.EvenFfnReferenceIdeal.nD Cert.EvenFfnReferenceIdeal.τ).loc Cert.EvenFfnReferenceIdeal.main_arg1) = m ((c.tc : Thread Cert.EvenFfnReferenceIdeal.nD Cert.EvenFfnReferenceIdeal.τ).loc Cert.EvenFfnReferenceIdeal.main_arg1)
      ∧ r.2.mem ((c.tc : Thread Cert.EvenFfnReferenceIdeal.nD Cert.EvenFfnReferenceIdeal.τ).loc Cert.EvenFfnReferenceIdeal.main_arg2) = m ((c.tc : Thread Cert.EvenFfnReferenceIdeal.nD Cert.EvenFfnReferenceIdeal.τ).loc Cert.EvenFfnReferenceIdeal.main_arg2)
      ∧ r.2.mem ((c.tc : Thread Cert.EvenFfnReferenceIdeal.nD Cert.EvenFfnReferenceIdeal.τ).loc Cert.EvenFfnReferenceIdeal.main_arg3) = m ((c.tc : Thread Cert.EvenFfnReferenceIdeal.nD Cert.EvenFfnReferenceIdeal.τ).loc Cert.EvenFfnReferenceIdeal.main_arg3)
      ∧ r.2.mem ((c.tc : Thread Cert.EvenFfnReferenceIdeal.nD Cert.EvenFfnReferenceIdeal.τ).loc Cert.EvenFfnReferenceIdeal.main_arg4) = m ((c.tc : Thread Cert.EvenFfnReferenceIdeal.nD Cert.EvenFfnReferenceIdeal.τ).loc Cert.EvenFfnReferenceIdeal.main_arg4)
      ∧ r.2.mem ((c.tc : Thread Cert.EvenFfnReferenceIdeal.nD Cert.EvenFfnReferenceIdeal.τ).loc Cert.EvenFfnReferenceIdeal.main_arg5) = m ((c.tc : Thread Cert.EvenFfnReferenceIdeal.nD Cert.EvenFfnReferenceIdeal.τ).loc Cert.EvenFfnReferenceIdeal.main_arg5)
      ∧ r.2.mem ((c.tc : Thread Cert.EvenFfnReferenceIdeal.nD Cert.EvenFfnReferenceIdeal.τ).loc Cert.EvenFfnReferenceIdeal.main_arg6) = m ((c.tc : Thread Cert.EvenFfnReferenceIdeal.nD Cert.EvenFfnReferenceIdeal.τ).loc Cert.EvenFfnReferenceIdeal.main_arg6)
      ∧ r.2.mem ((c.tc : Thread Cert.EvenFfnReferenceIdeal.nD Cert.EvenFfnReferenceIdeal.τ).loc Cert.EvenFfnReferenceIdeal.main_arg7) = m ((c.tc : Thread Cert.EvenFfnReferenceIdeal.nD Cert.EvenFfnReferenceIdeal.τ).loc Cert.EvenFfnReferenceIdeal.main_arg7)
      ∧ r.2.mem ((c.tc : Thread Cert.EvenFfnReferenceIdeal.nD Cert.EvenFfnReferenceIdeal.τ).loc Cert.EvenFfnReferenceIdeal.main_arg8) = m ((c.tc : Thread Cert.EvenFfnReferenceIdeal.nD Cert.EvenFfnReferenceIdeal.τ).loc Cert.EvenFfnReferenceIdeal.main_arg8))
      ∧ r.2.sem = fun _ => 0)

def quiescent_SampleFfn [hSampleFfn : Cert.SampleFfn.Facts] : Prop :=
  ∀ (m : (ℓ : Loc Cert.SampleFfn.nD Cert.SampleFfn.τ Cert.SampleFfn.sig) → Buf (Elt Bits) ℓ) (g : Dev Cert.SampleFfn.nD → PrngReg), Pre_SampleFfn m →
    θ_run (Cert.SampleFfn.defs (F := Bits)) (onTc (τ := Cert.SampleFfn.τ) (Cert.SampleFfn.main (F := Bits))) ⟨m, fun _ => 0, g⟩ (fun r => (∀ c : Dev Cert.SampleFfn.nD,
      r.2.mem ((c.tc : Thread Cert.SampleFfn.nD Cert.SampleFfn.τ).loc Cert.SampleFfn.main_arg0) = m ((c.tc : Thread Cert.SampleFfn.nD Cert.SampleFfn.τ).loc Cert.SampleFfn.main_arg0)
      ∧ r.2.mem ((c.tc : Thread Cert.SampleFfn.nD Cert.SampleFfn.τ).loc Cert.SampleFfn.main_arg1) = m ((c.tc : Thread Cert.SampleFfn.nD Cert.SampleFfn.τ).loc Cert.SampleFfn.main_arg1)
      ∧ r.2.mem ((c.tc : Thread Cert.SampleFfn.nD Cert.SampleFfn.τ).loc Cert.SampleFfn.main_arg2) = m ((c.tc : Thread Cert.SampleFfn.nD Cert.SampleFfn.τ).loc Cert.SampleFfn.main_arg2)
      ∧ r.2.mem ((c.tc : Thread Cert.SampleFfn.nD Cert.SampleFfn.τ).loc Cert.SampleFfn.main_arg3) = m ((c.tc : Thread Cert.SampleFfn.nD Cert.SampleFfn.τ).loc Cert.SampleFfn.main_arg3)
      ∧ r.2.mem ((c.tc : Thread Cert.SampleFfn.nD Cert.SampleFfn.τ).loc Cert.SampleFfn.main_arg4) = m ((c.tc : Thread Cert.SampleFfn.nD Cert.SampleFfn.τ).loc Cert.SampleFfn.main_arg4)
      ∧ r.2.mem ((c.tc : Thread Cert.SampleFfn.nD Cert.SampleFfn.τ).loc Cert.SampleFfn.main_arg5) = m ((c.tc : Thread Cert.SampleFfn.nD Cert.SampleFfn.τ).loc Cert.SampleFfn.main_arg5)
      ∧ r.2.mem ((c.tc : Thread Cert.SampleFfn.nD Cert.SampleFfn.τ).loc Cert.SampleFfn.main_arg6) = m ((c.tc : Thread Cert.SampleFfn.nD Cert.SampleFfn.τ).loc Cert.SampleFfn.main_arg6)
      ∧ r.2.mem ((c.tc : Thread Cert.SampleFfn.nD Cert.SampleFfn.τ).loc Cert.SampleFfn.main_arg7) = m ((c.tc : Thread Cert.SampleFfn.nD Cert.SampleFfn.τ).loc Cert.SampleFfn.main_arg7))
      ∧ r.2.sem = fun _ => 0)

def quiescent_SampleFfnIdeal [hSampleFfnIdeal : Cert.SampleFfnIdeal.Facts] : Prop :=
  ∀ (m : (ℓ : Loc Cert.SampleFfnIdeal.nD Cert.SampleFfnIdeal.τ Cert.SampleFfnIdeal.sig) → Buf (Elt Ideal) ℓ) (g : Dev Cert.SampleFfnIdeal.nD → PrngReg), Pre_SampleFfnIdeal m →
    θ_run (Cert.SampleFfnIdeal.defs (F := Ideal)) (onTc (τ := Cert.SampleFfnIdeal.τ) (Cert.SampleFfnIdeal.main (F := Ideal))) ⟨m, fun _ => 0, g⟩ (fun r => (∀ c : Dev Cert.SampleFfnIdeal.nD,
      r.2.mem ((c.tc : Thread Cert.SampleFfnIdeal.nD Cert.SampleFfnIdeal.τ).loc Cert.SampleFfnIdeal.main_arg0) = m ((c.tc : Thread Cert.SampleFfnIdeal.nD Cert.SampleFfnIdeal.τ).loc Cert.SampleFfnIdeal.main_arg0)
      ∧ r.2.mem ((c.tc : Thread Cert.SampleFfnIdeal.nD Cert.SampleFfnIdeal.τ).loc Cert.SampleFfnIdeal.main_arg1) = m ((c.tc : Thread Cert.SampleFfnIdeal.nD Cert.SampleFfnIdeal.τ).loc Cert.SampleFfnIdeal.main_arg1)
      ∧ r.2.mem ((c.tc : Thread Cert.SampleFfnIdeal.nD Cert.SampleFfnIdeal.τ).loc Cert.SampleFfnIdeal.main_arg2) = m ((c.tc : Thread Cert.SampleFfnIdeal.nD Cert.SampleFfnIdeal.τ).loc Cert.SampleFfnIdeal.main_arg2)
      ∧ r.2.mem ((c.tc : Thread Cert.SampleFfnIdeal.nD Cert.SampleFfnIdeal.τ).loc Cert.SampleFfnIdeal.main_arg3) = m ((c.tc : Thread Cert.SampleFfnIdeal.nD Cert.SampleFfnIdeal.τ).loc Cert.SampleFfnIdeal.main_arg3)
      ∧ r.2.mem ((c.tc : Thread Cert.SampleFfnIdeal.nD Cert.SampleFfnIdeal.τ).loc Cert.SampleFfnIdeal.main_arg4) = m ((c.tc : Thread Cert.SampleFfnIdeal.nD Cert.SampleFfnIdeal.τ).loc Cert.SampleFfnIdeal.main_arg4)
      ∧ r.2.mem ((c.tc : Thread Cert.SampleFfnIdeal.nD Cert.SampleFfnIdeal.τ).loc Cert.SampleFfnIdeal.main_arg5) = m ((c.tc : Thread Cert.SampleFfnIdeal.nD Cert.SampleFfnIdeal.τ).loc Cert.SampleFfnIdeal.main_arg5)
      ∧ r.2.mem ((c.tc : Thread Cert.SampleFfnIdeal.nD Cert.SampleFfnIdeal.τ).loc Cert.SampleFfnIdeal.main_arg6) = m ((c.tc : Thread Cert.SampleFfnIdeal.nD Cert.SampleFfnIdeal.τ).loc Cert.SampleFfnIdeal.main_arg6)
      ∧ r.2.mem ((c.tc : Thread Cert.SampleFfnIdeal.nD Cert.SampleFfnIdeal.τ).loc Cert.SampleFfnIdeal.main_arg7) = m ((c.tc : Thread Cert.SampleFfnIdeal.nD Cert.SampleFfnIdeal.τ).loc Cert.SampleFfnIdeal.main_arg7))
      ∧ r.2.sem = fun _ => 0)

def quiescent_SampleFfnReferenceIdeal [hSampleFfnReferenceIdeal : Cert.SampleFfnReferenceIdeal.Facts] : Prop :=
  ∀ (m : (ℓ : Loc Cert.SampleFfnReferenceIdeal.nD Cert.SampleFfnReferenceIdeal.τ Cert.SampleFfnReferenceIdeal.sig) → Buf (Elt Ideal) ℓ) (g : Dev Cert.SampleFfnReferenceIdeal.nD → PrngReg), Pre_SampleFfnReferenceIdeal m →
    θ_run (Cert.SampleFfnReferenceIdeal.defs (F := Ideal)) (onTc (τ := Cert.SampleFfnReferenceIdeal.τ) (Cert.SampleFfnReferenceIdeal.main (F := Ideal))) ⟨m, fun _ => 0, g⟩ (fun r => (∀ c : Dev Cert.SampleFfnReferenceIdeal.nD,
      r.2.mem ((c.tc : Thread Cert.SampleFfnReferenceIdeal.nD Cert.SampleFfnReferenceIdeal.τ).loc Cert.SampleFfnReferenceIdeal.main_arg0) = m ((c.tc : Thread Cert.SampleFfnReferenceIdeal.nD Cert.SampleFfnReferenceIdeal.τ).loc Cert.SampleFfnReferenceIdeal.main_arg0)
      ∧ r.2.mem ((c.tc : Thread Cert.SampleFfnReferenceIdeal.nD Cert.SampleFfnReferenceIdeal.τ).loc Cert.SampleFfnReferenceIdeal.main_arg1) = m ((c.tc : Thread Cert.SampleFfnReferenceIdeal.nD Cert.SampleFfnReferenceIdeal.τ).loc Cert.SampleFfnReferenceIdeal.main_arg1)
      ∧ r.2.mem ((c.tc : Thread Cert.SampleFfnReferenceIdeal.nD Cert.SampleFfnReferenceIdeal.τ).loc Cert.SampleFfnReferenceIdeal.main_arg2) = m ((c.tc : Thread Cert.SampleFfnReferenceIdeal.nD Cert.SampleFfnReferenceIdeal.τ).loc Cert.SampleFfnReferenceIdeal.main_arg2)
      ∧ r.2.mem ((c.tc : Thread Cert.SampleFfnReferenceIdeal.nD Cert.SampleFfnReferenceIdeal.τ).loc Cert.SampleFfnReferenceIdeal.main_arg3) = m ((c.tc : Thread Cert.SampleFfnReferenceIdeal.nD Cert.SampleFfnReferenceIdeal.τ).loc Cert.SampleFfnReferenceIdeal.main_arg3)
      ∧ r.2.mem ((c.tc : Thread Cert.SampleFfnReferenceIdeal.nD Cert.SampleFfnReferenceIdeal.τ).loc Cert.SampleFfnReferenceIdeal.main_arg4) = m ((c.tc : Thread Cert.SampleFfnReferenceIdeal.nD Cert.SampleFfnReferenceIdeal.τ).loc Cert.SampleFfnReferenceIdeal.main_arg4)
      ∧ r.2.mem ((c.tc : Thread Cert.SampleFfnReferenceIdeal.nD Cert.SampleFfnReferenceIdeal.τ).loc Cert.SampleFfnReferenceIdeal.main_arg5) = m ((c.tc : Thread Cert.SampleFfnReferenceIdeal.nD Cert.SampleFfnReferenceIdeal.τ).loc Cert.SampleFfnReferenceIdeal.main_arg5)
      ∧ r.2.mem ((c.tc : Thread Cert.SampleFfnReferenceIdeal.nD Cert.SampleFfnReferenceIdeal.τ).loc Cert.SampleFfnReferenceIdeal.main_arg6) = m ((c.tc : Thread Cert.SampleFfnReferenceIdeal.nD Cert.SampleFfnReferenceIdeal.τ).loc Cert.SampleFfnReferenceIdeal.main_arg6)
      ∧ r.2.mem ((c.tc : Thread Cert.SampleFfnReferenceIdeal.nD Cert.SampleFfnReferenceIdeal.τ).loc Cert.SampleFfnReferenceIdeal.main_arg7) = m ((c.tc : Thread Cert.SampleFfnReferenceIdeal.nD Cert.SampleFfnReferenceIdeal.τ).loc Cert.SampleFfnReferenceIdeal.main_arg7))
      ∧ r.2.sem = fun _ => 0)

def quiescent_FoxGates [hFoxGates : Cert.FoxGates.Facts] : Prop :=
  ∀ (m : (ℓ : Loc Cert.FoxGates.nD Cert.FoxGates.τ Cert.FoxGates.sig) → Buf (Elt Bits) ℓ) (g : Dev Cert.FoxGates.nD → PrngReg), Pre_FoxGates m →
    θ_run (Cert.FoxGates.defs (F := Bits)) (onTc (τ := Cert.FoxGates.τ) (Cert.FoxGates.main (F := Bits))) ⟨m, fun _ => 0, g⟩ (fun r => (∀ c : Dev Cert.FoxGates.nD,
      r.2.mem ((c.tc : Thread Cert.FoxGates.nD Cert.FoxGates.τ).loc Cert.FoxGates.main_arg0) = m ((c.tc : Thread Cert.FoxGates.nD Cert.FoxGates.τ).loc Cert.FoxGates.main_arg0)
      ∧ r.2.mem ((c.tc : Thread Cert.FoxGates.nD Cert.FoxGates.τ).loc Cert.FoxGates.main_arg1) = m ((c.tc : Thread Cert.FoxGates.nD Cert.FoxGates.τ).loc Cert.FoxGates.main_arg1))
      ∧ r.2.sem = fun _ => 0)

def quiescent_FoxGatesIdeal [hFoxGatesIdeal : Cert.FoxGatesIdeal.Facts] : Prop :=
  ∀ (m : (ℓ : Loc Cert.FoxGatesIdeal.nD Cert.FoxGatesIdeal.τ Cert.FoxGatesIdeal.sig) → Buf (Elt Ideal) ℓ) (g : Dev Cert.FoxGatesIdeal.nD → PrngReg), Pre_FoxGatesIdeal m →
    θ_run (Cert.FoxGatesIdeal.defs (F := Ideal)) (onTc (τ := Cert.FoxGatesIdeal.τ) (Cert.FoxGatesIdeal.main (F := Ideal))) ⟨m, fun _ => 0, g⟩ (fun r => (∀ c : Dev Cert.FoxGatesIdeal.nD,
      r.2.mem ((c.tc : Thread Cert.FoxGatesIdeal.nD Cert.FoxGatesIdeal.τ).loc Cert.FoxGatesIdeal.main_arg0) = m ((c.tc : Thread Cert.FoxGatesIdeal.nD Cert.FoxGatesIdeal.τ).loc Cert.FoxGatesIdeal.main_arg0)
      ∧ r.2.mem ((c.tc : Thread Cert.FoxGatesIdeal.nD Cert.FoxGatesIdeal.τ).loc Cert.FoxGatesIdeal.main_arg1) = m ((c.tc : Thread Cert.FoxGatesIdeal.nD Cert.FoxGatesIdeal.τ).loc Cert.FoxGatesIdeal.main_arg1))
      ∧ r.2.sem = fun _ => 0)

def quiescent_FoxGatesReferenceIdeal [hFoxGatesReferenceIdeal : Cert.FoxGatesReferenceIdeal.Facts] : Prop :=
  ∀ (m : (ℓ : Loc Cert.FoxGatesReferenceIdeal.nD Cert.FoxGatesReferenceIdeal.τ Cert.FoxGatesReferenceIdeal.sig) → Buf (Elt Ideal) ℓ) (g : Dev Cert.FoxGatesReferenceIdeal.nD → PrngReg), Pre_FoxGatesReferenceIdeal m →
    θ_run (Cert.FoxGatesReferenceIdeal.defs (F := Ideal)) (onTc (τ := Cert.FoxGatesReferenceIdeal.τ) (Cert.FoxGatesReferenceIdeal.main (F := Ideal))) ⟨m, fun _ => 0, g⟩ (fun r => (∀ c : Dev Cert.FoxGatesReferenceIdeal.nD,
      r.2.mem ((c.tc : Thread Cert.FoxGatesReferenceIdeal.nD Cert.FoxGatesReferenceIdeal.τ).loc Cert.FoxGatesReferenceIdeal.main_arg0) = m ((c.tc : Thread Cert.FoxGatesReferenceIdeal.nD Cert.FoxGatesReferenceIdeal.τ).loc Cert.FoxGatesReferenceIdeal.main_arg0)
      ∧ r.2.mem ((c.tc : Thread Cert.FoxGatesReferenceIdeal.nD Cert.FoxGatesReferenceIdeal.τ).loc Cert.FoxGatesReferenceIdeal.main_arg1) = m ((c.tc : Thread Cert.FoxGatesReferenceIdeal.nD Cert.FoxGatesReferenceIdeal.τ).loc Cert.FoxGatesReferenceIdeal.main_arg1))
      ∧ r.2.sem = fun _ => 0)

def quiescent_SampleMlstm [hSampleMlstm : Cert.SampleMlstm.Facts] : Prop :=
  ∀ (m : (ℓ : Loc Cert.SampleMlstm.nD Cert.SampleMlstm.τ Cert.SampleMlstm.sig) → Buf (Elt Bits) ℓ) (g : Dev Cert.SampleMlstm.nD → PrngReg), Pre_SampleMlstm m →
    θ_run (Cert.SampleMlstm.defs (F := Bits)) (onTc (τ := Cert.SampleMlstm.τ) (Cert.SampleMlstm.main (F := Bits))) ⟨m, fun _ => 0, g⟩ (fun r => (∀ c : Dev Cert.SampleMlstm.nD,
      r.2.mem ((c.tc : Thread Cert.SampleMlstm.nD Cert.SampleMlstm.τ).loc Cert.SampleMlstm.main_arg0) = m ((c.tc : Thread Cert.SampleMlstm.nD Cert.SampleMlstm.τ).loc Cert.SampleMlstm.main_arg0)
      ∧ r.2.mem ((c.tc : Thread Cert.SampleMlstm.nD Cert.SampleMlstm.τ).loc Cert.SampleMlstm.main_arg1) = m ((c.tc : Thread Cert.SampleMlstm.nD Cert.SampleMlstm.τ).loc Cert.SampleMlstm.main_arg1)
      ∧ r.2.mem ((c.tc : Thread Cert.SampleMlstm.nD Cert.SampleMlstm.τ).loc Cert.SampleMlstm.main_arg2) = m ((c.tc : Thread Cert.SampleMlstm.nD Cert.SampleMlstm.τ).loc Cert.SampleMlstm.main_arg2)
      ∧ r.2.mem ((c.tc : Thread Cert.SampleMlstm.nD Cert.SampleMlstm.τ).loc Cert.SampleMlstm.main_arg3) = m ((c.tc : Thread Cert.SampleMlstm.nD Cert.SampleMlstm.τ).loc Cert.SampleMlstm.main_arg3)
      ∧ r.2.mem ((c.tc : Thread Cert.SampleMlstm.nD Cert.SampleMlstm.τ).loc Cert.SampleMlstm.main_arg4) = m ((c.tc : Thread Cert.SampleMlstm.nD Cert.SampleMlstm.τ).loc Cert.SampleMlstm.main_arg4)
      ∧ r.2.mem ((c.tc : Thread Cert.SampleMlstm.nD Cert.SampleMlstm.τ).loc Cert.SampleMlstm.main_arg5) = m ((c.tc : Thread Cert.SampleMlstm.nD Cert.SampleMlstm.τ).loc Cert.SampleMlstm.main_arg5)
      ∧ r.2.mem ((c.tc : Thread Cert.SampleMlstm.nD Cert.SampleMlstm.τ).loc Cert.SampleMlstm.main_arg6) = m ((c.tc : Thread Cert.SampleMlstm.nD Cert.SampleMlstm.τ).loc Cert.SampleMlstm.main_arg6)
      ∧ r.2.mem ((c.tc : Thread Cert.SampleMlstm.nD Cert.SampleMlstm.τ).loc Cert.SampleMlstm.main_arg7) = m ((c.tc : Thread Cert.SampleMlstm.nD Cert.SampleMlstm.τ).loc Cert.SampleMlstm.main_arg7)
      ∧ r.2.mem ((c.tc : Thread Cert.SampleMlstm.nD Cert.SampleMlstm.τ).loc Cert.SampleMlstm.main_arg8) = m ((c.tc : Thread Cert.SampleMlstm.nD Cert.SampleMlstm.τ).loc Cert.SampleMlstm.main_arg8)
      ∧ r.2.mem ((c.tc : Thread Cert.SampleMlstm.nD Cert.SampleMlstm.τ).loc Cert.SampleMlstm.main_arg9) = m ((c.tc : Thread Cert.SampleMlstm.nD Cert.SampleMlstm.τ).loc Cert.SampleMlstm.main_arg9)
      ∧ r.2.mem ((c.tc : Thread Cert.SampleMlstm.nD Cert.SampleMlstm.τ).loc Cert.SampleMlstm.main_arg10) = m ((c.tc : Thread Cert.SampleMlstm.nD Cert.SampleMlstm.τ).loc Cert.SampleMlstm.main_arg10))
      ∧ r.2.sem = fun _ => 0)

def quiescent_SampleMlstmIdeal [hSampleMlstmIdeal : Cert.SampleMlstmIdeal.Facts] : Prop :=
  ∀ (m : (ℓ : Loc Cert.SampleMlstmIdeal.nD Cert.SampleMlstmIdeal.τ Cert.SampleMlstmIdeal.sig) → Buf (Elt Ideal) ℓ) (g : Dev Cert.SampleMlstmIdeal.nD → PrngReg), Pre_SampleMlstmIdeal m →
    θ_run (Cert.SampleMlstmIdeal.defs (F := Ideal)) (onTc (τ := Cert.SampleMlstmIdeal.τ) (Cert.SampleMlstmIdeal.main (F := Ideal))) ⟨m, fun _ => 0, g⟩ (fun r => (∀ c : Dev Cert.SampleMlstmIdeal.nD,
      r.2.mem ((c.tc : Thread Cert.SampleMlstmIdeal.nD Cert.SampleMlstmIdeal.τ).loc Cert.SampleMlstmIdeal.main_arg0) = m ((c.tc : Thread Cert.SampleMlstmIdeal.nD Cert.SampleMlstmIdeal.τ).loc Cert.SampleMlstmIdeal.main_arg0)
      ∧ r.2.mem ((c.tc : Thread Cert.SampleMlstmIdeal.nD Cert.SampleMlstmIdeal.τ).loc Cert.SampleMlstmIdeal.main_arg1) = m ((c.tc : Thread Cert.SampleMlstmIdeal.nD Cert.SampleMlstmIdeal.τ).loc Cert.SampleMlstmIdeal.main_arg1)
      ∧ r.2.mem ((c.tc : Thread Cert.SampleMlstmIdeal.nD Cert.SampleMlstmIdeal.τ).loc Cert.SampleMlstmIdeal.main_arg2) = m ((c.tc : Thread Cert.SampleMlstmIdeal.nD Cert.SampleMlstmIdeal.τ).loc Cert.SampleMlstmIdeal.main_arg2)
      ∧ r.2.mem ((c.tc : Thread Cert.SampleMlstmIdeal.nD Cert.SampleMlstmIdeal.τ).loc Cert.SampleMlstmIdeal.main_arg3) = m ((c.tc : Thread Cert.SampleMlstmIdeal.nD Cert.SampleMlstmIdeal.τ).loc Cert.SampleMlstmIdeal.main_arg3)
      ∧ r.2.mem ((c.tc : Thread Cert.SampleMlstmIdeal.nD Cert.SampleMlstmIdeal.τ).loc Cert.SampleMlstmIdeal.main_arg4) = m ((c.tc : Thread Cert.SampleMlstmIdeal.nD Cert.SampleMlstmIdeal.τ).loc Cert.SampleMlstmIdeal.main_arg4)
      ∧ r.2.mem ((c.tc : Thread Cert.SampleMlstmIdeal.nD Cert.SampleMlstmIdeal.τ).loc Cert.SampleMlstmIdeal.main_arg5) = m ((c.tc : Thread Cert.SampleMlstmIdeal.nD Cert.SampleMlstmIdeal.τ).loc Cert.SampleMlstmIdeal.main_arg5)
      ∧ r.2.mem ((c.tc : Thread Cert.SampleMlstmIdeal.nD Cert.SampleMlstmIdeal.τ).loc Cert.SampleMlstmIdeal.main_arg6) = m ((c.tc : Thread Cert.SampleMlstmIdeal.nD Cert.SampleMlstmIdeal.τ).loc Cert.SampleMlstmIdeal.main_arg6)
      ∧ r.2.mem ((c.tc : Thread Cert.SampleMlstmIdeal.nD Cert.SampleMlstmIdeal.τ).loc Cert.SampleMlstmIdeal.main_arg7) = m ((c.tc : Thread Cert.SampleMlstmIdeal.nD Cert.SampleMlstmIdeal.τ).loc Cert.SampleMlstmIdeal.main_arg7)
      ∧ r.2.mem ((c.tc : Thread Cert.SampleMlstmIdeal.nD Cert.SampleMlstmIdeal.τ).loc Cert.SampleMlstmIdeal.main_arg8) = m ((c.tc : Thread Cert.SampleMlstmIdeal.nD Cert.SampleMlstmIdeal.τ).loc Cert.SampleMlstmIdeal.main_arg8)
      ∧ r.2.mem ((c.tc : Thread Cert.SampleMlstmIdeal.nD Cert.SampleMlstmIdeal.τ).loc Cert.SampleMlstmIdeal.main_arg9) = m ((c.tc : Thread Cert.SampleMlstmIdeal.nD Cert.SampleMlstmIdeal.τ).loc Cert.SampleMlstmIdeal.main_arg9)
      ∧ r.2.mem ((c.tc : Thread Cert.SampleMlstmIdeal.nD Cert.SampleMlstmIdeal.τ).loc Cert.SampleMlstmIdeal.main_arg10) = m ((c.tc : Thread Cert.SampleMlstmIdeal.nD Cert.SampleMlstmIdeal.τ).loc Cert.SampleMlstmIdeal.main_arg10))
      ∧ r.2.sem = fun _ => 0)

def quiescent_SampleMlstmReferenceIdeal [hSampleMlstmReferenceIdeal : Cert.SampleMlstmReferenceIdeal.Facts] : Prop :=
  ∀ (m : (ℓ : Loc Cert.SampleMlstmReferenceIdeal.nD Cert.SampleMlstmReferenceIdeal.τ Cert.SampleMlstmReferenceIdeal.sig) → Buf (Elt Ideal) ℓ) (g : Dev Cert.SampleMlstmReferenceIdeal.nD → PrngReg), Pre_SampleMlstmReferenceIdeal m →
    θ_run (Cert.SampleMlstmReferenceIdeal.defs (F := Ideal)) (onTc (τ := Cert.SampleMlstmReferenceIdeal.τ) (Cert.SampleMlstmReferenceIdeal.main (F := Ideal))) ⟨m, fun _ => 0, g⟩ (fun r => (∀ c : Dev Cert.SampleMlstmReferenceIdeal.nD,
      r.2.mem ((c.tc : Thread Cert.SampleMlstmReferenceIdeal.nD Cert.SampleMlstmReferenceIdeal.τ).loc Cert.SampleMlstmReferenceIdeal.main_arg0) = m ((c.tc : Thread Cert.SampleMlstmReferenceIdeal.nD Cert.SampleMlstmReferenceIdeal.τ).loc Cert.SampleMlstmReferenceIdeal.main_arg0)
      ∧ r.2.mem ((c.tc : Thread Cert.SampleMlstmReferenceIdeal.nD Cert.SampleMlstmReferenceIdeal.τ).loc Cert.SampleMlstmReferenceIdeal.main_arg1) = m ((c.tc : Thread Cert.SampleMlstmReferenceIdeal.nD Cert.SampleMlstmReferenceIdeal.τ).loc Cert.SampleMlstmReferenceIdeal.main_arg1)
      ∧ r.2.mem ((c.tc : Thread Cert.SampleMlstmReferenceIdeal.nD Cert.SampleMlstmReferenceIdeal.τ).loc Cert.SampleMlstmReferenceIdeal.main_arg2) = m ((c.tc : Thread Cert.SampleMlstmReferenceIdeal.nD Cert.SampleMlstmReferenceIdeal.τ).loc Cert.SampleMlstmReferenceIdeal.main_arg2)
      ∧ r.2.mem ((c.tc : Thread Cert.SampleMlstmReferenceIdeal.nD Cert.SampleMlstmReferenceIdeal.τ).loc Cert.SampleMlstmReferenceIdeal.main_arg3) = m ((c.tc : Thread Cert.SampleMlstmReferenceIdeal.nD Cert.SampleMlstmReferenceIdeal.τ).loc Cert.SampleMlstmReferenceIdeal.main_arg3)
      ∧ r.2.mem ((c.tc : Thread Cert.SampleMlstmReferenceIdeal.nD Cert.SampleMlstmReferenceIdeal.τ).loc Cert.SampleMlstmReferenceIdeal.main_arg4) = m ((c.tc : Thread Cert.SampleMlstmReferenceIdeal.nD Cert.SampleMlstmReferenceIdeal.τ).loc Cert.SampleMlstmReferenceIdeal.main_arg4)
      ∧ r.2.mem ((c.tc : Thread Cert.SampleMlstmReferenceIdeal.nD Cert.SampleMlstmReferenceIdeal.τ).loc Cert.SampleMlstmReferenceIdeal.main_arg5) = m ((c.tc : Thread Cert.SampleMlstmReferenceIdeal.nD Cert.SampleMlstmReferenceIdeal.τ).loc Cert.SampleMlstmReferenceIdeal.main_arg5)
      ∧ r.2.mem ((c.tc : Thread Cert.SampleMlstmReferenceIdeal.nD Cert.SampleMlstmReferenceIdeal.τ).loc Cert.SampleMlstmReferenceIdeal.main_arg6) = m ((c.tc : Thread Cert.SampleMlstmReferenceIdeal.nD Cert.SampleMlstmReferenceIdeal.τ).loc Cert.SampleMlstmReferenceIdeal.main_arg6)
      ∧ r.2.mem ((c.tc : Thread Cert.SampleMlstmReferenceIdeal.nD Cert.SampleMlstmReferenceIdeal.τ).loc Cert.SampleMlstmReferenceIdeal.main_arg7) = m ((c.tc : Thread Cert.SampleMlstmReferenceIdeal.nD Cert.SampleMlstmReferenceIdeal.τ).loc Cert.SampleMlstmReferenceIdeal.main_arg7)
      ∧ r.2.mem ((c.tc : Thread Cert.SampleMlstmReferenceIdeal.nD Cert.SampleMlstmReferenceIdeal.τ).loc Cert.SampleMlstmReferenceIdeal.main_arg8) = m ((c.tc : Thread Cert.SampleMlstmReferenceIdeal.nD Cert.SampleMlstmReferenceIdeal.τ).loc Cert.SampleMlstmReferenceIdeal.main_arg8)
      ∧ r.2.mem ((c.tc : Thread Cert.SampleMlstmReferenceIdeal.nD Cert.SampleMlstmReferenceIdeal.τ).loc Cert.SampleMlstmReferenceIdeal.main_arg9) = m ((c.tc : Thread Cert.SampleMlstmReferenceIdeal.nD Cert.SampleMlstmReferenceIdeal.τ).loc Cert.SampleMlstmReferenceIdeal.main_arg9)
      ∧ r.2.mem ((c.tc : Thread Cert.SampleMlstmReferenceIdeal.nD Cert.SampleMlstmReferenceIdeal.τ).loc Cert.SampleMlstmReferenceIdeal.main_arg10) = m ((c.tc : Thread Cert.SampleMlstmReferenceIdeal.nD Cert.SampleMlstmReferenceIdeal.τ).loc Cert.SampleMlstmReferenceIdeal.main_arg10))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v33) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7))

def preserves_EvenProj_EvenProjIdeal : Prop :=
  True

def algebraic_EvenProjIdeal_EvenProjReferenceIdeal [hEvenProjIdeal : Cert.EvenProjIdeal.Facts] [hEvenProjReferenceIdeal : Cert.EvenProjReferenceIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg)
    (m' : (ℓ : Loc Cert.EvenProjReferenceIdeal.nD Cert.EvenProjReferenceIdeal.τ Cert.EvenProjReferenceIdeal.sig) → Buf (Elt Ideal) ℓ) (g' : Dev Cert.EvenProjReferenceIdeal.nD → PrngReg), Pre_EvenProjIdeal m →
    (∀ c : Dev Cert.EvenProjIdeal.nD,
      m' ((c.tc : Thread Cert.EvenProjReferenceIdeal.nD Cert.EvenProjReferenceIdeal.τ).loc Cert.EvenProjReferenceIdeal.main_arg0) = m ((c.tc : Thread Cert.EvenProjIdeal.nD Cert.EvenProjIdeal.τ).loc Cert.EvenProjIdeal.main_arg0)
      ∧ m' ((c.tc : Thread Cert.EvenProjReferenceIdeal.nD Cert.EvenProjReferenceIdeal.τ).loc Cert.EvenProjReferenceIdeal.main_arg1) = m ((c.tc : Thread Cert.EvenProjIdeal.nD Cert.EvenProjIdeal.τ).loc Cert.EvenProjIdeal.main_arg1)
      ∧ m' ((c.tc : Thread Cert.EvenProjReferenceIdeal.nD Cert.EvenProjReferenceIdeal.τ).loc Cert.EvenProjReferenceIdeal.main_arg2) = m ((c.tc : Thread Cert.EvenProjIdeal.nD Cert.EvenProjIdeal.τ).loc Cert.EvenProjIdeal.main_arg2)) →
    ∃ (v0 : (c : Dev Cert.EvenProjIdeal.nD) → Buf (Elt Ideal) ((c.tc : Thread Cert.EvenProjIdeal.nD Cert.EvenProjIdeal.τ).loc Cert.EvenProjIdeal.main_v21_0)) (v1 : (c : Dev Cert.EvenProjIdeal.nD) → Buf (Elt Ideal) ((c.tc : Thread Cert.EvenProjIdeal.nD Cert.EvenProjIdeal.τ).loc Cert.EvenProjIdeal.main_v21_1)) (v2 : (c : Dev Cert.EvenProjIdeal.nD) → Buf (Elt Ideal) ((c.tc : Thread Cert.EvenProjIdeal.nD Cert.EvenProjIdeal.τ).loc Cert.EvenProjIdeal.main_v21_2)) (v3 : (c : Dev Cert.EvenProjIdeal.nD) → Buf (Elt Ideal) ((c.tc : Thread Cert.EvenProjIdeal.nD Cert.EvenProjIdeal.τ).loc Cert.EvenProjIdeal.main_v21_3)) (v4 : (c : Dev Cert.EvenProjIdeal.nD) → Buf (Elt Ideal) ((c.tc : Thread Cert.EvenProjIdeal.nD Cert.EvenProjIdeal.τ).loc Cert.EvenProjIdeal.main_v21_4)) (v5 : (c : Dev Cert.EvenProjIdeal.nD) → Buf (Elt Ideal) ((c.tc : Thread Cert.EvenProjIdeal.nD Cert.EvenProjIdeal.τ).loc Cert.EvenProjIdeal.main_v21_5)) (v6 : (c : Dev Cert.EvenProjIdeal.nD) → Buf (Elt Ideal) ((c.tc : Thread Cert.EvenProjIdeal.nD Cert.EvenProjIdeal.τ).loc Cert.EvenProjIdeal.main_v21_6)) (v7 : (c : Dev Cert.EvenProjIdeal.nD) → Buf (Elt Ideal) ((c.tc : Thread Cert.EvenProjIdeal.nD Cert.EvenProjIdeal.τ).loc Cert.EvenProjIdeal.main_v21_7)) (v8 : (c : Dev Cert.EvenProjIdeal.nD) → Buf (Elt Ideal) ((c.tc : Thread Cert.EvenProjIdeal.nD Cert.EvenProjIdeal.τ).loc Cert.EvenProjIdeal.main_v21_8)) (v9 : (c : Dev Cert.EvenProjIdeal.nD) → Buf (Elt Ideal) ((c.tc : Thread Cert.EvenProjIdeal.nD Cert.EvenProjIdeal.τ).loc Cert.EvenProjIdeal.main_v21_9)),
      θ_run (Cert.EvenProjIdeal.defs (F := Ideal)) (onTc (τ := Cert.EvenProjIdeal.τ) (Cert.EvenProjIdeal.main (F := Ideal))) ⟨m, fun _ => 0, g⟩ (fun r => ∀ c : Dev Cert.EvenProjIdeal.nD,
          r.2.mem ((c.tc : Thread Cert.EvenProjIdeal.nD Cert.EvenProjIdeal.τ).loc Cert.EvenProjIdeal.main_v21_0) = v0 c
          ∧ r.2.mem ((c.tc : Thread Cert.EvenProjIdeal.nD Cert.EvenProjIdeal.τ).loc Cert.EvenProjIdeal.main_v21_1) = v1 c
          ∧ r.2.mem ((c.tc : Thread Cert.EvenProjIdeal.nD Cert.EvenProjIdeal.τ).loc Cert.EvenProjIdeal.main_v21_2) = v2 c
          ∧ r.2.mem ((c.tc : Thread Cert.EvenProjIdeal.nD Cert.EvenProjIdeal.τ).loc Cert.EvenProjIdeal.main_v21_3) = v3 c
          ∧ r.2.mem ((c.tc : Thread Cert.EvenProjIdeal.nD Cert.EvenProjIdeal.τ).loc Cert.EvenProjIdeal.main_v21_4) = v4 c
          ∧ r.2.mem ((c.tc : Thread Cert.EvenProjIdeal.nD Cert.EvenProjIdeal.τ).loc Cert.EvenProjIdeal.main_v21_5) = v5 c
          ∧ r.2.mem ((c.tc : Thread Cert.EvenProjIdeal.nD Cert.EvenProjIdeal.τ).loc Cert.EvenProjIdeal.main_v21_6) = v6 c
          ∧ r.2.mem ((c.tc : Thread Cert.EvenProjIdeal.nD Cert.EvenProjIdeal.τ).loc Cert.EvenProjIdeal.main_v21_7) = v7 c
          ∧ r.2.mem ((c.tc : Thread Cert.EvenProjIdeal.nD Cert.EvenProjIdeal.τ).loc Cert.EvenProjIdeal.main_v21_8) = v8 c
          ∧ r.2.mem ((c.tc : Thread Cert.EvenProjIdeal.nD Cert.EvenProjIdeal.τ).loc Cert.EvenProjIdeal.main_v21_9) = v9 c
          ∧ r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
          ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
          ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2))
      ∧ θ_run (Cert.EvenProjReferenceIdeal.defs (F := Ideal)) (onTc (τ := Cert.EvenProjReferenceIdeal.τ) (Cert.EvenProjReferenceIdeal.main (F := Ideal))) ⟨m', fun _ => 0, g'⟩ (fun r => ∀ c : Dev Cert.EvenProjReferenceIdeal.nD,
          r.2.mem ((c.tc : Thread Cert.EvenProjReferenceIdeal.nD Cert.EvenProjReferenceIdeal.τ).loc Cert.EvenProjReferenceIdeal.main_v19) = v0 c
          ∧ r.2.mem ((c.tc : Thread Cert.EvenProjReferenceIdeal.nD Cert.EvenProjReferenceIdeal.τ).loc Cert.EvenProjReferenceIdeal.main_v20) = v1 c
          ∧ r.2.mem ((c.tc : Thread Cert.EvenProjReferenceIdeal.nD Cert.EvenProjReferenceIdeal.τ).loc Cert.EvenProjReferenceIdeal.main_v21) = v2 c
          ∧ r.2.mem ((c.tc : Thread Cert.EvenProjReferenceIdeal.nD Cert.EvenProjReferenceIdeal.τ).loc Cert.EvenProjReferenceIdeal.main_v22) = v3 c
          ∧ r.2.mem ((c.tc : Thread Cert.EvenProjReferenceIdeal.nD Cert.EvenProjReferenceIdeal.τ).loc Cert.EvenProjReferenceIdeal.main_v18) = v4 c
          ∧ r.2.mem ((c.tc : Thread Cert.EvenProjReferenceIdeal.nD Cert.EvenProjReferenceIdeal.τ).loc Cert.EvenProjReferenceIdeal.main_v23) = v5 c
          ∧ r.2.mem ((c.tc : Thread Cert.EvenProjReferenceIdeal.nD Cert.EvenProjReferenceIdeal.τ).loc Cert.EvenProjReferenceIdeal.main_v24) = v6 c
          ∧ r.2.mem ((c.tc : Thread Cert.EvenProjReferenceIdeal.nD Cert.EvenProjReferenceIdeal.τ).loc Cert.EvenProjReferenceIdeal.main_v25) = v7 c
          ∧ r.2.mem ((c.tc : Thread Cert.EvenProjReferenceIdeal.nD Cert.EvenProjReferenceIdeal.τ).loc Cert.EvenProjReferenceIdeal.main_v26) = v8 c
          ∧ r.2.mem ((c.tc : Thread Cert.EvenProjReferenceIdeal.nD Cert.EvenProjReferenceIdeal.τ).loc Cert.EvenProjReferenceIdeal.main_v27) = v9 c
          ∧ r.2.mem ((c.tc : Thread Cert.EvenProjReferenceIdeal.nD Cert.EvenProjReferenceIdeal.τ).loc Cert.EvenProjReferenceIdeal.main_arg0) = m' ((c.tc : Thread Cert.EvenProjReferenceIdeal.nD Cert.EvenProjReferenceIdeal.τ).loc Cert.EvenProjReferenceIdeal.main_arg0)
          ∧ r.2.mem ((c.tc : Thread Cert.EvenProjReferenceIdeal.nD Cert.EvenProjReferenceIdeal.τ).loc Cert.EvenProjReferenceIdeal.main_arg1) = m' ((c.tc : Thread Cert.EvenProjReferenceIdeal.nD Cert.EvenProjReferenceIdeal.τ).loc Cert.EvenProjReferenceIdeal.main_arg1)
          ∧ r.2.mem ((c.tc : Thread Cert.EvenProjReferenceIdeal.nD Cert.EvenProjReferenceIdeal.τ).loc Cert.EvenProjReferenceIdeal.main_arg2) = m' ((c.tc : Thread Cert.EvenProjReferenceIdeal.nD Cert.EvenProjReferenceIdeal.τ).loc Cert.EvenProjReferenceIdeal.main_arg2))

def preserves_OddProj_OddProjIdeal : Prop :=
  True

def algebraic_OddProjIdeal_OddProjReferenceIdeal [hOddProjIdeal : Cert.OddProjIdeal.Facts] [hOddProjReferenceIdeal : Cert.OddProjReferenceIdeal.Facts] : Prop :=
  ∀ (m : (ℓ : Loc Cert.OddProjIdeal.nD Cert.OddProjIdeal.τ Cert.OddProjIdeal.sig) → Buf (Elt Ideal) ℓ) (g : Dev Cert.OddProjIdeal.nD → PrngReg)
    (m' : (ℓ : Loc Cert.OddProjReferenceIdeal.nD Cert.OddProjReferenceIdeal.τ Cert.OddProjReferenceIdeal.sig) → Buf (Elt Ideal) ℓ) (g' : Dev Cert.OddProjReferenceIdeal.nD → PrngReg), Pre_OddProjIdeal m →
    (∀ c : Dev Cert.OddProjIdeal.nD,
      m' ((c.tc : Thread Cert.OddProjReferenceIdeal.nD Cert.OddProjReferenceIdeal.τ).loc Cert.OddProjReferenceIdeal.main_arg0) = m ((c.tc : Thread Cert.OddProjIdeal.nD Cert.OddProjIdeal.τ).loc Cert.OddProjIdeal.main_arg0)
      ∧ m' ((c.tc : Thread Cert.OddProjReferenceIdeal.nD Cert.OddProjReferenceIdeal.τ).loc Cert.OddProjReferenceIdeal.main_arg1) = m ((c.tc : Thread Cert.OddProjIdeal.nD Cert.OddProjIdeal.τ).loc Cert.OddProjIdeal.main_arg1)
      ∧ m' ((c.tc : Thread Cert.OddProjReferenceIdeal.nD Cert.OddProjReferenceIdeal.τ).loc Cert.OddProjReferenceIdeal.main_arg2) = m ((c.tc : Thread Cert.OddProjIdeal.nD Cert.OddProjIdeal.τ).loc Cert.OddProjIdeal.main_arg2)) →
    ∃ (v0 : (c : Dev Cert.OddProjIdeal.nD) → Buf (Elt Ideal) ((c.tc : Thread Cert.OddProjIdeal.nD Cert.OddProjIdeal.τ).loc Cert.OddProjIdeal.main_v12_0)) (v1 : (c : Dev Cert.OddProjIdeal.nD) → Buf (Elt Ideal) ((c.tc : Thread Cert.OddProjIdeal.nD Cert.OddProjIdeal.τ).loc Cert.OddProjIdeal.main_v12_1)) (v2 : (c : Dev Cert.OddProjIdeal.nD) → Buf (Elt Ideal) ((c.tc : Thread Cert.OddProjIdeal.nD Cert.OddProjIdeal.τ).loc Cert.OddProjIdeal.main_v12_2)) (v3 : (c : Dev Cert.OddProjIdeal.nD) → Buf (Elt Ideal) ((c.tc : Thread Cert.OddProjIdeal.nD Cert.OddProjIdeal.τ).loc Cert.OddProjIdeal.main_v12_3)) (v4 : (c : Dev Cert.OddProjIdeal.nD) → Buf (Elt Ideal) ((c.tc : Thread Cert.OddProjIdeal.nD Cert.OddProjIdeal.τ).loc Cert.OddProjIdeal.main_v12_4)) (v5 : (c : Dev Cert.OddProjIdeal.nD) → Buf (Elt Ideal) ((c.tc : Thread Cert.OddProjIdeal.nD Cert.OddProjIdeal.τ).loc Cert.OddProjIdeal.main_v12_5)),
      θ_run (Cert.OddProjIdeal.defs (F := Ideal)) (onTc (τ := Cert.OddProjIdeal.τ) (Cert.OddProjIdeal.main (F := Ideal))) ⟨m, fun _ => 0, g⟩ (fun r => ∀ c : Dev Cert.OddProjIdeal.nD,
          r.2.mem ((c.tc : Thread Cert.OddProjIdeal.nD Cert.OddProjIdeal.τ).loc Cert.OddProjIdeal.main_v12_0) = v0 c
          ∧ r.2.mem ((c.tc : Thread Cert.OddProjIdeal.nD Cert.OddProjIdeal.τ).loc Cert.OddProjIdeal.main_v12_1) = v1 c
          ∧ r.2.mem ((c.tc : Thread Cert.OddProjIdeal.nD Cert.OddProjIdeal.τ).loc Cert.OddProjIdeal.main_v12_2) = v2 c
          ∧ r.2.mem ((c.tc : Thread Cert.OddProjIdeal.nD Cert.OddProjIdeal.τ).loc Cert.OddProjIdeal.main_v12_3) = v3 c
          ∧ r.2.mem ((c.tc : Thread Cert.OddProjIdeal.nD Cert.OddProjIdeal.τ).loc Cert.OddProjIdeal.main_v12_4) = v4 c
          ∧ r.2.mem ((c.tc : Thread Cert.OddProjIdeal.nD Cert.OddProjIdeal.τ).loc Cert.OddProjIdeal.main_v12_5) = v5 c
          ∧ r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
          ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1)
          ∧ r.2.mem ((c.tc : Thread Cert.OddProjIdeal.nD Cert.OddProjIdeal.τ).loc Cert.OddProjIdeal.main_arg2) = m ((c.tc : Thread Cert.OddProjIdeal.nD Cert.OddProjIdeal.τ).loc Cert.OddProjIdeal.main_arg2))
      ∧ θ_run (Cert.OddProjReferenceIdeal.defs (F := Ideal)) (onTc (τ := Cert.OddProjReferenceIdeal.τ) (Cert.OddProjReferenceIdeal.main (F := Ideal))) ⟨m', fun _ => 0, g'⟩ (fun r => ∀ c : Dev Cert.OddProjReferenceIdeal.nD,
          r.2.mem ((c.tc : Thread Cert.OddProjReferenceIdeal.nD Cert.OddProjReferenceIdeal.τ).loc Cert.OddProjReferenceIdeal.main_v17) = v0 c
          ∧ r.2.mem ((c.tc : Thread Cert.OddProjReferenceIdeal.nD Cert.OddProjReferenceIdeal.τ).loc Cert.OddProjReferenceIdeal.main_v18) = v1 c
          ∧ r.2.mem ((c.tc : Thread Cert.OddProjReferenceIdeal.nD Cert.OddProjReferenceIdeal.τ).loc Cert.OddProjReferenceIdeal.main_v19) = v2 c
          ∧ r.2.mem ((c.tc : Thread Cert.OddProjReferenceIdeal.nD Cert.OddProjReferenceIdeal.τ).loc Cert.OddProjReferenceIdeal.main_v16) = v3 c
          ∧ r.2.mem ((c.tc : Thread Cert.OddProjReferenceIdeal.nD Cert.OddProjReferenceIdeal.τ).loc Cert.OddProjReferenceIdeal.main_v21) = v4 c
          ∧ r.2.mem ((c.tc : Thread Cert.OddProjReferenceIdeal.nD Cert.OddProjReferenceIdeal.τ).loc Cert.OddProjReferenceIdeal.main_v23) = v5 c
          ∧ r.2.mem ((c.tc : Thread Cert.OddProjReferenceIdeal.nD Cert.OddProjReferenceIdeal.τ).loc Cert.OddProjReferenceIdeal.main_arg0) = m' ((c.tc : Thread Cert.OddProjReferenceIdeal.nD Cert.OddProjReferenceIdeal.τ).loc Cert.OddProjReferenceIdeal.main_arg0)
          ∧ r.2.mem ((c.tc : Thread Cert.OddProjReferenceIdeal.nD Cert.OddProjReferenceIdeal.τ).loc Cert.OddProjReferenceIdeal.main_arg1) = m' ((c.tc : Thread Cert.OddProjReferenceIdeal.nD Cert.OddProjReferenceIdeal.τ).loc Cert.OddProjReferenceIdeal.main_arg1)
          ∧ r.2.mem ((c.tc : Thread Cert.OddProjReferenceIdeal.nD Cert.OddProjReferenceIdeal.τ).loc Cert.OddProjReferenceIdeal.main_arg2) = m' ((c.tc : Thread Cert.OddProjReferenceIdeal.nD Cert.OddProjReferenceIdeal.τ).loc Cert.OddProjReferenceIdeal.main_arg2))

def preserves_SampleEvenProj_SampleEvenProjIdeal : Prop :=
  True

def algebraic_SampleEvenProjIdeal_SampleEvenProjReferenceIdeal [hSampleEvenProjIdeal : Cert.SampleEvenProjIdeal.Facts] [hSampleEvenProjReferenceIdeal : Cert.SampleEvenProjReferenceIdeal.Facts] : Prop :=
  ∀ (m : (ℓ : Loc Cert.SampleEvenProjIdeal.nD Cert.SampleEvenProjIdeal.τ Cert.SampleEvenProjIdeal.sig) → Buf (Elt Ideal) ℓ) (g : Dev Cert.SampleEvenProjIdeal.nD → PrngReg)
    (m' : (ℓ : Loc Cert.SampleEvenProjReferenceIdeal.nD Cert.SampleEvenProjReferenceIdeal.τ Cert.SampleEvenProjReferenceIdeal.sig) → Buf (Elt Ideal) ℓ) (g' : Dev Cert.SampleEvenProjReferenceIdeal.nD → PrngReg), Pre_SampleEvenProjIdeal m →
    (∀ c : Dev Cert.SampleEvenProjIdeal.nD,
      m' ((c.tc : Thread Cert.SampleEvenProjReferenceIdeal.nD Cert.SampleEvenProjReferenceIdeal.τ).loc Cert.SampleEvenProjReferenceIdeal.main_arg0) = m ((c.tc : Thread Cert.SampleEvenProjIdeal.nD Cert.SampleEvenProjIdeal.τ).loc Cert.SampleEvenProjIdeal.main_arg0)
      ∧ m' ((c.tc : Thread Cert.SampleEvenProjReferenceIdeal.nD Cert.SampleEvenProjReferenceIdeal.τ).loc Cert.SampleEvenProjReferenceIdeal.main_arg1) = m ((c.tc : Thread Cert.SampleEvenProjIdeal.nD Cert.SampleEvenProjIdeal.τ).loc Cert.SampleEvenProjIdeal.main_arg1)
      ∧ m' ((c.tc : Thread Cert.SampleEvenProjReferenceIdeal.nD Cert.SampleEvenProjReferenceIdeal.τ).loc Cert.SampleEvenProjReferenceIdeal.main_arg2) = m ((c.tc : Thread Cert.SampleEvenProjIdeal.nD Cert.SampleEvenProjIdeal.τ).loc Cert.SampleEvenProjIdeal.main_arg2)) →
    ∃ (v0 : (c : Dev Cert.SampleEvenProjIdeal.nD) → Buf (Elt Ideal) ((c.tc : Thread Cert.SampleEvenProjIdeal.nD Cert.SampleEvenProjIdeal.τ).loc Cert.SampleEvenProjIdeal.main_v19_0)) (v1 : (c : Dev Cert.SampleEvenProjIdeal.nD) → Buf (Elt Ideal) ((c.tc : Thread Cert.SampleEvenProjIdeal.nD Cert.SampleEvenProjIdeal.τ).loc Cert.SampleEvenProjIdeal.main_v19_1)) (v2 : (c : Dev Cert.SampleEvenProjIdeal.nD) → Buf (Elt Ideal) ((c.tc : Thread Cert.SampleEvenProjIdeal.nD Cert.SampleEvenProjIdeal.τ).loc Cert.SampleEvenProjIdeal.main_v19_2)) (v3 : (c : Dev Cert.SampleEvenProjIdeal.nD) → Buf (Elt Ideal) ((c.tc : Thread Cert.SampleEvenProjIdeal.nD Cert.SampleEvenProjIdeal.τ).loc Cert.SampleEvenProjIdeal.main_v19_3)) (v4 : (c : Dev Cert.SampleEvenProjIdeal.nD) → Buf (Elt Ideal) ((c.tc : Thread Cert.SampleEvenProjIdeal.nD Cert.SampleEvenProjIdeal.τ).loc Cert.SampleEvenProjIdeal.main_v19_4)) (v5 : (c : Dev Cert.SampleEvenProjIdeal.nD) → Buf (Elt Ideal) ((c.tc : Thread Cert.SampleEvenProjIdeal.nD Cert.SampleEvenProjIdeal.τ).loc Cert.SampleEvenProjIdeal.main_v19_5)) (v6 : (c : Dev Cert.SampleEvenProjIdeal.nD) → Buf (Elt Ideal) ((c.tc : Thread Cert.SampleEvenProjIdeal.nD Cert.SampleEvenProjIdeal.τ).loc Cert.SampleEvenProjIdeal.main_v19_6)) (v7 : (c : Dev Cert.SampleEvenProjIdeal.nD) → Buf (Elt Ideal) ((c.tc : Thread Cert.SampleEvenProjIdeal.nD Cert.SampleEvenProjIdeal.τ).loc Cert.SampleEvenProjIdeal.main_v19_7)),
      θ_run (Cert.SampleEvenProjIdeal.defs (F := Ideal)) (onTc (τ := Cert.SampleEvenProjIdeal.τ) (Cert.SampleEvenProjIdeal.main (F := Ideal))) ⟨m, fun _ => 0, g⟩ (fun r => ∀ c : Dev Cert.SampleEvenProjIdeal.nD,
          r.2.mem ((c.tc : Thread Cert.SampleEvenProjIdeal.nD Cert.SampleEvenProjIdeal.τ).loc Cert.SampleEvenProjIdeal.main_v19_0) = v0 c
          ∧ r.2.mem ((c.tc : Thread Cert.SampleEvenProjIdeal.nD Cert.SampleEvenProjIdeal.τ).loc Cert.SampleEvenProjIdeal.main_v19_1) = v1 c
          ∧ r.2.mem ((c.tc : Thread Cert.SampleEvenProjIdeal.nD Cert.SampleEvenProjIdeal.τ).loc Cert.SampleEvenProjIdeal.main_v19_2) = v2 c
          ∧ r.2.mem ((c.tc : Thread Cert.SampleEvenProjIdeal.nD Cert.SampleEvenProjIdeal.τ).loc Cert.SampleEvenProjIdeal.main_v19_3) = v3 c
          ∧ r.2.mem ((c.tc : Thread Cert.SampleEvenProjIdeal.nD Cert.SampleEvenProjIdeal.τ).loc Cert.SampleEvenProjIdeal.main_v19_4) = v4 c
          ∧ r.2.mem ((c.tc : Thread Cert.SampleEvenProjIdeal.nD Cert.SampleEvenProjIdeal.τ).loc Cert.SampleEvenProjIdeal.main_v19_5) = v5 c
          ∧ r.2.mem ((c.tc : Thread Cert.SampleEvenProjIdeal.nD Cert.SampleEvenProjIdeal.τ).loc Cert.SampleEvenProjIdeal.main_v19_6) = v6 c
          ∧ r.2.mem ((c.tc : Thread Cert.SampleEvenProjIdeal.nD Cert.SampleEvenProjIdeal.τ).loc Cert.SampleEvenProjIdeal.main_v19_7) = v7 c
          ∧ r.2.mem ((c.tc : Thread Cert.SampleEvenProjIdeal.nD Cert.SampleEvenProjIdeal.τ).loc Cert.SampleEvenProjIdeal.main_arg0) = m ((c.tc : Thread Cert.SampleEvenProjIdeal.nD Cert.SampleEvenProjIdeal.τ).loc Cert.SampleEvenProjIdeal.main_arg0)
          ∧ r.2.mem ((c.tc : Thread Cert.SampleEvenProjIdeal.nD Cert.SampleEvenProjIdeal.τ).loc Cert.SampleEvenProjIdeal.main_arg1) = m ((c.tc : Thread Cert.SampleEvenProjIdeal.nD Cert.SampleEvenProjIdeal.τ).loc Cert.SampleEvenProjIdeal.main_arg1)
          ∧ r.2.mem ((c.tc : Thread Cert.SampleEvenProjIdeal.nD Cert.SampleEvenProjIdeal.τ).loc Cert.SampleEvenProjIdeal.main_arg2) = m ((c.tc : Thread Cert.SampleEvenProjIdeal.nD Cert.SampleEvenProjIdeal.τ).loc Cert.SampleEvenProjIdeal.main_arg2))
      ∧ θ_run (Cert.SampleEvenProjReferenceIdeal.defs (F := Ideal)) (onTc (τ := Cert.SampleEvenProjReferenceIdeal.τ) (Cert.SampleEvenProjReferenceIdeal.main (F := Ideal))) ⟨m', fun _ => 0, g'⟩ (fun r => ∀ c : Dev Cert.SampleEvenProjReferenceIdeal.nD,
          r.2.mem ((c.tc : Thread Cert.SampleEvenProjReferenceIdeal.nD Cert.SampleEvenProjReferenceIdeal.τ).loc Cert.SampleEvenProjReferenceIdeal.main_v17) = v0 c
          ∧ r.2.mem ((c.tc : Thread Cert.SampleEvenProjReferenceIdeal.nD Cert.SampleEvenProjReferenceIdeal.τ).loc Cert.SampleEvenProjReferenceIdeal.main_v18) = v1 c
          ∧ r.2.mem ((c.tc : Thread Cert.SampleEvenProjReferenceIdeal.nD Cert.SampleEvenProjReferenceIdeal.τ).loc Cert.SampleEvenProjReferenceIdeal.main_v19) = v2 c
          ∧ r.2.mem ((c.tc : Thread Cert.SampleEvenProjReferenceIdeal.nD Cert.SampleEvenProjReferenceIdeal.τ).loc Cert.SampleEvenProjReferenceIdeal.main_v20) = v3 c
          ∧ r.2.mem ((c.tc : Thread Cert.SampleEvenProjReferenceIdeal.nD Cert.SampleEvenProjReferenceIdeal.τ).loc Cert.SampleEvenProjReferenceIdeal.main_v16) = v4 c
          ∧ r.2.mem ((c.tc : Thread Cert.SampleEvenProjReferenceIdeal.nD Cert.SampleEvenProjReferenceIdeal.τ).loc Cert.SampleEvenProjReferenceIdeal.main_v21) = v5 c
          ∧ r.2.mem ((c.tc : Thread Cert.SampleEvenProjReferenceIdeal.nD Cert.SampleEvenProjReferenceIdeal.τ).loc Cert.SampleEvenProjReferenceIdeal.main_v22) = v6 c
          ∧ r.2.mem ((c.tc : Thread Cert.SampleEvenProjReferenceIdeal.nD Cert.SampleEvenProjReferenceIdeal.τ).loc Cert.SampleEvenProjReferenceIdeal.main_v23) = v7 c
          ∧ r.2.mem ((c.tc : Thread Cert.SampleEvenProjReferenceIdeal.nD Cert.SampleEvenProjReferenceIdeal.τ).loc Cert.SampleEvenProjReferenceIdeal.main_arg0) = m' ((c.tc : Thread Cert.SampleEvenProjReferenceIdeal.nD Cert.SampleEvenProjReferenceIdeal.τ).loc Cert.SampleEvenProjReferenceIdeal.main_arg0)
          ∧ r.2.mem ((c.tc : Thread Cert.SampleEvenProjReferenceIdeal.nD Cert.SampleEvenProjReferenceIdeal.τ).loc Cert.SampleEvenProjReferenceIdeal.main_arg1) = m' ((c.tc : Thread Cert.SampleEvenProjReferenceIdeal.nD Cert.SampleEvenProjReferenceIdeal.τ).loc Cert.SampleEvenProjReferenceIdeal.main_arg1)
          ∧ r.2.mem ((c.tc : Thread Cert.SampleEvenProjReferenceIdeal.nD Cert.SampleEvenProjReferenceIdeal.τ).loc Cert.SampleEvenProjReferenceIdeal.main_arg2) = m' ((c.tc : Thread Cert.SampleEvenProjReferenceIdeal.nD Cert.SampleEvenProjReferenceIdeal.τ).loc Cert.SampleEvenProjReferenceIdeal.main_arg2))

def preserves_SampleOddProj_SampleOddProjIdeal : Prop :=
  True

def algebraic_SampleOddProjIdeal_SampleOddProjReferenceIdeal [hSampleOddProjIdeal : Cert.SampleOddProjIdeal.Facts] [hSampleOddProjReferenceIdeal : Cert.SampleOddProjReferenceIdeal.Facts] : Prop :=
  ∀ (m : (ℓ : Loc Cert.SampleOddProjIdeal.nD Cert.SampleOddProjIdeal.τ Cert.SampleOddProjIdeal.sig) → Buf (Elt Ideal) ℓ) (g : Dev Cert.SampleOddProjIdeal.nD → PrngReg)
    (m' : (ℓ : Loc Cert.SampleOddProjReferenceIdeal.nD Cert.SampleOddProjReferenceIdeal.τ Cert.SampleOddProjReferenceIdeal.sig) → Buf (Elt Ideal) ℓ) (g' : Dev Cert.SampleOddProjReferenceIdeal.nD → PrngReg), Pre_SampleOddProjIdeal m →
    (∀ c : Dev Cert.SampleOddProjIdeal.nD,
      m' ((c.tc : Thread Cert.SampleOddProjReferenceIdeal.nD Cert.SampleOddProjReferenceIdeal.τ).loc Cert.SampleOddProjReferenceIdeal.main_arg0) = m ((c.tc : Thread Cert.SampleOddProjIdeal.nD Cert.SampleOddProjIdeal.τ).loc Cert.SampleOddProjIdeal.main_arg0)
      ∧ m' ((c.tc : Thread Cert.SampleOddProjReferenceIdeal.nD Cert.SampleOddProjReferenceIdeal.τ).loc Cert.SampleOddProjReferenceIdeal.main_arg1) = m ((c.tc : Thread Cert.SampleOddProjIdeal.nD Cert.SampleOddProjIdeal.τ).loc Cert.SampleOddProjIdeal.main_arg1)
      ∧ m' ((c.tc : Thread Cert.SampleOddProjReferenceIdeal.nD Cert.SampleOddProjReferenceIdeal.τ).loc Cert.SampleOddProjReferenceIdeal.main_arg2) = m ((c.tc : Thread Cert.SampleOddProjIdeal.nD Cert.SampleOddProjIdeal.τ).loc Cert.SampleOddProjIdeal.main_arg2)) →
    ∃ (v0 : (c : Dev Cert.SampleOddProjIdeal.nD) → Buf (Elt Ideal) ((c.tc : Thread Cert.SampleOddProjIdeal.nD Cert.SampleOddProjIdeal.τ).loc Cert.SampleOddProjIdeal.main_v10_0)) (v1 : (c : Dev Cert.SampleOddProjIdeal.nD) → Buf (Elt Ideal) ((c.tc : Thread Cert.SampleOddProjIdeal.nD Cert.SampleOddProjIdeal.τ).loc Cert.SampleOddProjIdeal.main_v10_1)) (v2 : (c : Dev Cert.SampleOddProjIdeal.nD) → Buf (Elt Ideal) ((c.tc : Thread Cert.SampleOddProjIdeal.nD Cert.SampleOddProjIdeal.τ).loc Cert.SampleOddProjIdeal.main_v10_2)) (v3 : (c : Dev Cert.SampleOddProjIdeal.nD) → Buf (Elt Ideal) ((c.tc : Thread Cert.SampleOddProjIdeal.nD Cert.SampleOddProjIdeal.τ).loc Cert.SampleOddProjIdeal.main_v10_3)),
      θ_run (Cert.SampleOddProjIdeal.defs (F := Ideal)) (onTc (τ := Cert.SampleOddProjIdeal.τ) (Cert.SampleOddProjIdeal.main (F := Ideal))) ⟨m, fun _ => 0, g⟩ (fun r => ∀ c : Dev Cert.SampleOddProjIdeal.nD,
          r.2.mem ((c.tc : Thread Cert.SampleOddProjIdeal.nD Cert.SampleOddProjIdeal.τ).loc Cert.SampleOddProjIdeal.main_v10_0) = v0 c
          ∧ r.2.mem ((c.tc : Thread Cert.SampleOddProjIdeal.nD Cert.SampleOddProjIdeal.τ).loc Cert.SampleOddProjIdeal.main_v10_1) = v1 c
          ∧ r.2.mem ((c.tc : Thread Cert.SampleOddProjIdeal.nD Cert.SampleOddProjIdeal.τ).loc Cert.SampleOddProjIdeal.main_v10_2) = v2 c
          ∧ r.2.mem ((c.tc : Thread Cert.SampleOddProjIdeal.nD Cert.SampleOddProjIdeal.τ).loc Cert.SampleOddProjIdeal.main_v10_3) = v3 c
          ∧ r.2.mem ((c.tc : Thread Cert.SampleOddProjIdeal.nD Cert.SampleOddProjIdeal.τ).loc Cert.SampleOddProjIdeal.main_arg0) = m ((c.tc : Thread Cert.SampleOddProjIdeal.nD Cert.SampleOddProjIdeal.τ).loc Cert.SampleOddProjIdeal.main_arg0)
          ∧ r.2.mem ((c.tc : Thread Cert.SampleOddProjIdeal.nD Cert.SampleOddProjIdeal.τ).loc Cert.SampleOddProjIdeal.main_arg1) = m ((c.tc : Thread Cert.SampleOddProjIdeal.nD Cert.SampleOddProjIdeal.τ).loc Cert.SampleOddProjIdeal.main_arg1)
          ∧ r.2.mem ((c.tc : Thread Cert.SampleOddProjIdeal.nD Cert.SampleOddProjIdeal.τ).loc Cert.SampleOddProjIdeal.main_arg2) = m ((c.tc : Thread Cert.SampleOddProjIdeal.nD Cert.SampleOddProjIdeal.τ).loc Cert.SampleOddProjIdeal.main_arg2))
      ∧ θ_run (Cert.SampleOddProjReferenceIdeal.defs (F := Ideal)) (onTc (τ := Cert.SampleOddProjReferenceIdeal.τ) (Cert.SampleOddProjReferenceIdeal.main (F := Ideal))) ⟨m', fun _ => 0, g'⟩ (fun r => ∀ c : Dev Cert.SampleOddProjReferenceIdeal.nD,
          r.2.mem ((c.tc : Thread Cert.SampleOddProjReferenceIdeal.nD Cert.SampleOddProjReferenceIdeal.τ).loc Cert.SampleOddProjReferenceIdeal.main_v14) = v0 c
          ∧ r.2.mem ((c.tc : Thread Cert.SampleOddProjReferenceIdeal.nD Cert.SampleOddProjReferenceIdeal.τ).loc Cert.SampleOddProjReferenceIdeal.main_v15) = v1 c
          ∧ r.2.mem ((c.tc : Thread Cert.SampleOddProjReferenceIdeal.nD Cert.SampleOddProjReferenceIdeal.τ).loc Cert.SampleOddProjReferenceIdeal.main_v16) = v2 c
          ∧ r.2.mem ((c.tc : Thread Cert.SampleOddProjReferenceIdeal.nD Cert.SampleOddProjReferenceIdeal.τ).loc Cert.SampleOddProjReferenceIdeal.main_v18) = v3 c
          ∧ r.2.mem ((c.tc : Thread Cert.SampleOddProjReferenceIdeal.nD Cert.SampleOddProjReferenceIdeal.τ).loc Cert.SampleOddProjReferenceIdeal.main_arg0) = m' ((c.tc : Thread Cert.SampleOddProjReferenceIdeal.nD Cert.SampleOddProjReferenceIdeal.τ).loc Cert.SampleOddProjReferenceIdeal.main_arg0)
          ∧ r.2.mem ((c.tc : Thread Cert.SampleOddProjReferenceIdeal.nD Cert.SampleOddProjReferenceIdeal.τ).loc Cert.SampleOddProjReferenceIdeal.main_arg1) = m' ((c.tc : Thread Cert.SampleOddProjReferenceIdeal.nD Cert.SampleOddProjReferenceIdeal.τ).loc Cert.SampleOddProjReferenceIdeal.main_arg1)
          ∧ r.2.mem ((c.tc : Thread Cert.SampleOddProjReferenceIdeal.nD Cert.SampleOddProjReferenceIdeal.τ).loc Cert.SampleOddProjReferenceIdeal.main_arg2) = m' ((c.tc : Thread Cert.SampleOddProjReferenceIdeal.nD Cert.SampleOddProjReferenceIdeal.τ).loc Cert.SampleOddProjReferenceIdeal.main_arg2))

def preserves_EvenFfn_EvenFfnIdeal : Prop :=
  True

def algebraic_EvenFfnIdeal_EvenFfnReferenceIdeal [hEvenFfnIdeal : Cert.EvenFfnIdeal.Facts] [hEvenFfnReferenceIdeal : Cert.EvenFfnReferenceIdeal.Facts] : Prop :=
  ∀ (m : (ℓ : Loc Cert.EvenFfnIdeal.nD Cert.EvenFfnIdeal.τ Cert.EvenFfnIdeal.sig) → Buf (Elt Ideal) ℓ) (g : Dev Cert.EvenFfnIdeal.nD → PrngReg)
    (m' : (ℓ : Loc Cert.EvenFfnReferenceIdeal.nD Cert.EvenFfnReferenceIdeal.τ Cert.EvenFfnReferenceIdeal.sig) → Buf (Elt Ideal) ℓ) (g' : Dev Cert.EvenFfnReferenceIdeal.nD → PrngReg), Pre_EvenFfnIdeal m →
    (∀ c : Dev Cert.EvenFfnIdeal.nD,
      m' ((c.tc : Thread Cert.EvenFfnReferenceIdeal.nD Cert.EvenFfnReferenceIdeal.τ).loc Cert.EvenFfnReferenceIdeal.main_arg0) = m ((c.tc : Thread Cert.EvenFfnIdeal.nD Cert.EvenFfnIdeal.τ).loc Cert.EvenFfnIdeal.main_arg0)
      ∧ m' ((c.tc : Thread Cert.EvenFfnReferenceIdeal.nD Cert.EvenFfnReferenceIdeal.τ).loc Cert.EvenFfnReferenceIdeal.main_arg1) = m ((c.tc : Thread Cert.EvenFfnIdeal.nD Cert.EvenFfnIdeal.τ).loc Cert.EvenFfnIdeal.main_arg1)
      ∧ m' ((c.tc : Thread Cert.EvenFfnReferenceIdeal.nD Cert.EvenFfnReferenceIdeal.τ).loc Cert.EvenFfnReferenceIdeal.main_arg2) = m ((c.tc : Thread Cert.EvenFfnIdeal.nD Cert.EvenFfnIdeal.τ).loc Cert.EvenFfnIdeal.main_arg2)
      ∧ m' ((c.tc : Thread Cert.EvenFfnReferenceIdeal.nD Cert.EvenFfnReferenceIdeal.τ).loc Cert.EvenFfnReferenceIdeal.main_arg3) = m ((c.tc : Thread Cert.EvenFfnIdeal.nD Cert.EvenFfnIdeal.τ).loc Cert.EvenFfnIdeal.main_arg3)
      ∧ m' ((c.tc : Thread Cert.EvenFfnReferenceIdeal.nD Cert.EvenFfnReferenceIdeal.τ).loc Cert.EvenFfnReferenceIdeal.main_arg4) = m ((c.tc : Thread Cert.EvenFfnIdeal.nD Cert.EvenFfnIdeal.τ).loc Cert.EvenFfnIdeal.main_arg4)
      ∧ m' ((c.tc : Thread Cert.EvenFfnReferenceIdeal.nD Cert.EvenFfnReferenceIdeal.τ).loc Cert.EvenFfnReferenceIdeal.main_arg5) = m ((c.tc : Thread Cert.EvenFfnIdeal.nD Cert.EvenFfnIdeal.τ).loc Cert.EvenFfnIdeal.main_arg5)
      ∧ m' ((c.tc : Thread Cert.EvenFfnReferenceIdeal.nD Cert.EvenFfnReferenceIdeal.τ).loc Cert.EvenFfnReferenceIdeal.main_arg6) = m ((c.tc : Thread Cert.EvenFfnIdeal.nD Cert.EvenFfnIdeal.τ).loc Cert.EvenFfnIdeal.main_arg6)
      ∧ m' ((c.tc : Thread Cert.EvenFfnReferenceIdeal.nD Cert.EvenFfnReferenceIdeal.τ).loc Cert.EvenFfnReferenceIdeal.main_arg7) = m ((c.tc : Thread Cert.EvenFfnIdeal.nD Cert.EvenFfnIdeal.τ).loc Cert.EvenFfnIdeal.main_arg7)
      ∧ m' ((c.tc : Thread Cert.EvenFfnReferenceIdeal.nD Cert.EvenFfnReferenceIdeal.τ).loc Cert.EvenFfnReferenceIdeal.main_arg8) = m ((c.tc : Thread Cert.EvenFfnIdeal.nD Cert.EvenFfnIdeal.τ).loc Cert.EvenFfnIdeal.main_arg8)) →
    ∃ (v0 : (c : Dev Cert.EvenFfnIdeal.nD) → Buf (Elt Ideal) ((c.tc : Thread Cert.EvenFfnIdeal.nD Cert.EvenFfnIdeal.τ).loc Cert.EvenFfnIdeal.main_v8)),
      θ_run (Cert.EvenFfnIdeal.defs (F := Ideal)) (onTc (τ := Cert.EvenFfnIdeal.τ) (Cert.EvenFfnIdeal.main (F := Ideal))) ⟨m, fun _ => 0, g⟩ (fun r => ∀ c : Dev Cert.EvenFfnIdeal.nD,
          r.2.mem ((c.tc : Thread Cert.EvenFfnIdeal.nD Cert.EvenFfnIdeal.τ).loc Cert.EvenFfnIdeal.main_v8) = v0 c
          ∧ r.2.mem ((c.tc : Thread Cert.EvenFfnIdeal.nD Cert.EvenFfnIdeal.τ).loc Cert.EvenFfnIdeal.main_arg0) = m ((c.tc : Thread Cert.EvenFfnIdeal.nD Cert.EvenFfnIdeal.τ).loc Cert.EvenFfnIdeal.main_arg0)
          ∧ r.2.mem ((c.tc : Thread Cert.EvenFfnIdeal.nD Cert.EvenFfnIdeal.τ).loc Cert.EvenFfnIdeal.main_arg1) = m ((c.tc : Thread Cert.EvenFfnIdeal.nD Cert.EvenFfnIdeal.τ).loc Cert.EvenFfnIdeal.main_arg1)
          ∧ r.2.mem ((c.tc : Thread Cert.EvenFfnIdeal.nD Cert.EvenFfnIdeal.τ).loc Cert.EvenFfnIdeal.main_arg2) = m ((c.tc : Thread Cert.EvenFfnIdeal.nD Cert.EvenFfnIdeal.τ).loc Cert.EvenFfnIdeal.main_arg2)
          ∧ r.2.mem ((c.tc : Thread Cert.EvenFfnIdeal.nD Cert.EvenFfnIdeal.τ).loc Cert.EvenFfnIdeal.main_arg3) = m ((c.tc : Thread Cert.EvenFfnIdeal.nD Cert.EvenFfnIdeal.τ).loc Cert.EvenFfnIdeal.main_arg3)
          ∧ r.2.mem ((c.tc : Thread Cert.EvenFfnIdeal.nD Cert.EvenFfnIdeal.τ).loc Cert.EvenFfnIdeal.main_arg4) = m ((c.tc : Thread Cert.EvenFfnIdeal.nD Cert.EvenFfnIdeal.τ).loc Cert.EvenFfnIdeal.main_arg4)
          ∧ r.2.mem ((c.tc : Thread Cert.EvenFfnIdeal.nD Cert.EvenFfnIdeal.τ).loc Cert.EvenFfnIdeal.main_arg5) = m ((c.tc : Thread Cert.EvenFfnIdeal.nD Cert.EvenFfnIdeal.τ).loc Cert.EvenFfnIdeal.main_arg5)
          ∧ r.2.mem ((c.tc : Thread Cert.EvenFfnIdeal.nD Cert.EvenFfnIdeal.τ).loc Cert.EvenFfnIdeal.main_arg6) = m ((c.tc : Thread Cert.EvenFfnIdeal.nD Cert.EvenFfnIdeal.τ).loc Cert.EvenFfnIdeal.main_arg6)
          ∧ r.2.mem ((c.tc : Thread Cert.EvenFfnIdeal.nD Cert.EvenFfnIdeal.τ).loc Cert.EvenFfnIdeal.main_arg7) = m ((c.tc : Thread Cert.EvenFfnIdeal.nD Cert.EvenFfnIdeal.τ).loc Cert.EvenFfnIdeal.main_arg7)
          ∧ r.2.mem ((c.tc : Thread Cert.EvenFfnIdeal.nD Cert.EvenFfnIdeal.τ).loc Cert.EvenFfnIdeal.main_arg8) = m ((c.tc : Thread Cert.EvenFfnIdeal.nD Cert.EvenFfnIdeal.τ).loc Cert.EvenFfnIdeal.main_arg8))
      ∧ θ_run (Cert.EvenFfnReferenceIdeal.defs (F := Ideal)) (onTc (τ := Cert.EvenFfnReferenceIdeal.τ) (Cert.EvenFfnReferenceIdeal.main (F := Ideal))) ⟨m', fun _ => 0, g'⟩ (fun r => ∀ c : Dev Cert.EvenFfnReferenceIdeal.nD,
          r.2.mem ((c.tc : Thread Cert.EvenFfnReferenceIdeal.nD Cert.EvenFfnReferenceIdeal.τ).loc Cert.EvenFfnReferenceIdeal.main_v21) = v0 c
          ∧ r.2.mem ((c.tc : Thread Cert.EvenFfnReferenceIdeal.nD Cert.EvenFfnReferenceIdeal.τ).loc Cert.EvenFfnReferenceIdeal.main_arg0) = m' ((c.tc : Thread Cert.EvenFfnReferenceIdeal.nD Cert.EvenFfnReferenceIdeal.τ).loc Cert.EvenFfnReferenceIdeal.main_arg0)
          ∧ r.2.mem ((c.tc : Thread Cert.EvenFfnReferenceIdeal.nD Cert.EvenFfnReferenceIdeal.τ).loc Cert.EvenFfnReferenceIdeal.main_arg1) = m' ((c.tc : Thread Cert.EvenFfnReferenceIdeal.nD Cert.EvenFfnReferenceIdeal.τ).loc Cert.EvenFfnReferenceIdeal.main_arg1)
          ∧ r.2.mem ((c.tc : Thread Cert.EvenFfnReferenceIdeal.nD Cert.EvenFfnReferenceIdeal.τ).loc Cert.EvenFfnReferenceIdeal.main_arg2) = m' ((c.tc : Thread Cert.EvenFfnReferenceIdeal.nD Cert.EvenFfnReferenceIdeal.τ).loc Cert.EvenFfnReferenceIdeal.main_arg2)
          ∧ r.2.mem ((c.tc : Thread Cert.EvenFfnReferenceIdeal.nD Cert.EvenFfnReferenceIdeal.τ).loc Cert.EvenFfnReferenceIdeal.main_arg3) = m' ((c.tc : Thread Cert.EvenFfnReferenceIdeal.nD Cert.EvenFfnReferenceIdeal.τ).loc Cert.EvenFfnReferenceIdeal.main_arg3)
          ∧ r.2.mem ((c.tc : Thread Cert.EvenFfnReferenceIdeal.nD Cert.EvenFfnReferenceIdeal.τ).loc Cert.EvenFfnReferenceIdeal.main_arg4) = m' ((c.tc : Thread Cert.EvenFfnReferenceIdeal.nD Cert.EvenFfnReferenceIdeal.τ).loc Cert.EvenFfnReferenceIdeal.main_arg4)
          ∧ r.2.mem ((c.tc : Thread Cert.EvenFfnReferenceIdeal.nD Cert.EvenFfnReferenceIdeal.τ).loc Cert.EvenFfnReferenceIdeal.main_arg5) = m' ((c.tc : Thread Cert.EvenFfnReferenceIdeal.nD Cert.EvenFfnReferenceIdeal.τ).loc Cert.EvenFfnReferenceIdeal.main_arg5)
          ∧ r.2.mem ((c.tc : Thread Cert.EvenFfnReferenceIdeal.nD Cert.EvenFfnReferenceIdeal.τ).loc Cert.EvenFfnReferenceIdeal.main_arg6) = m' ((c.tc : Thread Cert.EvenFfnReferenceIdeal.nD Cert.EvenFfnReferenceIdeal.τ).loc Cert.EvenFfnReferenceIdeal.main_arg6)
          ∧ r.2.mem ((c.tc : Thread Cert.EvenFfnReferenceIdeal.nD Cert.EvenFfnReferenceIdeal.τ).loc Cert.EvenFfnReferenceIdeal.main_arg7) = m' ((c.tc : Thread Cert.EvenFfnReferenceIdeal.nD Cert.EvenFfnReferenceIdeal.τ).loc Cert.EvenFfnReferenceIdeal.main_arg7)
          ∧ r.2.mem ((c.tc : Thread Cert.EvenFfnReferenceIdeal.nD Cert.EvenFfnReferenceIdeal.τ).loc Cert.EvenFfnReferenceIdeal.main_arg8) = m' ((c.tc : Thread Cert.EvenFfnReferenceIdeal.nD Cert.EvenFfnReferenceIdeal.τ).loc Cert.EvenFfnReferenceIdeal.main_arg8))

def preserves_SampleFfn_SampleFfnIdeal : Prop :=
  True

def algebraic_SampleFfnIdeal_SampleFfnReferenceIdeal [hSampleFfnIdeal : Cert.SampleFfnIdeal.Facts] [hSampleFfnReferenceIdeal : Cert.SampleFfnReferenceIdeal.Facts] : Prop :=
  ∀ (m : (ℓ : Loc Cert.SampleFfnIdeal.nD Cert.SampleFfnIdeal.τ Cert.SampleFfnIdeal.sig) → Buf (Elt Ideal) ℓ) (g : Dev Cert.SampleFfnIdeal.nD → PrngReg)
    (m' : (ℓ : Loc Cert.SampleFfnReferenceIdeal.nD Cert.SampleFfnReferenceIdeal.τ Cert.SampleFfnReferenceIdeal.sig) → Buf (Elt Ideal) ℓ) (g' : Dev Cert.SampleFfnReferenceIdeal.nD → PrngReg), Pre_SampleFfnIdeal m →
    (∀ c : Dev Cert.SampleFfnIdeal.nD,
      m' ((c.tc : Thread Cert.SampleFfnReferenceIdeal.nD Cert.SampleFfnReferenceIdeal.τ).loc Cert.SampleFfnReferenceIdeal.main_arg0) = m ((c.tc : Thread Cert.SampleFfnIdeal.nD Cert.SampleFfnIdeal.τ).loc Cert.SampleFfnIdeal.main_arg0)
      ∧ m' ((c.tc : Thread Cert.SampleFfnReferenceIdeal.nD Cert.SampleFfnReferenceIdeal.τ).loc Cert.SampleFfnReferenceIdeal.main_arg1) = m ((c.tc : Thread Cert.SampleFfnIdeal.nD Cert.SampleFfnIdeal.τ).loc Cert.SampleFfnIdeal.main_arg1)
      ∧ m' ((c.tc : Thread Cert.SampleFfnReferenceIdeal.nD Cert.SampleFfnReferenceIdeal.τ).loc Cert.SampleFfnReferenceIdeal.main_arg2) = m ((c.tc : Thread Cert.SampleFfnIdeal.nD Cert.SampleFfnIdeal.τ).loc Cert.SampleFfnIdeal.main_arg2)
      ∧ m' ((c.tc : Thread Cert.SampleFfnReferenceIdeal.nD Cert.SampleFfnReferenceIdeal.τ).loc Cert.SampleFfnReferenceIdeal.main_arg3) = m ((c.tc : Thread Cert.SampleFfnIdeal.nD Cert.SampleFfnIdeal.τ).loc Cert.SampleFfnIdeal.main_arg3)
      ∧ m' ((c.tc : Thread Cert.SampleFfnReferenceIdeal.nD Cert.SampleFfnReferenceIdeal.τ).loc Cert.SampleFfnReferenceIdeal.main_arg4) = m ((c.tc : Thread Cert.SampleFfnIdeal.nD Cert.SampleFfnIdeal.τ).loc Cert.SampleFfnIdeal.main_arg4)
      ∧ m' ((c.tc : Thread Cert.SampleFfnReferenceIdeal.nD Cert.SampleFfnReferenceIdeal.τ).loc Cert.SampleFfnReferenceIdeal.main_arg5) = m ((c.tc : Thread Cert.SampleFfnIdeal.nD Cert.SampleFfnIdeal.τ).loc Cert.SampleFfnIdeal.main_arg5)
      ∧ m' ((c.tc : Thread Cert.SampleFfnReferenceIdeal.nD Cert.SampleFfnReferenceIdeal.τ).loc Cert.SampleFfnReferenceIdeal.main_arg6) = m ((c.tc : Thread Cert.SampleFfnIdeal.nD Cert.SampleFfnIdeal.τ).loc Cert.SampleFfnIdeal.main_arg6)
      ∧ m' ((c.tc : Thread Cert.SampleFfnReferenceIdeal.nD Cert.SampleFfnReferenceIdeal.τ).loc Cert.SampleFfnReferenceIdeal.main_arg7) = m ((c.tc : Thread Cert.SampleFfnIdeal.nD Cert.SampleFfnIdeal.τ).loc Cert.SampleFfnIdeal.main_arg7)) →
    ∃ (v0 : (c : Dev Cert.SampleFfnIdeal.nD) → Buf (Elt Ideal) ((c.tc : Thread Cert.SampleFfnIdeal.nD Cert.SampleFfnIdeal.τ).loc Cert.SampleFfnIdeal.main_v6)),
      θ_run (Cert.SampleFfnIdeal.defs (F := Ideal)) (onTc (τ := Cert.SampleFfnIdeal.τ) (Cert.SampleFfnIdeal.main (F := Ideal))) ⟨m, fun _ => 0, g⟩ (fun r => ∀ c : Dev Cert.SampleFfnIdeal.nD,
          r.2.mem ((c.tc : Thread Cert.SampleFfnIdeal.nD Cert.SampleFfnIdeal.τ).loc Cert.SampleFfnIdeal.main_v6) = v0 c
          ∧ r.2.mem ((c.tc : Thread Cert.SampleFfnIdeal.nD Cert.SampleFfnIdeal.τ).loc Cert.SampleFfnIdeal.main_arg0) = m ((c.tc : Thread Cert.SampleFfnIdeal.nD Cert.SampleFfnIdeal.τ).loc Cert.SampleFfnIdeal.main_arg0)
          ∧ r.2.mem ((c.tc : Thread Cert.SampleFfnIdeal.nD Cert.SampleFfnIdeal.τ).loc Cert.SampleFfnIdeal.main_arg1) = m ((c.tc : Thread Cert.SampleFfnIdeal.nD Cert.SampleFfnIdeal.τ).loc Cert.SampleFfnIdeal.main_arg1)
          ∧ r.2.mem ((c.tc : Thread Cert.SampleFfnIdeal.nD Cert.SampleFfnIdeal.τ).loc Cert.SampleFfnIdeal.main_arg2) = m ((c.tc : Thread Cert.SampleFfnIdeal.nD Cert.SampleFfnIdeal.τ).loc Cert.SampleFfnIdeal.main_arg2)
          ∧ r.2.mem ((c.tc : Thread Cert.SampleFfnIdeal.nD Cert.SampleFfnIdeal.τ).loc Cert.SampleFfnIdeal.main_arg3) = m ((c.tc : Thread Cert.SampleFfnIdeal.nD Cert.SampleFfnIdeal.τ).loc Cert.SampleFfnIdeal.main_arg3)
          ∧ r.2.mem ((c.tc : Thread Cert.SampleFfnIdeal.nD Cert.SampleFfnIdeal.τ).loc Cert.SampleFfnIdeal.main_arg4) = m ((c.tc : Thread Cert.SampleFfnIdeal.nD Cert.SampleFfnIdeal.τ).loc Cert.SampleFfnIdeal.main_arg4)
          ∧ r.2.mem ((c.tc : Thread Cert.SampleFfnIdeal.nD Cert.SampleFfnIdeal.τ).loc Cert.SampleFfnIdeal.main_arg5) = m ((c.tc : Thread Cert.SampleFfnIdeal.nD Cert.SampleFfnIdeal.τ).loc Cert.SampleFfnIdeal.main_arg5)
          ∧ r.2.mem ((c.tc : Thread Cert.SampleFfnIdeal.nD Cert.SampleFfnIdeal.τ).loc Cert.SampleFfnIdeal.main_arg6) = m ((c.tc : Thread Cert.SampleFfnIdeal.nD Cert.SampleFfnIdeal.τ).loc Cert.SampleFfnIdeal.main_arg6)
          ∧ r.2.mem ((c.tc : Thread Cert.SampleFfnIdeal.nD Cert.SampleFfnIdeal.τ).loc Cert.SampleFfnIdeal.main_arg7) = m ((c.tc : Thread Cert.SampleFfnIdeal.nD Cert.SampleFfnIdeal.τ).loc Cert.SampleFfnIdeal.main_arg7))
      ∧ θ_run (Cert.SampleFfnReferenceIdeal.defs (F := Ideal)) (onTc (τ := Cert.SampleFfnReferenceIdeal.τ) (Cert.SampleFfnReferenceIdeal.main (F := Ideal))) ⟨m', fun _ => 0, g'⟩ (fun r => ∀ c : Dev Cert.SampleFfnReferenceIdeal.nD,
          r.2.mem ((c.tc : Thread Cert.SampleFfnReferenceIdeal.nD Cert.SampleFfnReferenceIdeal.τ).loc Cert.SampleFfnReferenceIdeal.main_v33) = v0 c
          ∧ r.2.mem ((c.tc : Thread Cert.SampleFfnReferenceIdeal.nD Cert.SampleFfnReferenceIdeal.τ).loc Cert.SampleFfnReferenceIdeal.main_arg0) = m' ((c.tc : Thread Cert.SampleFfnReferenceIdeal.nD Cert.SampleFfnReferenceIdeal.τ).loc Cert.SampleFfnReferenceIdeal.main_arg0)
          ∧ r.2.mem ((c.tc : Thread Cert.SampleFfnReferenceIdeal.nD Cert.SampleFfnReferenceIdeal.τ).loc Cert.SampleFfnReferenceIdeal.main_arg1) = m' ((c.tc : Thread Cert.SampleFfnReferenceIdeal.nD Cert.SampleFfnReferenceIdeal.τ).loc Cert.SampleFfnReferenceIdeal.main_arg1)
          ∧ r.2.mem ((c.tc : Thread Cert.SampleFfnReferenceIdeal.nD Cert.SampleFfnReferenceIdeal.τ).loc Cert.SampleFfnReferenceIdeal.main_arg2) = m' ((c.tc : Thread Cert.SampleFfnReferenceIdeal.nD Cert.SampleFfnReferenceIdeal.τ).loc Cert.SampleFfnReferenceIdeal.main_arg2)
          ∧ r.2.mem ((c.tc : Thread Cert.SampleFfnReferenceIdeal.nD Cert.SampleFfnReferenceIdeal.τ).loc Cert.SampleFfnReferenceIdeal.main_arg3) = m' ((c.tc : Thread Cert.SampleFfnReferenceIdeal.nD Cert.SampleFfnReferenceIdeal.τ).loc Cert.SampleFfnReferenceIdeal.main_arg3)
          ∧ r.2.mem ((c.tc : Thread Cert.SampleFfnReferenceIdeal.nD Cert.SampleFfnReferenceIdeal.τ).loc Cert.SampleFfnReferenceIdeal.main_arg4) = m' ((c.tc : Thread Cert.SampleFfnReferenceIdeal.nD Cert.SampleFfnReferenceIdeal.τ).loc Cert.SampleFfnReferenceIdeal.main_arg4)
          ∧ r.2.mem ((c.tc : Thread Cert.SampleFfnReferenceIdeal.nD Cert.SampleFfnReferenceIdeal.τ).loc Cert.SampleFfnReferenceIdeal.main_arg5) = m' ((c.tc : Thread Cert.SampleFfnReferenceIdeal.nD Cert.SampleFfnReferenceIdeal.τ).loc Cert.SampleFfnReferenceIdeal.main_arg5)
          ∧ r.2.mem ((c.tc : Thread Cert.SampleFfnReferenceIdeal.nD Cert.SampleFfnReferenceIdeal.τ).loc Cert.SampleFfnReferenceIdeal.main_arg6) = m' ((c.tc : Thread Cert.SampleFfnReferenceIdeal.nD Cert.SampleFfnReferenceIdeal.τ).loc Cert.SampleFfnReferenceIdeal.main_arg6)
          ∧ r.2.mem ((c.tc : Thread Cert.SampleFfnReferenceIdeal.nD Cert.SampleFfnReferenceIdeal.τ).loc Cert.SampleFfnReferenceIdeal.main_arg7) = m' ((c.tc : Thread Cert.SampleFfnReferenceIdeal.nD Cert.SampleFfnReferenceIdeal.τ).loc Cert.SampleFfnReferenceIdeal.main_arg7))

def preserves_FoxGates_FoxGatesIdeal : Prop :=
  True

def algebraic_FoxGatesIdeal_FoxGatesReferenceIdeal [hFoxGatesIdeal : Cert.FoxGatesIdeal.Facts] [hFoxGatesReferenceIdeal : Cert.FoxGatesReferenceIdeal.Facts] : Prop :=
  ∀ (m : (ℓ : Loc Cert.FoxGatesIdeal.nD Cert.FoxGatesIdeal.τ Cert.FoxGatesIdeal.sig) → Buf (Elt Ideal) ℓ) (g : Dev Cert.FoxGatesIdeal.nD → PrngReg)
    (m' : (ℓ : Loc Cert.FoxGatesReferenceIdeal.nD Cert.FoxGatesReferenceIdeal.τ Cert.FoxGatesReferenceIdeal.sig) → Buf (Elt Ideal) ℓ) (g' : Dev Cert.FoxGatesReferenceIdeal.nD → PrngReg), Pre_FoxGatesIdeal m →
    (∀ c : Dev Cert.FoxGatesIdeal.nD,
      m' ((c.tc : Thread Cert.FoxGatesReferenceIdeal.nD Cert.FoxGatesReferenceIdeal.τ).loc Cert.FoxGatesReferenceIdeal.main_arg0) = m ((c.tc : Thread Cert.FoxGatesIdeal.nD Cert.FoxGatesIdeal.τ).loc Cert.FoxGatesIdeal.main_arg0)
      ∧ m' ((c.tc : Thread Cert.FoxGatesReferenceIdeal.nD Cert.FoxGatesReferenceIdeal.τ).loc Cert.FoxGatesReferenceIdeal.main_arg1) = m ((c.tc : Thread Cert.FoxGatesIdeal.nD Cert.FoxGatesIdeal.τ).loc Cert.FoxGatesIdeal.main_arg1)) →
    ∃ (v0 : (c : Dev Cert.FoxGatesIdeal.nD) → Buf (Elt Ideal) ((c.tc : Thread Cert.FoxGatesIdeal.nD Cert.FoxGatesIdeal.τ).loc Cert.FoxGatesIdeal.main_v2_0)) (v1 : (c : Dev Cert.FoxGatesIdeal.nD) → Buf (Elt Ideal) ((c.tc : Thread Cert.FoxGatesIdeal.nD Cert.FoxGatesIdeal.τ).loc Cert.FoxGatesIdeal.main_v2_1)),
      θ_run (Cert.FoxGatesIdeal.defs (F := Ideal)) (onTc (τ := Cert.FoxGatesIdeal.τ) (Cert.FoxGatesIdeal.main (F := Ideal))) ⟨m, fun _ => 0, g⟩ (fun r => ∀ c : Dev Cert.FoxGatesIdeal.nD,
          r.2.mem ((c.tc : Thread Cert.FoxGatesIdeal.nD Cert.FoxGatesIdeal.τ).loc Cert.FoxGatesIdeal.main_v2_0) = v0 c
          ∧ r.2.mem ((c.tc : Thread Cert.FoxGatesIdeal.nD Cert.FoxGatesIdeal.τ).loc Cert.FoxGatesIdeal.main_v2_1) = v1 c
          ∧ r.2.mem ((c.tc : Thread Cert.FoxGatesIdeal.nD Cert.FoxGatesIdeal.τ).loc Cert.FoxGatesIdeal.main_arg0) = m ((c.tc : Thread Cert.FoxGatesIdeal.nD Cert.FoxGatesIdeal.τ).loc Cert.FoxGatesIdeal.main_arg0)
          ∧ r.2.mem ((c.tc : Thread Cert.FoxGatesIdeal.nD Cert.FoxGatesIdeal.τ).loc Cert.FoxGatesIdeal.main_arg1) = m ((c.tc : Thread Cert.FoxGatesIdeal.nD Cert.FoxGatesIdeal.τ).loc Cert.FoxGatesIdeal.main_arg1))
      ∧ θ_run (Cert.FoxGatesReferenceIdeal.defs (F := Ideal)) (onTc (τ := Cert.FoxGatesReferenceIdeal.τ) (Cert.FoxGatesReferenceIdeal.main (F := Ideal))) ⟨m', fun _ => 0, g'⟩ (fun r => ∀ c : Dev Cert.FoxGatesReferenceIdeal.nD,
          r.2.mem ((c.tc : Thread Cert.FoxGatesReferenceIdeal.nD Cert.FoxGatesReferenceIdeal.τ).loc Cert.FoxGatesReferenceIdeal.main_v4) = v0 c
          ∧ r.2.mem ((c.tc : Thread Cert.FoxGatesReferenceIdeal.nD Cert.FoxGatesReferenceIdeal.τ).loc Cert.FoxGatesReferenceIdeal.main_v7) = v1 c
          ∧ r.2.mem ((c.tc : Thread Cert.FoxGatesReferenceIdeal.nD Cert.FoxGatesReferenceIdeal.τ).loc Cert.FoxGatesReferenceIdeal.main_arg0) = m' ((c.tc : Thread Cert.FoxGatesReferenceIdeal.nD Cert.FoxGatesReferenceIdeal.τ).loc Cert.FoxGatesReferenceIdeal.main_arg0)
          ∧ r.2.mem ((c.tc : Thread Cert.FoxGatesReferenceIdeal.nD Cert.FoxGatesReferenceIdeal.τ).loc Cert.FoxGatesReferenceIdeal.main_arg1) = m' ((c.tc : Thread Cert.FoxGatesReferenceIdeal.nD Cert.FoxGatesReferenceIdeal.τ).loc Cert.FoxGatesReferenceIdeal.main_arg1))

def preserves_SampleMlstm_SampleMlstmIdeal : Prop :=
  True

def algebraic_SampleMlstmIdeal_SampleMlstmReferenceIdeal [hSampleMlstmIdeal : Cert.SampleMlstmIdeal.Facts] [hSampleMlstmReferenceIdeal : Cert.SampleMlstmReferenceIdeal.Facts] : Prop :=
  ∀ (m : (ℓ : Loc Cert.SampleMlstmIdeal.nD Cert.SampleMlstmIdeal.τ Cert.SampleMlstmIdeal.sig) → Buf (Elt Ideal) ℓ) (g : Dev Cert.SampleMlstmIdeal.nD → PrngReg)
    (m' : (ℓ : Loc Cert.SampleMlstmReferenceIdeal.nD Cert.SampleMlstmReferenceIdeal.τ Cert.SampleMlstmReferenceIdeal.sig) → Buf (Elt Ideal) ℓ) (g' : Dev Cert.SampleMlstmReferenceIdeal.nD → PrngReg), Pre_SampleMlstmIdeal m →
    (∀ c : Dev Cert.SampleMlstmIdeal.nD,
      m' ((c.tc : Thread Cert.SampleMlstmReferenceIdeal.nD Cert.SampleMlstmReferenceIdeal.τ).loc Cert.SampleMlstmReferenceIdeal.main_arg0) = m ((c.tc : Thread Cert.SampleMlstmIdeal.nD Cert.SampleMlstmIdeal.τ).loc Cert.SampleMlstmIdeal.main_arg0)
      ∧ m' ((c.tc : Thread Cert.SampleMlstmReferenceIdeal.nD Cert.SampleMlstmReferenceIdeal.τ).loc Cert.SampleMlstmReferenceIdeal.main_arg1) = m ((c.tc : Thread Cert.SampleMlstmIdeal.nD Cert.SampleMlstmIdeal.τ).loc Cert.SampleMlstmIdeal.main_arg1)
      ∧ m' ((c.tc : Thread Cert.SampleMlstmReferenceIdeal.nD Cert.SampleMlstmReferenceIdeal.τ).loc Cert.SampleMlstmReferenceIdeal.main_arg2) = m ((c.tc : Thread Cert.SampleMlstmIdeal.nD Cert.SampleMlstmIdeal.τ).loc Cert.SampleMlstmIdeal.main_arg2)
      ∧ m' ((c.tc : Thread Cert.SampleMlstmReferenceIdeal.nD Cert.SampleMlstmReferenceIdeal.τ).loc Cert.SampleMlstmReferenceIdeal.main_arg3) = m ((c.tc : Thread Cert.SampleMlstmIdeal.nD Cert.SampleMlstmIdeal.τ).loc Cert.SampleMlstmIdeal.main_arg3)
      ∧ m' ((c.tc : Thread Cert.SampleMlstmReferenceIdeal.nD Cert.SampleMlstmReferenceIdeal.τ).loc Cert.SampleMlstmReferenceIdeal.main_arg4) = m ((c.tc : Thread Cert.SampleMlstmIdeal.nD Cert.SampleMlstmIdeal.τ).loc Cert.SampleMlstmIdeal.main_arg4)
      ∧ m' ((c.tc : Thread Cert.SampleMlstmReferenceIdeal.nD Cert.SampleMlstmReferenceIdeal.τ).loc Cert.SampleMlstmReferenceIdeal.main_arg5) = m ((c.tc : Thread Cert.SampleMlstmIdeal.nD Cert.SampleMlstmIdeal.τ).loc Cert.SampleMlstmIdeal.main_arg5)
      ∧ m' ((c.tc : Thread Cert.SampleMlstmReferenceIdeal.nD Cert.SampleMlstmReferenceIdeal.τ).loc Cert.SampleMlstmReferenceIdeal.main_arg6) = m ((c.tc : Thread Cert.SampleMlstmIdeal.nD Cert.SampleMlstmIdeal.τ).loc Cert.SampleMlstmIdeal.main_arg6)
      ∧ m' ((c.tc : Thread Cert.SampleMlstmReferenceIdeal.nD Cert.SampleMlstmReferenceIdeal.τ).loc Cert.SampleMlstmReferenceIdeal.main_arg7) = m ((c.tc : Thread Cert.SampleMlstmIdeal.nD Cert.SampleMlstmIdeal.τ).loc Cert.SampleMlstmIdeal.main_arg7)
      ∧ m' ((c.tc : Thread Cert.SampleMlstmReferenceIdeal.nD Cert.SampleMlstmReferenceIdeal.τ).loc Cert.SampleMlstmReferenceIdeal.main_arg8) = m ((c.tc : Thread Cert.SampleMlstmIdeal.nD Cert.SampleMlstmIdeal.τ).loc Cert.SampleMlstmIdeal.main_arg8)
      ∧ m' ((c.tc : Thread Cert.SampleMlstmReferenceIdeal.nD Cert.SampleMlstmReferenceIdeal.τ).loc Cert.SampleMlstmReferenceIdeal.main_arg9) = m ((c.tc : Thread Cert.SampleMlstmIdeal.nD Cert.SampleMlstmIdeal.τ).loc Cert.SampleMlstmIdeal.main_arg9)
      ∧ m' ((c.tc : Thread Cert.SampleMlstmReferenceIdeal.nD Cert.SampleMlstmReferenceIdeal.τ).loc Cert.SampleMlstmReferenceIdeal.main_arg10) = m ((c.tc : Thread Cert.SampleMlstmIdeal.nD Cert.SampleMlstmIdeal.τ).loc Cert.SampleMlstmIdeal.main_arg10)) →
    ∃ (v0 : (c : Dev Cert.SampleMlstmIdeal.nD) → Buf (Elt Ideal) ((c.tc : Thread Cert.SampleMlstmIdeal.nD Cert.SampleMlstmIdeal.τ).loc Cert.SampleMlstmIdeal.main_v11_0)) (v1 : (c : Dev Cert.SampleMlstmIdeal.nD) → Buf (Elt Ideal) ((c.tc : Thread Cert.SampleMlstmIdeal.nD Cert.SampleMlstmIdeal.τ).loc Cert.SampleMlstmIdeal.main_v11_1)) (v2 : (c : Dev Cert.SampleMlstmIdeal.nD) → Buf (Elt Ideal) ((c.tc : Thread Cert.SampleMlstmIdeal.nD Cert.SampleMlstmIdeal.τ).loc Cert.SampleMlstmIdeal.main_v11_2)) (v3 : (c : Dev Cert.SampleMlstmIdeal.nD) → Buf (Elt Ideal) ((c.tc : Thread Cert.SampleMlstmIdeal.nD Cert.SampleMlstmIdeal.τ).loc Cert.SampleMlstmIdeal.main_v11_3)),
      θ_run (Cert.SampleMlstmIdeal.defs (F := Ideal)) (onTc (τ := Cert.SampleMlstmIdeal.τ) (Cert.SampleMlstmIdeal.main (F := Ideal))) ⟨m, fun _ => 0, g⟩ (fun r => ∀ c : Dev Cert.SampleMlstmIdeal.nD,
          r.2.mem ((c.tc : Thread Cert.SampleMlstmIdeal.nD Cert.SampleMlstmIdeal.τ).loc Cert.SampleMlstmIdeal.main_v11_0) = v0 c
          ∧ r.2.mem ((c.tc : Thread Cert.SampleMlstmIdeal.nD Cert.SampleMlstmIdeal.τ).loc Cert.SampleMlstmIdeal.main_v11_1) = v1 c
          ∧ r.2.mem ((c.tc : Thread Cert.SampleMlstmIdeal.nD Cert.SampleMlstmIdeal.τ).loc Cert.SampleMlstmIdeal.main_v11_2) = v2 c
          ∧ r.2.mem ((c.tc : Thread Cert.SampleMlstmIdeal.nD Cert.SampleMlstmIdeal.τ).loc Cert.SampleMlstmIdeal.main_v11_3) = v3 c
          ∧ r.2.mem ((c.tc : Thread Cert.SampleMlstmIdeal.nD Cert.SampleMlstmIdeal.τ).loc Cert.SampleMlstmIdeal.main_arg0) = m ((c.tc : Thread Cert.SampleMlstmIdeal.nD Cert.SampleMlstmIdeal.τ).loc Cert.SampleMlstmIdeal.main_arg0)
          ∧ r.2.mem ((c.tc : Thread Cert.SampleMlstmIdeal.nD Cert.SampleMlstmIdeal.τ).loc Cert.SampleMlstmIdeal.main_arg1) = m ((c.tc : Thread Cert.SampleMlstmIdeal.nD Cert.SampleMlstmIdeal.τ).loc Cert.SampleMlstmIdeal.main_arg1)
          ∧ r.2.mem ((c.tc : Thread Cert.SampleMlstmIdeal.nD Cert.SampleMlstmIdeal.τ).loc Cert.SampleMlstmIdeal.main_arg2) = m ((c.tc : Thread Cert.SampleMlstmIdeal.nD Cert.SampleMlstmIdeal.τ).loc Cert.SampleMlstmIdeal.main_arg2)
          ∧ r.2.mem ((c.tc : Thread Cert.SampleMlstmIdeal.nD Cert.SampleMlstmIdeal.τ).loc Cert.SampleMlstmIdeal.main_arg3) = m ((c.tc : Thread Cert.SampleMlstmIdeal.nD Cert.SampleMlstmIdeal.τ).loc Cert.SampleMlstmIdeal.main_arg3)
          ∧ r.2.mem ((c.tc : Thread Cert.SampleMlstmIdeal.nD Cert.SampleMlstmIdeal.τ).loc Cert.SampleMlstmIdeal.main_arg4) = m ((c.tc : Thread Cert.SampleMlstmIdeal.nD Cert.SampleMlstmIdeal.τ).loc Cert.SampleMlstmIdeal.main_arg4)
          ∧ r.2.mem ((c.tc : Thread Cert.SampleMlstmIdeal.nD Cert.SampleMlstmIdeal.τ).loc Cert.SampleMlstmIdeal.main_arg5) = m ((c.tc : Thread Cert.SampleMlstmIdeal.nD Cert.SampleMlstmIdeal.τ).loc Cert.SampleMlstmIdeal.main_arg5)
          ∧ r.2.mem ((c.tc : Thread Cert.SampleMlstmIdeal.nD Cert.SampleMlstmIdeal.τ).loc Cert.SampleMlstmIdeal.main_arg6) = m ((c.tc : Thread Cert.SampleMlstmIdeal.nD Cert.SampleMlstmIdeal.τ).loc Cert.SampleMlstmIdeal.main_arg6)
          ∧ r.2.mem ((c.tc : Thread Cert.SampleMlstmIdeal.nD Cert.SampleMlstmIdeal.τ).loc Cert.SampleMlstmIdeal.main_arg7) = m ((c.tc : Thread Cert.SampleMlstmIdeal.nD Cert.SampleMlstmIdeal.τ).loc Cert.SampleMlstmIdeal.main_arg7)
          ∧ r.2.mem ((c.tc : Thread Cert.SampleMlstmIdeal.nD Cert.SampleMlstmIdeal.τ).loc Cert.SampleMlstmIdeal.main_arg8) = m ((c.tc : Thread Cert.SampleMlstmIdeal.nD Cert.SampleMlstmIdeal.τ).loc Cert.SampleMlstmIdeal.main_arg8)
          ∧ r.2.mem ((c.tc : Thread Cert.SampleMlstmIdeal.nD Cert.SampleMlstmIdeal.τ).loc Cert.SampleMlstmIdeal.main_arg9) = m ((c.tc : Thread Cert.SampleMlstmIdeal.nD Cert.SampleMlstmIdeal.τ).loc Cert.SampleMlstmIdeal.main_arg9)
          ∧ r.2.mem ((c.tc : Thread Cert.SampleMlstmIdeal.nD Cert.SampleMlstmIdeal.τ).loc Cert.SampleMlstmIdeal.main_arg10) = m ((c.tc : Thread Cert.SampleMlstmIdeal.nD Cert.SampleMlstmIdeal.τ).loc Cert.SampleMlstmIdeal.main_arg10))
      ∧ θ_run (Cert.SampleMlstmReferenceIdeal.defs (F := Ideal)) (onTc (τ := Cert.SampleMlstmReferenceIdeal.τ) (Cert.SampleMlstmReferenceIdeal.main (F := Ideal))) ⟨m', fun _ => 0, g'⟩ (fun r => ∀ c : Dev Cert.SampleMlstmReferenceIdeal.nD,
          r.2.mem ((c.tc : Thread Cert.SampleMlstmReferenceIdeal.nD Cert.SampleMlstmReferenceIdeal.τ).loc Cert.SampleMlstmReferenceIdeal.main_v113) = v0 c
          ∧ r.2.mem ((c.tc : Thread Cert.SampleMlstmReferenceIdeal.nD Cert.SampleMlstmReferenceIdeal.τ).loc Cert.SampleMlstmReferenceIdeal.main_v85) = v1 c
          ∧ r.2.mem ((c.tc : Thread Cert.SampleMlstmReferenceIdeal.nD Cert.SampleMlstmReferenceIdeal.τ).loc Cert.SampleMlstmReferenceIdeal.main_v114) = v2 c
          ∧ r.2.mem ((c.tc : Thread Cert.SampleMlstmReferenceIdeal.nD Cert.SampleMlstmReferenceIdeal.τ).loc Cert.SampleMlstmReferenceIdeal.main_v115) = v3 c
          ∧ r.2.mem ((c.tc : Thread Cert.SampleMlstmReferenceIdeal.nD Cert.SampleMlstmReferenceIdeal.τ).loc Cert.SampleMlstmReferenceIdeal.main_arg0) = m' ((c.tc : Thread Cert.SampleMlstmReferenceIdeal.nD Cert.SampleMlstmReferenceIdeal.τ).loc Cert.SampleMlstmReferenceIdeal.main_arg0)
          ∧ r.2.mem ((c.tc : Thread Cert.SampleMlstmReferenceIdeal.nD Cert.SampleMlstmReferenceIdeal.τ).loc Cert.SampleMlstmReferenceIdeal.main_arg1) = m' ((c.tc : Thread Cert.SampleMlstmReferenceIdeal.nD Cert.SampleMlstmReferenceIdeal.τ).loc Cert.SampleMlstmReferenceIdeal.main_arg1)
          ∧ r.2.mem ((c.tc : Thread Cert.SampleMlstmReferenceIdeal.nD Cert.SampleMlstmReferenceIdeal.τ).loc Cert.SampleMlstmReferenceIdeal.main_arg2) = m' ((c.tc : Thread Cert.SampleMlstmReferenceIdeal.nD Cert.SampleMlstmReferenceIdeal.τ).loc Cert.SampleMlstmReferenceIdeal.main_arg2)
          ∧ r.2.mem ((c.tc : Thread Cert.SampleMlstmReferenceIdeal.nD Cert.SampleMlstmReferenceIdeal.τ).loc Cert.SampleMlstmReferenceIdeal.main_arg3) = m' ((c.tc : Thread Cert.SampleMlstmReferenceIdeal.nD Cert.SampleMlstmReferenceIdeal.τ).loc Cert.SampleMlstmReferenceIdeal.main_arg3)
          ∧ r.2.mem ((c.tc : Thread Cert.SampleMlstmReferenceIdeal.nD Cert.SampleMlstmReferenceIdeal.τ).loc Cert.SampleMlstmReferenceIdeal.main_arg4) = m' ((c.tc : Thread Cert.SampleMlstmReferenceIdeal.nD Cert.SampleMlstmReferenceIdeal.τ).loc Cert.SampleMlstmReferenceIdeal.main_arg4)
          ∧ r.2.mem ((c.tc : Thread Cert.SampleMlstmReferenceIdeal.nD Cert.SampleMlstmReferenceIdeal.τ).loc Cert.SampleMlstmReferenceIdeal.main_arg5) = m' ((c.tc : Thread Cert.SampleMlstmReferenceIdeal.nD Cert.SampleMlstmReferenceIdeal.τ).loc Cert.SampleMlstmReferenceIdeal.main_arg5)
          ∧ r.2.mem ((c.tc : Thread Cert.SampleMlstmReferenceIdeal.nD Cert.SampleMlstmReferenceIdeal.τ).loc Cert.SampleMlstmReferenceIdeal.main_arg6) = m' ((c.tc : Thread Cert.SampleMlstmReferenceIdeal.nD Cert.SampleMlstmReferenceIdeal.τ).loc Cert.SampleMlstmReferenceIdeal.main_arg6)
          ∧ r.2.mem ((c.tc : Thread Cert.SampleMlstmReferenceIdeal.nD Cert.SampleMlstmReferenceIdeal.τ).loc Cert.SampleMlstmReferenceIdeal.main_arg7) = m' ((c.tc : Thread Cert.SampleMlstmReferenceIdeal.nD Cert.SampleMlstmReferenceIdeal.τ).loc Cert.SampleMlstmReferenceIdeal.main_arg7)
          ∧ r.2.mem ((c.tc : Thread Cert.SampleMlstmReferenceIdeal.nD Cert.SampleMlstmReferenceIdeal.τ).loc Cert.SampleMlstmReferenceIdeal.main_arg8) = m' ((c.tc : Thread Cert.SampleMlstmReferenceIdeal.nD Cert.SampleMlstmReferenceIdeal.τ).loc Cert.SampleMlstmReferenceIdeal.main_arg8)
          ∧ r.2.mem ((c.tc : Thread Cert.SampleMlstmReferenceIdeal.nD Cert.SampleMlstmReferenceIdeal.τ).loc Cert.SampleMlstmReferenceIdeal.main_arg9) = m' ((c.tc : Thread Cert.SampleMlstmReferenceIdeal.nD Cert.SampleMlstmReferenceIdeal.τ).loc Cert.SampleMlstmReferenceIdeal.main_arg9)
          ∧ r.2.mem ((c.tc : Thread Cert.SampleMlstmReferenceIdeal.nD Cert.SampleMlstmReferenceIdeal.τ).loc Cert.SampleMlstmReferenceIdeal.main_arg10) = m' ((c.tc : Thread Cert.SampleMlstmReferenceIdeal.nD Cert.SampleMlstmReferenceIdeal.τ).loc Cert.SampleMlstmReferenceIdeal.main_arg10))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hEvenProj : Cert.EvenProj.Facts) (hEvenProjIdeal : Cert.EvenProjIdeal.Facts) (hEvenProjReferenceIdeal : Cert.EvenProjReferenceIdeal.Facts) (hOddProj : Cert.OddProj.Facts) (hOddProjIdeal : Cert.OddProjIdeal.Facts) (hOddProjReferenceIdeal : Cert.OddProjReferenceIdeal.Facts) (hSampleEvenProj : Cert.SampleEvenProj.Facts) (hSampleEvenProjIdeal : Cert.SampleEvenProjIdeal.Facts) (hSampleEvenProjReferenceIdeal : Cert.SampleEvenProjReferenceIdeal.Facts) (hSampleOddProj : Cert.SampleOddProj.Facts) (hSampleOddProjIdeal : Cert.SampleOddProjIdeal.Facts) (hSampleOddProjReferenceIdeal : Cert.SampleOddProjReferenceIdeal.Facts) (hEvenFfn : Cert.EvenFfn.Facts) (hEvenFfnIdeal : Cert.EvenFfnIdeal.Facts) (hEvenFfnReferenceIdeal : Cert.EvenFfnReferenceIdeal.Facts) (hSampleFfn : Cert.SampleFfn.Facts) (hSampleFfnIdeal : Cert.SampleFfnIdeal.Facts) (hSampleFfnReferenceIdeal : Cert.SampleFfnReferenceIdeal.Facts) (hFoxGates : Cert.FoxGates.Facts) (hFoxGatesIdeal : Cert.FoxGatesIdeal.Facts) (hFoxGatesReferenceIdeal : Cert.FoxGatesReferenceIdeal.Facts) (hSampleMlstm : Cert.SampleMlstm.Facts) (hSampleMlstmIdeal : Cert.SampleMlstmIdeal.Facts) (hSampleMlstmReferenceIdeal : Cert.SampleMlstmReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnReferenceIdeal (hFfnReferenceIdeal := hFfnReferenceIdeal)
    ∧ quiescent_EvenProj (hEvenProj := hEvenProj)
    ∧ quiescent_EvenProjIdeal (hEvenProjIdeal := hEvenProjIdeal)
    ∧ quiescent_EvenProjReferenceIdeal (hEvenProjReferenceIdeal := hEvenProjReferenceIdeal)
    ∧ quiescent_OddProj (hOddProj := hOddProj)
    ∧ quiescent_OddProjIdeal (hOddProjIdeal := hOddProjIdeal)
    ∧ quiescent_OddProjReferenceIdeal (hOddProjReferenceIdeal := hOddProjReferenceIdeal)
    ∧ quiescent_SampleEvenProj (hSampleEvenProj := hSampleEvenProj)
    ∧ quiescent_SampleEvenProjIdeal (hSampleEvenProjIdeal := hSampleEvenProjIdeal)
    ∧ quiescent_SampleEvenProjReferenceIdeal (hSampleEvenProjReferenceIdeal := hSampleEvenProjReferenceIdeal)
    ∧ quiescent_SampleOddProj (hSampleOddProj := hSampleOddProj)
    ∧ quiescent_SampleOddProjIdeal (hSampleOddProjIdeal := hSampleOddProjIdeal)
    ∧ quiescent_SampleOddProjReferenceIdeal (hSampleOddProjReferenceIdeal := hSampleOddProjReferenceIdeal)
    ∧ quiescent_EvenFfn (hEvenFfn := hEvenFfn)
    ∧ quiescent_EvenFfnIdeal (hEvenFfnIdeal := hEvenFfnIdeal)
    ∧ quiescent_EvenFfnReferenceIdeal (hEvenFfnReferenceIdeal := hEvenFfnReferenceIdeal)
    ∧ quiescent_SampleFfn (hSampleFfn := hSampleFfn)
    ∧ quiescent_SampleFfnIdeal (hSampleFfnIdeal := hSampleFfnIdeal)
    ∧ quiescent_SampleFfnReferenceIdeal (hSampleFfnReferenceIdeal := hSampleFfnReferenceIdeal)
    ∧ quiescent_FoxGates (hFoxGates := hFoxGates)
    ∧ quiescent_FoxGatesIdeal (hFoxGatesIdeal := hFoxGatesIdeal)
    ∧ quiescent_FoxGatesReferenceIdeal (hFoxGatesReferenceIdeal := hFoxGatesReferenceIdeal)
    ∧ quiescent_SampleMlstm (hSampleMlstm := hSampleMlstm)
    ∧ quiescent_SampleMlstmIdeal (hSampleMlstmIdeal := hSampleMlstmIdeal)
    ∧ quiescent_SampleMlstmReferenceIdeal (hSampleMlstmReferenceIdeal := hSampleMlstmReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnReferenceIdeal (hFfnIdeal := hFfnIdeal) (hFfnReferenceIdeal := hFfnReferenceIdeal)
    ∧ preserves_EvenProj_EvenProjIdeal
    ∧ algebraic_EvenProjIdeal_EvenProjReferenceIdeal (hEvenProjIdeal := hEvenProjIdeal) (hEvenProjReferenceIdeal := hEvenProjReferenceIdeal)
    ∧ preserves_OddProj_OddProjIdeal
    ∧ algebraic_OddProjIdeal_OddProjReferenceIdeal (hOddProjIdeal := hOddProjIdeal) (hOddProjReferenceIdeal := hOddProjReferenceIdeal)
    ∧ preserves_SampleEvenProj_SampleEvenProjIdeal
    ∧ algebraic_SampleEvenProjIdeal_SampleEvenProjReferenceIdeal (hSampleEvenProjIdeal := hSampleEvenProjIdeal) (hSampleEvenProjReferenceIdeal := hSampleEvenProjReferenceIdeal)
    ∧ preserves_SampleOddProj_SampleOddProjIdeal
    ∧ algebraic_SampleOddProjIdeal_SampleOddProjReferenceIdeal (hSampleOddProjIdeal := hSampleOddProjIdeal) (hSampleOddProjReferenceIdeal := hSampleOddProjReferenceIdeal)
    ∧ preserves_EvenFfn_EvenFfnIdeal
    ∧ algebraic_EvenFfnIdeal_EvenFfnReferenceIdeal (hEvenFfnIdeal := hEvenFfnIdeal) (hEvenFfnReferenceIdeal := hEvenFfnReferenceIdeal)
    ∧ preserves_SampleFfn_SampleFfnIdeal
    ∧ algebraic_SampleFfnIdeal_SampleFfnReferenceIdeal (hSampleFfnIdeal := hSampleFfnIdeal) (hSampleFfnReferenceIdeal := hSampleFfnReferenceIdeal)
    ∧ preserves_FoxGates_FoxGatesIdeal
    ∧ algebraic_FoxGatesIdeal_FoxGatesReferenceIdeal (hFoxGatesIdeal := hFoxGatesIdeal) (hFoxGatesReferenceIdeal := hFoxGatesReferenceIdeal)
    ∧ preserves_SampleMlstm_SampleMlstmIdeal
    ∧ algebraic_SampleMlstmIdeal_SampleMlstmReferenceIdeal (hSampleMlstmIdeal := hSampleMlstmIdeal) (hSampleMlstmReferenceIdeal := hSampleMlstmReferenceIdeal)
-- ==== Pre_finite_scores.lean ====
abbrev S16384x1024 : Shape := ⟨2, ![16384, 1024]⟩
abbrev S16384x128 : Shape := ⟨2, ![16384, 128]⟩
abbrev S_ : Shape := ⟨0, ![]⟩

class Facts : Prop where
  bcast_S_S16384x1024 : S_.BroadcastsInDim S16384x1024 (![] : Fin 0 → Fin S16384x1024.rank)
  bcast_S_S16384x128 : S_.BroadcastsInDim S16384x128 (![] : Fin 0 → Fin S16384x128.rank)

variable [Facts]

def fn {F : FTy → Type} [FloatOps F] (main_arg0 : FVec F S16384x1024 .f32) (main_arg1 : FVec F S16384x1024 .f32) (main_arg2 : FVec F S16384x1024 .f32) (main_arg3 : FVec F S16384x128 .f32) : IVec S16384x1024 1 × IVec S16384x1024 1 × IVec S16384x128 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S16384x128 .f32 := Host.absf main_arg3
  let main_cst_1 : FVec F S_ .f32 := constant S_ .f32 0x7F800000#32
  let main_v7 : FVec F S16384x128 .f32 := broadcastInDim S16384x128 ![] bcast_S_S16384x128 main_cst_1
  let main_v8 : IVec S16384x128 1 := cmpf .olt main_v6 main_v7
  (main_v2, main_v5, main_v8)
-- ==== Kernel.lean ====
abbrev S16384x1024 : Shape := ⟨2, ![16384, 1024]⟩
abbrev S16384x128 : Shape := ⟨2, ![16384, 128]⟩
abbrev S512x128 : Shape := ⟨2, ![512, 128]⟩
abbrev S4096x128 : Shape := ⟨2, ![4096, 128]⟩
abbrev S2x4096x128 : Shape := ⟨3, ![2, 4096, 128]⟩
abbrev S4096 : Shape := ⟨1, ![4096]⟩
abbrev S4096x1 : Shape := ⟨2, ![4096, 1]⟩
abbrev S1x4096x128 : Shape := ⟨3, ![1, 4096, 128]⟩
abbrev S512 : Shape := ⟨1, ![512]⟩
abbrev S512x1 : Shape := ⟨2, ![512, 1]⟩
abbrev S512x512 : Shape := ⟨2, ![512, 512]⟩
abbrev S1x512x128 : Shape := ⟨3, ![1, 512, 128]⟩

abbrev nBuf : Space → Nat
  | .hbm => 5
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x128, .f32⟩
  | .hbm, ⟨4, _⟩ => ⟨S16384x1024, .f32⟩
  | .local _ .vmem, ⟨0, _⟩ => ⟨S512x128, .f32⟩
  | .local _ .vmem, ⟨1, _⟩ => ⟨S512x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S512x128, .f32⟩
  | .local _ .vmem, ⟨7, _⟩ => ⟨S512x128, .f32⟩
  | .local _ .vmem, ⟨8, _⟩ => ⟨S4096x128, .f32⟩
  | .local _ .vmem, ⟨9, _⟩ => ⟨S4096x128, .f32⟩
  | .local _ .vmem, ⟨10, _⟩ => ⟨S512x128, .f32⟩
  | .local _ .vmem, ⟨11, _⟩ => ⟨S512x128, .f32⟩
  | .local _ .vmem, ⟨12, _⟩ => ⟨S2x4096x128, .bf16⟩
  | .local _ .vmem, ⟨13, _⟩ => ⟨S2x4096x128, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg2 : BitVec 32 := BitVec.ofNat 32 (i 2).val
  let c512_i32 : BitVec 32 := 512#32
  let v127 : BitVec 32 := Scalar.muli arg2 c512_i32
  v127
def k0_off1 (i : grid0.Coords) : Fin 3 → Nat :=
  let c0_38 : Index := 0#32
  let arg2 : BitVec 32 := BitVec.ofNat 32 (i 2).val
  let c512_i32 : BitVec 32 := 512#32
  let v127 : BitVec 32 := Scalar.muli arg2 c512_i32
  let v128 : BitVec 32 := v127
  let v129 : Index := Scalar.indexCast v128
  let c0_39 : Index := 0#32
  ![0, v129.toNat, 0]
def k0_off2 (i : grid0.Coords) : Fin 3 → Nat :=
  let c1 : Index := 1#32
  let arg2 : BitVec 32 := BitVec.ofNat 32 (i 2).val
  let c512_i32 : BitVec 32 := 512#32
  let v127 : BitVec 32 := Scalar.muli arg2 c512_i32
  let v128 : BitVec 32 := v127
  let v133 : Index := Scalar.indexCast v128
  let c0_41 : Index := 0#32
  ![1, v133.toNat, 0]
@[reducible] def k0_t1_loop (i : grid0.Coords) : Scf.Loop 32 :=
  let c0_i32_53 : BitVec 32 := 0#32
  let arg2 : BitVec 32 := BitVec.ofNat 32 (i 2).val
  let c2_i32_36 : BitVec 32 := 2#32
  let v125 : BitVec 32 := Scalar.shrui arg2 c2_i32_36
  let v173 : BitVec 32 := Scalar.subi v125 c0_i32_53
  let c1_i32_54 : BitVec 32 := 1#32
  let v175 : BitVec 32 := Scalar.divsi v173 c1_i32_54
  let v176 : BitVec 32 := Scalar.muli v175 c1_i32_54
  let v177 : BitVec 32 := Scalar.addi c0_i32_53 v176
  let c1_i32_55 : BitVec 32 := 1#32
  ⟨c0_i32_53, v177, c1_i32_55⟩
def k0_mult2 (i : grid0.Coords) (k0_t1 : Fin (k0_t1_loop i).trips) : BitVec 32 :=
  let c4_i32_69 : BitVec 32 := 4#32
  let c0_i32_53 : BitVec 32 := 0#32
  let c1_i32_55 : BitVec 32 := 1#32
  let arg11 : BitVec 32 := Scf.iv c0_i32_53 c1_i32_55 k0_t1
  let v211 : BitVec 32 := Scalar.muli c4_i32_69 arg11
  let c0_i32_70 : BitVec 32 := 0#32
  let v212 : BitVec 32 := Scalar.addi v211 c0_i32_70
  let c512_i32_77 : BitVec 32 := 512#32
  let v219 : BitVec 32 := Scalar.muli v212 c512_i32_77
  v219
def k0_mult3 (i : grid0.Coords) (k0_t1 : Fin (k0_t1_loop i).trips) : BitVec 32 :=
  let c4_i32_71 : BitVec 32 := 4#32
  let c0_i32_53 : BitVec 32 := 0#32
  let c1_i32_55 : BitVec 32 := 1#32
  let arg11 : BitVec 32 := Scf.iv c0_i32_53 c1_i32_55 k0_t1
  let v213 : BitVec 32 := Scalar.muli c4_i32_71 arg11
  let c1_i32_72 : BitVec 32 := 1#32
  let v214 : BitVec 32 := Scalar.addi v213 c1_i32_72
  let c512_i32_78 : BitVec 32 := 512#32
  let v221 : BitVec 32 := Scalar.muli v214 c512_i32_78
  v221
def k0_mult4 (i : grid0.Coords) (k0_t1 : Fin (k0_t1_loop i).trips) : BitVec 32 :=
  let c4_i32_73 : BitVec 32 := 4#32
  let c0_i32_53 : BitVec 32 := 0#32
  let c1_i32_55 : BitVec 32 := 1#32
  let arg11 : BitVec 32 := Scf.iv c0_i32_53 c1_i32_55 k0_t1
  let v215 : BitVec 32 := Scalar.muli c4_i32_73 arg11
  let c2_i32_74 : BitVec 32 := 2#32
  let v216 : BitVec 32 := Scalar.addi v215 c2_i32_74
  let c512_i32_79 : BitVec 32 := 512#32
  let v223 : BitVec 32 := Scalar.muli v216 c512_i32_79
  v223
def k0_mult5 (i : grid0.Coords) (k0_t1 : Fin (k0_t1_loop i).trips) : BitVec 32 :=
  let c4_i32_75 : BitVec 32 := 4#32
  let c0_i32_53 : BitVec 32 := 0#32
  let c1_i32_55 : BitVec 32 := 1#32
  let arg11 : BitVec 32 := Scf.iv c0_i32_53 c1_i32_55 k0_t1
  let v217 : BitVec 32 := Scalar.muli c4_i32_75 arg11
  let c3_i32_76 : BitVec 32 := 3#32
  let v218 : BitVec 32 := Scalar.addi v217 c3_i32_76
  let c512_i32_80 : BitVec 32 := 512#32
  let v225 : BitVec 32 := Scalar.muli v218 c512_i32_80
  v225
def k0_off3 (i : grid0.Coords) (k0_t1 : Fin (k0_t1_loop i).trips) (c0_i32_70 : BitVec 32) : Fin 3 → Nat :=
  let c0_81 : Index := 0#32
  let c4_i32_69 : BitVec 32 := 4#32
  let c0_i32_53 : BitVec 32 := 0#32
  let c1_i32_55 : BitVec 32 := 1#32
  let arg11 : BitVec 32 := Scf.iv c0_i32_53 c1_i32_55 k0_t1
  let v211 : BitVec 32 := Scalar.muli c4_i32_69 arg11
  let v212 : BitVec 32 := Scalar.addi v211 c0_i32_70
  let c512_i32_77 : BitVec 32 := 512#32
  let v219 : BitVec 32 := Scalar.muli v212 c512_i32_77
  let v220 : BitVec 32 := v219
  let v227 : Index := Scalar.indexCast v220
  let c0_82 : Index := 0#32
  ![0, v227.toNat, 0]
def k0_off4 (i : grid0.Coords) (k0_t1 : Fin (k0_t1_loop i).trips) (c0_i32_70 : BitVec 32) : Fin 3 → Nat :=
  let c1_84 : Index := 1#32
  let c4_i32_69 : BitVec 32 := 4#32
  let c0_i32_53 : BitVec 32 := 0#32
  let c1_i32_55 : BitVec 32 := 1#32
  let arg11 : BitVec 32 := Scf.iv c0_i32_53 c1_i32_55 k0_t1
  let v211 : BitVec 32 := Scalar.muli c4_i32_69 arg11
  let v212 : BitVec 32 := Scalar.addi v211 c0_i32_70
  let c512_i32_77 : BitVec 32 := 512#32
  let v219 : BitVec 32 := Scalar.muli v212 c512_i32_77
  let v220 : BitVec 32 := v219
  let v231 : Index := Scalar.indexCast v220
  let c0_85 : Index := 0#32
  ![1, v231.toNat, 0]
@[reducible] def k0_t2_loop (i : grid0.Coords) : Scf.Loop 32 :=
  let c0_i32_53 : BitVec 32 := 0#32
  let arg2 : BitVec 32 := BitVec.ofNat 32 (i 2).val
  let c2_i32_36 : BitVec 32 := 2#32
  let v125 : BitVec 32 := Scalar.shrui arg2 c2_i32_36
  let v173 : BitVec 32 := Scalar.subi v125 c0_i32_53
  let c1_i32_54 : BitVec 32 := 1#32
  let v175 : BitVec 32 := Scalar.divsi v173 c1_i32_54
  let v176 : BitVec 32 := Scalar.muli v175 c1_i32_54
  let v177 : BitVec 32 := Scalar.addi c0_i32_53 v176
  let v174 : BitVec 32 := Scalar.addi c0_i32_53 v173
  let c1_i32_56 : BitVec 32 := 1#32
  ⟨v177, v174, c1_i32_56⟩
def k0_mult6 (i : grid0.Coords) (k0_t2 : Fin (k0_t2_loop i).trips) : BitVec 32 :=
  let c4_i32_69 : BitVec 32 := 4#32
  let c0_i32_53 : BitVec 32 := 0#32
  let arg2 : BitVec 32 := BitVec.ofNat 32 (i 2).val
  let c2_i32_36 : BitVec 32 := 2#32
  let v125 : BitVec 32 := Scalar.shrui arg2 c2_i32_36
  let v173 : BitVec 32 := Scalar.subi v125 c0_i32_53
  let c1_i32_54 : BitVec 32 := 1#32
  let v175 : BitVec 32 := Scalar.divsi v173 c1_i32_54
  let v176 : BitVec 32 := Scalar.muli v175 c1_i32_54
  let v177 : BitVec 32 := Scalar.addi c0_i32_53 v176
  let c1_i32_56 : BitVec 32 := 1#32
  let arg11 : BitVec 32 := Scf.iv v177 c1_i32_56 k0_t2
  let v211 : BitVec 32 := Scalar.muli c4_i32_69 arg11
  let c0_i32_70 : BitVec 32 := 0#32
  let v212 : BitVec 32 := Scalar.addi v211 c0_i32_70
  let c512_i32_77 : BitVec 32 := 512#32
  let v219 : BitVec 32 := Scalar.muli v212 c512_i32_77
  v219
def k0_mult7 (i : grid0.Coords) (k0_t2 : Fin (k0_t2_loop i).trips) : BitVec 32 :=
  let c4_i32_71 : BitVec 32 := 4#32
  let c0_i32_53 : BitVec 32 := 0#32
  let arg2 : BitVec 32 := BitVec.ofNat 32 (i 2).val
  let c2_i32_36 : BitVec 32 := 2#32
  let v125 : BitVec 32 := Scalar.shrui arg2 c2_i32_36
  let v173 : BitVec 32 := Scalar.subi v125 c0_i32_53
  let c1_i32_54 : BitVec 32 := 1#32
  let v175 : BitVec 32 := Scalar.divsi v173 c1_i32_54
  let v176 : BitVec 32 := Scalar.muli v175 c1_i32_54
  let v177 : BitVec 32 := Scalar.addi c0_i32_53 v176
  let c1_i32_56 : BitVec 32 := 1#32
  let arg11 : BitVec 32 := Scf.iv v177 c1_i32_56 k0_t2
  let v213 : BitVec 32 := Scalar.muli c4_i32_71 arg11
  let c1_i32_72 : BitVec 32 := 1#32
  let v214 : BitVec 32 := Scalar.addi v213 c1_i32_72
  let c512_i32_78 : BitVec 32 := 512#32
  let v221 : BitVec 32 := Scalar.muli v214 c512_i32_78
  v221
def k0_mult8 (i : grid0.Coords) (k0_t2 : Fin (k0_t2_loop i).trips) : BitVec 32 :=
  let c4_i32_73 : BitVec 32 := 4#32
  let c0_i32_53 : BitVec 32 := 0#32
  let arg2 : BitVec 32 := BitVec.ofNat 32 (i 2).val
  let c2_i32_36 : BitVec 32 := 2#32
  let v125 : BitVec 32 := Scalar.shrui arg2 c2_i32_36
  let v173 : BitVec 32 := Scalar.subi v125 c0_i32_53
  let c1_i32_54 : BitVec 32 := 1#32
  let v175 : BitVec 32 := Scalar.divsi v173 c1_i32_54
  let v176 : BitVec 32 := Scalar.muli v175 c1_i32_54
  let v177 : BitVec 32 := Scalar.addi c0_i32_53 v176
  let c1_i32_56 : BitVec 32 := 1#32
  let arg11 : BitVec 32 := Scf.iv v177 c1_i32_56 k0_t2
  let v215 : BitVec 32 := Scalar.muli c4_i32_73 arg11
  let c2_i32_74 : BitVec 32 := 2#32
  let v216 : BitVec 32 := Scalar.addi v215 c2_i32_74
  let c512_i32_79 : BitVec 32 := 512#32
  let v223 : BitVec 32 := Scalar.muli v216 c512_i32_79
  v223
def k0_mult9 (i : grid0.Coords) (k0_t2 : Fin (k0_t2_loop i).trips) : BitVec 32 :=
  let c4_i32_75 : BitVec 32 := 4#32
  let c0_i32_53 : BitVec 32 := 0#32
  let arg2 : BitVec 32 := BitVec.ofNat 32 (i 2).val
  let c2_i32_36 : BitVec 32 := 2#32
  let v125 : BitVec 32 := Scalar.shrui arg2 c2_i32_36
  let v173 : BitVec 32 := Scalar.subi v125 c0_i32_53
  let c1_i32_54 : BitVec 32 := 1#32
  let v175 : BitVec 32 := Scalar.divsi v173 c1_i32_54
  let v176 : BitVec 32 := Scalar.muli v175 c1_i32_54
  let v177 : BitVec 32 := Scalar.addi c0_i32_53 v176
  let c1_i32_56 : BitVec 32 := 1#32
  let arg11 : BitVec 32 := Scf.iv v177 c1_i32_56 k0_t2
  let v217 : BitVec 32 := Scalar.muli c4_i32_75 arg11
  let c3_i32_76 : BitVec 32 := 3#32
  let v218 : BitVec 32 := Scalar.addi v217 c3_i32_76
  let c512_i32_80 : BitVec 32 := 512#32
  let v225 : BitVec 32 := Scalar.muli v218 c512_i32_80
  v225
def k0_off5 (i : grid0.Coords) (k0_t2 : Fin (k0_t2_loop i).trips) (c0_i32_70 : BitVec 32) : Fin 3 → Nat :=
  let c0_81 : Index := 0#32
  let c4_i32_69 : BitVec 32 := 4#32
  let c0_i32_53 : BitVec 32 := 0#32
  let arg2 : BitVec 32 := BitVec.ofNat 32 (i 2).val
  let c2_i32_36 : BitVec 32 := 2#32
  let v125 : BitVec 32 := Scalar.shrui arg2 c2_i32_36
  let v173 : BitVec 32 := Scalar.subi v125 c0_i32_53
  let c1_i32_54 : BitVec 32 := 1#32
  let v175 : BitVec 32 := Scalar.divsi v173 c1_i32_54
  let v176 : BitVec 32 := Scalar.muli v175 c1_i32_54
  let v177 : BitVec 32 := Scalar.addi c0_i32_53 v176
  let c1_i32_56 : BitVec 32 := 1#32
  let arg11 : BitVec 32 := Scf.iv v177 c1_i32_56 k0_t2
  let v211 : BitVec 32 := Scalar.muli c4_i32_69 arg11
  let v212 : BitVec 32 := Scalar.addi v211 c0_i32_70
  let c512_i32_77 : BitVec 32 := 512#32
  let v219 : BitVec 32 := Scalar.muli v212 c512_i32_77
  let v220 : BitVec 32 := v219
  let v227 : Index := Scalar.indexCast v220
  let c0_82 : Index := 0#32
  ![0, v227.toNat, 0]
def k0_off6 (i : grid0.Coords) (k0_t2 : Fin (k0_t2_loop i).trips) (c0_i32_70 : BitVec 32) : Fin 3 → Nat :=
  let c1_84 : Index := 1#32
  let c4_i32_69 : BitVec 32 := 4#32
  let c0_i32_53 : BitVec 32 := 0#32
  let arg2 : BitVec 32 := BitVec.ofNat 32 (i 2).val
  let c2_i32_36 : BitVec 32 := 2#32
  let v125 : BitVec 32 := Scalar.shrui arg2 c2_i32_36
  let v173 : BitVec 32 := Scalar.subi v125 c0_i32_53
  let c1_i32_54 : BitVec 32 := 1#32
  let v175 : BitVec 32 := Scalar.divsi v173 c1_i32_54
  let v176 : BitVec 32 := Scalar.muli v175 c1_i32_54
  let v177 : BitVec 32 := Scalar.addi c0_i32_53 v176
  let c1_i32_56 : BitVec 32 := 1#32
  let arg11 : BitVec 32 := Scf.iv v177 c1_i32_56 k0_t2
  let v211 : BitVec 32 := Scalar.muli c4_i32_69 arg11
  let v212 : BitVec 32 := Scalar.addi v211 c0_i32_70
  let c512_i32_77 : BitVec 32 := 512#32
  let v219 : BitVec 32 := Scalar.muli v212 c512_i32_77
  let v220 : BitVec 32 := v219
  let v231 : Index := Scalar.indexCast v220
  let c0_85 : Index := 0#32
  ![1, v231.toNat, 0]
def k0_cond2 (i : grid0.Coords) : BitVec 1 :=
  let arg2 : BitVec 32 := BitVec.ofNat 32 (i 2).val
  let c2_i32_36 : BitVec 32 := 2#32
  let v125 : BitVec 32 := Scalar.shrui arg2 c2_i32_36
  let c4_i32_37 : BitVec 32 := 4#32
  let v126 : BitVec 32 := Scalar.muli v125 c4_i32_37
  let v180 : BitVec 32 := Scalar.subi arg2 v126
  let c2_i32_57 : BitVec 32 := 2#32
  let v181 : BitVec 1 := Scalar.cmpi .sge v180 c2_i32_57
  let v182 : BitVec 32 := Scalar.extui v181
  let c0_i32_58 : BitVec 32 := 0#32
  let v183 : BitVec 1 := Scalar.cmpi .ne v182 c0_i32_58
  v183

def k0_mult10 (i : grid0.Coords) : BitVec 32 :=
  let arg2 : BitVec 32 := BitVec.ofNat 32 (i 2).val
  let c2_i32_36 : BitVec 32 := 2#32
  let v125 : BitVec 32 := Scalar.shrui arg2 c2_i32_36
  let c4_i32_37 : BitVec 32 := 4#32
  let v126 : BitVec 32 := Scalar.muli v125 c4_i32_37
  let c512_i32_70 : BitVec 32 := 512#32
  let v212 : BitVec 32 := Scalar.muli v126 c512_i32_70
  v212
def k0_mult11 (i : grid0.Coords) : BitVec 32 :=
  let arg2 : BitVec 32 := BitVec.ofNat 32 (i 2).val
  let c2_i32_36 : BitVec 32 := 2#32
  let v125 : BitVec 32 := Scalar.shrui arg2 c2_i32_36
  let c4_i32_37 : BitVec 32 := 4#32
  let v126 : BitVec 32 := Scalar.muli v125 c4_i32_37
  let c1_i32_69 : BitVec 32 := 1#32
  let v211 : BitVec 32 := Scalar.addi v126 c1_i32_69
  let c512_i32_71 : BitVec 32 := 512#32
  let v214 : BitVec 32 := Scalar.muli v211 c512_i32_71
  v214
def k0_off7 (i : grid0.Coords) : Fin 3 → Nat :=
  let c0_72 : Index := 0#32
  let arg2 : BitVec 32 := BitVec.ofNat 32 (i 2).val
  let c2_i32_36 : BitVec 32 := 2#32
  let v125 : BitVec 32 := Scalar.shrui arg2 c2_i32_36
  let c4_i32_37 : BitVec 32 := 4#32
  let v126 : BitVec 32 := Scalar.muli v125 c4_i32_37
  let c512_i32_70 : BitVec 32 := 512#32
  let v212 : BitVec 32 := Scalar.muli v126 c512_i32_70
  let v213 : BitVec 32 := v212
  let v216 : Index := Scalar.indexCast v213
  let c0_73 : Index := 0#32
  ![0, v216.toNat, 0]
def k0_off8 (i : grid0.Coords) : Fin 3 → Nat :=
  let c1_75 : Index := 1#32
  let arg2 : BitVec 32 := BitVec.ofNat 32 (i 2).val
  let c2_i32_36 : BitVec 32 := 2#32
  let v125 : BitVec 32 := Scalar.shrui arg2 c2_i32_36
  let c4_i32_37 : BitVec 32 := 4#32
  let v126 : BitVec 32 := Scalar.muli v125 c4_i32_37
  let c512_i32_70 : BitVec 32 := 512#32
  let v212 : BitVec 32 := Scalar.muli v126 c512_i32_70
  let v213 : BitVec 32 := v212
  let v220 : Index := Scalar.indexCast v213
  let c0_76 : Index := 0#32
  ![1, v220.toNat, 0]
def k0_off9 (i : grid0.Coords) : Fin 3 → Nat :=
  let c0_78 : Index := 0#32
  let arg2 : BitVec 32 := BitVec.ofNat 32 (i 2).val
  let c2_i32_36 : BitVec 32 := 2#32
  let v125 : BitVec 32 := Scalar.shrui arg2 c2_i32_36
  let c4_i32_37 : BitVec 32 := 4#32
  let v126 : BitVec 32 := Scalar.muli v125 c4_i32_37
  let c1_i32_69 : BitVec 32 := 1#32
  let v211 : BitVec 32 := Scalar.addi v126 c1_i32_69
  let c512_i32_71 : BitVec 32 := 512#32
  let v214 : BitVec 32 := Scalar.muli v211 c512_i32_71
  let v215 : BitVec 32 := v214
  let v224 : Index := Scalar.indexCast v215
  let c0_79 : Index := 0#32
  ![0, v224.toNat, 0]
def k0_off10 (i : grid0.Coords) : Fin 3 → Nat :=
  let c1_81 : Index := 1#32
  let arg2 : BitVec 32 := BitVec.ofNat 32 (i 2).val
  let c2_i32_36 : BitVec 32 := 2#32
  let v125 : BitVec 32 := Scalar.shrui arg2 c2_i32_36
  let c4_i32_37 : BitVec 32 := 4#32
  let v126 : BitVec 32 := Scalar.muli v125 c4_i32_37
  let c1_i32_69 : BitVec 32 := 1#32
  let v211 : BitVec 32 := Scalar.addi v126 c1_i32_69
  let c512_i32_71 : BitVec 32 := 512#32
  let v214 : BitVec 32 := Scalar.muli v211 c512_i32_71
  let v215 : BitVec 32 := v214
  let v228 : Index := Scalar.indexCast v215
  let c0_82 : Index := 0#32
  ![1, v228.toNat, 0]
def k0_cond3 (i : grid0.Coords) : BitVec 1 :=
  let arg2 : BitVec 32 := BitVec.ofNat 32 (i 2).val
  let c1_i32_59 : BitVec 32 := 1#32
  let v185 : BitVec 32 := Scalar.andi arg2 c1_i32_59
  let c1_i32_60 : BitVec 32 := 1#32
  let v186 : BitVec 1 := Scalar.cmpi .eq v185 c1_i32_60
  let v187 : BitVec 32 := Scalar.extui v186
  let c0_i32_61 : BitVec 32 := 0#32
  let v188 : BitVec 1 := Scalar.cmpi .ne v187 c0_i32_61
  v188

def k0_mult12 (i : grid0.Coords) : BitVec 32 :=
  let arg2 : BitVec 32 := BitVec.ofNat 32 (i 2).val
  let c1_i32_69 : BitVec 32 := 1#32
  let v211 : BitVec 32 := Scalar.subi arg2 c1_i32_69
  let c512_i32_70 : BitVec 32 := 512#32
  let v212 : BitVec 32 := Scalar.muli v211 c512_i32_70
  v212
def k0_off11 (i : grid0.Coords) : Fin 3 → Nat :=
  let c0_71 : Index := 0#32
  let arg2 : BitVec 32 := BitVec.ofNat 32 (i 2).val
  let c1_i32_69 : BitVec 32 := 1#32
  let v211 : BitVec 32 := Scalar.subi arg2 c1_i32_69
  let c512_i32_70 : BitVec 32 := 512#32
  let v212 : BitVec 32 := Scalar.muli v211 c512_i32_70
  let v213 : BitVec 32 := v212
  let v214 : Index := Scalar.indexCast v213
  let c0_72 : Index := 0#32
  ![0, v214.toNat, 0]
def k0_off12 (i : grid0.Coords) : Fin 3 → Nat :=
  let c1_74 : Index := 1#32
  let arg2 : BitVec 32 := BitVec.ofNat 32 (i 2).val
  let c1_i32_69 : BitVec 32 := 1#32
  let v211 : BitVec 32 := Scalar.subi arg2 c1_i32_69
  let c512_i32_70 : BitVec 32 := 512#32
  let v212 : BitVec 32 := Scalar.muli v211 c512_i32_70
  let v213 : BitVec 32 := v212
  let v218 : Index := Scalar.indexCast v213
  let c0_75 : Index := 0#32
  ![1, v218.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16384x1024 : Shape := ⟨2, ![16384, 1024]⟩
abbrev S16384x128 : Shape := ⟨2, ![16384, 128]⟩
abbrev S4x4096x16x64 : Shape := ⟨4, ![4, 4096, 16, 64]⟩
abbrev S4x4096x128 : Shape := ⟨3, ![4, 4096, 128]⟩
abbrev S4x4096x16 : Shape := ⟨3, ![4, 4096, 16]⟩
abbrev S4x16x4096 : Shape := ⟨3, ![4, 16, 4096]⟩
abbrev S4x16x4096x4096 : Shape := ⟨4, ![4, 16, 4096, 4096]⟩
abbrev S_ : Shape := ⟨0, ![]⟩
abbrev S4x16x4096x1 : Shape := ⟨4, ![4, 16, 4096, 1]⟩
abbrev S4x16x1x4096 : Shape := ⟨4, ![4, 16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x16x64x4096 : Shape := ⟨4, ![4, 16, 64, 4096]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x128, .f32⟩
  | .hbm, ⟨4, _⟩ => ⟨S4x4096x16x64, .f32⟩
  | .hbm, ⟨5, _⟩ => ⟨S4x4096x16x64, .f32⟩
  | .hbm, ⟨6, _⟩ => ⟨S4x4096x16x64, .f32⟩
  | .hbm, ⟨7, _⟩ => ⟨S4x4096x128, .f32⟩
  | .hbm, ⟨8, _⟩ => ⟨S4x4096x16, .f32⟩
  | .hbm, ⟨9, _⟩ => ⟨S4x16x4096, .f32⟩
  | .hbm, ⟨10, _⟩ => ⟨S4x16x4096x4096, .f32⟩
  | .hbm, ⟨11, _⟩ => ⟨S_, .f32⟩
  | .hbm, ⟨12, _⟩ => ⟨S4x16x4096x4096, .f32⟩
  | .hbm, ⟨13, _⟩ => ⟨S4x16x4096x4096, .f32⟩
  | .hbm, ⟨14, _⟩ => ⟨S4x16x4096x1, .f32⟩
  | .hbm, ⟨15, _⟩ => ⟨S4x16x4096x4096, .f32⟩
  | .hbm, ⟨16, _⟩ => ⟨S4x16x4096x4096, .f32⟩
  | .hbm, ⟨17, _⟩ => ⟨S4x16x1x4096, .f32⟩
  | .hbm, ⟨18, _⟩ => ⟨S4x16x4096x4096, .f32⟩
  | .hbm, ⟨19, _⟩ => ⟨S4x16x4096x4096, .f32⟩
  | .hbm, ⟨20, _⟩ => ⟨S4096, .i32⟩
  | .hbm, ⟨21, _⟩ => ⟨S1x4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S4x16x4096x4096, .i1⟩
  | .hbm, ⟨29, _⟩ => ⟨S4x16x4096x4096, .f32⟩
  | .hbm, ⟨30, _⟩ => ⟨S4x16x4096x4096, .f32⟩
  | .hbm, ⟨31, _⟩ => ⟨S_, .f32⟩
  | .hbm, ⟨32, _⟩ => ⟨S4x16x4096, .f32⟩
  | .hbm, ⟨33, _⟩ => ⟨S_, .f32⟩
  | .hbm, ⟨34, _⟩ => ⟨S4x16x4096, .f32⟩
  | .hbm, ⟨35, _⟩ => ⟨S4x16x4096, .f32⟩
  | .hbm, ⟨36, _⟩ => ⟨S4x16x4096x1, .f32⟩
  | .hbm, ⟨37, _⟩ => ⟨S4x16x4096x4096, .f32⟩
  | .hbm, ⟨38, _⟩ => ⟨S4x16x4096x4096, .f32⟩
  | .hbm, ⟨39, _⟩ => ⟨S4x16x4096x4096, .f32⟩
  | .hbm, ⟨40, _⟩ => ⟨S_, .f32⟩
  | .hbm, ⟨41, _⟩ => ⟨S4x16x4096, .f32⟩
  | .hbm, ⟨42, _⟩ => ⟨S4x16x4096x1, .f32⟩
  | .hbm, ⟨43, _⟩ => ⟨S4x16x4096x4096, .f32⟩
  | .hbm, ⟨44, _⟩ => ⟨S4x16x4096x4096, .f32⟩
  | .hbm, ⟨45, _⟩ => ⟨S4x16x64x4096, .f32⟩
  | .hbm, ⟨46, _⟩ => ⟨S4x4096x16x64, .f32⟩
  | .hbm, ⟨47, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Ffn.lean ====
abbrev S16384x1024 : Shape := ⟨2, ![16384, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 15
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x1024, .bf16⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1x1024, .f32⟩
  | .hbm, ⟨13, _⟩ => ⟨S1x1024, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnReferenceIdeal.lean ====
abbrev S16384x1024 : Shape := ⟨2, ![16384, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩

abbrev nD : Nat := 1
abbrev τ : Topo := Topo.v7x

variable {F : FTy → Type} [FloatOps F]
-- ==== EvenProj.lean ====
abbrev S4x4096x1024 : Shape := ⟨3, ![4, 4096, 1024]⟩
abbrev S1024 : Shape := ⟨1, ![1024]⟩
abbrev S1024x3080 : Shape := ⟨2, ![1024, 3080]⟩
abbrev S1024x256 : Shape := ⟨2, ![1024, 256]⟩
abbrev S1024x512 : Shape := ⟨2, ![1024, 512]⟩
abbrev S1024x8 : Shape := ⟨2, ![1024, 8]⟩
abbrev S_ : Shape := ⟨0, ![]⟩
abbrev S1024x128 : Shape := ⟨2, ![1024, 128]⟩
abbrev S16384x1024 : Shape := ⟨2, ![16384, 1024]⟩
abbrev S512x1024 : Shape := ⟨2, ![512, 1024]⟩
abbrev S1x1024 : Shape := ⟨2, ![1, 1024]⟩
abbrev S16384x256 : Shape := ⟨2, ![16384, 256]⟩
abbrev S16384x512 : Shape := ⟨2, ![16384, 512]⟩
abbrev S16384x128 : Shape := ⟨2, ![16384, 128]⟩
abbrev S4x512x4096 : Shape := ⟨3, ![4, 512, 4096]⟩
abbrev S512x256 : Shape := ⟨2, ![512, 256]⟩
abbrev S512x512 : Shape := ⟨2, ![512, 512]⟩
abbrev S512x128 : Shape := ⟨2, ![512, 128]⟩
abbrev S1x512x512 : Shape := ⟨3, ![1, 512, 512]⟩
abbrev S512 : Shape := ⟨1, ![512]⟩
abbrev S512x1 : Shape := ⟨2, ![512, 1]⟩

abbrev nBuf : Space → Nat
  | .hbm => 36
  | .vmem => 33
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3080, .f32⟩
  | .hbm, ⟨3, _⟩ => ⟨S1024x256, .f32⟩
  | .hbm, ⟨4, _⟩ => ⟨S1024x256, .f32⟩
  | .hbm, ⟨5, _⟩ => ⟨S1024x512, .f32⟩
  | .hbm, ⟨6, _⟩ => ⟨S1024x512, .f32⟩
  | .hbm, ⟨7, _⟩ => ⟨S1024x8, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x256, .bf16⟩
  | .hbm, ⟨15, _⟩ => ⟨S1024x256, .bf16⟩
  | .hbm, ⟨16, _⟩ => ⟨S1024x512, .bf16⟩
  | .hbm, ⟨17, _⟩ => ⟨S1024x512, .bf16⟩
  | .hbm, ⟨18, _⟩ => ⟨S1024x128, .bf16⟩
  | .hbm, ⟨19, _⟩ => ⟨S1024x512, .bf16⟩
  | .hbm, ⟨20, _⟩ => ⟨S1024x512, .bf16⟩
  | .hbm, ⟨21, _⟩ => ⟨S1024x512, .bf16⟩
  | .hbm, ⟨22, _⟩ => ⟨S16384x1024, .f32⟩
  | .hbm, ⟨23, _⟩ => ⟨S512x1024, .bf16⟩
  | .hbm, ⟨24, _⟩ => ⟨S512x1024, .bf16⟩
  | .hbm, ⟨25, _⟩ => ⟨S1x1024, .f32⟩
  | .hbm, ⟨26, _⟩ => ⟨S16384x256, .f32⟩
  | .hbm, ⟨27, _⟩ => ⟨S16384x256, .f32⟩
  | .hbm, ⟨28, _⟩ => ⟨S16384x512, .f32⟩
  | .hbm, ⟨29, _⟩ => ⟨S16384x512, .f32⟩
  | .hbm, ⟨30, _⟩ => ⟨S16384x128, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S4x512x4096, .f32⟩
  | .hbm, ⟨35, _⟩ => ⟨S4x512x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x512, .bf16⟩
  | .local _ .vmem, ⟨6, _⟩ => ⟨S1024x512, .bf16⟩
  | .local _ .vmem, ⟨7, _⟩ => ⟨S1024x128, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S512x1024, .bf16⟩
  | .local _ .vmem, ⟨12, _⟩ => ⟨S512x1024, .bf16⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x128, .f32⟩
  | .local _ .vmem, ⟨22, _⟩ => ⟨S512x128, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S1x512x512, .f32⟩
  | .local _ .vmem, ⟨30, _⟩ => ⟨S1x512x512, .f32⟩
  | .local _ .vmem, ⟨31, _⟩ => ⟨S1x512x512, .f32⟩
  | .local _ .vmem, ⟨32, _⟩ => ⟨S1x512x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21_0 : Ref sig .tc := ⟨.hbm, 26, rfl⟩
abbrev main_v21_1 : Ref sig .tc := ⟨.hbm, 27, rfl⟩
abbrev main_v21_2 : Ref sig .tc := ⟨.hbm, 28, rfl⟩
abbrev main_v21_3 : Ref sig .tc := ⟨.hbm, 29, rfl⟩
abbrev main_v21_4 : Ref sig .tc := ⟨.hbm, 30, rfl⟩
abbrev main_v21_5 : Ref sig .tc := ⟨.hbm, 31, rfl⟩
abbrev main_v21_6 : Ref sig .tc := ⟨.hbm, 32, rfl⟩
abbrev main_v21_7 : Ref sig .tc := ⟨.hbm, 33, rfl⟩
abbrev main_v21_8 : Ref sig .tc := ⟨.hbm, 34, rfl⟩
abbrev main_v21_9 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_21 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== EvenProjReferenceIdeal.lean ====
abbrev S4x4096x1024 : Shape := ⟨3, ![4, 4096, 1024]⟩
abbrev S1024 : Shape := ⟨1, ![1024]⟩
abbrev S1024x3080 : Shape := ⟨2, ![1024, 3080]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3080 : Shape := ⟨3, ![4, 4096, 3080]⟩
abbrev S4x4096x512 : Shape := ⟨3, ![4, 4096, 512]⟩
abbrev S16384x3080 : Shape := ⟨2, ![16384, 3080]⟩
abbrev S16384x8 : Shape := ⟨2, ![16384, 8]⟩
abbrev S16384x128 : Shape := ⟨2, ![16384, 128]⟩
abbrev S16384x256 : Shape := ⟨2, ![16384, 256]⟩
abbrev S16384x512 : Shape := ⟨2, ![16384, 512]⟩
abbrev S4x512x4096 : Shape := ⟨3, ![4, 512, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3080, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x3080, .f32⟩
  | .hbm, ⟨20, _⟩ => ⟨S4x4096x512, .f32⟩
  | .hbm, ⟨21, _⟩ => ⟨S4x4096x512, .f32⟩
  | .hbm, ⟨22, _⟩ => ⟨S16384x3080, .f32⟩
  | .hbm, ⟨23, _⟩ => ⟨S16384x8, .f32⟩
  | .hbm, ⟨24, _⟩ => ⟨S_, .i32⟩
  | .hbm, ⟨25, _⟩ => ⟨S_, .f32⟩
  | .hbm, ⟨26, _⟩ => ⟨S16384x128, .f32⟩
  | .hbm, ⟨27, _⟩ => ⟨S16384x256, .f32⟩
  | .hbm, ⟨28, _⟩ => ⟨S16384x256, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S4x512x4096, .f32⟩
  | .hbm, ⟨35, _⟩ => ⟨S4x512x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== OddProj.lean ====
abbrev S16384x1024 : Shape := ⟨2, ![16384, 1024]⟩
abbrev S1024 : Shape := ⟨1, ![1024]⟩
abbrev S1024x3088 : Shape := ⟨2, ![1024, 3088]⟩
abbrev S1024x1024 : Shape := ⟨2, ![1024, 1024]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S16384x128 : Shape := ⟨2, ![16384, 128]⟩
abbrev S4x1024x4096 : Shape := ⟨3, ![4, 1024, 4096]⟩
abbrev S512x1024 : Shape := ⟨2, ![512, 1024]⟩
abbrev S512x128 : Shape := ⟨2, ![512, 128]⟩
abbrev S1x1024x512 : Shape := ⟨3, ![1, 1024, 512]⟩
abbrev S512 : Shape := ⟨1, ![512]⟩
abbrev S512x1 : Shape := ⟨2, ![512, 1]⟩
abbrev S1024x512 : Shape := ⟨2, ![1024, 512]⟩

abbrev nBuf : Space → Nat
  | .hbm => 23
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3088, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x16, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x128, .bf16⟩
  | .hbm, ⟨14, _⟩ => ⟨S1024x1024, .bf16⟩
  | .hbm, ⟨15, _⟩ => ⟨S1024x1024, .bf16⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x128, .f32⟩
  | .hbm, ⟨21, _⟩ => ⟨S4x1024x4096, .f32⟩
  | .hbm, ⟨22, _⟩ => ⟨S4x1024x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x128, .bf16⟩
  | .local _ .vmem, ⟨7, _⟩ => ⟨S1024x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x128, .f32⟩
  | .local _ .vmem, ⟨16, _⟩ => ⟨S512x128, .f32⟩
  | .local _ .vmem, ⟨17, _⟩ => ⟨S1x1024x512, .f32⟩
  | .local _ .vmem, ⟨18, _⟩ => ⟨S1x1024x512, .f32⟩
  | .local _ .vmem, ⟨19, _⟩ => ⟨S1x1024x512, .f32⟩
  | .local _ .vmem, ⟨20, _⟩ => ⟨S1x1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev main_v12_4 : Ref sig .tc := ⟨.hbm, 21, rfl⟩
abbrev main_v12_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== OddProjReferenceIdeal.lean ====
abbrev S16384x1024 : Shape := ⟨2, ![16384, 1024]⟩
abbrev S1024 : Shape := ⟨1, ![1024]⟩
abbrev S1024x3088 : Shape := ⟨2, ![1024, 3088]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3088 : Shape := ⟨2, ![16384, 3088]⟩
abbrev S4x4096x3088 : Shape := ⟨3, ![4, 4096, 3088]⟩
abbrev S16384x16 : Shape := ⟨2, ![16384, 16]⟩
abbrev S16384x128 : Shape := ⟨2, ![16384, 128]⟩
abbrev S4x4096x1024 : Shape := ⟨3, ![4, 4096, 1024]⟩
abbrev S4x1024x4096 : Shape := ⟨3, ![4, 1024, 4096]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3088, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3088, .f32⟩
  | .hbm, ⟨20, _⟩ => ⟨S4x4096x3088, .f32⟩
  | .hbm, ⟨21, _⟩ => ⟨S16384x16, .f32⟩
  | .hbm, ⟨22, _⟩ => ⟨S_, .i32⟩
  | .hbm, ⟨23, _⟩ => ⟨S_, .f32⟩
  | .hbm, ⟨24, _⟩ => ⟨S16384x128, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S4x4096x1024, .f32⟩
  | .hbm, ⟨29, _⟩ => ⟨S4x1024x4096, .f32⟩
  | .hbm, ⟨30, _⟩ => ⟨S4x4096x1024, .f32⟩
  | .hbm, ⟨31, _⟩ => ⟨S4x1024x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== SampleEvenProj.lean ====
abbrev S32x8x1024 : Shape := ⟨3, ![32, 8, 1024]⟩
abbrev S1024 : Shape := ⟨1, ![1024]⟩
abbrev S1024x3080 : Shape := ⟨2, ![1024, 3080]⟩
abbrev S256x1024 : Shape := ⟨2, ![256, 1024]⟩
abbrev S1024x256 : Shape := ⟨2, ![1024, 256]⟩
abbrev S1024x512 : Shape := ⟨2, ![1024, 512]⟩
abbrev S1024x8 : Shape := ⟨2, ![1024, 8]⟩
abbrev S_ : Shape := ⟨0, ![]⟩
abbrev S1024x128 : Shape := ⟨2, ![1024, 128]⟩
abbrev S1x1024 : Shape := ⟨2, ![1, 1024]⟩
abbrev S256x256 : Shape := ⟨2, ![256, 256]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 32
  | .vmem => 18
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x3080, .f32⟩
  | .hbm, ⟨3, _⟩ => ⟨S256x1024, .f32⟩
  | .hbm, ⟨4, _⟩ => ⟨S1024x256, .f32⟩
  | .hbm, ⟨5, _⟩ => ⟨S1024x256, .f32⟩
  | .hbm, ⟨6, _⟩ => ⟨S1024x512, .f32⟩
  | .hbm, ⟨7, _⟩ => ⟨S1024x512, .f32⟩
  | .hbm, ⟨8, _⟩ => ⟨S1024x8, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x256, .bf16⟩
  | .hbm, ⟨16, _⟩ => ⟨S1024x256, .bf16⟩
  | .hbm, ⟨17, _⟩ => ⟨S1024x512, .bf16⟩
  | .hbm, ⟨18, _⟩ => ⟨S1024x512, .bf16⟩
  | .hbm, ⟨19, _⟩ => ⟨S1024x128, .bf16⟩
  | .hbm, ⟨20, _⟩ => ⟨S1024x512, .bf16⟩
  | .hbm, ⟨21, _⟩ => ⟨S1024x512, .bf16⟩
  | .hbm, ⟨22, _⟩ => ⟨S1024x512, .bf16⟩
  | .hbm, ⟨23, _⟩ => ⟨S1x1024, .f32⟩
  | .hbm, ⟨24, _⟩ => ⟨S256x256, .f32⟩
  | .hbm, ⟨25, _⟩ => ⟨S256x256, .f32⟩
  | .hbm, ⟨26, _⟩ => ⟨S256x512, .f32⟩
  | .hbm, ⟨27, _⟩ => ⟨S256x512, .f32⟩
  | .hbm, ⟨28, _⟩ => ⟨S256x128, .f32⟩
  | .hbm, ⟨29, _⟩ => ⟨S256x512, .f32⟩
  | .hbm, ⟨30, _⟩ => ⟨S256x512, .f32⟩
  | .hbm, ⟨31, _⟩ => ⟨S256x512, .f32⟩
  | .local _ .vmem, ⟨0, _⟩ => ⟨S256x1024, .f32⟩
  | .local _ .vmem, ⟨1, _⟩ => ⟨S1x1024, .f32⟩
  | .local _ .vmem, ⟨2, _⟩ => ⟨S1024x256, .bf16⟩
  | .local _ .vmem, ⟨3, _⟩ => ⟨S1024x256, .bf16⟩
  | .local _ .vmem, ⟨4, _⟩ => ⟨S1024x512, .bf16⟩
  | .local _ .vmem, ⟨5, _⟩ => ⟨S1024x512, .bf16⟩
  | .local _ .vmem, ⟨6, _⟩ => ⟨S1024x128, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S256x256, .f32⟩
  | .local _ .vmem, ⟨11, _⟩ => ⟨S256x256, .f32⟩
  | .local _ .vmem, ⟨12, _⟩ => ⟨S256x512, .f32⟩
  | .local _ .vmem, ⟨13, _⟩ => ⟨S256x512, .f32⟩
  | .local _ .vmem, ⟨14, _⟩ => ⟨S256x128, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev main_v19_2 : Ref sig .tc := ⟨.hbm, 26, rfl⟩
abbrev main_v19_3 : Ref sig .tc := ⟨.hbm, 27, rfl⟩
abbrev main_v19_4 : Ref sig .tc := ⟨.hbm, 28, rfl⟩
abbrev main_v19_5 : Ref sig .tc := ⟨.hbm, 29, rfl⟩
abbrev main_v19_6 : Ref sig .tc := ⟨.hbm, 30, rfl⟩
abbrev main_v19_7 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S256x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S256x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]
-- ==== SampleEvenProjReferenceIdeal.lean ====
abbrev S32x8x1024 : Shape := ⟨3, ![32, 8, 1024]⟩
abbrev S1024 : Shape := ⟨1, ![1024]⟩
abbrev S1024x3080 : Shape := ⟨2, ![1024, 3080]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x3080 : Shape := ⟨3, ![32, 8, 3080]⟩
abbrev S256x3080 : Shape := ⟨2, ![256, 3080]⟩
abbrev S256x8 : Shape := ⟨2, ![256, 8]⟩
abbrev S256x128 : Shape := ⟨2, ![256, 128]⟩
abbrev S256x256 : Shape := ⟨2, ![256, 256]⟩
abbrev S256x512 : Shape := ⟨2, ![256, 512]⟩

abbrev nBuf : Space → Nat
  | .hbm => 32
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x3080, .f32⟩
  | .hbm, ⟨3, _⟩ => ⟨S32x8x1024, .f32⟩
  | .hbm, ⟨4, _⟩ => ⟨S_, .f32⟩
  | .hbm, ⟨5, _⟩ => ⟨S32x8, .f32⟩
  | .hbm, ⟨6, _⟩ => ⟨S32x8x1, .f32⟩
  | .hbm, ⟨7, _⟩ => ⟨S_, .f32⟩
  | .hbm, ⟨8, _⟩ => ⟨S32x8x1, .f32⟩
  | .hbm, ⟨9, _⟩ => ⟨S32x8x1, .f32⟩
  | .hbm, ⟨10, _⟩ => ⟨S_, .f32⟩
  | .hbm, ⟨11, _⟩ => ⟨S32x8x1, .f32⟩
  | .hbm, ⟨12, _⟩ => ⟨S32x8x1, .f32⟩
  | .hbm, ⟨13, _⟩ => ⟨S32x8x1, .f32⟩
  | .hbm, ⟨14, _⟩ => ⟨S32x8x1024, .f32⟩
  | .hbm, ⟨15, _⟩ => ⟨S32x8x1024, .f32⟩
  | .hbm, ⟨16, _⟩ => ⟨S1x1x1024, .f32⟩
  | .hbm, ⟨17, _⟩ => ⟨S32x8x1024, .f32⟩
  | .hbm, ⟨18, _⟩ => ⟨S32x8x1024, .f32⟩
  | .hbm, ⟨19, _⟩ => ⟨S32x8x3080, .f32⟩
  | .hbm, ⟨20, _⟩ => ⟨S256x3080, .f32⟩
  | .hbm, ⟨21, _⟩ => ⟨S256x8, .f32⟩
  | .hbm, ⟨22, _⟩ => ⟨S_, .i32⟩
  | .hbm, ⟨23, _⟩ => ⟨S_, .f32⟩
  | .hbm, ⟨24, _⟩ => ⟨S256x128, .f32⟩
  | .hbm, ⟨25, _⟩ => ⟨S256x256, .f32⟩
  | .hbm, ⟨26, _⟩ => ⟨S256x256, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S256x512, .f32⟩
  | .hbm, ⟨31, _⟩ => ⟨S256x512, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== SampleOddProj.lean ====
abbrev S256x1024 : Shape := ⟨2, ![256, 1024]⟩
abbrev S1024 : Shape := ⟨1, ![1024]⟩
abbrev S1024x3088 : Shape := ⟨2, ![1024, 3088]⟩
abbrev S1024x1024 : Shape := ⟨2, ![1024, 1024]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S256x128 : Shape := ⟨2, ![256, 128]⟩
abbrev S256 : Shape := ⟨1, ![256]⟩
abbrev S256x1 : Shape := ⟨2, ![256, 1]⟩

abbrev nBuf : Space → Nat
  | .hbm => 19
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x3088, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x16, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x128, .bf16⟩
  | .hbm, ⟨14, _⟩ => ⟨S1x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x128, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x128, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== SampleOddProjReferenceIdeal.lean ====
abbrev S256x1024 : Shape := ⟨2, ![256, 1024]⟩
abbrev S1024 : Shape := ⟨1, ![1024]⟩
abbrev S1024x3088 : Shape := ⟨2, ![1024, 3088]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x3088 : Shape := ⟨2, ![256, 3088]⟩
abbrev S256x16 : Shape := ⟨2, ![256, 16]⟩
abbrev S256x128 : Shape := ⟨2, ![256, 128]⟩

abbrev nBuf : Space → Nat
  | .hbm => 27
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x3088, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x3088, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x16, .f32⟩
  | .hbm, ⟨24, _⟩ => ⟨S_, .i32⟩
  | .hbm, ⟨25, _⟩ => ⟨S_, .f32⟩
  | .hbm, ⟨26, _⟩ => ⟨S256x128, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== EvenFfn.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩
abbrev S512x2816 : Shape := ⟨2, ![512, 2816]⟩

abbrev nBuf : Space → Nat
  | .hbm => 18
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024x1024, .bf16⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S512x1024, .bf16⟩
  | .hbm, ⟨14, _⟩ => ⟨S512x1024, .bf16⟩
  | .hbm, ⟨15, _⟩ => ⟨S1x1024, .f32⟩
  | .hbm, ⟨16, _⟩ => ⟨S1x1024, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S512x1024, .f32⟩
  | .local _ .vmem, ⟨14, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== EvenFfnReferenceIdeal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S_, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x1024, .f32⟩
  | .hbm, ⟨41, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩

abbrev nD : Nat := 1
abbrev τ : Topo := Topo.v7x

variable {F : FTy → Type} [FloatOps F]
-- ==== SampleFfn.lean ====
abbrev S256x1024 : Shape := ⟨2, ![256, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S256 : Shape := ⟨1, ![256]⟩
abbrev S256x1 : Shape := ⟨2, ![256, 1]⟩
abbrev S256x2816 : Shape := ⟨2, ![256, 2816]⟩

abbrev nBuf : Space → Nat
  | .hbm => 15
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x1024, .bf16⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1x1024, .f32⟩
  | .hbm, ⟨13, _⟩ => ⟨S1x1024, .f32⟩
  | .hbm, ⟨14, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== SampleFfnReferenceIdeal.lean ====
abbrev S256x1024 : Shape := ⟨2, ![256, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x2816 : Shape := ⟨2, ![256, 2816]⟩

abbrev nBuf : Space → Nat
  | .hbm => 56
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x1, .f32⟩
  | .hbm, ⟨21, _⟩ => ⟨S256x1024, .f32⟩
  | .hbm, ⟨22, _⟩ => ⟨S256x1024, .f32⟩
  | .hbm, ⟨23, _⟩ => ⟨S1x1024, .f32⟩
  | .hbm, ⟨24, _⟩ => ⟨S256x1024, .f32⟩
  | .hbm, ⟨25, _⟩ => ⟨S256x1024, .f32⟩
  | .hbm, ⟨26, _⟩ => ⟨S256x2816, .f32⟩
  | .hbm, ⟨27, _⟩ => ⟨S256x2816, .f32⟩
  | .hbm, ⟨28, _⟩ => ⟨S256x2816, .f32⟩
  | .hbm, ⟨29, _⟩ => ⟨S_, .f32⟩
  | .hbm, ⟨30, _⟩ => ⟨S256x2816, .f32⟩
  | .hbm, ⟨31, _⟩ => ⟨S256x2816, .f32⟩
  | .hbm, ⟨32, _⟩ => ⟨S_, .f32⟩
  | .hbm, ⟨33, _⟩ => ⟨S256x2816, .f32⟩
  | .hbm, ⟨34, _⟩ => ⟨S256x2816, .f32⟩
  | .hbm, ⟨35, _⟩ => ⟨S256x2816, .f32⟩
  | .hbm, ⟨36, _⟩ => ⟨S256x2816, .f32⟩
  | .hbm, ⟨37, _⟩ => ⟨S256x2816, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256, .f32⟩
  | .hbm, ⟨43, _⟩ => ⟨S256x1, .f32⟩
  | .hbm, ⟨44, _⟩ => ⟨S_, .f32⟩
  | .hbm, ⟨45, _⟩ => ⟨S256x1, .f32⟩
  | .hbm, ⟨46, _⟩ => ⟨S256x1, .f32⟩
  | .hbm, ⟨47, _⟩ => ⟨S_, .f32⟩
  | .hbm, ⟨48, _⟩ => ⟨S256x1, .f32⟩
  | .hbm, ⟨49, _⟩ => ⟨S256x1, .f32⟩
  | .hbm, ⟨50, _⟩ => ⟨S256x1, .f32⟩
  | .hbm, ⟨51, _⟩ => ⟨S256x1024, .f32⟩
  | .hbm, ⟨52, _⟩ => ⟨S256x1024, .f32⟩
  | .hbm, ⟨53, _⟩ => ⟨S1x1024, .f32⟩
  | .hbm, ⟨54, _⟩ => ⟨S256x1024, .f32⟩
  | .hbm, ⟨55, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩

abbrev nD : Nat := 1
abbrev τ : Topo := Topo.v7x

variable {F : FTy → Type} [FloatOps F]
-- ==== FoxGates.lean ====
abbrev S16384x128 : Shape := ⟨2, ![16384, 128]⟩
abbrev S16 : Shape := ⟨1, ![16]⟩
abbrev S1x16 : Shape := ⟨2, ![1, 16]⟩
abbrev S_ : Shape := ⟨0, ![]⟩
abbrev S1x128 : Shape := ⟨2, ![1, 128]⟩
abbrev S512x128 : Shape := ⟨2, ![512, 128]⟩
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S16384x128, .f32⟩
  | .hbm, ⟨1, _⟩ => ⟨S16, .f32⟩
  | .hbm, ⟨2, _⟩ => ⟨S1x16, .f32⟩
  | .hbm, ⟨3, _⟩ => ⟨S_, .i32⟩
  | .hbm, ⟨4, _⟩ => ⟨S_, .f32⟩
  | .hbm, ⟨5, _⟩ => ⟨S1x128, .f32⟩
  | .hbm, ⟨6, _⟩ => ⟨S16384x128, .f32⟩
  | .hbm, ⟨7, _⟩ => ⟨S16384x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S1x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FoxGatesReferenceIdeal.lean ====
abbrev S16384x128 : Shape := ⟨2, ![16384, 128]⟩
abbrev S16 : Shape := ⟨1, ![16]⟩
abbrev S_ : Shape := ⟨0, ![]⟩
abbrev S128 : Shape := ⟨1, ![128]⟩
abbrev S1x128 : Shape := ⟨2, ![1, 128]⟩
abbrev S4x4096x128 : Shape := ⟨3, ![4, 4096, 128]⟩

abbrev nBuf : Space → Nat
  | .hbm => 29
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16, .f32⟩
  | .hbm, ⟨2, _⟩ => ⟨S_, .i32⟩
  | .hbm, ⟨3, _⟩ => ⟨S_, .f32⟩
  | .hbm, ⟨4, _⟩ => ⟨S128, .f32⟩
  | .hbm, ⟨5, _⟩ => ⟨S1x128, .f32⟩
  | .hbm, ⟨6, _⟩ => ⟨S16384x128, .f32⟩
  | .hbm, ⟨7, _⟩ => ⟨S16384x128, .f32⟩
  | .hbm, ⟨8, _⟩ => ⟨S16384x128, .f32⟩
  | .hbm, ⟨9, _⟩ => ⟨S_, .f32⟩
  | .hbm, ⟨10, _⟩ => ⟨S16384x128, .f32⟩
  | .hbm, ⟨11, _⟩ => ⟨S16384x128, .f32⟩
  | .hbm, ⟨12, _⟩ => ⟨S16384x128, .f32⟩
  | .hbm, ⟨13, _⟩ => ⟨S16384x128, .f32⟩
  | .hbm, ⟨14, _⟩ => ⟨S16384x128, .i1⟩
  | .hbm, ⟨15, _⟩ => ⟨S16384x128, .f32⟩
  | .hbm, ⟨16, _⟩ => ⟨S16384x128, .f32⟩
  | .hbm, ⟨17, _⟩ => ⟨S16384x128, .f32⟩
  | .hbm, ⟨18, _⟩ => ⟨S16384x128, .f32⟩
  | .hbm, ⟨19, _⟩ => ⟨S16384x128, .f32⟩
  | .hbm, ⟨20, _⟩ => ⟨S16384x128, .f32⟩
  | .hbm, ⟨21, _⟩ => ⟨S16384x128, .f32⟩
  | .hbm, ⟨22, _⟩ => ⟨S16384x128, .f32⟩
  | .hbm, ⟨23, _⟩ => ⟨S16384x128, .f32⟩
  | .hbm, ⟨24, _⟩ => ⟨S4x4096x128, .f32⟩
  | .hbm, ⟨25, _⟩ => ⟨S_, .f32⟩
  | .hbm, ⟨26, _⟩ => ⟨S_, .f32⟩
  | .hbm, ⟨27, _⟩ => ⟨S4x4096x128, .f32⟩
  | .hbm, ⟨28, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call1_v0 : Ref sig .tc := ⟨.hbm, 8, rfl⟩
abbrev main_call1_call0_cst : Ref sig .tc := ⟨.hbm, 9, rfl⟩
abbrev main_call1_call0_v0 : Ref sig .tc := ⟨.hbm, 10, rfl⟩
abbrev main_call1_call0_v1 : Ref sig .tc := ⟨.hbm, 11, rfl⟩
abbrev main_call1_call0_v2 : Ref sig .tc := ⟨.hbm, 12, rfl⟩
abbrev main_call1_call0_v3 : Ref sig .tc := ⟨.hbm, 13, rfl⟩
abbrev main_call1_call0_v4 : Ref sig .tc := ⟨.hbm, 14, rfl⟩
abbrev main_call1_call0_v5 : Ref sig .tc := ⟨.hbm, 15, rfl⟩
abbrev main_call1_call0_v6 : Ref sig .tc := ⟨.hbm, 16, rfl⟩
abbrev main_call1_call0_v7 : Ref sig .tc := ⟨.hbm, 17, rfl⟩
abbrev main_call1_call0_v8 : Ref sig .tc := ⟨.hbm, 18, rfl⟩
abbrev main_call1_call0_v9 : Ref sig .tc := ⟨.hbm, 19, rfl⟩
abbrev main_call1_call0_v10 : Ref sig .tc := ⟨.hbm, 20, rfl⟩
abbrev main_call1_call0_v11 : Ref sig .tc := ⟨.hbm, 21, rfl⟩
abbrev main_call1_v1 : Ref sig .tc := ⟨.hbm, 22, rfl⟩
abbrev main_v4 : Ref sig .tc := ⟨.hbm, 23, rfl⟩
abbrev main_v5 : Ref sig .tc := ⟨.hbm, 24, rfl⟩
abbrev main_call2_call0_cst : Ref sig .tc := ⟨.hbm, 25, rfl⟩
abbrev main_call2_call0_v0 : Ref sig .tc := ⟨.hbm, 26, rfl⟩
abbrev main_v6 : Ref sig .tc := ⟨.hbm, 27, rfl⟩
abbrev main_v7 : Ref sig .tc := ⟨.hbm, 28, rfl⟩

abbrev nD : Nat := 1
abbrev τ : Topo := Topo.v7x

variable {F : FTy → Type} [FloatOps F]
-- ==== SampleMlstm.lean ====
abbrev S256x256 : Shape := ⟨2, ![256, 256]⟩
abbrev S256x512 : Shape := ⟨2, ![256, 512]⟩
abbrev S256x128 : Shape := ⟨2, ![256, 128]⟩
abbrev S4 : Shape := ⟨1, ![4]⟩
abbrev S512 : Shape := ⟨1, ![512]⟩
abbrev S32x4x64x128 : Shape := ⟨4, ![32, 4, 64, 128]⟩
abbrev S32x4x64 : Shape := ⟨3, ![32, 4, 64]⟩
abbrev S32x4 : Shape := ⟨2, ![32, 4]⟩
abbrev S8 : Shape := ⟨1, ![8]⟩
abbrev S1x8 : Shape := ⟨2, ![1, 8]⟩
abbrev S_ : Shape := ⟨0, ![]⟩
abbrev S1x128 : Shape := ⟨2, ![1, 128]⟩
abbrev S32x8x256 : Shape := ⟨3, ![32, 8, 256]⟩
abbrev S32x8x512 : Shape := ⟨3, ![32, 8, 512]⟩
abbrev S32x8x128 : Shape := ⟨3, ![32, 8, 128]⟩
abbrev S1x512 : Shape := ⟨2, ![1, 512]⟩
abbrev S32x4x1x64 : Shape := ⟨4, ![32, 4, 1, 64]⟩
abbrev S32x4x1x1 : Shape := ⟨4, ![32, 4, 1, 1]⟩
abbrev S8x8x256 : Shape := ⟨3, ![8, 8, 256]⟩
abbrev S8x8x512 : Shape := ⟨3, ![8, 8, 512]⟩
abbrev S8x8x128 : Shape := ⟨3, ![8, 8, 128]⟩
abbrev S8x4x64x128 : Shape := ⟨4, ![8, 4, 64, 128]⟩
abbrev S8x4x1x64 : Shape := ⟨4, ![8, 4, 1, 64]⟩
abbrev S8x4x1x1 : Shape := ⟨4, ![8, 4, 1, 1]⟩
abbrev S8x128 : Shape := ⟨2, ![8, 128]⟩
abbrev S8x8 : Shape := ⟨2, ![8, 8]⟩
abbrev S64x64 : Shape := ⟨2, ![64, 64]⟩
abbrev S1x8x128 : Shape := ⟨3, ![1, 8, 128]⟩
abbrev S1x8x64 : Shape := ⟨3, ![1, 8, 64]⟩
abbrev S8x64 : Shape := ⟨2, ![8, 64]⟩
abbrev S8x1 : Shape := ⟨2, ![8, 1]⟩
abbrev S1x1x1x1 : Shape := ⟨4, ![1, 1, 1, 1]⟩
abbrev S1x1 : Shape := ⟨2, ![1, 1]⟩
abbrev S1x1x64x128 : Shape := ⟨4, ![1, 1, 64, 128]⟩
abbrev S64x128 : Shape := ⟨2, ![64, 128]⟩
abbrev S1x1x1x64 : Shape := ⟨4, ![1, 1, 1, 64]⟩
abbrev S1x64 : Shape := ⟨2, ![1, 64]⟩
abbrev S64x8 : Shape := ⟨2, ![64, 8]⟩
abbrev S64 : Shape := ⟨1, ![64]⟩

abbrev nBuf : Space → Nat
  | .hbm => 28
  | .vmem => 29
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x512, .f32⟩
  | .hbm, ⟨3, _⟩ => ⟨S256x512, .f32⟩
  | .hbm, ⟨4, _⟩ => ⟨S256x128, .f32⟩
  | .hbm, ⟨5, _⟩ => ⟨S4, .f32⟩
  | .hbm, ⟨6, _⟩ => ⟨S4, .f32⟩
  | .hbm, ⟨7, _⟩ => ⟨S512, .f32⟩
  | .hbm, ⟨8, _⟩ => ⟨S32x4x64x128, .f32⟩
  | .hbm, ⟨9, _⟩ => ⟨S32x4x64, .f32⟩
  | .hbm, ⟨10, _⟩ => ⟨S32x4, .f32⟩
  | .hbm, ⟨11, _⟩ => ⟨S8, .f32⟩
  | .hbm, ⟨12, _⟩ => ⟨S1x8, .f32⟩
  | .hbm, ⟨13, _⟩ => ⟨S_, .i32⟩
  | .hbm, ⟨14, _⟩ => ⟨S_, .f32⟩
  | .hbm, ⟨15, _⟩ => ⟨S1x128, .f32⟩
  | .hbm, ⟨16, _⟩ => ⟨S32x8x256, .f32⟩
  | .hbm, ⟨17, _⟩ => ⟨S32x8x256, .f32⟩
  | .hbm, ⟨18, _⟩ => ⟨S32x8x512, .f32⟩
  | .hbm, ⟨19, _⟩ => ⟨S32x8x512, .f32⟩
  | .hbm, ⟨20, _⟩ => ⟨S32x8x128, .f32⟩
  | .hbm, ⟨21, _⟩ => ⟨S1x512, .f32⟩
  | .hbm, ⟨22, _⟩ => ⟨S32x4x1x64, .f32⟩
  | .hbm, ⟨23, _⟩ => ⟨S32x4x1x1, .f32⟩
  | .hbm, ⟨24, _⟩ => ⟨S32x8x512, .f32⟩
  | .hbm, ⟨25, _⟩ => ⟨S32x4x64x128, .f32⟩
  | .hbm, ⟨26, _⟩ => ⟨S32x4x1x64, .f32⟩
  | .hbm, ⟨27, _⟩ => ⟨S32x4x1x1, .f32⟩
  | .local _ .vmem, ⟨0, _⟩ => ⟨S8x8x256, .f32⟩
  | .local _ .vmem, ⟨1, _⟩ => ⟨S8x8x256, .f32⟩
  | .local _ .vmem, ⟨2, _⟩ => ⟨S8x8x256, .f32⟩
  | .local _ .vmem, ⟨3, _⟩ => ⟨S8x8x256, .f32⟩
  | .local _ .vmem, ⟨4, _⟩ => ⟨S8x8x512, .f32⟩
  | .local _ .vmem, ⟨5, _⟩ => ⟨S8x8x512, .f32⟩
  | .local _ .vmem, ⟨6, _⟩ => ⟨S8x8x512, .f32⟩
  | .local _ .vmem, ⟨7, _⟩ => ⟨S8x8x512, .f32⟩
  | .local _ .vmem, ⟨8, _⟩ => ⟨S8x8x128, .f32⟩
  | .local _ .vmem, ⟨9, _⟩ => ⟨S8x8x128, .f32⟩
  | .local _ .vmem, ⟨10, _⟩ => ⟨S1x128, .f32⟩
  | .local _ .vmem, ⟨11, _⟩ => ⟨S1x512, .f32⟩
  | .local _ .vmem, ⟨12, _⟩ => ⟨S8x4x64x128, .f32⟩
  | .local _ .vmem, ⟨13, _⟩ => ⟨S8x4x64x128, .f32⟩
  | .local _ .vmem, ⟨14, _⟩ => ⟨S8x4x1x64, .f32⟩
  | .local _ .vmem, ⟨15, _⟩ => ⟨S8x4x1x64, .f32⟩
  | .local _ .vmem, ⟨16, _⟩ => ⟨S8x4x1x1, .f32⟩
  | .local _ .vmem, ⟨17, _⟩ => ⟨S8x4x1x1, .f32⟩
  | .local _ .vmem, ⟨18, _⟩ => ⟨S8x8x512, .f32⟩
  | .local _ .vmem, ⟨19, _⟩ => ⟨S8x8x512, .f32⟩
  | .local _ .vmem, ⟨20, _⟩ => ⟨S8x4x64x128, .f32⟩
  | .local _ .vmem, ⟨21, _⟩ => ⟨S8x4x64x128, .f32⟩
  | .local _ .vmem, ⟨22, _⟩ => ⟨S8x4x1x64, .f32⟩
  | .local _ .vmem, ⟨23, _⟩ => ⟨S8x4x1x64, .f32⟩
  | .local _ .vmem, ⟨24, _⟩ => ⟨S8x4x1x1, .f32⟩
  | .local _ .vmem, ⟨25, _⟩ => ⟨S8x4x1x1, .f32⟩
  | .local _ .vmem, ⟨26, _⟩ => ⟨S8x4x64x128, .f32⟩
  | .local _ .vmem, ⟨27, _⟩ => ⟨S8x4x1x64, .f32⟩
  | .local _ .vmem, ⟨28, _⟩ => ⟨S8x4x1x1, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v11_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_1994 : BitVec 32 := 0#32
  let v4256 : BitVec 1 := Scalar.cmpi .eq arg1 c0_i32_1994
  let v4257 : BitVec 32 := Scalar.extui v4256
  let c0_i32_1995 : BitVec 32 := 0#32
  let v4258 : BitVec 1 := Scalar.cmpi .ne v4257 c0_i32_1995
  v4258

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x4x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x4x1x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x4x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x4x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S8x4x1x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S8x4x1x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== SampleMlstmReferenceIdeal.lean ====
abbrev S256x256 : Shape := ⟨2, ![256, 256]⟩
abbrev S256x512 : Shape := ⟨2, ![256, 512]⟩
abbrev S256x128 : Shape := ⟨2, ![256, 128]⟩
abbrev S4 : Shape := ⟨1, ![4]⟩
abbrev S512 : Shape := ⟨1, ![512]⟩
abbrev S32x4x64x128 : Shape := ⟨4, ![32, 4, 64, 128]⟩
abbrev S32x4x64 : Shape := ⟨3, ![32, 4, 64]⟩
abbrev S32x4 : Shape := ⟨2, ![32, 4]⟩
abbrev S32x8x4x64 : Shape := ⟨4, ![32, 8, 4, 64]⟩
abbrev S32x4x8x64 : Shape := ⟨4, ![32, 4, 8, 64]⟩
abbrev S_ : Shape := ⟨0, ![]⟩
abbrev S32x8x4x128 : Shape := ⟨4, ![32, 8, 4, 128]⟩
abbrev S32x4x8x128 : Shape := ⟨4, ![32, 4, 8, 128]⟩
abbrev S256x4 : Shape := ⟨2, ![256, 4]⟩
abbrev S1x4 : Shape := ⟨2, ![1, 4]⟩
abbrev S32x8x4 : Shape := ⟨3, ![32, 8, 4]⟩
abbrev S32x4x8 : Shape := ⟨3, ![32, 4, 8]⟩
abbrev S8x8 : Shape := ⟨2, ![8, 8]⟩
abbrev S32x4x8x1 : Shape := ⟨4, ![32, 4, 8, 1]⟩
abbrev S32x4x1x8 : Shape := ⟨4, ![32, 4, 1, 8]⟩
abbrev S32x4x8x8 : Shape := ⟨4, ![32, 4, 8, 8]⟩
abbrev S32x4x1 : Shape := ⟨3, ![32, 4, 1]⟩
abbrev S32x4x1x1 : Shape := ⟨4, ![32, 4, 1, 1]⟩
abbrev S32x8x4x1 : Shape := ⟨4, ![32, 8, 4, 1]⟩
abbrev S32x8x512 : Shape := ⟨3, ![32, 8, 512]⟩
abbrev S1x1x512 : Shape := ⟨3, ![1, 1, 512]⟩
abbrev S32x4x1x64 : Shape := ⟨4, ![32, 4, 1, 64]⟩

abbrev nBuf : Space → Nat
  | .hbm => 166
  | .vmem => 0
  | .smem => 0
  | _ => 0

abbrev hbmTy0_0 (i : Nat) : BufTy := match i % 128 with
  | 0 => ⟨S256x256, .f32⟩
  | 1 => ⟨S256x256, .f32⟩
  | 2 => ⟨S256x512, .f32⟩
  | 3 => ⟨S256x512, .f32⟩
  | 4 => ⟨S256x128, .f32⟩
  | 5 => ⟨S4, .f32⟩
  | 6 => ⟨S4, .f32⟩
  | 7 => ⟨S512, .f32⟩
  | 8 => ⟨S32x4x64x128, .f32⟩
  | 9 => ⟨S32x4x64, .f32⟩
  | 10 => ⟨S32x4, .f32⟩
  | 11 => ⟨S32x8x4x64, .f32⟩
  | 12 => ⟨S32x4x8x64, .f32⟩
  | 13 => ⟨S_, .f32⟩
  | 14 => ⟨S32x4x8x64, .f32⟩
  | 15 => ⟨S32x4x8x64, .f32⟩
  | 16 => ⟨S32x8x4x64, .f32⟩
  | 17 => ⟨S32x4x8x64, .f32⟩
  | 18 => ⟨S32x8x4x128, .f32⟩
  | 19 => ⟨S32x4x8x128, .f32⟩
  | 20 => ⟨S256x4, .f32⟩
  | 21 => ⟨S1x4, .f32⟩
  | 22 => ⟨S256x4, .f32⟩
  | 23 => ⟨S256x4, .f32⟩
  | 24 => ⟨S32x8x4, .f32⟩
  | 25 => ⟨S32x4x8, .f32⟩
  | 26 => ⟨S256x4, .f32⟩
  | 27 => ⟨S1x4, .f32⟩
  | 28 => ⟨S256x4, .f32⟩
  | 29 => ⟨S256x4, .f32⟩
  | 30 => ⟨S256x4, .f32⟩
  | 31 => ⟨S_, .f32⟩
  | 32 => ⟨S256x4, .f32⟩
  | 33 => ⟨S256x4, .f32⟩
  | 34 => ⟨S256x4, .f32⟩
  | 35 => ⟨S256x4, .f32⟩
  | 36 => ⟨S256x4, .i1⟩
  | 37 => ⟨S256x4, .f32⟩
  | 38 => ⟨S256x4, .f32⟩
  | 39 => ⟨S256x4, .f32⟩
  | 40 => ⟨S256x4, .f32⟩
  | 41 => ⟨S256x4, .f32⟩
  | 42 => ⟨S256x4, .f32⟩
  | 43 => ⟨S256x4, .f32⟩
  | 44 => ⟨S256x4, .f32⟩
  | 45 => ⟨S256x4, .f32⟩
  | 46 => ⟨S32x8x4, .f32⟩
  | 47 => ⟨S_, .i1⟩
  | 48 => ⟨S8x8, .i1⟩
  | 49 => ⟨S8x8, .i32⟩
  | 50 => ⟨S_, .i32⟩
  | 51 => ⟨S8x8, .i32⟩
  | 52 => ⟨S8x8, .i32⟩
  | 53 => ⟨S8x8, .i32⟩
  | 54 => ⟨S8x8, .i1⟩
  | 55 => ⟨S_, .i1⟩
  | 56 => ⟨S8x8, .i1⟩
  | 57 => ⟨S8x8, .i1⟩
  | 58 => ⟨S_, .f32⟩
  | 59 => ⟨S_, .f32⟩
  | 60 => ⟨S32x8x4, .f32⟩
  | 61 => ⟨S32x4x8, .f32⟩
  | 62 => ⟨S32x4x8x1, .f32⟩
  | 63 => ⟨S32x4x1x8, .f32⟩
  | 64 => ⟨S32x4x8x8, .f32⟩
  | 65 => ⟨S32x4x8x8, .f32⟩
  | 66 => ⟨S32x4x8x8, .f32⟩
  | 67 => ⟨S32x4x1x8, .f32⟩
  | 68 => ⟨S32x4x8x8, .f32⟩
  | 69 => ⟨S32x4x8x8, .f32⟩
  | 70 => ⟨S_, .f32⟩
  | 71 => ⟨S_, .f32⟩
  | 72 => ⟨S32x4x8x8, .i1⟩
  | 73 => ⟨S32x4x8x8, .f32⟩
  | 74 => ⟨S32x4x8x8, .f32⟩
  | 75 => ⟨S32x4x1, .f32⟩
  | 76 => ⟨S32x4x8, .f32⟩
  | 77 => ⟨S32x4x8, .f32⟩
  | 78 => ⟨S_, .f32⟩
  | 79 => ⟨S32x4x8, .f32⟩
  | 80 => ⟨S32x4x8, .f32⟩
  | 81 => ⟨S32x4x8x1, .f32⟩
  | 82 => ⟨S32x4x8x8, .f32⟩
  | 83 => ⟨S32x4x8x8, .f32⟩
  | 84 => ⟨S32x4x8x8, .f32⟩
  | 85 => ⟨S32x4x8, .f32⟩
  | 86 => ⟨S32x4x8, .f32⟩
  | 87 => ⟨S32x4x8x8, .f32⟩
  | 88 => ⟨S32x4x8x8, .f32⟩
  | 89 => ⟨S32x4x8x1, .f32⟩
  | 90 => ⟨S32x4x8x128, .f32⟩
  | 91 => ⟨S32x4x8x128, .f32⟩
  | 92 => ⟨S32x4x8x128, .f32⟩
  | 93 => ⟨S32x4x8x128, .f32⟩
  | 94 => ⟨S32x4x8x128, .f32⟩
  | 95 => ⟨S32x4x8, .f32⟩
  | 96 => ⟨S32x4x8, .f32⟩
  | 97 => ⟨S_, .f32⟩
  | 98 => ⟨S32x4x8, .f32⟩
  | 99 => ⟨S32x4x8, .f32⟩
  | 100 => ⟨S32x4x8, .f32⟩
  | 101 => ⟨S32x4x8, .f32⟩
  | 102 => ⟨S32x4x8, .f32⟩
  | 103 => ⟨S32x4x8, .f32⟩
  | 104 => ⟨S32x4x8x1, .f32⟩
  | 105 => ⟨S32x4x8x128, .f32⟩
  | 106 => ⟨S32x4x8x128, .f32⟩
  | 107 => ⟨S32x4x1, .f32⟩
  | 108 => ⟨S32x4, .f32⟩
  | 109 => ⟨S32x4x1, .f32⟩
  | 110 => ⟨S32x4, .f32⟩
  | 111 => ⟨S32x4, .f32⟩
  | 112 => ⟨S32x4, .f32⟩
  | 113 => ⟨S32x4, .f32⟩
  | 114 => ⟨S32x4x1, .f32⟩
  | 115 => ⟨S32x4x8, .f32⟩
  | 116 => ⟨S32x4x8, .f32⟩
  | 117 => ⟨S32x4x8, .f32⟩
  | 118 => ⟨S32x4x1, .f32⟩
  | 119 => ⟨S32x4x8, .f32⟩
  | 120 => ⟨S32x4x8, .f32⟩
  | 121 => ⟨S32x4x8, .f32⟩
  | 122 => ⟨S32x4x8x1, .f32⟩
  | 123 => ⟨S32x4x8x64, .f32⟩
  | 124 => ⟨S32x4x8x64, .f32⟩
  | 125 => ⟨S32x4x1x1, .f32⟩
  | 126 => ⟨S32x4x64x128, .f32⟩
  | 127 => ⟨S32x4x64x128, .f32⟩
  | _ => ⟨S256x256, .f32⟩

abbrev hbmTy0_1 (i : Nat) : BufTy := match i % 128 with
  | 0 => ⟨S32x4x64x128, .f32⟩
  | 1 => ⟨S32x4x64x128, .f32⟩
  | 2 => ⟨S32x4x1, .f32⟩
  | 3 => ⟨S32x4x64, .f32⟩
  | 4 => ⟨S32x4x64, .f32⟩
  | 5 => ⟨S_, .f32⟩
  | 6 => ⟨S32x4x64, .f32⟩
  | 7 => ⟨S32x4x64, .f32⟩
  | 8 => ⟨S32x8x4x128, .f32⟩
  | 9 => ⟨S32x8x4x128, .f32⟩
  | 10 => ⟨S_, .f32⟩
  | 11 => ⟨S32x8x4, .f32⟩
  | 12 => ⟨S32x8x4x1, .f32⟩
  | 13 => ⟨S_, .f32⟩
  | 14 => ⟨S32x8x4x1, .f32⟩
  | 15 => ⟨S32x8x4x1, .f32⟩
  | 16 => ⟨S_, .f32⟩
  | 17 => ⟨S32x8x4x1, .f32⟩
  | 18 => ⟨S32x8x4x1, .f32⟩
  | 19 => ⟨S32x8x4x1, .f32⟩
  | 20 => ⟨S32x8x4x128, .f32⟩
  | 21 => ⟨S32x8x4x128, .f32⟩
  | 22 => ⟨S32x8x512, .f32⟩
  | 23 => ⟨S32x8x512, .f32⟩
  | 24 => ⟨S32x8x512, .f32⟩
  | 25 => ⟨S_, .f32⟩
  | 26 => ⟨S32x8x512, .f32⟩
  | 27 => ⟨S32x8x512, .f32⟩
  | 28 => ⟨S_, .f32⟩
  | 29 => ⟨S32x8x512, .f32⟩
  | 30 => ⟨S32x8x512, .f32⟩
  | 31 => ⟨S32x8x512, .f32⟩
  | 32 => ⟨S1x1x512, .f32⟩
  | 33 => ⟨S32x8x512, .f32⟩
  | 34 => ⟨S32x8x512, .f32⟩
  | 35 => ⟨S32x8x512, .f32⟩
  | 36 => ⟨S32x4x1x64, .f32⟩
  | 37 => ⟨S32x4x1x1, .f32⟩
  | _ => ⟨S256x256, .f32⟩

abbrev hbmTy (i : Nat) : BufTy := match i / 128 with
  | 0 => hbmTy0_0 i
  | 1 => hbmTy0_1 i
  | _ => ⟨S256x256, .f32⟩

abbrev bufTy : (tb : Table) → Fin (tcTables nBuf tb) → BufTy
  | .hbm, ⟨i, _⟩ => hbmTy i
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_call0_cst : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_v1 : Ref sig .tc := ⟨.hbm, 44, rfl⟩
abbrev main_v18 : Ref sig .tc := ⟨.hbm, 45, rfl⟩
abbrev main_v19 : Ref sig .tc := ⟨.hbm, 46, rfl⟩
abbrev main_c : Ref sig .tc := ⟨.hbm, 47, rfl⟩
abbrev main_v20 : Ref sig .tc := ⟨.hbm, 48, rfl⟩
abbrev main_call1_v0 : Ref sig .tc := ⟨.hbm, 49, rfl⟩
abbrev main_call1_c : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_c_0 : Ref sig .tc := ⟨.hbm, 55, rfl⟩
abbrev main_call1_v5 : Ref sig .tc := ⟨.hbm, 56, rfl⟩
abbrev main_v21 : Ref sig .tc := ⟨.hbm, 57, rfl⟩
abbrev main_call2_call0_cst : Ref sig .tc := ⟨.hbm, 58, rfl⟩
abbrev main_call2_call0_v0 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_0 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_cst_1 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_cst_2 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_3 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_4 : Ref sig .tc := ⟨.hbm, 138, rfl⟩
abbrev main_v93 : Ref sig .tc := ⟨.hbm, 139, rfl⟩
abbrev main_v94 : Ref sig .tc := ⟨.hbm, 140, rfl⟩
abbrev main_cst_5 : Ref sig .tc := ⟨.hbm, 141, rfl⟩
abbrev main_v95 : Ref sig .tc := ⟨.hbm, 142, rfl⟩
abbrev main_v96 : Ref sig .tc := ⟨.hbm, 143, rfl⟩
abbrev main_cst_6 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_cst_7 : Ref sig .tc := ⟨.hbm, 153, rfl⟩
abbrev main_v105 : Ref sig .tc := ⟨.hbm, 154, rfl⟩
abbrev main_v106 : Ref sig .tc := ⟨.hbm, 155, rfl⟩
abbrev main_cst_8 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩

abbrev nD : Nat := 1
abbrev τ : Topo := Topo.v7x

variable {F : FTy → Type} [FloatOps F]
-- ==== Proof.Slab.lean ====
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Claim

@[expose] public section

set_option maxRecDepth 8192

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two key and value slabs of a head pair -/

/-- The whole block of 4096 rows, as a load takes it. -/
abbrev rK : Rect S4096x128 := Rect.unit (s := S4096x128) ![0, 0] S4096x128.size inb_S4096x128_S4096x128_0_0
/-- The whole block of 512 rows, as a load takes it. -/
abbrev rQ : Rect S512x128 := Rect.unit (s := S512x128) ![0, 0] S512x128.size inb_S512x128_S512x128_0_0
/-- The first head's slab of a scratch buffer. -/
abbrev rS0 : Rect S2x4096x128 := Rect.unit (s := S2x4096x128) ![0, 0, 0] S1x4096x128.size inb_S2x4096x128_S1x4096x128_0_0_0
/-- The second head's slab of a scratch buffer. -/
abbrev rS1 : Rect S2x4096x128 := Rect.unit (s := S2x4096x128) ![1, 0, 0] S1x4096x128.size inb_S2x4096x128_S1x4096x128_1_0_0

/-- The row index of the lanes of a 4096-row block. -/
abbrev ioK : IVec S4096x128 32 := iota .tc S4096x128 32 [1] iota_S4096x128_d1_w32
/-- The lane index of the lanes of a 512-row block. -/
abbrev ioQ : IVec S512x128 32 := iota .tc S512x128 32 [1] iota_S512x128_d1_w32

/-- The first head's keys with the pieces of its key bias, from the block of keys and the block of running sums. -/
def kaPay0 (w : BitVec 32) (x1 x4 : Vec F S4096x128 .f32) : FVec F S1x4096x128 .bf16 :=
  k0_pay9 x1 ioK k0_pay1 (k0_pay5 w x4) (k0_pay6 w x4) (k0_pay7 w x4) k0_pay8
/-- The second head's. -/
def kaPay1 (w : BitVec 32) (x1 x4 : Vec F S4096x128 .f32) : FVec F S1x4096x128 .bf16 :=
  k0_pay85 x1 ioK (k0_pay11 ioK) (k0_pay16 w x4) (k0_pay17 w ioK x4) (k0_pay18 ioK)

/-- The key slabs, from the block of keys and the block of running sums. -/
def kaOf (w : BitVec 32) (x1 x4 : Vec F S4096x128 .f32) : Vec F S2x4096x128 .bf16 :=
  View.canon [⟨rS1, kaPay1 w (View.ld x1 rK) (View.ld x4 rK)⟩, ⟨rS0, kaPay0 w (View.ld x1 rK) (View.ld x4 rK)⟩]
/-- The value slabs, from the block of values. -/
def vaOf (x2 : Vec F S4096x128 .f32) : Vec F S2x4096x128 .bf16 :=
  View.canon [⟨rS1, k0_pay86 (View.ld x2 rK) ioK⟩, ⟨rS0, k0_pay10 (View.ld x2 rK) ioK⟩]

/-- The two slabs cover a scratch buffer. -/
theorem coverS (p q : Vec F S1x4096x128 .bf16) (y : S2x4096x128.Idx) :
    ∃ pc ∈ ([⟨rS1, q⟩, ⟨rS0, p⟩] : List (View.Piece (Elt F) S2x4096x128 .bf16)), y ∈ pc.1.set :=
  View.cover_of_tiled [⟨rS1, q⟩, ⟨rS0, p⟩] S1x4096x128.size (by rfl) y

/-- The word the body tests for the first query tile of a head pair. -/
abbrev firstWord (i : grid0.Coords) : BitVec 1 :=
  Scalar.cmpi .ne (Scalar.extui (Scalar.cmpi .eq (BitVec.ofNat 32 (i 2).val) 0#32) : BitVec 32) 0#32

/-- A staging buffer or scratch buffer held whole at contents `f`. -/
abbrev hold (c : Dev nD) {s : Shape} {e : EltTy} (a : Memref sig .tc .vmem s e) (f : BufTy.Contents (Elt F) a.view.ty) : sProp 𝕄 :=
  a.view.loc (c : Thread nD τ) ↦[a.view.set]{fullShare} f

/-- The first stretch of the body: the query and bias blocks are loaded, and it leaves the key slabs at `ka` and the value
    slabs at `va`, every other buffer as it was. -/
abbrev StretchSpec (c : Dev nD) (E : Set ℕ) (i : grid0.Coords) (arg3 : Memref sig .tc .vmem S512x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S512x128 .f32) (harg6 : arg6.IsWhole) (arg7 : Memref sig .tc .vmem S4096x128 .f32) (harg7 : arg7.IsWhole) (arg8 : Memref sig .tc .vmem S512x128 .f32) (harg8 : arg8.IsWhole) (arg9 : Memref sig .tc .vmem S2x4096x128 .bf16) (harg9 : arg9.IsWhole) (arg10 : Memref sig .tc .vmem S2x4096x128 .bf16) (harg10 : arg10.IsWhole)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (g9 : BufTy.Contents (Elt F) arg9.view.ty) (g10 : BufTy.Contents (Elt F) arg10.view.ty) (ka va : Vec F S2x4096x128 .bf16) : Prop :=
    iprop(hold c arg3 f3 ∗ hold c arg4 f4
        ∗ hold c arg5 f5 ∗ hold c arg6 f6
        ∗ hold c arg7 f7
        ∗ hold c arg9 g9 ∗ hold c arg10 g10 : sProp 𝕄)
      ⊢ wp frame (wpE (defs₀ (F := F)) Variants.none c none) E (k0_part13 (F := F) i arg3 harg3 arg4 harg4 arg5 harg5 arg6 harg6 arg7 harg7 arg8 harg8 arg9 harg9 arg10 harg10)
        (fun r => iprop(⌜r = ⟨BitVec.ofNat 32 (i 1).val, BitVec.ofNat 32 (i 2).val, View.ld (arg3.view.read (Elt F) f3) rQ, ioQ, View.ld (arg6.view.read (Elt F) f6) rQ, k0_pay87, k0_pay92 i (View.ld (arg6.view.read (Elt F) f6) rQ), k0_pay93 i (View.ld (arg6.view.read (Elt F) f6) rQ)⟩⌝ ∗
          hold c arg3 f3 ∗ hold c arg4 f4
        ∗ hold c arg5 f5 ∗ hold c arg6 f6
        ∗ hold c arg7 f7
        ∗ (∃ g, ⌜arg9.view.read (Elt F) g = ka⌝ ∗ hold c arg9 g)
        ∗ (∃ g, ⌜arg10.view.read (Elt F) g = va⌝ ∗ hold c arg10 g)))

/-- At the first query tile of a head pair the first stretch of the body writes the slabs. -/
theorem stretch_first (c : Dev nD) (E : Set ℕ) (i : grid0.Coords) (arg3 : Memref sig .tc .vmem S512x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S512x128 .f32) (harg6 : arg6.IsWhole) (arg7 : Memref sig .tc .vmem S4096x128 .f32) (harg7 : arg7.IsWhole) (arg8 : Memref sig .tc .vmem S512x128 .f32) (harg8 : arg8.IsWhole) (arg9 : Memref sig .tc .vmem S2x4096x128 .bf16) (harg9 : arg9.IsWhole) (arg10 : Memref sig .tc .vmem S2x4096x128 .bf16) (harg10 : arg10.IsWhole)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (g9 : BufTy.Contents (Elt F) arg9.view.ty) (g10 : BufTy.Contents (Elt F) arg10.view.ty) (h : firstWord i = 1#1) :
    StretchSpec (F := F) c E i arg3 harg3 arg4 harg4 arg5 harg5 arg6 harg6 arg7 harg7 arg8 harg8 arg9 harg9 arg10 harg10 f3 f4 f5 f6 f7 g9 g10
      (kaOf (BitVec.ofNat 32 (i 1).val) (arg4.view.read (Elt F) f4) (arg7.view.read (Elt F) f7)) (vaOf (arg5.view.read (Elt F) f5)) := by
  unfold StretchSpec; rw [k0_part13_eq_skeleton]; unfold k0_part13_skel
  iintro ⟨H3, H4, H5, H6, H7, H9, H10⟩
  sl_exec (disch := first | sl_exact h)
  sl_step
  isplitr
  · ipureintro; rfl
  isplitl [H3]; · iexact H3
  isplitl [H4]; · iexact H4
  isplitl [H5]; · iexact H5
  isplitl [H6]; · iexact H6
  isplitl [H7]; · iexact H7
  isplitl [H9]
  · iexists _; isplitr
    swap; · iexact H9
    ipureintro
    exact View.read_writes_eq_canon _ _ _ (coverS _ _)
  · iexists _; isplitr
    swap; · iexact H10
    ipureintro
    exact View.read_writes_eq_canon _ _ _ (coverS _ _)

/-- At a later query tile the slabs are left as they were. -/
theorem stretch_later (c : Dev nD) (E : Set ℕ) (i : grid0.Coords) (arg3 : Memref sig .tc .vmem S512x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S512x128 .f32) (harg6 : arg6.IsWhole) (arg7 : Memref sig .tc .vmem S4096x128 .f32) (harg7 : arg7.IsWhole) (arg8 : Memref sig .tc .vmem S512x128 .f32) (harg8 : arg8.IsWhole) (arg9 : Memref sig .tc .vmem S2x4096x128 .bf16) (harg9 : arg9.IsWhole) (arg10 : Memref sig .tc .vmem S2x4096x128 .bf16) (harg10 : arg10.IsWhole)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (g9 : BufTy.Contents (Elt F) arg9.view.ty) (g10 : BufTy.Contents (Elt F) arg10.view.ty) (h : ¬ firstWord i = 1#1) :
    StretchSpec (F := F) c E i arg3 harg3 arg4 harg4 arg5 harg5 arg6 harg6 arg7 harg7 arg8 harg8 arg9 harg9 arg10 harg10 f3 f4 f5 f6 f7 g9 g10 (arg9.view.read (Elt F) g9) (arg10.view.read (Elt F) g10) := by
  unfold StretchSpec; rw [k0_part13_eq_skeleton]; unfold k0_part13_skel
  iintro ⟨H3, H4, H5, H6, H7, H9, H10⟩
  sl_exec (disch := first | sl_exact h)
  sl_step
  isplitr
  · ipureintro; rfl
  isplitl [H3]; · iexact H3
  isplitl [H4]; · iexact H4
  isplitl [H5]; · iexact H5
  isplitl [H6]; · iexact H6
  isplitl [H7]; · iexact H7
  isplitl [H9]
  · iexists _; isplitr
    swap; · iexact H9
    ipureintro
    rfl
  · iexists _; isplitr
    swap; · iexact H10
    ipureintro
    rfl

end Cert.Proof.Fox

end
-- ==== Proof.Flash.lean ====
module

public import proofs.«01_k».proof.Proof.Gen.KernelIdeal.Frame
public import proofs.«01_k».proof.Proof.Gen.KernelIdeal.Loops
public import proofs.«01_k».proof.Proof.Gen.KernelIdeal.Skeleton
public import proofs.«01_k».proof.Proof.Slab
public import Idealize.ShloMosaic.Lib.Claim

@[expose] public section

set_option maxRecDepth 8192

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One tile of keys against one tile of queries -/

/-- Where tile `n` of head `hh` of a slab starts. -/
def tOff (hh n : ℕ) : Fin 3 → ℕ := ![hh % 2, 512 * (n % 8), 0]

theorem tOff_inb (hh n : ℕ) : ∀ a, (tOff hh n) a + S1x512x128.size a ≤ S2x4096x128.size a := by
  intro a
  fin_cases a
  · show hh % 2 + 1 ≤ 2; omega
  · show 512 * (n % 8) + 512 ≤ 4096; omega
  · show 0 + 128 ≤ 128; omega

/-- A tile of a slab, as a load at an offset takes it. -/
abbrev ldT (B : Vec F S2x4096x128 .bf16) (off : Fin 3 → ℕ) (inb : ∀ a, off a + S1x512x128.size a ≤ S2x4096x128.size a) : Vec F S1x512x128 .bf16 :=
  View.ld B (Rect.unit (s := S2x4096x128) off S1x512x128.size inb)

/-- Tile `n` of head `hh` of a slab. -/
def tileOf (B : Vec F S2x4096x128 .bf16) (hh n : ℕ) : Vec F S1x512x128 .bf16 := ldT B (tOff hh n) (tOff_inb hh n)

theorem ldT_eq (B : Vec F S2x4096x128 .bf16) {off : Fin 3 → ℕ} (inb) {hh n : ℕ} (h : off = tOff hh n) : ldT B off inb = tileOf B hh n := by
  subst h; rfl

/-- A head's running maximum and accumulator. -/
abbrev St (F : FTy → Type) [FloatOps F] := FVec F S512x1 .f32 × FVec F S512x128 .f32

/-- The scores of a tile of queries against a tile of keys. -/
def scores (q : FVec F S512x128 .bf16) (kt : Vec F S1x512x128 .bf16) : FVec F S512x512 .f32 :=
  matmul dot_S512x128_S512x128_S512x512_1_1_0_0_n_n none q (shapeCast S512x128 kt shapeCasts_S1x512x128_S512x128) (constant S512x512 .f32 0x00000000#32)

/-- The running maximum after a tile of scores. -/
def newMax (mx : FVec F S512x1 .f32) (s : FVec F S512x512 .f32) : FVec F S512x1 .f32 :=
  maximumf mx (shapeCast S512x1 (multiReduction .maximumf [1] S512 s 0xFF800000#32 reduces_S512x512_S512 (.inl rfl) rfl) shapeCasts_S512_S512x1)

/-- The weights of a tile of scores under a running maximum. -/
def weights (s : FVec F S512x512 .f32) (mx : FVec F S512x1 .f32) : FVec F S512x512 .bf16 :=
  truncf .bf16 (exp (subf s (broadcastTo S512x512 mx broadcasts_S512x1_S512x512))) bitsLt_bf16_f32

/-- What the accumulator is multiplied by when the running maximum moves. -/
def gain (mx mx' : FVec F S512x1 .f32) : FVec F S512x128 .f32 :=
  broadcastTo S512x128 (exp (subf mx mx')) broadcasts_S512x1_S512x128

/-- A head's state after a tile of scores and its values. -/
def fold1 (s : FVec F S512x512 .f32) (vt : Vec F S1x512x128 .bf16) (st : St F) : St F :=
  (newMax st.1 s, addf (mulf (gain st.1 (newMax st.1 s)) st.2)
    (matmul dot_S512x512_S512x128_S512x128_1_0_0_1_n_n none (weights s (newMax st.1 s)) (shapeCast S512x128 vt shapeCasts_S1x512x128_S512x128) (constant S512x128 .f32 0x00000000#32)))

/-- A head's state after a whole tile of keys. -/
def step (q : FVec F S512x128 .bf16) (kt vt : Vec F S1x512x128 .bf16) (st : St F) : St F := fold1 (scores q kt) vt st

/-- A head's state after the tile of keys on the diagonal, the first one taken. -/
def diag (q : FVec F S512x128 .bf16) (kt vt : Vec F S1x512x128 .bf16) : St F :=
  fold1 (select k0_pay105 (scores q kt) (broadcast S512x512 (Scalar.ofBits .f32 0xFF800000#32 : F .f32))) vt (k0_pay106, k0_pay107)

/-- A head's state after the diagonal tile `d` and the first `n` tiles of keys. -/
def tiles (q : FVec F S512x128 .bf16) (ka va : Vec F S2x4096x128 .bf16) (hh d : ℕ) : ℕ → St F
  | 0 => diag q (tileOf ka hh d) (tileOf va hh d)
  | n + 1 => step q (tileOf ka hh n) (tileOf va hh n) (tiles q ka va hh d n)

/-- The first head's queries, scaled, with the pieces of its query bias. -/
def qa0 (i : grid0.Coords) (x0 x3 : Vec F S512x128 .f32) : FVec F S512x128 .bf16 :=
  k0_pay94 x0 ioQ k0_pay87 (k0_pay92 i x3) (k0_pay93 i x3)
/-- The second head's. -/
def qa1 (i : grid0.Coords) (x0 x3 : Vec F S512x128 .f32) : FVec F S512x128 .bf16 :=
  k0_pay104 x0 ioQ (k0_pay95 ioQ) (k0_pay97 (F := F)) (k0_pay100 (BitVec.ofNat 32 (i 1).val) x3) (k0_pay101 (BitVec.ofNat 32 (i 1).val) x3) (k0_pay102 ioQ) (k0_pay103 (BitVec.ofNat 32 (i 1).val) x3)

/-- What the body stores: each head's accumulator over its normaliser, from the query and bias blocks and the slabs. -/
def outPay (i : grid0.Coords) (x0 x3 : Vec F S512x128 .f32) (ka va : Vec F S2x4096x128 .bf16) : FVec F S512x128 .f32 :=
  k0_pay124 (tiles (qa0 i (View.ld x0 rQ) (View.ld x3 rQ)) ka va 0 (i 2).val (i 2).val).2
    (tiles (qa1 i (View.ld x0 rQ) (View.ld x3 rQ)) ka va 1 (i 2).val (i 2).val).2

/-! ## The offsets and the two loops' trips -/

theorem off1_eq (i : grid0.Coords) : k0_off1 i = tOff 0 (i 2).val := by
  unfold k0_off1; generalize i 2 = n; revert n; decide
theorem off2_eq (i : grid0.Coords) : k0_off2 i = tOff 1 (i 2).val := by
  unfold k0_off2; generalize i 2 = n; revert n; decide
theorem trips1 (i : grid0.Coords) : (k0_t1_loop i).trips = (i 2).val / 4 := by
  unfold k0_t1_loop; generalize i 2 = n; revert n; decide
theorem trips2 (i : grid0.Coords) : (k0_t2_loop i).trips = 0 := by
  unfold k0_t2_loop; generalize i 2 = n; revert n; decide
theorem lt8 (i : grid0.Coords) : (i 2).val < 8 := (i 2).isLt
theorem trip_zero (i : grid0.Coords) (k : Fin (k0_t1_loop i).trips) : k.val = 0 := by
  have h1 := k.isLt
  have h2 := trips1 i
  have h3 := lt8 i
  omega
theorem off3_eq (i : grid0.Coords) (k : Fin (k0_t1_loop i).trips) (u : Fin 4) : k0_off3 i k (BitVec.ofNat 32 u.val) = tOff 0 u.val := by
  unfold k0_off3; simp only [Scf.iv, trip_zero i k]; revert u; decide
theorem off4_eq (i : grid0.Coords) (k : Fin (k0_t1_loop i).trips) (u : Fin 4) : k0_off4 i k (BitVec.ofNat 32 u.val) = tOff 1 u.val := by
  unfold k0_off4; simp only [Scf.iv, trip_zero i k]; revert u; decide
theorem off7_eq (i : grid0.Coords) : k0_off7 i = tOff 0 (4 * ((i 2).val / 4)) := by
  unfold k0_off7; generalize i 2 = n; revert n; decide
theorem off8_eq (i : grid0.Coords) : k0_off8 i = tOff 1 (4 * ((i 2).val / 4)) := by
  unfold k0_off8; generalize i 2 = n; revert n; decide
theorem off9_eq (i : grid0.Coords) : k0_off9 i = tOff 0 (4 * ((i 2).val / 4) + 1) := by
  unfold k0_off9; generalize i 2 = n; revert n; decide
theorem off10_eq (i : grid0.Coords) : k0_off10 i = tOff 1 (4 * ((i 2).val / 4) + 1) := by
  unfold k0_off10; generalize i 2 = n; revert n; decide
theorem cond2_iff (i : grid0.Coords) : k0_cond2 i = 1#1 ↔ 2 ≤ (i 2).val % 4 := by
  unfold k0_cond2; generalize i 2 = n; revert n; decide
theorem cond3_iff (i : grid0.Coords) : k0_cond3 i = 1#1 ↔ (i 2).val % 2 = 1 := by
  unfold k0_cond3; generalize i 2 = n; revert n; decide
theorem off11_eq (i : grid0.Coords) (h : k0_cond3 i = 1#1) : k0_off11 i = tOff 0 ((i 2).val - 1) := by
  revert h; unfold k0_off11 k0_cond3; generalize i 2 = n; revert n; decide
theorem off12_eq (i : grid0.Coords) (h : k0_cond3 i = 1#1) : k0_off12 i = tOff 1 ((i 2).val - 1) := by
  revert h; unfold k0_off12 k0_cond3; generalize i 2 = n; revert n; decide

/-! ## The loop over groups of four tiles -/

/-- Both heads' states, as the loop carries them. -/
abbrev carry (a b : St F) : FVec F S512x1 .f32 × FVec F S512x128 .f32 × FVec F S512x1 .f32 × FVec F S512x128 .f32 := (a.1, a.2, b.1, b.2)

/-- One trip of the loop takes both heads over four tiles of keys. -/
theorem trip_eq (𝒱 : Variants) (c : Dev nD) (bd : Option 𝒱.V) (i : grid0.Coords) (arg3 : Memref sig .tc .vmem S512x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S512x128 .f32) (harg6 : arg6.IsWhole) (arg7 : Memref sig .tc .vmem S4096x128 .f32) (harg7 : arg7.IsWhole) (arg8 : Memref sig .tc .vmem S512x128 .f32) (harg8 : arg8.IsWhole) (arg9 : Memref sig .tc .vmem S2x4096x128 .bf16) (harg9 : arg9.IsWhole) (arg10 : Memref sig .tc .vmem S2x4096x128 .bf16) (harg10 : arg10.IsWhole)
    (q0 q1 : FVec F S512x128 .bf16) (g9 : BufTy.Contents (Elt F) arg9.view.ty) (g10 : BufTy.Contents (Elt F) arg10.view.ty)
    (k : Fin (k0_t1_loop i).trips) (a b : St F) :
    tripR_k0_t1 (F := F) 𝒱 c bd i arg3 harg3 arg4 harg4 arg5 harg5 arg6 harg6 arg7 harg7 arg8 harg8 arg9 harg9 arg10 harg10 q0 q1 g9 g10 k (carry a b)
      = carry (step q0 (tileOf (arg9.view.read (Elt F) g9) 0 3) (tileOf (arg10.view.read (Elt F) g10) 0 3)
          (step q0 (tileOf (arg9.view.read (Elt F) g9) 0 2) (tileOf (arg10.view.read (Elt F) g10) 0 2)
          (step q0 (tileOf (arg9.view.read (Elt F) g9) 0 1) (tileOf (arg10.view.read (Elt F) g10) 0 1)
          (step q0 (tileOf (arg9.view.read (Elt F) g9) 0 0) (tileOf (arg10.view.read (Elt F) g10) 0 0) a))))
        (step q1 (tileOf (arg9.view.read (Elt F) g9) 1 3) (tileOf (arg10.view.read (Elt F) g10) 1 3)
          (step q1 (tileOf (arg9.view.read (Elt F) g9) 1 2) (tileOf (arg10.view.read (Elt F) g10) 1 2)
          (step q1 (tileOf (arg9.view.read (Elt F) g9) 1 1) (tileOf (arg10.view.read (Elt F) g10) 1 1)
          (step q1 (tileOf (arg9.view.read (Elt F) g9) 1 0) (tileOf (arg10.view.read (Elt F) g10) 1 0) b)))) := by
  have e00 (B : Vec F S2x4096x128 .bf16) : tileOf B 0 0 = ldT B (k0_off3 i k 0#32) (k0_off3_inb i k 0) := (ldT_eq B _ (off3_eq i k 0)).symm
  have e01 (B : Vec F S2x4096x128 .bf16) : tileOf B 0 1 = ldT B (k0_off3 i k 1#32) (k0_off3_inb i k 1) := (ldT_eq B _ (off3_eq i k 1)).symm
  have e02 (B : Vec F S2x4096x128 .bf16) : tileOf B 0 2 = ldT B (k0_off3 i k 2#32) (k0_off3_inb i k 2) := (ldT_eq B _ (off3_eq i k 2)).symm
  have e03 (B : Vec F S2x4096x128 .bf16) : tileOf B 0 3 = ldT B (k0_off3 i k 3#32) (k0_off3_inb i k 3) := (ldT_eq B _ (off3_eq i k 3)).symm
  have e10 (B : Vec F S2x4096x128 .bf16) : tileOf B 1 0 = ldT B (k0_off4 i k 0#32) (k0_off4_inb i k 0) := (ldT_eq B _ (off4_eq i k 0)).symm
  have e11 (B : Vec F S2x4096x128 .bf16) : tileOf B 1 1 = ldT B (k0_off4 i k 1#32) (k0_off4_inb i k 1) := (ldT_eq B _ (off4_eq i k 1)).symm
  have e12 (B : Vec F S2x4096x128 .bf16) : tileOf B 1 2 = ldT B (k0_off4 i k 2#32) (k0_off4_inb i k 2) := (ldT_eq B _ (off4_eq i k 2)).symm
  have e13 (B : Vec F S2x4096x128 .bf16) : tileOf B 1 3 = ldT B (k0_off4 i k 3#32) (k0_off4_inb i k 3) := (ldT_eq B _ (off4_eq i k 3)).symm
  simp only [e00, e01, e02, e03, e10, e11, e12, e13]
  unfold tripR_k0_t1 trip_k0_t1
  rfl

/-- After the loop both heads have taken the tiles of the whole groups of four. -/
theorem loop_eq (𝒱 : Variants) (c : Dev nD) (bd : Option 𝒱.V) (i : grid0.Coords) (arg3 : Memref sig .tc .vmem S512x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S512x128 .f32) (harg6 : arg6.IsWhole) (arg7 : Memref sig .tc .vmem S4096x128 .f32) (harg7 : arg7.IsWhole) (arg8 : Memref sig .tc .vmem S512x128 .f32) (harg8 : arg8.IsWhole) (arg9 : Memref sig .tc .vmem S2x4096x128 .bf16) (harg9 : arg9.IsWhole) (arg10 : Memref sig .tc .vmem S2x4096x128 .bf16) (harg10 : arg10.IsWhole)
    (q0 q1 : FVec F S512x128 .bf16) (g9 : BufTy.Contents (Elt F) arg9.view.ty) (g10 : BufTy.Contents (Elt F) arg10.view.ty) (d : ℕ) :
    st_k0_t1 (F := F) 𝒱 c bd i arg3 harg3 arg4 harg4 arg5 harg5 arg6 harg6 arg7 harg7 arg8 harg8 arg9 harg9 arg10 harg10 q0 q1 g9 g10
        (carry (tiles q0 (arg9.view.read (Elt F) g9) (arg10.view.read (Elt F) g10) 0 d 0) (tiles q1 (arg9.view.read (Elt F) g9) (arg10.view.read (Elt F) g10) 1 d 0)) (k0_t1_loop i).trips
      = carry (tiles q0 (arg9.view.read (Elt F) g9) (arg10.view.read (Elt F) g10) 0 d (4 * ((i 2).val / 4))) (tiles q1 (arg9.view.read (Elt F) g9) (arg10.view.read (Elt F) g10) 1 d (4 * ((i 2).val / 4))) := by
  have h1 := trips1 i
  have h8 := lt8 i
  have hc : (i 2).val / 4 = 0 ∨ (i 2).val / 4 = 1 := by omega
  rcases hc with hc | hc
  · rw [h1, hc]; rfl
  · have ht : (k0_t1_loop i).trips = 0 + 1 := by omega
    have hs := st_k0_t1_succ (F := F) 𝒱 c bd i arg3 harg3 arg4 harg4 arg5 harg5 arg6 harg6 arg7 harg7 arg8 harg8 arg9 harg9 arg10 harg10 q0 q1 g9 g10
      (carry (tiles q0 (arg9.view.read (Elt F) g9) (arg10.view.read (Elt F) g10) 0 d 0) (tiles q1 (arg9.view.read (Elt F) g9) (arg10.view.read (Elt F) g10) 1 d 0)) ⟨0, by omega⟩
    rw [ht, hc]
    refine hs.trans ?_
    rw [st_k0_t1_zero, trip_eq]
    rfl

/-- Both heads' states after the two loops, the second of which takes no trip. -/
def looped (𝒱 : Variants) (c : Dev nD) (bd : Option 𝒱.V) (i : grid0.Coords) (arg3 : Memref sig .tc .vmem S512x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S512x128 .f32) (harg6 : arg6.IsWhole) (arg7 : Memref sig .tc .vmem S4096x128 .f32) (harg7 : arg7.IsWhole) (arg8 : Memref sig .tc .vmem S512x128 .f32) (harg8 : arg8.IsWhole) (arg9 : Memref sig .tc .vmem S2x4096x128 .bf16) (harg9 : arg9.IsWhole) (arg10 : Memref sig .tc .vmem S2x4096x128 .bf16) (harg10 : arg10.IsWhole)
    (q0 q1 : FVec F S512x128 .bf16) (w : BitVec 32) (g9 : BufTy.Contents (Elt F) arg9.view.ty) (g10 : BufTy.Contents (Elt F) arg10.view.ty) : FVec F S512x1 .f32 × FVec F S512x128 .f32 × FVec F S512x1 .f32 × FVec F S512x128 .f32 :=
  st_k0_t2 (F := F) 𝒱 c bd i arg3 harg3 arg4 harg4 arg5 harg5 arg6 harg6 arg7 harg7 arg8 harg8 arg9 harg9 arg10 harg10 q0 q1 w g9 g10
    (st_k0_t1 (F := F) 𝒱 c bd i arg3 harg3 arg4 harg4 arg5 harg5 arg6 harg6 arg7 harg7 arg8 harg8 arg9 harg9 arg10 harg10 q0 q1 g9 g10
      (carry (diag q0 (ldT (arg9.view.read (Elt F) g9) (k0_off1 i) (k0_off1_inb i)) (ldT (arg10.view.read (Elt F) g10) (k0_off1 i) (k0_off1_inb i)))
        (diag q1 (ldT (arg9.view.read (Elt F) g9) (k0_off2 i) (k0_off2_inb i)) (ldT (arg10.view.read (Elt F) g10) (k0_off2 i) (k0_off2_inb i))))
      (k0_t1_loop i).trips) (k0_t2_loop i).trips

theorem looped_eq (𝒱 : Variants) (c : Dev nD) (bd : Option 𝒱.V) (i : grid0.Coords) (arg3 : Memref sig .tc .vmem S512x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S512x128 .f32) (harg6 : arg6.IsWhole) (arg7 : Memref sig .tc .vmem S4096x128 .f32) (harg7 : arg7.IsWhole) (arg8 : Memref sig .tc .vmem S512x128 .f32) (harg8 : arg8.IsWhole) (arg9 : Memref sig .tc .vmem S2x4096x128 .bf16) (harg9 : arg9.IsWhole) (arg10 : Memref sig .tc .vmem S2x4096x128 .bf16) (harg10 : arg10.IsWhole)
    (q0 q1 : FVec F S512x128 .bf16) (w : BitVec 32) (g9 : BufTy.Contents (Elt F) arg9.view.ty) (g10 : BufTy.Contents (Elt F) arg10.view.ty) :
    looped 𝒱 c bd i arg3 harg3 arg4 harg4 arg5 harg5 arg6 harg6 arg7 harg7 arg8 harg8 arg9 harg9 arg10 harg10 q0 q1 w g9 g10
      = carry (tiles q0 (arg9.view.read (Elt F) g9) (arg10.view.read (Elt F) g10) 0 (i 2).val (4 * ((i 2).val / 4))) (tiles q1 (arg9.view.read (Elt F) g9) (arg10.view.read (Elt F) g10) 1 (i 2).val (4 * ((i 2).val / 4))) := by
  unfold looped
  rw [trips2, st_k0_t2_zero, ldT_eq _ _ (off1_eq i), ldT_eq _ _ (off1_eq i), ldT_eq _ _ (off2_eq i), ldT_eq _ _ (off2_eq i)]
  exact loop_eq 𝒱 c bd i arg3 harg3 arg4 harg4 arg5 harg5 arg6 harg6 arg7 harg7 arg8 harg8 arg9 harg9 arg10 harg10 q0 q1 g9 g10 (i 2).val

/-- After two more tiles and one more, both heads have taken every tile before the diagonal one. -/
theorem out_both (𝒱 : Variants) (c : Dev nD) (bd : Option 𝒱.V) (i : grid0.Coords) (arg3 : Memref sig .tc .vmem S512x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S512x128 .f32) (harg6 : arg6.IsWhole) (arg7 : Memref sig .tc .vmem S4096x128 .f32) (harg7 : arg7.IsWhole) (arg8 : Memref sig .tc .vmem S512x128 .f32) (harg8 : arg8.IsWhole) (arg9 : Memref sig .tc .vmem S2x4096x128 .bf16) (harg9 : arg9.IsWhole) (arg10 : Memref sig .tc .vmem S2x4096x128 .bf16) (harg10 : arg10.IsWhole)
    (q0 q1 : FVec F S512x128 .bf16) (w : BitVec 32) (g9 : BufTy.Contents (Elt F) arg9.view.ty) (g10 : BufTy.Contents (Elt F) arg10.view.ty)
    (h2 : k0_cond2 i = 1#1) (h3 : k0_cond3 i = 1#1) :
    k0_pay124 (step q0 (ldT (arg9.view.read (Elt F) g9) (k0_off11 i) (k0_off11_inb i h3)) (ldT (arg10.view.read (Elt F) g10) (k0_off11 i) (k0_off11_inb i h3)) (step q0 (ldT (arg9.view.read (Elt F) g9) (k0_off9 i) (k0_off9_inb i h2)) (ldT (arg10.view.read (Elt F) g10) (k0_off9 i) (k0_off9_inb i h2)) (step q0 (ldT (arg9.view.read (Elt F) g9) (k0_off7 i) (k0_off7_inb i h2)) (ldT (arg10.view.read (Elt F) g10) (k0_off7 i) (k0_off7_inb i h2)) ((looped 𝒱 c bd i arg3 harg3 arg4 harg4 arg5 harg5 arg6 harg6 arg7 harg7 arg8 harg8 arg9 harg9 arg10 harg10 q0 q1 w g9 g10).1, (looped 𝒱 c bd i arg3 harg3 arg4 harg4 arg5 harg5 arg6 harg6 arg7 harg7 arg8 harg8 arg9 harg9 arg10 harg10 q0 q1 w g9 g10).2.1)))).2
        (step q1 (ldT (arg9.view.read (Elt F) g9) (k0_off12 i) (k0_off12_inb i h3)) (ldT (arg10.view.read (Elt F) g10) (k0_off12 i) (k0_off12_inb i h3)) (step q1 (ldT (arg9.view.read (Elt F) g9) (k0_off10 i) (k0_off10_inb i h2)) (ldT (arg10.view.read (Elt F) g10) (k0_off10 i) (k0_off10_inb i h2)) (step q1 (ldT (arg9.view.read (Elt F) g9) (k0_off8 i) (k0_off8_inb i h2)) (ldT (arg10.view.read (Elt F) g10) (k0_off8 i) (k0_off8_inb i h2)) ((looped 𝒱 c bd i arg3 harg3 arg4 harg4 arg5 harg5 arg6 harg6 arg7 harg7 arg8 harg8 arg9 harg9 arg10 harg10 q0 q1 w g9 g10).2.2.1, (looped 𝒱 c bd i arg3 harg3 arg4 harg4 arg5 harg5 arg6 harg6 arg7 harg7 arg8 harg8 arg9 harg9 arg10 harg10 q0 q1 w g9 g10).2.2.2)))).2
      = k0_pay124 (tiles q0 (arg9.view.read (Elt F) g9) (arg10.view.read (Elt F) g10) 0 (i 2).val (i 2).val).2 (tiles q1 (arg9.view.read (Elt F) g9) (arg10.view.read (Elt F) g10) 1 (i 2).val (i 2).val).2 := by
  have c2 := cond2_iff i
  have c3 := cond3_iff i
  have h8 := lt8 i
  have hn : (i 2).val = 4 * ((i 2).val / 4) + 3 := by simp only [c2] at h2; simp only [c3] at h3; omega
  rw [looped_eq]
  have e : ∀ (q : FVec F S512x128 .bf16) (hh : ℕ), tiles q (arg9.view.read (Elt F) g9) (arg10.view.read (Elt F) g10) hh (i 2).val (i 2).val = tiles q (arg9.view.read (Elt F) g9) (arg10.view.read (Elt F) g10) hh (i 2).val (4 * ((i 2).val / 4) + 3) := fun q hh => congrArg (tiles q (arg9.view.read (Elt F) g9) (arg10.view.read (Elt F) g10) hh (i 2).val) hn
  rw [e, e]
  have hm : (i 2).val - 1 = 4 * ((i 2).val / 4) + 2 := by omega
  rw [ldT_eq _ _ (off7_eq i), ldT_eq _ _ (off7_eq i), ldT_eq _ _ (off8_eq i), ldT_eq _ _ (off8_eq i), ldT_eq _ _ (off9_eq i), ldT_eq _ _ (off9_eq i), ldT_eq _ _ (off10_eq i), ldT_eq _ _ (off10_eq i), ldT_eq _ _ (off11_eq i h3), ldT_eq _ _ (off11_eq i h3), ldT_eq _ _ (off12_eq i h3), ldT_eq _ _ (off12_eq i h3)]
  rw [hm]
  rfl

/-- After two more tiles, both heads have taken every tile before the diagonal one. -/
theorem out_pair (𝒱 : Variants) (c : Dev nD) (bd : Option 𝒱.V) (i : grid0.Coords) (arg3 : Memref sig .tc .vmem S512x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S512x128 .f32) (harg6 : arg6.IsWhole) (arg7 : Memref sig .tc .vmem S4096x128 .f32) (harg7 : arg7.IsWhole) (arg8 : Memref sig .tc .vmem S512x128 .f32) (harg8 : arg8.IsWhole) (arg9 : Memref sig .tc .vmem S2x4096x128 .bf16) (harg9 : arg9.IsWhole) (arg10 : Memref sig .tc .vmem S2x4096x128 .bf16) (harg10 : arg10.IsWhole)
    (q0 q1 : FVec F S512x128 .bf16) (w : BitVec 32) (g9 : BufTy.Contents (Elt F) arg9.view.ty) (g10 : BufTy.Contents (Elt F) arg10.view.ty)
    (h2 : k0_cond2 i = 1#1) (h3 : ¬ k0_cond3 i = 1#1) :
    k0_pay124 (step q0 (ldT (arg9.view.read (Elt F) g9) (k0_off9 i) (k0_off9_inb i h2)) (ldT (arg10.view.read (Elt F) g10) (k0_off9 i) (k0_off9_inb i h2)) (step q0 (ldT (arg9.view.read (Elt F) g9) (k0_off7 i) (k0_off7_inb i h2)) (ldT (arg10.view.read (Elt F) g10) (k0_off7 i) (k0_off7_inb i h2)) ((looped 𝒱 c bd i arg3 harg3 arg4 harg4 arg5 harg5 arg6 harg6 arg7 harg7 arg8 harg8 arg9 harg9 arg10 harg10 q0 q1 w g9 g10).1, (looped 𝒱 c bd i arg3 harg3 arg4 harg4 arg5 harg5 arg6 harg6 arg7 harg7 arg8 harg8 arg9 harg9 arg10 harg10 q0 q1 w g9 g10).2.1))).2
        (step q1 (ldT (arg9.view.read (Elt F) g9) (k0_off10 i) (k0_off10_inb i h2)) (ldT (arg10.view.read (Elt F) g10) (k0_off10 i) (k0_off10_inb i h2)) (step q1 (ldT (arg9.view.read (Elt F) g9) (k0_off8 i) (k0_off8_inb i h2)) (ldT (arg10.view.read (Elt F) g10) (k0_off8 i) (k0_off8_inb i h2)) ((looped 𝒱 c bd i arg3 harg3 arg4 harg4 arg5 harg5 arg6 harg6 arg7 harg7 arg8 harg8 arg9 harg9 arg10 harg10 q0 q1 w g9 g10).2.2.1, (looped 𝒱 c bd i arg3 harg3 arg4 harg4 arg5 harg5 arg6 harg6 arg7 harg7 arg8 harg8 arg9 harg9 arg10 harg10 q0 q1 w g9 g10).2.2.2))).2
      = k0_pay124 (tiles q0 (arg9.view.read (Elt F) g9) (arg10.view.read (Elt F) g10) 0 (i 2).val (i 2).val).2 (tiles q1 (arg9.view.read (Elt F) g9) (arg10.view.read (Elt F) g10) 1 (i 2).val (i 2).val).2 := by
  have c2 := cond2_iff i
  have c3 := cond3_iff i
  have h8 := lt8 i
  have hn : (i 2).val = 4 * ((i 2).val / 4) + 2 := by simp only [c2] at h2; simp only [c3] at h3; omega
  rw [looped_eq]
  have e : ∀ (q : FVec F S512x128 .bf16) (hh : ℕ), tiles q (arg9.view.read (Elt F) g9) (arg10.view.read (Elt F) g10) hh (i 2).val (i 2).val = tiles q (arg9.view.read (Elt F) g9) (arg10.view.read (Elt F) g10) hh (i 2).val (4 * ((i 2).val / 4) + 2) := fun q hh => congrArg (tiles q (arg9.view.read (Elt F) g9) (arg10.view.read (Elt F) g10) hh (i 2).val) hn
  rw [e, e]
  rw [ldT_eq _ _ (off7_eq i), ldT_eq _ _ (off7_eq i), ldT_eq _ _ (off8_eq i), ldT_eq _ _ (off8_eq i), ldT_eq _ _ (off9_eq i), ldT_eq _ _ (off9_eq i), ldT_eq _ _ (off10_eq i), ldT_eq _ _ (off10_eq i)]
  rfl

/-- After one more tile, both heads have taken every tile before the diagonal one. -/
theorem out_tail (𝒱 : Variants) (c : Dev nD) (bd : Option 𝒱.V) (i : grid0.Coords) (arg3 : Memref sig .tc .vmem S512x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S512x128 .f32) (harg6 : arg6.IsWhole) (arg7 : Memref sig .tc .vmem S4096x128 .f32) (harg7 : arg7.IsWhole) (arg8 : Memref sig .tc .vmem S512x128 .f32) (harg8 : arg8.IsWhole) (arg9 : Memref sig .tc .vmem S2x4096x128 .bf16) (harg9 : arg9.IsWhole) (arg10 : Memref sig .tc .vmem S2x4096x128 .bf16) (harg10 : arg10.IsWhole)
    (q0 q1 : FVec F S512x128 .bf16) (w : BitVec 32) (g9 : BufTy.Contents (Elt F) arg9.view.ty) (g10 : BufTy.Contents (Elt F) arg10.view.ty)
    (h2 : ¬ k0_cond2 i = 1#1) (h3 : k0_cond3 i = 1#1) :
    k0_pay124 (step q0 (ldT (arg9.view.read (Elt F) g9) (k0_off11 i) (k0_off11_inb i h3)) (ldT (arg10.view.read (Elt F) g10) (k0_off11 i) (k0_off11_inb i h3)) ((looped 𝒱 c bd i arg3 harg3 arg4 harg4 arg5 harg5 arg6 harg6 arg7 harg7 arg8 harg8 arg9 harg9 arg10 harg10 q0 q1 w g9 g10).1, (looped 𝒱 c bd i arg3 harg3 arg4 harg4 arg5 harg5 arg6 harg6 arg7 harg7 arg8 harg8 arg9 harg9 arg10 harg10 q0 q1 w g9 g10).2.1)).2
        (step q1 (ldT (arg9.view.read (Elt F) g9) (k0_off12 i) (k0_off12_inb i h3)) (ldT (arg10.view.read (Elt F) g10) (k0_off12 i) (k0_off12_inb i h3)) ((looped 𝒱 c bd i arg3 harg3 arg4 harg4 arg5 harg5 arg6 harg6 arg7 harg7 arg8 harg8 arg9 harg9 arg10 harg10 q0 q1 w g9 g10).2.2.1, (looped 𝒱 c bd i arg3 harg3 arg4 harg4 arg5 harg5 arg6 harg6 arg7 harg7 arg8 harg8 arg9 harg9 arg10 harg10 q0 q1 w g9 g10).2.2.2)).2
      = k0_pay124 (tiles q0 (arg9.view.read (Elt F) g9) (arg10.view.read (Elt F) g10) 0 (i 2).val (i 2).val).2 (tiles q1 (arg9.view.read (Elt F) g9) (arg10.view.read (Elt F) g10) 1 (i 2).val (i 2).val).2 := by
  have c2 := cond2_iff i
  have c3 := cond3_iff i
  have h8 := lt8 i
  have hn : (i 2).val = 4 * ((i 2).val / 4) + 1 := by simp only [c2] at h2; simp only [c3] at h3; omega
  rw [looped_eq]
  have e : ∀ (q : FVec F S512x128 .bf16) (hh : ℕ), tiles q (arg9.view.read (Elt F) g9) (arg10.view.read (Elt F) g10) hh (i 2).val (i 2).val = tiles q (arg9.view.read (Elt F) g9) (arg10.view.read (Elt F) g10) hh (i 2).val (4 * ((i 2).val / 4) + 1) := fun q hh => congrArg (tiles q (arg9.view.read (Elt F) g9) (arg10.view.read (Elt F) g10) hh (i 2).val) hn
  rw [e, e]
  have hm : (i 2).val - 1 = 4 * ((i 2).val / 4) + 0 := by omega
  rw [ldT_eq _ _ (off11_eq i h3), ldT_eq _ _ (off11_eq i h3), ldT_eq _ _ (off12_eq i h3), ldT_eq _ _ (off12_eq i h3)]
  rw [hm]
  rfl

/-- After no more tiles, both heads have taken every tile before the diagonal one. -/
theorem out_none (𝒱 : Variants) (c : Dev nD) (bd : Option 𝒱.V) (i : grid0.Coords) (arg3 : Memref sig .tc .vmem S512x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S512x128 .f32) (harg6 : arg6.IsWhole) (arg7 : Memref sig .tc .vmem S4096x128 .f32) (harg7 : arg7.IsWhole) (arg8 : Memref sig .tc .vmem S512x128 .f32) (harg8 : arg8.IsWhole) (arg9 : Memref sig .tc .vmem S2x4096x128 .bf16) (harg9 : arg9.IsWhole) (arg10 : Memref sig .tc .vmem S2x4096x128 .bf16) (harg10 : arg10.IsWhole)
    (q0 q1 : FVec F S512x128 .bf16) (w : BitVec 32) (g9 : BufTy.Contents (Elt F) arg9.view.ty) (g10 : BufTy.Contents (Elt F) arg10.view.ty)
    (h2 : ¬ k0_cond2 i = 1#1) (h3 : ¬ k0_cond3 i = 1#1) :
    k0_pay124 ((looped 𝒱 c bd i arg3 harg3 arg4 harg4 arg5 harg5 arg6 harg6 arg7 harg7 arg8 harg8 arg9 harg9 arg10 harg10 q0 q1 w g9 g10).1, (looped 𝒱 c bd i arg3 harg3 arg4 harg4 arg5 harg5 arg6 harg6 arg7 harg7 arg8 harg8 arg9 harg9 arg10 harg10 q0 q1 w g9 g10).2.1).2
        ((looped 𝒱 c bd i arg3 harg3 arg4 harg4 arg5 harg5 arg6 harg6 arg7 harg7 arg8 harg8 arg9 harg9 arg10 harg10 q0 q1 w g9 g10).2.2.1, (looped 𝒱 c bd i arg3 harg3 arg4 harg4 arg5 harg5 arg6 harg6 arg7 harg7 arg8 harg8 arg9 harg9 arg10 harg10 q0 q1 w g9 g10).2.2.2).2
      = k0_pay124 (tiles q0 (arg9.view.read (Elt F) g9) (arg10.view.read (Elt F) g10) 0 (i 2).val (i 2).val).2 (tiles q1 (arg9.view.read (Elt F) g9) (arg10.view.read (Elt F) g10) 1 (i 2).val (i 2).val).2 := by
  have c2 := cond2_iff i
  have c3 := cond3_iff i
  have h8 := lt8 i
  have hn : (i 2).val = 4 * ((i 2).val / 4) + 0 := by simp only [c2] at h2; simp only [c3] at h3; omega
  rw [looped_eq]
  have e : ∀ (q : FVec F S512x128 .bf16) (hh : ℕ), tiles q (arg9.view.read (Elt F) g9) (arg10.view.read (Elt F) g10) hh (i 2).val (i 2).val = tiles q (arg9.view.read (Elt F) g9) (arg10.view.read (Elt F) g10) hh (i 2).val (4 * ((i 2).val / 4) + 0) := fun q hh => congrArg (tiles q (arg9.view.read (Elt F) g9) (arg10.view.read (Elt F) g10) hh (i 2).val) hn
  rw [e, e]
  rfl

end Cert.Proof.Fox

end
-- ==== Proof.Body.lean ====
module

public import proofs.«01_k».proof.Proof.Gen.KernelIdeal.Frame
public import proofs.«01_k».proof.Proof.Gen.KernelIdeal.Loops
public import proofs.«01_k».proof.Proof.Gen.KernelIdeal.Skeleton
public import proofs.«01_k».proof.Proof.Flash
public import Idealize.ShloMosaic.Lib.Claim

@[expose] public section

set_option maxRecDepth 8192

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole output block, stored once, is what was stored. -/
theorem coverQ (p : Vec F S512x128 .f32) (y : S512x128.Idx) :
    ∃ pc ∈ ([⟨rQ, p⟩] : List (View.Piece (Elt F) S512x128 .f32)), y ∈ pc.1.set :=
  View.cover_of_tiled [⟨rQ, p⟩] S512x128.size (by rfl) y

/-- The output block after the body, from the query and bias blocks and the slabs. -/
def outOf (i : grid0.Coords) (x0 x3 : Vec F S512x128 .f32) (ka va : Vec F S2x4096x128 .bf16) : Vec F S512x128 .f32 :=
  View.canon [⟨rQ, outPay i x0 x3 ka va⟩]

/-- The body, its first stretch having left the slabs at `ka` and `va`, leaves the output block at `outOf` of them. -/
theorem sound_rest (c : Dev nD) (E : Set ℕ) (i : grid0.Coords) (arg3 : Memref sig .tc .vmem S512x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S512x128 .f32) (harg6 : arg6.IsWhole) (arg7 : Memref sig .tc .vmem S4096x128 .f32) (harg7 : arg7.IsWhole) (arg8 : Memref sig .tc .vmem S512x128 .f32) (harg8 : arg8.IsWhole) (arg9 : Memref sig .tc .vmem S2x4096x128 .bf16) (harg9 : arg9.IsWhole) (arg10 : Memref sig .tc .vmem S2x4096x128 .bf16) (harg10 : arg10.IsWhole)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (g8 : BufTy.Contents (Elt F) arg8.view.ty) (g9 : BufTy.Contents (Elt F) arg9.view.ty) (g10 : BufTy.Contents (Elt F) arg10.view.ty) (ka va : Vec F S2x4096x128 .bf16)
    (hcut : StretchSpec (F := F) c E i arg3 harg3 arg4 harg4 arg5 harg5 arg6 harg6 arg7 harg7 arg8 harg8 arg9 harg9 arg10 harg10 f3 f4 f5 f6 f7 g9 g10 ka va) (K : PUnit → sProp 𝕄) :
    iprop(hold c arg3 f3 ∗ hold c arg4 f4 ∗ hold c arg5 f5 ∗ hold c arg6 f6 ∗ hold c arg7 f7 ∗ hold c arg8 g8 ∗ hold c arg9 g9 ∗ hold c arg10 g10
        ∗ (iprop(hold c arg3 f3 ∗ hold c arg4 f4 ∗ hold c arg5 f5 ∗ hold c arg6 f6 ∗ hold c arg7 f7
          ∗ (∃ g, ⌜arg8.view.read (Elt F) g = outOf i (arg3.view.read (Elt F) f3) (arg6.view.read (Elt F) f6) ka va⌝ ∗ hold c arg8 g)
          ∗ (∃ g, ⌜arg9.view.read (Elt F) g = ka⌝ ∗ hold c arg9 g) ∗ (∃ g, ⌜arg10.view.read (Elt F) g = va⌝ ∗ hold c arg10 g)) -∗ K ⟨⟩) : sProp 𝕄)
      ⊢ wp frame (wpE (defs₀ (F := F)) Variants.none c none) E (cc0_fox_prompt (F := F) i arg3 harg3 arg4 harg4 arg5 harg5 arg6 harg6 arg7 harg7 arg8 harg8 arg9 harg9 arg10 harg10) K := by
  unfold StretchSpec at hcut; simp only [cc0_fox_prompt_eq_skeleton]; unfold cc0_fox_prompt_skel
  iintro ⟨H3, H4, H5, H6, H7, H8, H9, H10, Hk⟩
  by_cases c1 : k0_cond2 i = 1#1 <;> by_cases c2 : k0_cond3 i = 1#1
  · sl_exec (disch := first | sl_exact c1 | sl_exact c2)
    sl_step
    cases hk0_part13_0
    subst hk0_part13_6 hk0_part13_8
    iapply Hk
    isplitl [Hk0_part13_1]; · iexact Hk0_part13_1
    isplitl [Hk0_part13_2]; · iexact Hk0_part13_2
    isplitl [Hk0_part13_3]; · iexact Hk0_part13_3
    isplitl [Hk0_part13_4]; · iexact Hk0_part13_4
    isplitl [Hk0_part13_5]; · iexact Hk0_part13_5
    isplitl [H8]
    · iexists _; isplitr
      swap; · iexact H8
      ipureintro
      refine (View.read_writes_eq_canon _ _ _ (coverQ _)).trans ?_
      unfold outOf
      refine congrArg (fun p : Vec F S512x128 .f32 => View.canon [(⟨rQ, p⟩ : View.Piece (Elt F) S512x128 .f32)]) ?_
      exact out_both Variants.none c none i arg3 harg3 arg4 harg4 arg5 harg5 arg6 harg6 arg7 harg7 arg8 harg8 arg9 harg9 arg10 harg10 (qa0 i (View.ld (arg3.view.read (Elt F) f3) rQ) (View.ld (arg6.view.read (Elt F) f6) rQ)) (qa1 i (View.ld (arg3.view.read (Elt F) f3) rQ) (View.ld (arg6.view.read (Elt F) f6) rQ)) _ gk0_part13_0 gk0_part13_1 c1 c2
    isplitl [Hk0_part13_7]
    · iexists _; isplitr
      swap; · iexact Hk0_part13_7
      ipureintro; rfl
    · iexists _; isplitr
      swap; · iexact Hk0_part13_9
      ipureintro; rfl
  · sl_exec (disch := first | sl_exact c1 | sl_exact c2)
    sl_step
    cases hk0_part13_0
    subst hk0_part13_6 hk0_part13_8
    iapply Hk
    isplitl [Hk0_part13_1]; · iexact Hk0_part13_1
    isplitl [Hk0_part13_2]; · iexact Hk0_part13_2
    isplitl [Hk0_part13_3]; · iexact Hk0_part13_3
    isplitl [Hk0_part13_4]; · iexact Hk0_part13_4
    isplitl [Hk0_part13_5]; · iexact Hk0_part13_5
    isplitl [H8]
    · iexists _; isplitr
      swap; · iexact H8
      ipureintro
      refine (View.read_writes_eq_canon _ _ _ (coverQ _)).trans ?_
      unfold outOf
      refine congrArg (fun p : Vec F S512x128 .f32 => View.canon [(⟨rQ, p⟩ : View.Piece (Elt F) S512x128 .f32)]) ?_
      exact out_pair Variants.none c none i arg3 harg3 arg4 harg4 arg5 harg5 arg6 harg6 arg7 harg7 arg8 harg8 arg9 harg9 arg10 harg10 (qa0 i (View.ld (arg3.view.read (Elt F) f3) rQ) (View.ld (arg6.view.read (Elt F) f6) rQ)) (qa1 i (View.ld (arg3.view.read (Elt F) f3) rQ) (View.ld (arg6.view.read (Elt F) f6) rQ)) _ gk0_part13_0 gk0_part13_1 c1 c2
    isplitl [Hk0_part13_7]
    · iexists _; isplitr
      swap; · iexact Hk0_part13_7
      ipureintro; rfl
    · iexists _; isplitr
      swap; · iexact Hk0_part13_9
      ipureintro; rfl
  · sl_exec (disch := first | sl_exact c1 | sl_exact c2)
    sl_step
    cases hk0_part13_0
    subst hk0_part13_6 hk0_part13_8
    iapply Hk
    isplitl [Hk0_part13_1]; · iexact Hk0_part13_1
    isplitl [Hk0_part13_2]; · iexact Hk0_part13_2
    isplitl [Hk0_part13_3]; · iexact Hk0_part13_3
    isplitl [Hk0_part13_4]; · iexact Hk0_part13_4
    isplitl [Hk0_part13_5]; · iexact Hk0_part13_5
    isplitl [H8]
    · iexists _; isplitr
      swap; · iexact H8
      ipureintro
      refine (View.read_writes_eq_canon _ _ _ (coverQ _)).trans ?_
      unfold outOf
      refine congrArg (fun p : Vec F S512x128 .f32 => View.canon [(⟨rQ, p⟩ : View.Piece (Elt F) S512x128 .f32)]) ?_
      exact out_tail Variants.none c none i arg3 harg3 arg4 harg4 arg5 harg5 arg6 harg6 arg7 harg7 arg8 harg8 arg9 harg9 arg10 harg10 (qa0 i (View.ld (arg3.view.read (Elt F) f3) rQ) (View.ld (arg6.view.read (Elt F) f6) rQ)) (qa1 i (View.ld (arg3.view.read (Elt F) f3) rQ) (View.ld (arg6.view.read (Elt F) f6) rQ)) _ gk0_part13_0 gk0_part13_1 c1 c2
    isplitl [Hk0_part13_7]
    · iexists _; isplitr
      swap; · iexact Hk0_part13_7
      ipureintro; rfl
    · iexists _; isplitr
      swap; · iexact Hk0_part13_9
      ipureintro; rfl
  · sl_exec (disch := first | sl_exact c1 | sl_exact c2)
    sl_step
    cases hk0_part13_0
    subst hk0_part13_6 hk0_part13_8
    iapply Hk
    isplitl [Hk0_part13_1]; · iexact Hk0_part13_1
    isplitl [Hk0_part13_2]; · iexact Hk0_part13_2
    isplitl [Hk0_part13_3]; · iexact Hk0_part13_3
    isplitl [Hk0_part13_4]; · iexact Hk0_part13_4
    isplitl [Hk0_part13_5]; · iexact Hk0_part13_5
    isplitl [H8]
    · iexists _; isplitr
      swap; · iexact H8
      ipureintro
      refine (View.read_writes_eq_canon _ _ _ (coverQ _)).trans ?_
      unfold outOf
      refine congrArg (fun p : Vec F S512x128 .f32 => View.canon [(⟨rQ, p⟩ : View.Piece (Elt F) S512x128 .f32)]) ?_
      exact out_none Variants.none c none i arg3 harg3 arg4 harg4 arg5 harg5 arg6 harg6 arg7 harg7 arg8 harg8 arg9 harg9 arg10 harg10 (qa0 i (View.ld (arg3.view.read (Elt F) f3) rQ) (View.ld (arg6.view.read (Elt F) f6) rQ)) (qa1 i (View.ld (arg3.view.read (Elt F) f3) rQ) (View.ld (arg6.view.read (Elt F) f6) rQ)) _ gk0_part13_0 gk0_part13_1 c1 c2
    isplitl [Hk0_part13_7]
    · iexists _; isplitr
      swap; · iexact Hk0_part13_7
      ipureintro; rfl
    · iexists _; isplitr
      swap; · iexact Hk0_part13_9
      ipureintro; rfl

end Cert.Proof.Fox

end
-- ==== Proof.FoxRun.lean ====
module

public import proofs.«01_k».proof.Proof.Gen.KernelIdeal.Frame
public import proofs.«01_k».proof.Proof.Gen.KernelIdeal.Loops
public import proofs.«01_k».proof.Proof.Gen.KernelIdeal.Skeleton
public import proofs.«01_k».proof.Proof.Body
public import Idealize.ShloMosaic.Lib.Pipeline.ValueKit
public import Idealize.ShloMosaic.Lib.Claim

@[expose] public section

set_option maxRecDepth 8192

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- The body on whole memrefs, the slabs at `s0` and `s1` before it and at `ka` and `va` after its first stretch: the output
    block ends at `outOf` of the blocks and the slabs. The first tile of a head pair refills the slabs, a later one keeps them. -/
theorem sound_kernel (c : Dev nD) (E : Set ℕ) (i : grid0.Coords) (arg3 : Memref sig .tc .vmem S512x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S512x128 .f32) (harg6 : arg6.IsWhole) (arg7 : Memref sig .tc .vmem S4096x128 .f32) (harg7 : arg7.IsWhole) (arg8 : Memref sig .tc .vmem S512x128 .f32) (harg8 : arg8.IsWhole) (arg9 : Memref sig .tc .vmem S2x4096x128 .bf16) (harg9 : arg9.IsWhole) (arg10 : Memref sig .tc .vmem S2x4096x128 .bf16) (harg10 : arg10.IsWhole)
    (x0 : Vec F S512x128 .f32) (x1 x2 : Vec F S4096x128 .f32) (x3 : Vec F S512x128 .f32) (x4 : Vec F S4096x128 .f32) (s0 s1 ka va : Vec F S2x4096x128 .bf16)
    (h : (firstWord i = 1#1 ∧ ka = kaOf (BitVec.ofNat 32 (i 1).val) x1 x4 ∧ va = vaOf x2) ∨ (¬ firstWord i = 1#1 ∧ ka = s0 ∧ va = s1)) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare s0 ∗ owns (c : Thread nD τ) arg10 fullShare s1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outOf i x0 x3 ka va) ∗ owns (c : Thread nD τ) arg9 fullShare ka ∗ owns (c : Thread nD τ) arg10 fullShare va) -∗ K ⟨⟩))
      ⊢ wp frame (wpE (defs₀ (F := F)) Variants.none c none) E (cc0_fox_prompt (F := F) i arg3 harg3 arg4 harg4 arg5 harg5 arg6 harg6 arg7 harg7 arg8 harg8 arg9 harg9 arg10 harg10) K := by
  unfold owns
  iintro ⟨⟨%f3, %h3, H3⟩, ⟨%f4, %h4, H4⟩, ⟨%f5, %h5, H5⟩, ⟨%f6, %h6, H6⟩, ⟨%f7, %h7, H7⟩, ⟨%d8, %f8, -, H8⟩, ⟨%g9, %h9, H9⟩, ⟨%g10, %h10, H10⟩, Hk⟩
  subst h3 h4 h5 h6 h7 h9 h10
  have hcut : StretchSpec (F := F) c E i arg3 harg3 arg4 harg4 arg5 harg5 arg6 harg6 arg7 harg7 arg8 harg8 arg9 harg9 arg10 harg10 f3 f4 f5 f6 f7 g9 g10 ka va := by
    rcases h with ⟨hf, rfl, rfl⟩ | ⟨hf, rfl, rfl⟩
    · exact stretch_first c E i arg3 harg3 arg4 harg4 arg5 harg5 arg6 harg6 arg7 harg7 arg8 harg8 arg9 harg9 arg10 harg10 f3 f4 f5 f6 f7 g9 g10 hf
    · exact stretch_later c E i arg3 harg3 arg4 harg4 arg5 harg5 arg6 harg6 arg7 harg7 arg8 harg8 arg9 harg9 arg10 harg10 f3 f4 f5 f6 f7 g9 g10 hf
  iapply (sound_rest c E i arg3 harg3 arg4 harg4 arg5 harg5 arg6 harg6 arg7 harg7 arg8 harg8 arg9 harg9 arg10 harg10 f3 f4 f5 f6 f7 f8 g9 g10 ka va hcut K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H3, H4, H5, H6, H7, H8, H9, H10⟩
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]; · iexact H8
  isplitl [H9]; · iexact H9
  iexact H10

/-! ## The blocks at a point -/

/-- The block index of each window at a point. -/
theorem idx : ∀ t : Fin cfg0.N, win0_0.index t = ![8 * (t.val / 64) + t.val % 8, t.val / 8 % 8] ∧ win0_1.index t = ![t.val / 64, t.val / 8 % 8]
    ∧ win0_2.index t = ![t.val / 64, t.val / 8 % 8] ∧ win0_3.index t = ![8 * (t.val / 64) + t.val % 8, 0] ∧ win0_4.index t = ![t.val / 64, 0]
    ∧ win0_5.index t = ![8 * (t.val / 64) + t.val % 8, t.val / 8 % 8] :=
  (by decide +kernel : ∀ t : Fin grid0.N, _)
theorem coord1 : ∀ t : Fin cfg0.N, ((grid0.coords t) 1).val = t.val / 8 % 8 := (by decide +kernel : ∀ t : Fin grid0.N, _)
theorem coord2 : ∀ t : Fin cfg0.N, ((grid0.coords t) 2).val = t.val % 8 := (by decide +kernel : ∀ t : Fin grid0.N, _)
theorem first_iff : ∀ t : Fin cfg0.N, firstWord (grid0.coords t) = 1#1 ↔ t.val % 8 = 0 := (by decide +kernel : ∀ t : Fin grid0.N, _)

/-- The key slabs at a point, from its blocks. -/
def kaAt (c : Dev nD) (t : Fin cfg0.N) : Vec F S2x4096x128 .bf16 := kaOf (BitVec.ofNat 32 ((grid0.coords t) 1).val) (iblk m c 1 t) (iblk m c 4 t)
/-- The value slabs. -/
def vaAt (c : Dev nD) (t : Fin cfg0.N) : Vec F S2x4096x128 .bf16 := vaOf (iblk m c 2 t)
/-- The output block. -/
def outAt (c : Dev nD) (t : Fin cfg0.N) : Vec F S512x128 .f32 := outOf (grid0.coords t) (iblk m c 0 t) (iblk m c 3 t) (kaAt m c t) (vaAt m c t)

/-- Blocks at points of equal block index are equal. -/
theorem iblk1_congr (c : Dev nD) {t s : Fin cfg0.N} (h : win0_1.index t = win0_1.index s) : iblk m c 1 t = iblk m c 1 s := by
  funext y; unfold iblk; blk_ext [h]
theorem iblk2_congr (c : Dev nD) {t s : Fin cfg0.N} (h : win0_2.index t = win0_2.index s) : iblk m c 2 t = iblk m c 2 s := by
  funext y; unfold iblk; blk_ext [h]
theorem iblk4_congr (c : Dev nD) {t s : Fin cfg0.N} (h : win0_4.index t = win0_4.index s) : iblk m c 4 t = iblk m c 4 s := by
  funext y; unfold iblk; blk_ext [h]

/-- Within a head pair the slabs do not change. -/
theorem slabs_prev (c : Dev nD) (t s : Fin cfg0.N) (hs : s.val + 1 = t.val) (h : ¬ t.val % 8 = 0) : kaAt m c t = kaAt m c s ∧ vaAt m c t = vaAt m c s := by
  have h64 : t.val / 64 = s.val / 64 := by omega
  have h8 : t.val / 8 % 8 = s.val / 8 % 8 := by omega
  have e1 : iblk m c 1 t = iblk m c 1 s := iblk1_congr m c (by rw [(idx t).2.1, (idx s).2.1, h64, h8])
  have e2 : iblk m c 2 t = iblk m c 2 s := iblk2_congr m c (by rw [(idx t).2.2.1, (idx s).2.2.1, h64, h8])
  have e4 : iblk m c 4 t = iblk m c 4 s := iblk4_congr m c (by rw [(idx t).2.2.2.2.1, (idx s).2.2.2.2.1, h64])
  unfold kaAt vaAt
  rw [coord1 t, coord1 s, h8, e1, e2, e4]
  exact ⟨rfl, rfl⟩

/-! ## The proof data -/

/-- The slabs between points: after a point they hold what it computed from its blocks. -/
def carried (c : Dev nD) (k : ℕ) : sProp 𝕄 :=
  iprop(∃ s0 s1 : Vec F S2x4096x128 .bf16, ⌜∀ t : Fin cfg0.N, t.val + 1 = k → s0 = kaAt m c t ∧ s1 = vaAt m c t⌝
    ∗ owns (c : Thread nD τ) (Memref.whole cc0_scratch0) fullShare s0 ∗ owns (c : Thread nD τ) (Memref.whole cc0_scratch1) fullShare s1 ∗ (∃ r, prngReg c r))

/-- The proof data: inputs keep their blocks, the output block is `outAt`, the slabs are `carried`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ k := carried m c k.val
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem Φ_pre (c : Dev nD) (t : Fin cfg0.N) : (dats m 0 c).Φ t.castSucc = carried m c t.val := by dsimp only [dats]; exact Pipeline.Dat.Φ_castSucc (fun n _ => carried m c n) t
theorem Φ_post (c : Dev nD) (t : Fin cfg0.N) : (dats m 0 c).Φ t.succ = carried m c (t.val + 1) := rfl

/-! ## The body at a point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [Φ_pre, Φ_post, show (dats m 0 c).owesAt () t.succ = (dats m 0 c).owesAt () t.castSucc from rfl,
    after0_0, after0_1, after0_2, after0_3, after0_4, after0_5]
  unfold carried
  iintro ⟨⟨%s0, %s1, %hs, HA, HB, Hr⟩, Ho, ⟨%d0, H0⟩, ⟨%d1, H1⟩, ⟨%d2, H2⟩, ⟨%d3, H3⟩, ⟨%d4, H4⟩, ⟨%d5, H5⟩⟩
  have hcase : (firstWord (grid0.coords t) = 1#1 ∧ kaAt m c t = kaOf (BitVec.ofNat 32 ((grid0.coords t) 1).val) (iblk m c 1 t) (iblk m c 4 t) ∧ vaAt m c t = vaOf (iblk m c 2 t))
      ∨ (¬ firstWord (grid0.coords t) = 1#1 ∧ kaAt m c t = s0 ∧ vaAt m c t = s1) := by
    by_cases hf : t.val % 8 = 0
    · exact .inl ⟨(first_iff t).2 hf, rfl, rfl⟩
    · have hp := hs ⟨t.val - 1, by have := t.isLt; omega⟩ (by show t.val - 1 + 1 = t.val; omega)
      have hq := slabs_prev m c t ⟨t.val - 1, by have := t.isLt; omega⟩ (by show t.val - 1 + 1 = t.val; omega) hf
      exact .inr ⟨fun h => hf ((first_iff t).1 h), hq.1.trans hp.1.symm, hq.2.trans hp.2.symm⟩
  iapply (sound_kernel c Set.univ (grid0.coords t) _ _ _ _ _ _ _ _ _ _ _ _ _ _ _ _ (iblk m c 0 t) (iblk m c 1 t) (iblk m c 2 t) (iblk m c 3 t) (iblk m c 4 t) s0 s1 (kaAt m c t) (vaAt m c t) hcase _)
  isplitl [H0]; · iexact H0
  isplitl [H1]; · iexact H1
  isplitl [H2]; · iexact H2
  isplitl [H3]; · iexact H3
  isplitl [H4]; · iexact H4
  isplitl [H5]; · iexists _; iexact H5
  isplitl [HA]; · iexact HA
  isplitl [HB]; · iexact HB
  iintro ⟨H0, H1, H2, H3, H4, H5, HA, HB⟩
  isplitl [HA HB Hr]
  · iexists _; iexists _
    isplitr
    swap
    · isplitl [HA]; · iexact HA
      isplitl [HB]; · iexact HB
      iexact Hr
    ipureintro
    intro t' ht'
    have : t' = t := Fin.ext (by omega)
    subst this
    exact ⟨rfl, rfl⟩
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem enter (c : Dev nD) : (Pipeline.ΦA spec0 c : sProp 𝕄) ⊢ (dats m 0 c).Φ 0 := by
  rw [show (dats m 0 c).Φ 0 = carried m c 0 from rfl]
  unfold Pipeline.ΦA carried
  rw [scopedRest0_eq]
  simp only [owns_whole]
  iintro ⟨⟨⟨%f0, H0⟩, ⟨%f1, H1⟩⟩, Hr⟩
  iexists f0; iexists f1
  isplitr
  · ipureintro; intro t ht; omega
  isplitl [H0]; · iexact H0
  isplitl [H1]; · iexact H1
  iexact Hr

theorem leave (c : Dev nD) : (dats m 0 c).Φ (Fin.last cfg0.N) ⊢ (Pipeline.ΦA spec0 c : sProp 𝕄) := by
  rw [show (dats m 0 c).Φ (Fin.last cfg0.N) = carried m c cfg0.N from rfl]
  unfold Pipeline.ΦA carried
  rw [scopedRest0_eq]
  simp only [owns_whole]
  iintro ⟨%f0, %f1, -, H0, H1, Hr⟩
  isplitl [H0 H1]
  · isplitl [H0]
    · iexists f0; iexact H0
    · iexists f1; iexact H1
  iexact Hr

set_option backward.isDefEq.respectTransparency.types false in
/-- The run: every array of the launch ends at what the proof data says of it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := enter m) (hout := leave m)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.Proof.Fox

end
-- ==== Proof.Frames.lean ====
/-
The frame claims: each program ends without fault, leaves its arguments as they were and every semaphore counter at zero.
-/
module

public import proofs.«01_k».proof.Defs
public import proofs.«01_k».proof.Proof.FoxRun
public import proofs.«01_k».proof.Proof.Gen.ReferenceIdeal.Run
public import proofs.«01_k».proof.Proof.Gen.Kernel
public import proofs.«01_k».proof.Proof.Gen.Ffn.Frame
public import proofs.«01_k».proof.Proof.Gen.FfnIdeal.Frame
public import proofs.«01_k».proof.Proof.Gen.FfnReferenceIdeal.Run
public import proofs.«01_k».proof.Proof.Gen.EvenProj.Frame
public import proofs.«01_k».proof.Proof.Gen.EvenProjIdeal.Frame
public import proofs.«01_k».proof.Proof.Gen.EvenProjReferenceIdeal.Run
public import proofs.«01_k».proof.Proof.Gen.OddProj.Frame
public import proofs.«01_k».proof.Proof.Gen.OddProjIdeal.Frame
public import proofs.«01_k».proof.Proof.Gen.OddProjReferenceIdeal.Run
public import proofs.«01_k».proof.Proof.Gen.SampleEvenProj.Frame
public import proofs.«01_k».proof.Proof.Gen.SampleEvenProjIdeal.Frame
public import proofs.«01_k».proof.Proof.Gen.SampleEvenProjReferenceIdeal.Run
public import proofs.«01_k».proof.Proof.Gen.SampleOddProj.Frame
public import proofs.«01_k».proof.Proof.Gen.SampleOddProjIdeal.Frame
public import proofs.«01_k».proof.Proof.Gen.SampleOddProjReferenceIdeal.Run
public import proofs.«01_k».proof.Proof.Gen.EvenFfn.Frame
public import proofs.«01_k».proof.Proof.Gen.EvenFfnIdeal.Frame
public import proofs.«01_k».proof.Proof.Gen.EvenFfnReferenceIdeal.Run
public import proofs.«01_k».proof.Proof.Gen.SampleFfn.Frame
public import proofs.«01_k».proof.Proof.Gen.FoxGates.Frame
public import proofs.«01_k».proof.Proof.Gen.SampleMlstm.Frame
public import proofs.«01_k».proof.Proof.Gen.SampleFfnIdeal.Frame
public import proofs.«01_k».proof.Proof.Gen.FoxGatesIdeal.Frame
public import proofs.«01_k».proof.Proof.Gen.SampleMlstmIdeal.Frame
public import proofs.«01_k».proof.Proof.Gen.SampleFfnReferenceIdeal.Run
public import proofs.«01_k».proof.Proof.Gen.FoxGatesReferenceIdeal.Run
public import proofs.«01_k».proof.Proof.Gen.SampleMlstmReferenceIdeal.Run

@[expose] public section

noncomputable section

namespace Cert.Proof.Frames

open Idealize.ShloMosaic Idealize.SL.Sem

/-- The two printings of the attention kernel have the same body, so the same definitions. -/
theorem body_eq : @Cert.Kernel.cc0_fox_prompt Bits _ _ = @Cert.KernelIdeal.cc0_fox_prompt Bits _ _ := rfl
theorem defs0_eq : Cert.Kernel.defs₀ (F := Bits) = Cert.KernelIdeal.defs₀ (F := Bits) := by
  unfold Cert.Kernel.defs₀ Cert.KernelIdeal.defs₀
  refine congrArg (Defs.onTc (Λ := Cert.KernelIdeal.Λ₀)) (funext fun l => funext fun a => ?_)
  match l, a with
  | 0, (t, s) => exact rfl
theorem defs_eq : Cert.Kernel.defs (F := Bits) = Cert.KernelIdeal.defs (F := Bits) := congrArg (Pipeline.defs Cert.KernelIdeal.pcfgs) defs0_eq
/-- The attention kernel: the run of its other printing. -/
theorem kernel : Cert.quiescent_Kernel := by
  intro m ρ _
  rw [defs_eq]
  exact Cert.Proof.Fox.frame (F := Bits) m ρ
/-- The attention kernel over the reals. -/
theorem kernelIdeal : Cert.quiescent_KernelIdeal := fun m ρ _ => Cert.Proof.Fox.frame (F := Ideal) m ρ
/-- Textbook attention over the reals. -/
theorem referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- The layer-closing kernel. -/
theorem ffn : Cert.quiescent_Ffn := fun m ρ _ => Cert.Ffn.Gen.frame m ρ
/-- The layer-closing kernel over the reals. -/
theorem ffnIdeal : Cert.quiescent_FfnIdeal := fun m ρ _ => Cert.FfnIdeal.Gen.frame m ρ
/-- The layer's textbook lines over the reals. -/
theorem ffnReferenceIdeal : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)
/-- The projection of an even layer: the kernel, the kernel over the reals, the textbook lines over the reals. -/
theorem evenProj : Cert.quiescent_EvenProj := fun m ρ _ => Cert.EvenProj.Gen.frame m ρ
theorem evenProjIdeal : Cert.quiescent_EvenProjIdeal := fun m ρ _ => Cert.EvenProjIdeal.Gen.frame m ρ
theorem evenProjReferenceIdeal : Cert.quiescent_EvenProjReferenceIdeal := fun m ρ _ =>
  (θ_run Cert.EvenProjReferenceIdeal.defs _ _).mono (fun r h => ⟨fun c => (h c).2.2.2.2.2.2.2.2.2.2, sem_eq_zero_of_no_sems (by decide) r.2⟩)
    (Cert.EvenProjReferenceIdeal.Value.run (F := Ideal) m ρ)
/-- The projection of an odd layer: the kernel, the kernel over the reals, the textbook lines over the reals. -/
theorem oddProj : Cert.quiescent_OddProj := fun m ρ _ => Cert.OddProj.Gen.frame m ρ
theorem oddProjIdeal : Cert.quiescent_OddProjIdeal := fun m ρ _ => Cert.OddProjIdeal.Gen.frame m ρ
theorem oddProjReferenceIdeal : Cert.quiescent_OddProjReferenceIdeal := fun m ρ _ =>
  (θ_run Cert.OddProjReferenceIdeal.defs _ _).mono (fun r h => ⟨fun c => (h c).2.2.2.2.2.2, sem_eq_zero_of_no_sems (by decide) r.2⟩)
    (Cert.OddProjReferenceIdeal.Value.run (F := Ideal) m ρ)
/-- The projection of an even layer on the sample batch: the kernel, the kernel over the reals, the textbook lines over the reals. -/
theorem sampleEvenProj : Cert.quiescent_SampleEvenProj := fun m ρ _ => Cert.SampleEvenProj.Gen.frame m ρ
theorem sampleEvenProjIdeal : Cert.quiescent_SampleEvenProjIdeal := fun m ρ _ => Cert.SampleEvenProjIdeal.Gen.frame m ρ
theorem sampleEvenProjReferenceIdeal : Cert.quiescent_SampleEvenProjReferenceIdeal := fun m ρ _ =>
  (θ_run Cert.SampleEvenProjReferenceIdeal.defs _ _).mono (fun r h => ⟨fun c => (h c).2.2.2.2.2.2.2.2, sem_eq_zero_of_no_sems (by decide) r.2⟩)
    (Cert.SampleEvenProjReferenceIdeal.Value.run (F := Ideal) m ρ)
/-- The projection of an odd layer on the sample batch: the kernel, the kernel over the reals, the textbook lines over the reals. -/
theorem sampleOddProj : Cert.quiescent_SampleOddProj := fun m ρ _ => Cert.SampleOddProj.Gen.frame m ρ
theorem sampleOddProjIdeal : Cert.quiescent_SampleOddProjIdeal := fun m ρ _ => Cert.SampleOddProjIdeal.Gen.frame m ρ
theorem sampleOddProjReferenceIdeal : Cert.quiescent_SampleOddProjReferenceIdeal := fun m ρ _ =>
  (θ_run Cert.SampleOddProjReferenceIdeal.defs _ _).mono (fun r h => ⟨fun c => (h c).2.2.2.2, sem_eq_zero_of_no_sems (by decide) r.2⟩)
    (Cert.SampleOddProjReferenceIdeal.Value.run (F := Ideal) m ρ)
/-- The closing call of an even layer: the kernel, the kernel over the reals, the textbook lines over the reals. -/
theorem evenFfn : Cert.quiescent_EvenFfn := fun m ρ _ => Cert.EvenFfn.Gen.frame m ρ
theorem evenFfnIdeal : Cert.quiescent_EvenFfnIdeal := fun m ρ _ => Cert.EvenFfnIdeal.Gen.frame m ρ
theorem evenFfnReferenceIdeal : Cert.quiescent_EvenFfnReferenceIdeal := fun m ρ _ =>
  (θ_run Cert.EvenFfnReferenceIdeal.defs _ _).mono (fun r h => ⟨fun c => (h c).2, sem_eq_zero_of_no_sems (by decide) r.2⟩)
    (Cert.EvenFfnReferenceIdeal.Value.run (F := Ideal) m ρ)
/-- The closing call of the last layer on the sample batch: the kernel, the kernel over the reals, the textbook lines over the reals. -/
theorem sampleFfn : Cert.quiescent_SampleFfn := fun m ρ _ => Cert.SampleFfn.Gen.frame m ρ
theorem sampleFfnIdeal : Cert.quiescent_SampleFfnIdeal := fun m ρ _ => Cert.SampleFfnIdeal.Gen.frame m ρ
theorem sampleFfnReferenceIdeal : Cert.quiescent_SampleFfnReferenceIdeal := fun m ρ _ =>
  (θ_run Cert.SampleFfnReferenceIdeal.defs _ _).mono (fun r h => ⟨fun c => (h c).2, sem_eq_zero_of_no_sems (by decide) r.2⟩)
    (Cert.SampleFfnReferenceIdeal.Value.run (F := Ideal) m ρ)
/-- The forget gates' call: the kernel, the kernel over the reals, the textbook lines over the reals. -/
theorem foxGates : Cert.quiescent_FoxGates := fun m ρ _ => Cert.FoxGates.Gen.frame m ρ
theorem foxGatesIdeal : Cert.quiescent_FoxGatesIdeal := fun m ρ _ => Cert.FoxGatesIdeal.Gen.frame m ρ
theorem foxGatesReferenceIdeal : Cert.quiescent_FoxGatesReferenceIdeal := fun m ρ _ =>
  (θ_run Cert.FoxGatesReferenceIdeal.defs _ _).mono (fun r h => ⟨fun c => (h c).2.2, sem_eq_zero_of_no_sems (by decide) r.2⟩)
    (Cert.FoxGatesReferenceIdeal.Value.run (F := Ideal) m ρ)
/-- The sample's matrix-memory call: the kernel, the kernel over the reals, the textbook lines over the reals. -/
theorem sampleMlstm : Cert.quiescent_SampleMlstm := fun m ρ _ => Cert.SampleMlstm.Gen.frame m ρ
theorem sampleMlstmIdeal : Cert.quiescent_SampleMlstmIdeal := fun m ρ _ => Cert.SampleMlstmIdeal.Gen.frame m ρ
theorem sampleMlstmReferenceIdeal : Cert.quiescent_SampleMlstmReferenceIdeal := fun m ρ _ =>
  (θ_run Cert.SampleMlstmReferenceIdeal.defs _ _).mono (fun r h => ⟨fun c => (h c).2.2.2.2, sem_eq_zero_of_no_sems (by decide) r.2⟩)
    (Cert.SampleMlstmReferenceIdeal.Value.run (F := Ideal) m ρ)

end Cert.Proof.Frames
-- ==== Proof.FfnBlock.lean ====
/-
The output block that one grid point of the layer-closing kernel writes is the block of the textbook
formula at the same rows: projection and residual, RMS norm, gated feed-forward, residual, RMS norm.
-/
module

public import proofs.«01_k».proof.Proof.Gen.FfnIdeal.Value
public import proofs.«01_k».proof.Proof.Gen.FfnReferenceIdeal.Read
public import Idealize.ShloMosaic.Lib.Pointwise

@[expose] public section

noncomputable section

namespace Cert.Proof.Ffn

open Idealize.ShloMosaic Idealize.ShloMosaic.TcCoe Idealize.SL.Sem
open scoped BigOperators
open Cert.FfnIdeal Cert.FfnIdeal.Gen

/-- Row `512 t + r` of the whole arrays, the row that grid point `t` holds at row `r` of its block. -/
def rowOf (t : Fin 32) (r : Fin 512) : Fin 16384 := ⟨512 * t.val + r.val, by omega⟩

theorem block_eq (t : Fin 32)
    (P0 P1 : Vec Ideal S512x1024 .f32) (P2 : Vec Ideal S1024x1024 .bf16) (P3 : Vec Ideal S1x1024 .f32)
    (P4 P5 : Vec Ideal S1024x2816 .bf16) (P6 : Vec Ideal S2816x1024 .bf16) (P7 : Vec Ideal S1x1024 .f32)
    (x0 x1 : (⟨S16384x1024, .f32⟩ : BufTy).Contents (Elt Ideal)) (x2 : (⟨S1024x1024, .f32⟩ : BufTy).Contents (Elt Ideal))
    (x3 x4 : (⟨S1024, .f32⟩ : BufTy).Contents (Elt Ideal)) (x5 x6 : (⟨S1024x2816, .f32⟩ : BufTy).Contents (Elt Ideal))
    (x7 : (⟨S2816x1024, .f32⟩ : BufTy).Contents (Elt Ideal))
    (h0 : ∀ r j, P0 (ix2 r j) = x0 (ix2 (rowOf t r) j)) (h1 : ∀ r j, P1 (ix2 r j) = x1 (ix2 (rowOf t r) j))
    (h2 : ∀ k j, P2 (ix2 k j) = x2 (ix2 k j)) (h3 : ∀ j, P3 (ix2 0 j) = x3 (ix1 j))
    (h4 : ∀ k j, P4 (ix2 k j) = x5 (ix2 k j)) (h5 : ∀ k j, P5 (ix2 k j) = x6 (ix2 k j))
    (h6 : ∀ k j, P6 (ix2 k j) = x7 (ix2 k j)) (h7 : ∀ j, P7 (ix2 0 j) = x4 (ix1 j)) (r : Fin 512) (j : Fin 1024) :
    k0_pay1 (k0_pay2 P0 P1 P2 P3 P4 P5 P6) P7 (ix2 r j)
      = Cert.FfnReferenceIdeal.Read.val_main_v33 (F := Ideal) x0 x1 x2 x3 x4 x5 x6 x7 (ix2 (rowOf t r) j) := by
  pointwise [k0_pay1, k0_pay2, Cert.FfnReferenceIdeal.Read.val_main_v0, Cert.FfnReferenceIdeal.Read.val_main_v1, Cert.FfnReferenceIdeal.Read.val_main_v2, Cert.FfnReferenceIdeal.Read.val_main_cst, Cert.FfnReferenceIdeal.Read.val_main_v3, Cert.FfnReferenceIdeal.Read.val_main_v4, Cert.FfnReferenceIdeal.Read.val_main_cst_0, Cert.FfnReferenceIdeal.Read.val_main_v5, Cert.FfnReferenceIdeal.Read.val_main_v6, Cert.FfnReferenceIdeal.Read.val_main_cst_1, Cert.FfnReferenceIdeal.Read.val_main_v7, Cert.FfnReferenceIdeal.Read.val_main_v8, Cert.FfnReferenceIdeal.Read.val_main_v9, Cert.FfnReferenceIdeal.Read.val_main_v10, Cert.FfnReferenceIdeal.Read.val_main_v11, Cert.FfnReferenceIdeal.Read.val_main_v12, Cert.FfnReferenceIdeal.Read.val_main_v13, Cert.FfnReferenceIdeal.Read.val_main_v14, Cert.FfnReferenceIdeal.Read.val_main_v15, Cert.FfnReferenceIdeal.Read.val_main_call0_v0, Cert.FfnReferenceIdeal.Read.val_main_call0_v1, Cert.FfnReferenceIdeal.Read.val_main_call0_cst, Cert.FfnReferenceIdeal.Read.val_main_call0_v2, Cert.FfnReferenceIdeal.Read.val_main_call0_v3, Cert.FfnReferenceIdeal.Read.val_main_call0_cst_0, Cert.FfnReferenceIdeal.Read.val_main_call0_v4, Cert.FfnReferenceIdeal.Read.val_main_call0_v5, Cert.FfnReferenceIdeal.Read.val_main_v16, Cert.FfnReferenceIdeal.Read.val_main_v17, Cert.FfnReferenceIdeal.Read.val_main_v18, Cert.FfnReferenceIdeal.Read.val_main_v19, Cert.FfnReferenceIdeal.Read.val_main_v20, Cert.FfnReferenceIdeal.Read.val_main_v21, Cert.FfnReferenceIdeal.Read.val_main_cst_2, Cert.FfnReferenceIdeal.Read.val_main_v22, Cert.FfnReferenceIdeal.Read.val_main_v23, Cert.FfnReferenceIdeal.Read.val_main_cst_3, Cert.FfnReferenceIdeal.Read.val_main_v24, Cert.FfnReferenceIdeal.Read.val_main_v25, Cert.FfnReferenceIdeal.Read.val_main_cst_4, Cert.FfnReferenceIdeal.Read.val_main_v26, Cert.FfnReferenceIdeal.Read.val_main_v27, Cert.FfnReferenceIdeal.Read.val_main_v28, Cert.FfnReferenceIdeal.Read.val_main_v29, Cert.FfnReferenceIdeal.Read.val_main_v30, Cert.FfnReferenceIdeal.Read.val_main_v31, Cert.FfnReferenceIdeal.Read.val_main_v32, Cert.FfnReferenceIdeal.Read.val_main_v33]
  simp only [h0, h1, h2, h3, h4, h5, h6, h7]
  rfl

end Cert.Proof.Ffn
-- ==== Proof.FfnValue.lean ====
/-
The layer-closing kernel computes the textbook formula: its output array, assembled from the blocks of
the 32 grid points, is the reference's result of the same arguments.
-/
module

public import proofs.«01_k».proof.Proof.FfnBlock
public import proofs.«01_k».proof.Proof.Gen.FfnReferenceIdeal.Run
public import proofs.«01_k».proof.Defs
public import Idealize.ShloMosaic.Lib.Pipeline.ValueKit
public import Idealize.ShloMosaic.Lib.StableHlo.ReadAt

@[expose] public section

noncomputable section

namespace Cert.Proof.Ffn

open Idealize.ShloMosaic Idealize.ShloMosaic.TcCoe Idealize.SL.Sem
open Cert.FfnIdeal Cert.FfnIdeal.Gen

variable (m : (ℓ : Loc nD τ sig) → Buf (Elt Ideal) ℓ)

/-- The block index of each row-tiled window at a point; the weights' windows stay at the origin. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)

/-- The reference's result of the kernel's arguments. -/
def want (c : Dev nD) : (⟨S16384x1024, .f32⟩ : BufTy).Contents (Elt Ideal) :=
  Cert.FfnReferenceIdeal.Read.val_main_v33 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

section reads
variable (c : Dev nD) (t : Fin cfg0.N)

/-- The blocks of a point, read from the arguments. -/
theorem read0 (r : Fin 512) (j : Fin 1024) : (iblk m c 0 t) (ix2 r j) = m ((c : Thread nD τ).loc main_arg0) (ix2 (rowOf t r) j) := by
  blk_point [iblk, V, rowOf, idx t]
theorem read1 (r : Fin 512) (j : Fin 1024) : (iblk m c 1 t) (ix2 r j) = m ((c : Thread nD τ).loc main_arg1) (ix2 (rowOf t r) j) := by
  blk_point [iblk, V, rowOf, idx t]
theorem read2 (k : Fin 1024) (j : Fin 1024) : (iblk m c 2 t) (ix2 k j) = m ((c : Thread nD τ).loc main_arg2) (ix2 k j) := by
  blk_point [iblk, V, idx t]
theorem read3 (j : Fin 1024) : (iblk m c 3 t) (ix2 0 j) = m ((c : Thread nD τ).loc main_arg3) (ix1 j) := by
  blk_point [iblk, V, idx t]
theorem read4 (j : Fin 1024) : (iblk m c 4 t) (ix2 0 j) = m ((c : Thread nD τ).loc main_arg4) (ix1 j) := by
  blk_point [iblk, V, idx t]
theorem read5 (k : Fin 1024) (j : Fin 2816) : (iblk m c 5 t) (ix2 k j) = m ((c : Thread nD τ).loc main_arg5) (ix2 k j) := by
  blk_point [iblk, V, idx t]
theorem read6 (k : Fin 1024) (j : Fin 2816) : (iblk m c 6 t) (ix2 k j) = m ((c : Thread nD τ).loc main_arg6) (ix2 k j) := by
  blk_point [iblk, V, idx t]
theorem read7 (k : Fin 2816) (j : Fin 1024) : (iblk m c 7 t) (ix2 k j) = m ((c : Thread nD τ).loc main_arg7) (ix2 k j) := by
  blk_point [iblk, V, idx t]
end reads

/-- The kernel's output array is the reference's result. -/
theorem final (c : Dev nD) : (dats m 0 c).arrAt 8 cfg0.N = want m c := by
  refine (dats m 0 c).arrAt_eq_of_covers 8 _ (by decide +kernel) fun t hf y => ?_
  blk_simp
  rw [after0_8]
  frame_out
  idx_vars y
  have e : (win0_8.blk t).view.emb (ix2 y0 y1) = ix2 (rowOf t y0) y1 := by blk_ext [rowOf, idx t]
  rw [e]
  exact block_eq t _ _ _ _ _ _ _ _ _ _ _ _ _ _ _ _ (read0 m c t) (read1 m c t) (read2 m c t) (read3 m c t) (read5 m c t) (read6 m c t)
    (read7 m c t) (read4 m c t) y0 y1

/-- Over the reals the layer-closing kernel and the textbook formula have the same result on the same arguments. -/
theorem algebraic : Cert.algebraic_FfnIdeal_FfnReferenceIdeal := by
  intro m ρ m' ρ' _ hagree
  refine ⟨fun c => want m c, (θ_run Cert.FfnIdeal.defs _ _).mono (fun _ h c => ⟨(h c).1.trans (final m c), (h c).2⟩) (Cert.FfnIdeal.Value.run_blocks m ρ), ?_⟩
  refine (θ_run Cert.FfnReferenceIdeal.defs _ _).mono (fun _ h c => ?_) (Cert.FfnReferenceIdeal.Value.run (F := Ideal) m' ρ')
  refine ⟨(h c).1.trans ?_, (h c).2⟩
  rw [Cert.FfnReferenceIdeal.Read.val_main_v33_eq]
  obtain ⟨h0, h1, h2, h3, h4, h5, h6, h7⟩ := hagree c
  unfold want
  rw [h0, h1, h2, h3, h4, h5, h6, h7]

end Cert.Proof.Ffn
-- ==== Proof.FoxMath.lean ====
/-
Softmax of one row, taken a tile of keys at a time. A row's state is a real maximum and sums weighted by the
exponentials of the scores less that maximum; moving the maximum multiplies every sum by one positive real, so
the quotient of two sums does not depend on it. The values may be any extended reals: the weights are
nonnegative reals, which distribute over every sum.
-/
module

public import Idealize.ShloMosaic.Lib.Pointwise
public import Idealize.ShloMosaic.PureOps.Ideal.Laws

@[expose] public section

noncomputable section

namespace Cert.Proof.FoxMath

open Idealize.ShloMosaic
open scoped BigOperators

/-! ## Keys by tile -/

/-- Key `x` of tile `n`. -/
def key (n : ℕ) (x : Fin 512) : Fin 4096 := ⟨512 * (n % 8) + x.val, by have := x.isLt; omega⟩

/-- The keys a row `r` of tile `d` has met after the diagonal tile and the first `n` tiles. -/
def seen (d r n : ℕ) : Finset (Fin 4096) := Finset.univ.filter fun k => (k.val / 512 = d ∧ k.val % 512 ≤ r) ∨ k.val / 512 < n

theorem sum_tile {M : Type} [AddCommMonoid M] (n : ℕ) (hn : n < 8) (f : Fin 4096 → M) (P : ℕ → Prop) [DecidablePred P] :
    ∑ x : Fin 512 with P x.val, f (key n x) = ∑ k : Fin 4096 with k.val / 512 = n ∧ P (k.val % 512), f k := by
  refine Finset.sum_nbij (key n) ?_ ?_ ?_ (fun _ _ => rfl)
  · intro x hx
    have hx' := x.isLt
    simp only [Finset.mem_filter, Finset.mem_univ, true_and, key] at hx ⊢
    have e : (512 * (n % 8) + x.val) % 512 = x.val := by omega
    exact ⟨by omega, by rw [e]; exact hx⟩
  · intro x _ y _ h
    have := congrArg Fin.val h
    simp only [key] at this
    exact Fin.ext (by omega)
  · intro k hk
    simp only [Finset.coe_filter, Finset.mem_univ, true_and, Set.mem_setOf_eq] at hk
    refine ⟨⟨k.val % 512, by omega⟩, ?_, Fin.ext ?_⟩
    · simpa using hk.2
    · show 512 * (n % 8) + k.val % 512 = k.val
      have := hk.1
      omega

theorem sum_first {M : Type} [AddCommMonoid M] (d r : ℕ) (hd : d < 8) (f : Fin 4096 → M) :
    ∑ x : Fin 512, (if x.val ≤ r then f (key d x) else 0) = ∑ k ∈ seen d r 0, f k := by
  rw [← Finset.sum_filter, sum_tile d hd f (fun x => x ≤ r)]
  refine Finset.sum_congr ?_ (fun _ _ => rfl)
  ext k
  simp [seen]

theorem sum_next {M : Type} [AddCommMonoid M] (d r n : ℕ) (hn : n < d) (hd : d < 8) (f : Fin 4096 → M) :
    (∑ k ∈ seen d r n, f k) + ∑ x : Fin 512, f (key n x) = ∑ k ∈ seen d r (n + 1), f k := by
  have h := sum_tile n (by omega) f (fun _ => True)
  simp only [Finset.filter_true, and_true] at h
  rw [h, ← Finset.sum_union]
  · refine Finset.sum_congr ?_ (fun _ _ => rfl)
    ext k
    simp only [seen, Finset.mem_union, Finset.mem_filter, Finset.mem_univ, true_and]
    omega
  · rw [Finset.disjoint_left]
    intro k
    simp only [seen, Finset.mem_filter, Finset.mem_univ, true_and]
    omega

/-- At the end a row has met the keys up to its own position. -/
theorem seen_last (d : ℕ) (r : Fin 512) : seen d r.val d = Finset.univ.filter fun k : Fin 4096 => k.val ≤ 512 * d + r.val := by
  have := r.isLt
  ext k
  simp only [seen, Finset.mem_filter, Finset.mem_univ, true_and]
  omega

/-! ## Weighted sums -/

theorem coe_mul_sum {ι : Type} (c : ℝ) (hc : 0 ≤ c) (S : Finset ι) (f : ι → EReal) : (c : EReal) * ∑ k ∈ S, f k = ∑ k ∈ S, (c : EReal) * f k := by
  classical
  induction S using Finset.induction_on with
  | empty => simp
  | insert a S ha ih =>
    rw [Finset.sum_insert ha, Finset.sum_insert ha, EReal.left_distrib_of_nonneg_of_ne_top (by exact_mod_cast hc) (EReal.coe_ne_top c), ih]

theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- The values of the keys in `S` summed under the weights a running maximum `μ` gives. -/
def acc {ι : Type} (S : Finset ι) (sc : ι → ℝ) (μ : ℝ) (v : ι → EReal) : EReal := ∑ k ∈ S, ((Real.exp (sc k - μ) : ℝ) : EReal) * v k

/-- The softmax average of the values of the keys in `S`. -/
def soft {ι : Type} (S : Finset ι) (sc : ι → ℝ) (v : ι → EReal) : EReal := ∑ k ∈ S, ((Real.exp (sc k) / ∑ j ∈ S, Real.exp (sc j) : ℝ) : EReal) * v k

theorem acc_move {ι : Type} (S : Finset ι) (sc : ι → ℝ) (μ μ' : ℝ) (v : ι → EReal) :
    ((Real.exp (μ - μ') : ℝ) : EReal) * acc S sc μ v = acc S sc μ' v := by
  unfold acc
  rw [coe_mul_sum _ (Real.exp_nonneg _)]
  refine Finset.sum_congr rfl fun k _ => ?_
  rw [← mul_assoc, ← EReal.coe_mul, ← Real.exp_add]
  congr 3
  ring

theorem acc_one {ι : Type} (S : Finset ι) (sc : ι → ℝ) (μ : ℝ) : acc S sc μ (fun _ => 1) = ((∑ k ∈ S, Real.exp (sc k - μ) : ℝ) : EReal) := by
  rw [coe_sum]; unfold acc; simp

theorem exp_pos_sum {ι : Type} {S : Finset ι} (hS : S.Nonempty) (sc : ι → ℝ) (μ : ℝ) : 0 < ∑ k ∈ S, Real.exp (sc k - μ) :=
  Finset.sum_pos (fun _ _ => Real.exp_pos _) hS

theorem weight_eq {ι : Type} (S : Finset ι) (sc : ι → ℝ) (μ : ℝ) (k : ι) :
    Real.exp (sc k - μ) * (∑ j ∈ S, Real.exp (sc j - μ))⁻¹ = Real.exp (sc k) / ∑ j ∈ S, Real.exp (sc j) := by
  have e : ∑ j ∈ S, Real.exp (sc j - μ) = (∑ j ∈ S, Real.exp (sc j)) * Real.exp (-μ) := by
    rw [Finset.sum_mul]; exact Finset.sum_congr rfl fun j _ => by rw [sub_eq_add_neg, Real.exp_add]
  have h := Real.exp_ne_zero (-μ)
  rw [e, sub_eq_add_neg, Real.exp_add, mul_inv, div_eq_mul_inv]
  field_simp

theorem div_coe (x : EReal) (y : ℝ) (hy : 0 < y) : Ideal.div x (y : EReal) = ((y⁻¹ : ℝ) : EReal) * x := by
  unfold Ideal.div
  rw [if_neg (by exact_mod_cast hy.ne'), mul_comm]
  rfl

/-- The accumulator over the normaliser is the softmax average, whatever the running maximum. -/
theorem acc_div {ι : Type} {S : Finset ι} (hS : S.Nonempty) (sc : ι → ℝ) (μ : ℝ) (v : ι → EReal) :
    Ideal.div (acc S sc μ v) (acc S sc μ (fun _ => 1)) = soft S sc v := by
  rw [acc_one, div_coe _ _ (exp_pos_sum hS sc μ)]
  unfold acc soft
  rw [coe_mul_sum _ (inv_nonneg.2 (exp_pos_sum hS sc μ).le)]
  refine Finset.sum_congr rfl fun k _ => ?_
  rw [← mul_assoc, ← EReal.coe_mul, mul_comm (_⁻¹), weight_eq]

/-! ## Maxima -/

/-- A maximum of scores, none of them `⊤` and one of them real, is real. -/
theorem max_real {n : ℕ} (m : EReal) (hm : m ≠ ⊤) (f : Fin n → EReal) (hf : ∀ x, f x ≠ ⊤) (h : m ≠ ⊥ ∨ ∃ x, f x ≠ ⊥) :
    ∃ μ : ℝ, max m (Finset.fold max ⊥ f Finset.univ) = μ := by
  have ht : max m (Finset.fold max ⊥ f Finset.univ) ≠ ⊤ := by
    refine (max_lt (lt_top_iff_ne_top.2 hm) ?_).ne
    rw [Finset.fold_max_lt]
    exact ⟨bot_lt_top, fun x _ => lt_top_iff_ne_top.2 (hf x)⟩
  have hb : max m (Finset.fold max ⊥ f Finset.univ) ≠ ⊥ := by
    rcases h with h | ⟨x, h⟩
    · exact (lt_of_lt_of_le (bot_lt_iff_ne_bot.2 h) (le_max_left _ _)).ne'
    · refine (lt_of_lt_of_le (bot_lt_iff_ne_bot.2 h) (le_trans ?_ (le_max_right _ _))).ne'
      rw [Finset.le_fold_max]
      exact .inr ⟨x, Finset.mem_univ _, le_rfl⟩
  exact ⟨_, (EReal.coe_toReal ht hb).symm⟩

theorem exp_sub_coe (a b : ℝ) : Ideal.exp ((a : EReal) - (b : EReal)) = ((Real.exp (a - b) : ℝ) : EReal) := by
  rw [← EReal.coe_sub]; rfl
theorem exp_bot_sub (b : ℝ) : Ideal.exp ((⊥ : EReal) - (b : EReal)) = 0 := by
  rw [EReal.bot_sub]; rfl

/-- The textbook row: scores past the position masked, exponentials over their sum, and the values averaged. -/
theorem textbook (p : ℕ) (hp : p < 4096) (sc : Fin 4096 → ℝ) (f : Fin 4096 → EReal) (hf : ∀ k, f k = if k.val ≤ p then (sc k : EReal) else ⊥)
    (v : Fin 4096 → EReal) :
    ∑ k, v k * Ideal.div (Ideal.exp (f k - max ⊥ (Finset.fold max ⊥ f Finset.univ))) (0 + ∑ j, Ideal.exp (f j - max ⊥ (Finset.fold max ⊥ f Finset.univ)))
      = soft (Finset.univ.filter fun k : Fin 4096 => k.val ≤ p) sc v := by
  obtain ⟨μ, hμ⟩ := max_real ⊥ bot_ne_top f (fun k => by rw [hf]; split <;> simp) (.inr ⟨⟨p, hp⟩, by rw [hf, if_pos (show p ≤ p from le_rfl)]; exact EReal.coe_ne_bot _⟩)
  have hS : (Finset.univ.filter fun k : Fin 4096 => k.val ≤ p).Nonempty := ⟨⟨p, hp⟩, Finset.mem_filter.2 ⟨Finset.mem_univ _, le_rfl⟩⟩
  have he : ∀ k, Ideal.exp (f k - (μ : EReal)) = if k.val ≤ p then ((Real.exp (sc k - μ) : ℝ) : EReal) else 0 := fun k => by
    rw [hf]; split
    · exact exp_sub_coe _ _
    · exact exp_bot_sub _
  simp only [hμ, he]
  rw [zero_add, ← Finset.sum_filter, ← coe_sum]
  unfold soft
  conv_rhs => rw [Finset.sum_filter]
  refine Finset.sum_congr rfl fun k _ => ?_
  rw [div_coe _ _ (exp_pos_sum hS sc μ)]
  split
  · rw [← EReal.coe_mul, mul_comm (v k), mul_comm (_⁻¹), weight_eq]
  · simp

end Cert.Proof.FoxMath

end
-- ==== Proof.FoxState.lean ====
/-
One row of a head's running state, over the reals: after the diagonal tile and some further tiles of keys the
running maximum is real and the accumulator holds the weighted sums of the keys met so far.
-/
module

public import proofs.«01_k».proof.Proof.Flash
public import proofs.«01_k».proof.Proof.FoxMath
public import Idealize.ShloMosaic.Lib.Pointwise
public import Idealize.ShloMosaic.Lib.Pipeline.ValueKit

@[expose] public section

noncomputable section

namespace Cert.Proof.Fox

open Idealize.ShloMosaic Idealize.ShloMosaic.TcCoe Idealize.SL.Sem
open scoped BigOperators
open Cert.KernelIdeal Cert.KernelIdeal.Gen
open Cert.Proof.FoxMath

theorem ofBits_neg_inf : Ideal.ofBits .f32 0xFF800000#32 = ⊥ := by simp [Ideal.ofBits, Ideal.ieee]

theorem scores_row (q : FVec Ideal S512x128 .bf16) (kt : Vec Ideal S1x512x128 .bf16) (r x : Fin 512) :
    scores q kt (ix2 r x) = ∑ l : Fin 128, q (ix2 r l) * kt (ix3 0 x l) := by
  pointwise [scores]

theorem newMax_row (mx : FVec Ideal S512x1 .f32) (s : FVec Ideal S512x512 .f32) (r : Fin 512) :
    newMax mx s (ix2 r 0) = max (mx (ix2 r 0)) (Finset.fold max ⊥ (fun x : Fin 512 => s (ix2 r x)) Finset.univ) := by
  pointwise [newMax]
  rw [ofBits_neg_inf]

theorem fold1_row (s : FVec Ideal S512x512 .f32) (vt : Vec Ideal S1x512x128 .bf16) (st : St Ideal) (r : Fin 512) (l : Fin 128) :
    (fold1 s vt st).2 (ix2 r l) = Ideal.exp (st.1 (ix2 r 0) - (fold1 s vt st).1 (ix2 r 0)) * st.2 (ix2 r l)
      + ∑ x : Fin 512, Ideal.exp (s (ix2 r x) - (fold1 s vt st).1 (ix2 r 0)) * vt (ix3 0 x l) := by
  dsimp only [fold1]
  generalize newMax st.1 s = mm
  pointwise [gain, weights]

/-- The diagonal tile's scores: a key after the row's own position is masked. -/
theorem masked_row (s : FVec Ideal S512x512 .f32) (r x : Fin 512) :
    (select k0_pay105 s (broadcast S512x512 (Scalar.ofBits .f32 0xFF800000#32 : Ideal .f32))) (ix2 r x) = if x.val ≤ r.val then s (ix2 r x) else ⊥ := by
  pointwise [k0_pay105]
  rw [ofBits_neg_inf]
  have hx := x.isLt
  have hr := r.isLt
  have e : IntOp.cmpi CmpIPredicate.sge (BitVec.ofNat 32 r.val) (BitVec.ofNat 32 x.val) = if x.val ≤ r.val then 1#1 else 0#1 := by
    have h1 : (BitVec.ofNat 32 r.val).toInt = r.val := WordCmp.toInt_ofNat_of_lt (by omega)
    have h2 : (BitVec.ofNat 32 x.val).toInt = x.val := WordCmp.toInt_ofNat_of_lt (by omega)
    unfold IntOp.cmpi
    simp only [BitVec.sle, h1, h2, Nat.cast_le]
    by_cases h : x.val ≤ r.val
    · rw [if_pos h, decide_eq_true h]; rfl
    · rw [if_neg h, decide_eq_false h]; rfl
  rw [e]
  split <;> rfl

theorem start_max (r : Fin 512) : (k0_pay106 (F := Ideal)) (ix2 r 0) = ⊥ := by
  pointwise [k0_pay106]
  exact ofBits_neg_inf
theorem start_acc (r : Fin 512) (l : Fin 128) : (k0_pay107 (F := Ideal)) (ix2 r l) = 0 := by
  pointwise [k0_pay107]

/-- The state of row `r` after the diagonal tile `d` and the first `n` tiles, where row `r` scores key `k` at `sc k` and the
    slab holds the values `vv`: a real maximum, and the weighted sums of the keys met. -/
theorem tiles_row (q : FVec Ideal S512x128 .bf16) (ka va : Vec Ideal S2x4096x128 .bf16) (hh d : ℕ) (hd : d < 8) (r : Fin 512)
    (sc : Fin 4096 → ℝ) (vv : Fin 128 → Fin 4096 → EReal)
    (hk : ∀ n x, n < 8 → ∑ l : Fin 128, q (ix2 r l) * tileOf ka hh n (ix3 0 x l) = sc (key n x))
    (hv : ∀ n x l, n < 8 → tileOf va hh n (ix3 0 x l) = vv l (key n x)) :
    ∀ n, n ≤ d → ∃ μ : ℝ, (tiles q ka va hh d n).1 (ix2 r 0) = μ ∧ ∀ l, (tiles q ka va hh d n).2 (ix2 r l) = acc (seen d r.val n) sc μ (vv l)
  | 0, _ => by
    have hs : ∀ x : Fin 512, (select k0_pay105 (scores q (tileOf ka hh d)) (broadcast S512x512 (Scalar.ofBits .f32 0xFF800000#32 : Ideal .f32))) (ix2 r x)
        = if x.val ≤ r.val then (sc (key d x) : EReal) else ⊥ := fun x => by rw [masked_row, scores_row, hk d x hd]
    have hm : ∃ μ : ℝ, (diag q (tileOf ka hh d) (tileOf va hh d)).1 (ix2 r 0) = μ := by
      unfold diag fold1
      dsimp only
      rw [newMax_row, start_max]
      refine max_real ⊥ bot_ne_top _ (fun x => ?_) (.inr ⟨r, ?_⟩)
      · rw [hs]; split
        · exact EReal.coe_ne_top _
        · exact bot_ne_top
      · rw [hs, if_pos le_rfl]; exact EReal.coe_ne_bot _
    obtain ⟨μ, hμ⟩ := hm
    refine ⟨μ, hμ, fun l => ?_⟩
    show (diag q (tileOf ka hh d) (tileOf va hh d)).2 (ix2 r l) = _
    unfold diag at hμ ⊢
    rw [fold1_row, hμ]; dsimp only; rw [start_acc, mul_zero, zero_add]
    unfold acc
    rw [← sum_first d r.val hd]
    refine Finset.sum_congr rfl fun x _ => ?_
    rw [hs, hv d x l hd]
    split
    · rw [exp_sub_coe]
    · rw [exp_bot_sub, zero_mul]
  | n + 1, hn => by
    obtain ⟨μ, hμ, hacc⟩ := tiles_row q ka va hh d hd r sc vv hk hv n (by omega)
    have hs : ∀ x : Fin 512, scores q (tileOf ka hh n) (ix2 r x) = (sc (key n x) : EReal) := fun x => by rw [scores_row, hk n x (by omega)]
    have hm : ∃ μ' : ℝ, (tiles q ka va hh d (n + 1)).1 (ix2 r 0) = μ' := by
      show ∃ μ' : ℝ, (step q (tileOf ka hh n) (tileOf va hh n) (tiles q ka va hh d n)).1 (ix2 r 0) = μ'
      unfold step fold1
      dsimp only
      rw [newMax_row, hμ]
      refine max_real _ (EReal.coe_ne_top _) _ (fun x => ?_) (.inl (EReal.coe_ne_bot _))
      rw [hs]; exact EReal.coe_ne_top _
    obtain ⟨μ', hμ'⟩ := hm
    refine ⟨μ', hμ', fun l => ?_⟩
    change (step q (tileOf ka hh n) (tileOf va hh n) (tiles q ka va hh d n)).1 (ix2 r 0) = μ' at hμ'
    show (step q (tileOf ka hh n) (tileOf va hh n) (tiles q ka va hh d n)).2 (ix2 r l) = _
    unfold step at hμ' ⊢
    rw [fold1_row, hμ', hμ, hacc, exp_sub_coe, acc_move]
    unfold acc
    rw [← sum_next d r.val n (by omega) hd]
    refine congrArg₂ (· + ·) rfl (Finset.sum_congr rfl fun x _ => ?_)
    rw [hs, hv n x l (by omega), exp_sub_coe]

end Cert.Proof.Fox

end
-- ==== Proof.FoxSlab.lean ====
/-
The two heads' slabs, read at a head, a key and a lane.
-/
module

public import proofs.«01_k».proof.Proof.Flash
public import proofs.«01_k».proof.Proof.FoxMath
public import Idealize.ShloMosaic.Lib.Pointwise
public import Idealize.ShloMosaic.Lib.Pipeline.ValueKit

@[expose] public section

set_option maxRecDepth 8192
noncomputable section

namespace Cert.Proof.Fox

open Idealize.ShloMosaic Idealize.ShloMosaic.TcCoe Idealize.SL.Sem
open scoped BigOperators
open Cert.KernelIdeal Cert.KernelIdeal.Gen
open Cert.Proof.FoxMath

theorem tile_apply (B : Vec Ideal S2x4096x128 .bf16) (hh : Fin 2) (n : ℕ) (x : Fin 512) (l : Fin 128) :
    tileOf B hh.val n (ix3 0 x l) = B (ix3 hh (key n x) l) := by
  unfold tileOf ldT
  refine View.ld_unit_apply_of _ _ _ _ _ (ix3 hh (key n x) l) (fun a => ?_)
  have h := hh.isLt
  match a with
  | 0 => show hh.val = hh.val % 2 + 0; omega
  | 1 => show 512 * (n % 8) + x.val = 512 * (n % 8) + x.val; rfl
  | 2 => show l.val = 0 + l.val; omega

theorem canon_fst (p q : Vec Ideal S1x4096x128 .bf16) (k : Fin 4096) (l : Fin 128) :
    View.canon ([⟨rS1, q⟩, ⟨rS0, p⟩] : List (View.Piece (Elt Ideal) S2x4096x128 .bf16)) (ix3 0 k l) = p (ix3 0 k l) := by
  canon_tiles z h using (coverS p q _)
  · exact absurd h0 (by show ¬ (0 = 1 + (z 0).val); omega)
  · refine congrArg p (funext fun a => Fin.ext ?_)
    match a with
    | 0 => show (z 0).val = 0; omega
    | 1 => exact h1.symm
    | 2 => exact h2.symm

theorem canon_snd (p q : Vec Ideal S1x4096x128 .bf16) (k : Fin 4096) (l : Fin 128) :
    View.canon ([⟨rS1, q⟩, ⟨rS0, p⟩] : List (View.Piece (Elt Ideal) S2x4096x128 .bf16)) (ix3 1 k l) = q (ix3 0 k l) := by
  canon_tiles z h using (coverS p q _)
  · refine congrArg q (funext fun a => Fin.ext ?_)
    match a with
    | 0 => show (z 0).val = 0; omega
    | 1 => exact h1.symm
    | 2 => exact h2.symm
  · exact absurd h0 (by show ¬ (1 = (z 0).val); omega)

/-- A tile of either head's slab, at a key and a lane. -/
theorem tile_fst (p q : Vec Ideal S1x4096x128 .bf16) (n : ℕ) (x : Fin 512) (l : Fin 128) :
    tileOf (View.canon ([⟨rS1, q⟩, ⟨rS0, p⟩] : List (View.Piece (Elt Ideal) S2x4096x128 .bf16))) 0 n (ix3 0 x l) = p (ix3 0 (key n x) l) :=
  (tile_apply _ 0 n x l).trans (canon_fst p q _ l)
theorem tile_snd (p q : Vec Ideal S1x4096x128 .bf16) (n : ℕ) (x : Fin 512) (l : Fin 128) :
    tileOf (View.canon ([⟨rS1, q⟩, ⟨rS0, p⟩] : List (View.Piece (Elt Ideal) S2x4096x128 .bf16))) 1 n (ix3 0 x l) = q (ix3 0 (key n x) l) :=
  (tile_apply _ 1 n x l).trans (canon_snd p q _ l)

end Cert.Proof.Fox

end
-- ==== Proof.FoxLanes.lean ====
/-
The 128 lanes of a head's query and key rows, over the reals: 64 lanes of data and 64 lanes that carry the pieces of the
two biases. The product of a query row and a key row is the scaled product of the data plus the query's bias less the
key's.
-/
module

public import proofs.«01_k».proof.Proof.FoxState
public import proofs.«01_k».proof.Proof.FoxSlab

@[expose] public section

noncomputable section

namespace Cert.Proof.Fox

open Idealize.ShloMosaic Idealize.ShloMosaic.TcCoe Idealize.SL.Sem
open scoped BigOperators
open Cert.KernelIdeal Cert.KernelIdeal.Gen
open Cert.Proof.FoxMath

/-- Lane `j` of the first half and of the second. -/
def lo (j : Fin 64) : Fin 128 := ⟨j.val, by omega⟩
def hi (j : Fin 64) : Fin 128 := ⟨64 + j.val, by omega⟩

theorem sum_halves (f : Fin 128 → EReal) : ∑ l, f l = ∑ j, f (lo j) + ∑ j, f (hi j) := Fin.sum_univ_add (a := 64) (b := 64) f

/-- The column of the running sums that head `hh` of pair `hp` takes. -/
def headCol (hp : Fin 8) (hh : Fin 2) : Fin 128 := ⟨2 * hp.val + hh.val, by omega⟩

theorem col_word : ∀ (hp : Fin 8) (hh : Fin 2) (x : Fin 128),
    IntOp.cmpi .eq (BitVec.ofNat 32 x.val) (Scalar.addi (Scalar.muli (BitVec.ofNat 32 hp.val) 2#32) (BitVec.ofNat 32 hh.val)) = if headCol hp hh = x then 1#1 else 0#1 := by
  decide +kernel

/-- Summing a row of the running sums under the test for a head's column takes that column. -/
theorem col_sum (hp : Fin 8) (hh : Fin 2) (f : Fin 128 → EReal) :
    ∑ x : Fin 128, Scalar.select (IntOp.cmpi .eq (BitVec.ofNat 32 x.val) (Scalar.addi (Scalar.muli (BitVec.ofNat 32 hp.val) 2#32) (BitVec.ofNat 32 hh.val))) (f x) 0
      = f (headCol hp hh) := by
  rw [Finset.sum_congr rfl fun x _ => by rw [col_word hp hh x]]
  rw [Finset.sum_eq_single (headCol hp hh)]
  · rw [if_pos rfl]; rfl
  · intro x _ h
    rw [if_neg (Ne.symm h)]; rfl
  · intro h; exact absurd (Finset.mem_univ _) h

/-- The pieces of a query's bias, and of a key's, in the lanes that hold no data. -/
def auxQ (C : EReal) (j : Fin 64) : EReal := if j.val = 0 then C else if j.val = 3 ∨ j.val = 4 ∨ j.val = 5 then 1 else 0
def auxK (C : EReal) (j : Fin 64) : EReal := if j.val = 0 ∨ j.val = 1 ∨ j.val = 2 then 1 else if j.val = 3 then 0 - C else 0

theorem aux_sum (c c' : ℝ) : ∑ j, auxQ (c : EReal) j * auxK (c' : EReal) j = ((c - c' : ℝ) : EReal) := by
  have e : ∀ j : Fin 64, auxQ (c : EReal) j * auxK (c' : EReal) j = (if j = 0 then (c : EReal) else 0) + (if j = 3 then ((-c' : ℝ) : EReal) else 0) := by
    intro j
    fin_cases j <;> simp [auxQ, auxK]
  simp only [e, Finset.sum_add_distrib, Finset.sum_ite_eq', Finset.mem_univ, if_true]
  rw [← EReal.coe_add, sub_eq_add_neg]

theorem coe_sub_self (c : ℝ) : (c : EReal) - (c : EReal) = 0 := by rw [← EReal.coe_sub, sub_self, EReal.coe_zero]

/-! ## The lanes of the query rows -/

variable (i : grid0.Coords) (x0 x3 : Vec Ideal S512x128 .f32) (r : Fin 512)

/-- The scale of the scores. -/
abbrev scale : EReal := Ideal.ofBits .f32 0x3E000000#32

theorem qa0_data (j : Fin 64) : qa0 i x0 x3 (ix2 r (lo j)) = x0 (ix2 r (lo j)) * scale := by
  pointwise [qa0, k0_pay94, ioQ, k0_pay87, k0_pay92, k0_pay93, k0_pay91, k0_pay90, k0_pay89, k0_pay88]
  generalize (∑ x : Fin 128, _ : EReal) = C
  generalize x0 (ix2 r (lo j)) * Ideal.ofBits .f32 _ = z
  fin_cases j <;> rfl

theorem qa0_aux (c : ℝ) (hc : x3 (ix2 r (headCol (i 1) 0)) = c) (j : Fin 64) : qa0 i x0 x3 (ix2 r (hi j)) = auxQ c j := by
  pointwise [qa0, k0_pay94, ioQ, k0_pay87, k0_pay92, k0_pay93, k0_pay91, k0_pay90, k0_pay89, k0_pay88]
  have h := (col_sum (i 1) 0 (fun x => x3 (ix2 r x))).trans hc
  generalize x0 (ix2 r (hi j)) * Ideal.ofBits .f32 _ = z
  simp only [Fin.val_zero, Fin.isValue] at h
  rw [h]
  simp only [coe_sub_self, sub_zero]
  fin_cases j <;> rfl

theorem qa1_data (j : Fin 64) : qa1 i x0 x3 (ix2 r (hi j)) = x0 (ix2 r (hi j)) * scale := by
  pointwise [qa1, k0_pay104, ioQ, k0_pay95, k0_pay97, k0_pay100, k0_pay101, k0_pay102, k0_pay103, k0_pay96, k0_pay98, k0_pay99]
  generalize (∑ x : Fin 128, _ : EReal) = C
  generalize x0 (ix2 r (hi j)) * Ideal.ofBits .f32 _ = z
  fin_cases j <;> rfl

theorem qa1_aux (c : ℝ) (hc : x3 (ix2 r (headCol (i 1) 1)) = c) (j : Fin 64) : qa1 i x0 x3 (ix2 r (lo j)) = auxQ c j := by
  pointwise [qa1, k0_pay104, ioQ, k0_pay95, k0_pay97, k0_pay100, k0_pay101, k0_pay102, k0_pay103, k0_pay96, k0_pay98, k0_pay99]
  have h := (col_sum (i 1) 1 (fun x => x3 (ix2 r x))).trans hc
  generalize x0 (ix2 r (lo j)) * Ideal.ofBits .f32 _ = z
  simp only [Fin.val_one, Fin.isValue] at h
  rw [h]
  simp only [coe_sub_self, sub_zero]
  fin_cases j <;> rfl

/-! ## The lanes of the key and value rows -/

variable (hp : Fin 8) (x1 x2 x4 : Vec Ideal S4096x128 .f32) (k : Fin 4096)

theorem ka0_data (j : Fin 64) : kaPay0 (BitVec.ofNat 32 hp.val) x1 x4 (ix3 0 k (lo j)) = x1 (ix2 k (lo j)) := by
  pointwise [kaPay0, k0_pay9, ioK, k0_pay1, k0_pay5, k0_pay6, k0_pay7, k0_pay8, k0_pay2, k0_pay3, k0_pay4]
  generalize (∑ x : Fin 128, _ : EReal) = C
  generalize x1 (ix2 k (lo j)) = z
  fin_cases j <;> rfl

theorem ka0_aux (c : ℝ) (hc : x4 (ix2 k (headCol hp 0)) = c) (j : Fin 64) : kaPay0 (BitVec.ofNat 32 hp.val) x1 x4 (ix3 0 k (hi j)) = auxK c j := by
  pointwise [kaPay0, k0_pay9, ioK, k0_pay1, k0_pay5, k0_pay6, k0_pay7, k0_pay8, k0_pay2, k0_pay3, k0_pay4]
  have h := (col_sum hp 0 (fun x => x4 (ix2 k x))).trans hc
  generalize x1 (ix2 k (hi j)) = z
  simp only [Fin.val_zero, Fin.isValue] at h
  rw [h]
  simp only [coe_sub_self, sub_zero]
  fin_cases j <;> rfl

theorem ka1_data (j : Fin 64) : kaPay1 (BitVec.ofNat 32 hp.val) x1 x4 (ix3 0 k (hi j)) = x1 (ix2 k (hi j)) := by
  pointwise [kaPay1, k0_pay85, ioK, k0_pay11, k0_pay16, k0_pay17, k0_pay18, k0_pay12, k0_pay13, k0_pay14, k0_pay15]
  generalize (∑ x : Fin 128, _ : EReal) = C
  generalize x1 (ix2 k (hi j)) = z
  fin_cases j <;> rfl

theorem ka1_aux (c : ℝ) (hc : x4 (ix2 k (headCol hp 1)) = c) (j : Fin 64) : kaPay1 (BitVec.ofNat 32 hp.val) x1 x4 (ix3 0 k (lo j)) = auxK c j := by
  pointwise [kaPay1, k0_pay85, ioK, k0_pay11, k0_pay16, k0_pay17, k0_pay18, k0_pay12, k0_pay13, k0_pay14, k0_pay15]
  have h := (col_sum hp 1 (fun x => x4 (ix2 k x))).trans hc
  generalize x1 (ix2 k (lo j)) = z
  simp only [Fin.val_one, Fin.isValue] at h
  rw [h]
  simp only [coe_sub_self, sub_zero]
  fin_cases j <;> rfl

theorem va0_data (j : Fin 64) : k0_pay10 x2 ioK (ix3 0 k (lo j)) = x2 (ix2 k (lo j)) := by
  pointwise [k0_pay10, ioK]
  generalize x2 (ix2 k (lo j)) = z
  fin_cases j <;> rfl
theorem va0_one : k0_pay10 x2 ioK (ix3 0 k (hi 0)) = 1 := by
  pointwise [k0_pay10, ioK]
  generalize x2 (ix2 k (hi 0)) = z
  rfl
theorem va1_data (j : Fin 64) : k0_pay86 x2 ioK (ix3 0 k (hi j)) = x2 (ix2 k (hi j)) := by
  pointwise [k0_pay86, ioK]
  generalize x2 (ix2 k (hi j)) = z
  fin_cases j <;> rfl
theorem va1_one : k0_pay86 x2 ioK (ix3 0 k (lo 0)) = 1 := by
  pointwise [k0_pay86, ioK]
  generalize x2 (ix2 k (lo 0)) = z
  rfl

/-! ## The output lanes -/

theorem out_lo (a b : FVec Ideal S512x128 .f32) (j : Fin 64) : k0_pay124 a b (ix2 r (lo j)) = Ideal.div (a (ix2 r (lo j))) (a (ix2 r (hi 0))) := by
  pointwise [k0_pay124]
  generalize Ideal.div (b (ix2 r (lo j))) _ = z
  rw [show (64 : Fin 128) = hi 0 from rfl]
  generalize Ideal.div (a (ix2 r (lo j))) _ = w
  fin_cases j <;> rfl
theorem out_hi (a b : FVec Ideal S512x128 .f32) (j : Fin 64) : k0_pay124 a b (ix2 r (hi j)) = Ideal.div (b (ix2 r (hi j))) (b (ix2 r (lo 0))) := by
  pointwise [k0_pay124]
  generalize Ideal.div (a (ix2 r (hi j))) _ = z
  rw [show (0 : Fin 128) = lo 0 from rfl]
  generalize Ideal.div (b (ix2 r (hi j))) _ = w
  fin_cases j <;> rfl

end Cert.Proof.Fox

end
-- ==== Proof.FoxBlock.lean ====
/-
One block of the attention's output, over the reals: entry by entry it is the softmax average of the values of the keys
up to the row's position, under the scores of the row's query.
-/
module

public import proofs.«01_k».proof.Proof.FoxLanes
public import proofs.«01_k».proof.Proof.Body

@[expose] public section

noncomputable section

namespace Cert.Proof.Fox

open Idealize.ShloMosaic Idealize.ShloMosaic.TcCoe Idealize.SL.Sem
open scoped BigOperators
open Cert.KernelIdeal Cert.KernelIdeal.Gen
open Cert.Proof.FoxMath

/-- The score of a query row against key `k`: the scaled product of the data, plus the query's running sum less the key's. -/
def score (a : ℝ) (Q : Fin 64 → ℝ) (K : Fin 4096 → Fin 64 → ℝ) (c : ℝ) (c' : Fin 4096 → ℝ) (k : Fin 4096) : ℝ := (∑ j, Q j * K k j) * a + c - c' k

theorem lanes_sum (a : ℝ) (Q : Fin 64 → ℝ) (K : Fin 4096 → Fin 64 → ℝ) (c : ℝ) (c' : Fin 4096 → ℝ) (k : Fin 4096) :
    ∑ j, ((Q j : EReal) * (a : EReal)) * (K k j : EReal) + ∑ j, auxQ (c : EReal) j * auxK (c' k : EReal) j = (score a Q K c c' k : EReal) := by
  rw [aux_sum, Finset.sum_congr rfl fun j _ => show ((Q j : EReal) * (a : EReal)) * (K k j : EReal) = ((Q j * a * K k j : ℝ) : EReal) by
    rw [EReal.coe_mul, EReal.coe_mul], ← coe_sum, ← EReal.coe_add]
  unfold score
  rw [Finset.sum_mul, add_sub_assoc]
  congr 2
  exact Finset.sum_congr rfl fun j _ => by ring

theorem ldK (x : Vec Ideal S4096x128 .f32) : View.ld x rK = x := View.ld_unit_lit _ _ (by decide)
theorem ldQ (x : Vec Ideal S512x128 .f32) : View.ld x rQ = x := View.ld_unit_lit _ _ (by decide)

variable (i : grid0.Coords) (x0 x3 : Vec Ideal S512x128 .f32) (x1 x2 x4 : Vec Ideal S4096x128 .f32) (r : Fin 512)
variable (a : ℝ) (ha : scale = a) (Q : Fin 64 → ℝ) (K : Fin 4096 → Fin 64 → ℝ) (c : ℝ) (c' : Fin 4096 → ℝ)

theorem outOf_eq (ka va : Vec Ideal S2x4096x128 .bf16) : outOf i x0 x3 ka va
    = k0_pay124 (tiles (qa0 i x0 x3) ka va 0 (i 2).val (i 2).val).2 (tiles (qa1 i x0 x3) ka va 1 (i 2).val (i 2).val).2 := by
  unfold outOf outPay
  rw [ldQ, ldQ]
  exact View.canon_cons_unit_lit _ _ _ (by decide)

theorem seen_nonempty (d : ℕ) (hd : d < 8) : (Finset.univ.filter fun k : Fin 4096 => k.val ≤ 512 * d + r.val).Nonempty :=
  ⟨⟨0, by omega⟩, Finset.mem_filter.2 ⟨Finset.mem_univ _, Nat.zero_le _⟩⟩

include ha in
/-- The first head's lanes. -/
theorem block_lo (hQ : ∀ j, x0 (ix2 r (lo j)) = Q j) (hK : ∀ k j, x1 (ix2 k (lo j)) = K k j)
    (hc : x3 (ix2 r (headCol (i 1) 0)) = c) (hc' : ∀ k, x4 (ix2 k (headCol (i 1) 0)) = c' k) (j : Fin 64) :
    outOf i x0 x3 (kaOf (BitVec.ofNat 32 (i 1).val) x1 x4) (vaOf x2) (ix2 r (lo j))
      = soft (Finset.univ.filter fun k : Fin 4096 => k.val ≤ 512 * (i 2).val + r.val) (score a Q K c c') (fun k => x2 (ix2 k (lo j))) := by
  have hd := lt8 i
  obtain ⟨μ, -, hacc⟩ := tiles_row (qa0 i x0 x3) (kaOf (BitVec.ofNat 32 (i 1).val) x1 x4) (vaOf x2) 0 (i 2).val hd r (score a Q K c c')
    (fun l k => k0_pay10 x2 ioK (ix3 0 k l))
    (fun n x _ => by
      rw [← lanes_sum, sum_halves]
      unfold kaOf
      refine congrArg₂ (· + ·) (Finset.sum_congr rfl fun j _ => ?_) (Finset.sum_congr rfl fun j _ => ?_)
      · rw [qa0_data, ha, hQ, tile_fst, ldK, ldK, ka0_data (i 1), hK]
      · rw [qa0_aux i x0 x3 r c hc, tile_fst, ldK, ldK, ka0_aux _ _ _ _ _ (hc' _)])
    (fun n x l _ => by
      unfold vaOf
      rw [tile_fst, ldK]) (i 2).val le_rfl
  rw [outOf_eq, out_lo, hacc, hacc, seen_last]
  rw [show (fun k => k0_pay10 x2 ioK (ix3 0 k (hi 0))) = (fun _ => (1 : EReal)) from funext fun k => va0_one x2 k, acc_div (seen_nonempty r _ hd)]
  exact congrArg _ (funext fun k => va0_data x2 k j)

include ha in
/-- The second head's lanes. -/
theorem block_hi (hQ : ∀ j, x0 (ix2 r (hi j)) = Q j) (hK : ∀ k j, x1 (ix2 k (hi j)) = K k j)
    (hc : x3 (ix2 r (headCol (i 1) 1)) = c) (hc' : ∀ k, x4 (ix2 k (headCol (i 1) 1)) = c' k) (j : Fin 64) :
    outOf i x0 x3 (kaOf (BitVec.ofNat 32 (i 1).val) x1 x4) (vaOf x2) (ix2 r (hi j))
      = soft (Finset.univ.filter fun k : Fin 4096 => k.val ≤ 512 * (i 2).val + r.val) (score a Q K c c') (fun k => x2 (ix2 k (hi j))) := by
  have hd := lt8 i
  obtain ⟨μ, -, hacc⟩ := tiles_row (qa1 i x0 x3) (kaOf (BitVec.ofNat 32 (i 1).val) x1 x4) (vaOf x2) 1 (i 2).val hd r (score a Q K c c')
    (fun l k => k0_pay86 x2 ioK (ix3 0 k l))
    (fun n x _ => by
      rw [← lanes_sum, sum_halves, add_comm]
      unfold kaOf
      refine congrArg₂ (· + ·) (Finset.sum_congr rfl fun j _ => ?_) (Finset.sum_congr rfl fun j _ => ?_)
      · rw [qa1_data, ha, hQ, tile_snd, ldK, ldK, ka1_data (i 1), hK]
      · rw [qa1_aux i x0 x3 r c hc, tile_snd, ldK, ldK, ka1_aux _ _ _ _ _ (hc' _)])
    (fun n x l _ => by
      unfold vaOf
      rw [tile_snd, ldK]) (i 2).val le_rfl
  rw [outOf_eq, out_hi, hacc, hacc, seen_last]
  rw [show (fun k => k0_pay86 x2 ioK (ix3 0 k (lo 0))) = (fun _ => (1 : EReal)) from funext fun k => va1_one x2 k, acc_div (seen_nonempty r _ hd)]
  exact congrArg _ (funext fun k => va1_data x2 k j)

end Cert.Proof.Fox

end
-- ==== Proof.FoxReference.lean ====
/-
The textbook attention, entry by entry, over the reals: the softmax average of the values of the keys up to the row's
position, under the scores of the row's query.
-/
module

public import proofs.«01_k».proof.Proof.FoxBlock
public import proofs.«01_k».proof.Proof.Gen.ReferenceIdeal.Read
public import Idealize.ShloMosaic.Lib.Pointwise

@[expose] public section

noncomputable section

namespace Cert.Proof.FoxReference

open Idealize.ShloMosaic Idealize.ShloMosaic.TcCoe Idealize.SL.Sem
open scoped BigOperators
open Cert.ReferenceIdeal Cert.ReferenceIdeal.Read
open Cert.Proof.FoxMath
open Cert.Proof.Fox (score scale ofBits_neg_inf)

variable (x0 x1 x2 : (⟨S16384x1024, .f32⟩ : BufTy).Contents (Elt Ideal)) (x3 : (⟨S16384x128, .f32⟩ : BufTy).Contents (Elt Ideal))

/-- Position `p` of sequence `b` as a row; dimension `d` of head `h` as a column; head `h` as a column of the running sums. -/
def row (b : Fin 4) (p : Fin 4096) : Fin 16384 := ⟨b.val * 4096 + p.val, by omega⟩
def col (h : Fin 16) (d : Fin 64) : Fin 1024 := ⟨h.val * 64 + d.val, by omega⟩
def head (h : Fin 16) : Fin 128 := ⟨h.val, by omega⟩

variable (b : Fin 4) (p k : Fin 4096) (h : Fin 16) (d : Fin 64)

theorem score_apply : val_main_v14 (F := Ideal) x0 x1 x3 (ix4 b h p k)
    = (∑ j, x0 (ix2 (row b p) (col h j)) * x1 (ix2 (row b k) (col h j))) * scale + x3 (ix2 (row b p) (head h)) - x3 (ix2 (row b k) (head h)) := by
  pointwise [val_main_v14, val_main_v13, val_main_v12, val_main_v11, val_main_v10, val_main_v9, val_main_v8, val_main_v7, val_main_v6, val_main_v5, val_main_v4, val_main_v3, val_main_v1, val_main_v0, val_main_cst]
  rfl

theorem masked_apply : val_main_v21 (F := Ideal) x0 x1 x3 (ix4 b h p k) = if k.val ≤ p.val then val_main_v14 (F := Ideal) x0 x1 x3 (ix4 b h p k) else ⊥ := by
  pointwise [val_main_v21, val_main_call0_v1, val_main_call0_v2, val_main_call0_v0, val_main_cst_0, val_main_v20, val_main_v19, val_main_v18, val_main_v17, val_main_v16, val_main_v15]
  have hp := p.isLt
  have hk := k.isLt
  rw [WordCmp.cmpi_sle_eq, WordCmp.toInt_ofNat_of_lt (by omega), WordCmp.toInt_ofNat_of_lt (by omega), show id (constant (F := Ideal) S_ FTy.f32 4286578688#32) ix0 = (⊥ : EReal) from ofBits_neg_inf]
  by_cases hkp : k.val ≤ p.val
  · rw [if_pos hkp, decide_eq_true (by exact_mod_cast hkp)]; rfl
  · rw [if_neg hkp, decide_eq_false (by exact_mod_cast hkp)]; rfl

theorem max_apply : val_main_v24 (F := Ideal) x0 x1 x3 (ix3 b h p)
    = max ⊥ (Finset.fold max ⊥ (fun x : Fin 4096 => val_main_v21 (F := Ideal) x0 x1 x3 (ix4 b h p x)) Finset.univ) := by
  have e : val_main_v22 (F := Ideal) x0 x1 x3 (ix3 b h p)
      = Finset.fold max (Ideal.ofBits FTy.f32 0xFF800000#32) (fun x : Fin 4096 => val_main_v21 (F := Ideal) x0 x1 x3 (ix4 b h p x)) Finset.univ := by
    pointwise [val_main_v22, val_main_cst_1]
  rw [ofBits_neg_inf] at e
  rw [val_main_v24_apply, val_main_v23_apply, e]
  show max (Ideal.ofBits FTy.f32 0xFF800000#32) _ = _
  rw [ofBits_neg_inf]

theorem exp_apply : val_main_v28 (F := Ideal) x0 x1 x3 (ix4 b h p k)
    = Ideal.exp (val_main_v21 (F := Ideal) x0 x1 x3 (ix4 b h p k) - val_main_v24 (F := Ideal) x0 x1 x3 (ix3 b h p)) := by
  have e : val_main_v26 (F := Ideal) x0 x1 x3 (ix4 b h p k) = val_main_v24 (F := Ideal) x0 x1 x3 (ix3 b h p) := by
    rw [val_main_v26_apply, val_main_v25_apply]
    refine congrArg _ (funext fun a => ?_)
    match a with
    | 0 => rfl
    | 1 => rfl
    | 2 => rfl
  rw [val_main_v28_apply, val_main_v27_apply, e]
  rfl

theorem total_apply : val_main_v31 (F := Ideal) x0 x1 x3 (ix4 b h p k) = 0 + ∑ x : Fin 4096, val_main_v28 (F := Ideal) x0 x1 x3 (ix4 b h p x) := by
  have e : idx_main_v30 (idx_main_v31 (ix4 b h p k)) = ix3 b h p := by
    funext a
    match a with
    | 0 => rfl
    | 1 => rfl
    | 2 => rfl
  rw [val_main_v31_apply, val_main_v30_apply, e, val_main_v29_apply]
  refine congrArg₂ (· + ·) Ideal.ofBits_zero_f32 (Finset.sum_congr rfl fun x _ => congrArg _ (funext fun a => ?_))
  match a with
  | 0 => rfl
  | 1 => rfl
  | 2 => rfl
  | 3 => rfl

/-- The textbook result at position `p` of sequence `b` and dimension `d` of head `h`. -/
theorem entry (a : ℝ) (ha : scale = a) (Q : Fin 64 → ℝ) (K : Fin 4096 → Fin 64 → ℝ) (c : ℝ) (c' : Fin 4096 → ℝ)
    (hQ : ∀ j, x0 (ix2 (row b p) (col h j)) = Q j) (hK : ∀ k j, x1 (ix2 (row b k) (col h j)) = K k j)
    (hc : x3 (ix2 (row b p) (head h)) = c) (hc' : ∀ k, x3 (ix2 (row b k) (head h)) = c' k) :
    val_main_v35 (F := Ideal) x0 x1 x2 x3 (ix2 (row b p) (col h d))
      = soft (Finset.univ.filter fun k : Fin 4096 => k.val ≤ p.val) (score a Q K c c') (fun k => x2 (ix2 (row b k) (col h d))) := by
  have e0 : val_main_v35 (F := Ideal) x0 x1 x2 x3 (ix2 (row b p) (col h d)) = val_main_v34 (F := Ideal) x0 x1 x2 x3 (ix4 b p h d) := by
    rw [val_main_v35_apply]
    have hb := b.isLt
    have hp := p.isLt
    have hh := h.isLt
    have hd := d.isLt
    refine congrArg _ (funext fun a => Fin.ext ?_)
    match a with
    | 0 => show ((b.val * 4096 + p.val) * 1024 + (h.val * 64 + d.val)) / 4194304 = b.val; omega
    | 1 => show ((b.val * 4096 + p.val) * 1024 + (h.val * 64 + d.val)) / 1024 % 4096 = p.val; omega
    | 2 => show ((b.val * 4096 + p.val) * 1024 + (h.val * 64 + d.val)) / 64 % 16 = h.val; omega
    | 3 => show ((b.val * 4096 + p.val) * 1024 + (h.val * 64 + d.val)) % 64 = d.val; omega
  have e1 : val_main_v34 (F := Ideal) x0 x1 x2 x3 (ix4 b p h d)
      = ∑ x : Fin 4096, x2 (ix2 (row b x) (col h d)) * Ideal.div (val_main_v28 (F := Ideal) x0 x1 x3 (ix4 b h p x)) (val_main_v31 (F := Ideal) x0 x1 x3 (ix4 b h p x)) := by
    pointwise [val_main_v34, val_main_v33, val_main_v32, val_main_v2]
    rfl
  have es : ∀ x, val_main_v21 (F := Ideal) x0 x1 x3 (ix4 b h p x) = if x.val ≤ p.val then (score a Q K c c' x : EReal) else ⊥ := fun x => by
    rw [masked_apply, score_apply, ha, hc, hc']
    simp only [hQ, hK]
    refine if_congr Iff.rfl ?_ rfl
    unfold score
    rw [EReal.coe_sub, EReal.coe_add, EReal.coe_mul, coe_sum]
    simp only [EReal.coe_mul]
  rw [e0, e1, ← textbook p.val p.isLt (score a Q K c c') _ es]
  refine Finset.sum_congr rfl fun x _ => ?_
  rw [total_apply]
  simp only [exp_apply, max_apply]

end Cert.Proof.FoxReference

end
-- ==== Proof.FoxValue.lean ====
/-
The attention kernel computes the textbook formula: its output array, assembled from the blocks of the grid points, is
the reference's result of the same arguments, where the queries, the keys and the running sums are finite.
-/
module

public import proofs.«01_k».proof.Proof.FoxReference
public import proofs.«01_k».proof.Proof.FoxRun
public import proofs.«01_k».proof.Proof.Gen.ReferenceIdeal.Run
public import proofs.«01_k».proof.Defs
public import Idealize.ShloMosaic.Lib.Pipeline.ValueKit
public import Idealize.ShloMosaic.Lib.StableHlo.ReadAt

@[expose] public section

noncomputable section

namespace Cert.Proof.Fox

open Idealize.ShloMosaic Idealize.ShloMosaic.TcCoe Idealize.SL.Sem
open Cert.KernelIdeal Cert.KernelIdeal.Gen
open Cert.Proof.FoxMath
open Cert.Proof.FoxReference (row col head)

/-- The shapes of the precondition's broadcasts. -/
instance finiteFacts : Cert.Pre_finite_scores.Facts := ⟨by decide, by decide⟩

variable (m : (ℓ : Loc nD τ sig) → Buf (Elt Ideal) ℓ)

/-- The reference's result of the kernel's arguments. -/
def want (c : Dev nD) : (⟨S16384x1024, .f32⟩ : BufTy).Contents (Elt Ideal) :=
  Cert.ReferenceIdeal.Read.val_main_v35 (F := Ideal) (m ((c : Thread nD τ).loc main_arg0)) (m ((c : Thread nD τ).loc main_arg1))
    (m ((c : Thread nD τ).loc main_arg2)) (m ((c : Thread nD τ).loc main_arg3))

/-- The sequence, the head pair and the query tile of a point. -/
def seqOf (t : Fin cfg0.N) : Fin 4 := ⟨t.val / 64, by have h : t.val < 256 := t.isLt; omega⟩
def qRow (t : Fin cfg0.N) (r : Fin 512) : Fin 16384 := ⟨512 * (8 * (t.val / 64) + t.val % 8) + r.val, by have h : t.val < 256 := t.isLt; omega⟩
def kRow (t : Fin cfg0.N) (k : Fin 4096) : Fin 16384 := ⟨4096 * (t.val / 64) + k.val, by have h : t.val < 256 := t.isLt; omega⟩
def lane (t : Fin cfg0.N) (l : Fin 128) : Fin 1024 := ⟨128 * (t.val / 8 % 8) + l.val, by omega⟩

section reads
variable (c : Dev nD) (t : Fin cfg0.N)

theorem read0 (r : Fin 512) (l : Fin 128) : (iblk m c 0 t) (ix2 r l) = m ((c : Thread nD τ).loc main_arg0) (ix2 (qRow t r) (lane t l)) := by
  blk_point [iblk, V, qRow, lane, idx t]
theorem read1 (k : Fin 4096) (l : Fin 128) : (iblk m c 1 t) (ix2 k l) = m ((c : Thread nD τ).loc main_arg1) (ix2 (kRow t k) (lane t l)) := by
  blk_point [iblk, V, kRow, lane, idx t]
theorem read2 (k : Fin 4096) (l : Fin 128) : (iblk m c 2 t) (ix2 k l) = m ((c : Thread nD τ).loc main_arg2) (ix2 (kRow t k) (lane t l)) := by
  blk_point [iblk, V, kRow, lane, idx t]
theorem read3 (r : Fin 512) (x : Fin 128) : (iblk m c 3 t) (ix2 r x) = m ((c : Thread nD τ).loc main_arg3) (ix2 (qRow t r) x) := by
  blk_point [iblk, V, qRow, idx t]
theorem read4 (k : Fin 4096) (x : Fin 128) : (iblk m c 4 t) (ix2 k x) = m ((c : Thread nD τ).loc main_arg3) (ix2 (kRow t k) x) := by
  blk_point [iblk, V, kRow, idx t]
end reads

/-- Position in its sequence of row `r` of a point's query tile, and the two heads of its pair. -/
def posOf (t : Fin cfg0.N) (r : Fin 512) : Fin 4096 := ⟨512 * (t.val % 8) + r.val, by omega⟩
def headOf (t : Fin cfg0.N) (hh : Fin 2) : Fin 16 := ⟨2 * (t.val / 8 % 8) + hh.val, by omega⟩

theorem qRow_eq (t : Fin cfg0.N) (r : Fin 512) : qRow t r = row (seqOf t) (posOf t r) := Fin.ext (by
  show 512 * (8 * (t.val / 64) + t.val % 8) + r.val = t.val / 64 * 4096 + (512 * (t.val % 8) + r.val); omega)
theorem kRow_eq (t : Fin cfg0.N) (k : Fin 4096) : kRow t k = row (seqOf t) k := Fin.ext (by
  show 4096 * (t.val / 64) + k.val = t.val / 64 * 4096 + k.val; omega)
theorem lane_lo (t : Fin cfg0.N) (j : Fin 64) : lane t (lo j) = col (headOf t 0) j := Fin.ext (by
  show 128 * (t.val / 8 % 8) + j.val = (2 * (t.val / 8 % 8) + 0) * 64 + j.val; omega)
theorem lane_hi (t : Fin cfg0.N) (j : Fin 64) : lane t (hi j) = col (headOf t 1) j := Fin.ext (by
  show 128 * (t.val / 8 % 8) + (64 + j.val) = (2 * (t.val / 8 % 8) + 1) * 64 + j.val; omega)
theorem headCol_eq (t : Fin cfg0.N) (hh : Fin 2) : headCol ((grid0.coords t) 1) hh = head (headOf t hh) := Fin.ext (by
  show 2 * ((grid0.coords t) 1).val + hh.val = 2 * (t.val / 8 % 8) + hh.val; rw [coord1])

/-- The queries, the keys and the running sums are real numbers. -/
structure Real3 (c : Dev nD) : Prop where
  q : ∀ i, ∃ x : ℝ, m ((c : Thread nD τ).loc main_arg0) i = (x : EReal)
  k : ∀ i, ∃ x : ℝ, m ((c : Thread nD τ).loc main_arg1) i = (x : EReal)
  g : ∀ i, ∃ x : ℝ, m ((c : Thread nD τ).loc main_arg3) i = (x : EReal)

theorem scale_real : ∃ a : ℝ, scale = (a : EReal) := by
  refine ⟨1 / 8, ?_⟩
  simp [scale, Ideal.ofBits, Ideal.ieee, -EReal.coe_mul]; norm_num

/-- The kernel's output array is the reference's result. -/
theorem final (c : Dev nD) (hr : Real3 m c) : (dats m 0 c).arrAt 5 cfg0.N = want m c := by
  obtain ⟨a, ha⟩ := scale_real
  choose fq hq using hr.q
  choose fk hk using hr.k
  choose fg hg using hr.g
  refine (dats m 0 c).arrAt_eq_of_covers 5 _ (by decide +kernel) fun t hf y => ?_
  blk_simp
  rw [after0_5]
  idx_vars y
  have e : (win0_5.blk t).view.emb (ix2 y0 y1) = ix2 (qRow t y0) (lane t y1) := by blk_ext [qRow, lane, idx t]
  rw [e]
  unfold outAt kaAt vaAt want
  have hp : (posOf t y0).val = 512 * ((grid0.coords t) 2).val + y0.val := by rw [coord2]; rfl
  rcases Nat.lt_or_ge y1.val 64 with h | h
  · obtain ⟨j, rfl⟩ : ∃ j : Fin 64, y1 = lo j := ⟨⟨y1.val, h⟩, rfl⟩
    rw [qRow_eq, lane_lo,
      FoxReference.entry _ _ _ _ (seqOf t) (posOf t y0) (headOf t 0) j a ha (fun j => fq (ix2 (row (seqOf t) (posOf t y0)) (col (headOf t 0) j)))
        (fun k j => fk (ix2 (row (seqOf t) k) (col (headOf t 0) j))) (fg (ix2 (row (seqOf t) (posOf t y0)) (head (headOf t 0))))
        (fun k => fg (ix2 (row (seqOf t) k) (head (headOf t 0)))) (fun j => hq _) (fun k j => hk _) (hg _) (fun k => hg _),
      block_lo (grid0.coords t) _ _ _ _ _ y0 a ha _ _ _ _
        (fun j => by rw [read0, qRow_eq, lane_lo]; exact hq _) (fun k j => by rw [read1, kRow_eq, lane_lo]; exact hk _)
        (by rw [read3, qRow_eq, headCol_eq]; exact hg _) (fun k => by rw [read4, kRow_eq, headCol_eq]; exact hg _) j, hp]
    exact congrArg _ (funext fun k => by rw [read2, kRow_eq, lane_lo])
  · obtain ⟨j, rfl⟩ : ∃ j : Fin 64, y1 = hi j := ⟨⟨y1.val - 64, by have := y1.isLt; omega⟩, Fin.ext (by show y1.val = 64 + (y1.val - 64); omega)⟩
    rw [qRow_eq, lane_hi,
      FoxReference.entry _ _ _ _ (seqOf t) (posOf t y0) (headOf t 1) j a ha (fun j => fq (ix2 (row (seqOf t) (posOf t y0)) (col (headOf t 1) j)))
        (fun k j => fk (ix2 (row (seqOf t) k) (col (headOf t 1) j))) (fg (ix2 (row (seqOf t) (posOf t y0)) (head (headOf t 1))))
        (fun k => fg (ix2 (row (seqOf t) k) (head (headOf t 1)))) (fun j => hq _) (fun k j => hk _) (hg _) (fun k => hg _),
      block_hi (grid0.coords t) _ _ _ _ _ y0 a ha _ _ _ _
        (fun j => by rw [read0, qRow_eq, lane_hi]; exact hq _) (fun k j => by rw [read1, kRow_eq, lane_hi]; exact hk _)
        (by rw [read3, qRow_eq, headCol_eq]; exact hg _) (fun k => by rw [read4, kRow_eq, headCol_eq]; exact hg _) j, hp]
    exact congrArg _ (funext fun k => by rw [read2, kRow_eq, lane_hi])

/-- A value whose magnitude is below infinity is a real number. -/
theorem real_of_olt (x : EReal) (h : Ideal.cmp .olt (max x (-x)) (Ideal.ofBits .f32 0x7F800000#32) = 1#1) : ∃ y : ℝ, x = y := by
  rw [show Ideal.ofBits .f32 0x7F800000#32 = ⊤ by simp [Ideal.ofBits, Ideal.ieee]] at h
  induction x using EReal.rec with
  | bot => simp [Ideal.cmp] at h
  | coe y => exact ⟨y, rfl⟩
  | top => simp [Ideal.cmp] at h

theorem real3 (hm : Cert.Pre_KernelIdeal_finite_scores m) (c : Dev nD) : Real3 m c :=
  ⟨fun i => real_of_olt _ (congrFun (hm c).1 i), fun i => real_of_olt _ (congrFun (hm c).2.1 i), fun i => real_of_olt _ (congrFun (hm c).2.2 i)⟩

/-- Over the reals the attention kernel and the textbook formula have the same result on the same arguments. -/
theorem algebraic : Cert.algebraic_KernelIdeal_ReferenceIdeal_pre_finite_scores := by
  intro m ρ m' ρ' hpre hagree
  refine ⟨fun c => want m c, (θ_run Cert.KernelIdeal.defs _ _).mono (fun r h c => ⟨?_, (h.2.1 c)⟩) (θ_run_and (run_main_quiescent m ρ) (frame m ρ)), ?_⟩
  · exact ((h.1.1 c).1 5).trans (final m c (real3 m hpre c))
  refine (θ_run Cert.ReferenceIdeal.defs _ _).mono (fun _ h c => ?_) (Cert.ReferenceIdeal.Value.run (F := Ideal) m' ρ')
  refine ⟨(h c).1.trans ?_, (h c).2⟩
  rw [Cert.ReferenceIdeal.Read.val_main_v35_eq]
  obtain ⟨h0, h1, h2, h3⟩ := hagree c
  unfold want
  rw [h0, h1, h2, h3]

end Cert.Proof.Fox

end
-- ==== Proof.ProjMath.lean ====
/-
One entry of a normed projection: a token's row, divided by its root mean square and scaled, times a weight column.
-/
module

public import Idealize.ShloMosaic.PureOps.Ideal

@[expose] public section

noncomputable section

namespace Cert.Proof.Proj

open Idealize.ShloMosaic
open scoped BigOperators

/-- The entry that the row `x` of a token, the norm's scale `g` and the weight column `w` give. -/
def entry (x g w : Fin 1024 → EReal) : EReal :=
  ∑ k, x k * Ideal.rsqrt (Ideal.div (∑ k, x k * x k) (Ideal.ofBits .f32 1149239296#32) + Ideal.ofBits .f32 897988541#32) * g k * w k

/-- A column of zeros gives zero, whatever the row holds. -/
theorem entry_zero (x g : Fin 1024 → EReal) : entry x g (fun _ => 0) = 0 := by
  unfold entry; simp only [mul_zero, Finset.sum_const_zero]

/-- The entry with the weight written first. -/
theorem entry_comm (x g w : Fin 1024 → EReal) :
    (∑ k, w k * (x k * Ideal.rsqrt (Ideal.div (∑ k, x k * x k) (Ideal.ofBits .f32 1149239296#32) + Ideal.ofBits .f32 897988541#32) * g k))
      = entry x g w :=
  Finset.sum_congr rfl fun _ _ => mul_comm _ _

/-- The integer zero, read as a real, is zero. -/
theorem sitofp_zero : (FloatOps.sitofp .f32 0#32 : Ideal .f32) = (0 : EReal) := by
  show (((0#32 : BitVec 32).toInt : ℝ) : EReal) = 0
  simp

end Cert.Proof.Proj
-- ==== Proof.EvenProjValue.lean ====
/-
The value of an even layer's projection of the prompt: every output array is the textbook projection of the same arguments.
-/
module

public import proofs.«01_k».proof.Proof.ProjMath
public import proofs.«01_k».proof.Proof.Gen.EvenProjIdeal.Value
public import proofs.«01_k».proof.Proof.Gen.EvenProjReferenceIdeal.Run
public import proofs.«01_k».proof.Proof.Gen.EvenProjReferenceIdeal.Read
public import proofs.«01_k».proof.Defs
public import Idealize.ShloMosaic.Lib.Pointwise
public import Idealize.ShloMosaic.Lib.Pipeline.ValueKit
public import Idealize.ShloMosaic.Lib.StableHlo.ReadAt
public import Idealize.ShloMosaic.Lib.StableHlo.Run

@[expose] public section

set_option maxHeartbeats 4000000
noncomputable section

namespace Cert.Proof.EvenProj

open Idealize.ShloMosaic Idealize.ShloMosaic.TcCoe Idealize.SL.Sem
open scoped BigOperators
open Cert.EvenProjIdeal Cert.EvenProjIdeal.Gen Cert.Proof.Proj
open Cert.EvenProjReferenceIdeal.Read (val_main_v0 val_main_cst val_main_v1 val_main_v2 val_main_cst_0 val_main_v3 val_main_v4 val_main_cst_1 val_main_v5 val_main_v6 val_main_v7 val_main_v8 val_main_v9 val_main_v10 val_main_v11 val_main_v12 val_main_v13 val_main_v14 val_main_v15 val_main_v16 val_main_v17 val_main_c val_main_call0_v0 val_main_v18 val_main_v19 val_main_v20 val_main_v21 val_main_v22 val_main_v23 val_main_v24 val_main_v25 val_main_v26 val_main_v27)

/-- The row of the whole arrays that grid point `t` holds at row `r` of its block. -/
def rowOf (t : Fin 32) (r : Fin 512) : Fin 16384 := ⟨512 * t.val + r.val, by omega⟩

section textbook
variable (x : (⟨S4x4096x1024, .f32⟩ : BufTy).Contents (Elt Ideal)) (g : (⟨S1024, .f32⟩ : BufTy).Contents (Elt Ideal)) (w : (⟨S1024x3080, .f32⟩ : BufTy).Contents (Elt Ideal))

/-- The textbook's outputs with a token's entries in a row. The gates' columns past the last gate are zero. -/
theorem text (i : Fin 16384) :
    (∀ j : Fin 256, val_main_v19 (F := Ideal) x g w (ix2 i j)
      = entry (fun k => x (ix3 ⟨(i).val / 4096, by omega⟩ ⟨(i).val % 4096, by omega⟩ k)) (fun k => g (ix1 k)) (fun k => w (ix2 k ⟨j.val, by omega⟩)))
    ∧ (∀ j : Fin 256, val_main_v20 (F := Ideal) x g w (ix2 i j)
      = entry (fun k => x (ix3 ⟨(i).val / 4096, by omega⟩ ⟨(i).val % 4096, by omega⟩ k)) (fun k => g (ix1 k)) (fun k => w (ix2 k ⟨256 + j.val, by omega⟩)))
    ∧ (∀ j : Fin 512, val_main_v21 (F := Ideal) x g w (ix2 i j)
      = entry (fun k => x (ix3 ⟨(i).val / 4096, by omega⟩ ⟨(i).val % 4096, by omega⟩ k)) (fun k => g (ix1 k)) (fun k => w (ix2 k ⟨512 + j.val, by omega⟩)))
    ∧ (∀ j : Fin 512, val_main_v22 (F := Ideal) x g w (ix2 i j)
      = entry (fun k => x (ix3 ⟨(i).val / 4096, by omega⟩ ⟨(i).val % 4096, by omega⟩ k)) (fun k => g (ix1 k)) (fun k => w (ix2 k ⟨1024 + j.val, by omega⟩)))
    ∧ (∀ j : Fin 128, val_main_v18 (F := Ideal) x g w (ix2 i j)
      = entry (fun k => x (ix3 ⟨(i).val / 4096, by omega⟩ ⟨(i).val % 4096, by omega⟩ k)) (fun k => g (ix1 k)) (fun k => if h : j.val < 8 then w (ix2 k ⟨1536 + j.val, by omega⟩) else (0 : EReal)))
    ∧ (∀ j : Fin 512, val_main_v23 (F := Ideal) x g w (ix2 i j)
      = entry (fun k => x (ix3 ⟨(i).val / 4096, by omega⟩ ⟨(i).val % 4096, by omega⟩ k)) (fun k => g (ix1 k)) (fun k => w (ix2 k ⟨1544 + j.val, by omega⟩)))
    ∧ (∀ j : Fin 512, val_main_v24 (F := Ideal) x g w (ix2 i j)
      = entry (fun k => x (ix3 ⟨(i).val / 4096, by omega⟩ ⟨(i).val % 4096, by omega⟩ k)) (fun k => g (ix1 k)) (fun k => w (ix2 k ⟨2056 + j.val, by omega⟩)))
    ∧ (∀ j : Fin 512, val_main_v25 (F := Ideal) x g w (ix2 i j)
      = entry (fun k => x (ix3 ⟨(i).val / 4096, by omega⟩ ⟨(i).val % 4096, by omega⟩ k)) (fun k => g (ix1 k)) (fun k => w (ix2 k ⟨2568 + j.val, by omega⟩))) := by
  refine ⟨fun j => ?_, fun j => ?_, fun j => ?_, fun j => ?_, fun j => ?_, fun j => ?_, fun j => ?_, fun j => ?_⟩ <;> pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v16, val_main_v17, val_main_c, val_main_call0_v0, val_main_v18, val_main_v19, val_main_v20, val_main_v21, val_main_v22, val_main_v23, val_main_v24, val_main_v25] <;>
    first
    | rfl
    | split
      · rfl
      · exact sitofp_zero.trans (entry_zero _ _).symm

/-- The textbook's outputs with a token's entries in a column. -/
theorem textT (b : Fin 4) (i : Fin 4096) :
    (∀ j : Fin 512, val_main_v26 (F := Ideal) x g w (ix3 b j i)
      = entry (fun k => x (ix3 b i k)) (fun k => g (ix1 k)) (fun k => w (ix2 k ⟨2056 + j.val, by omega⟩)))
    ∧ (∀ j : Fin 512, val_main_v27 (F := Ideal) x g w (ix3 b j i)
      = entry (fun k => x (ix3 b i k)) (fun k => g (ix1 k)) (fun k => w (ix2 k ⟨2568 + j.val, by omega⟩))) := by
  refine ⟨fun j => ?_, fun j => ?_⟩ <;> pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v26, val_main_v27] <;> rfl
end textbook

section blocks
variable (P0 : Vec Ideal S512x1024 .f32) (P1 : Vec Ideal S1x1024 .f32)

/-- The entries of the blocks that a grid point stores with a token's entries in a row. -/
theorem block (r : Fin 512) :
    (∀ (W : Vec Ideal S1024x256 .bf16) (j : Fin 256), (k0_pay3 P0 P1 W) (ix2 r j)
      = entry (fun k => P0 (ix2 r k)) (fun k => P1 (ix2 0 k)) (fun k => W (ix2 k j)))
    ∧ (∀ (W : Vec Ideal S1024x256 .bf16) (j : Fin 256), (k0_pay4 P0 P1 W) (ix2 r j)
      = entry (fun k => P0 (ix2 r k)) (fun k => P1 (ix2 0 k)) (fun k => W (ix2 k j)))
    ∧ (∀ (W : Vec Ideal S1024x512 .bf16) (j : Fin 512), (k0_pay5 P0 P1 W) (ix2 r j)
      = entry (fun k => P0 (ix2 r k)) (fun k => P1 (ix2 0 k)) (fun k => W (ix2 k j)))
    ∧ (∀ (W : Vec Ideal S1024x512 .bf16) (j : Fin 512), (k0_pay7 (k0_pay2 P0 P1) (k0_pay6 W) (constant S512x512 .f32 0x00000000#32)) (ix2 r j)
      = entry (fun k => P0 (ix2 r k)) (fun k => P1 (ix2 0 k)) (fun k => W (ix2 k j)))
    ∧ (∀ (W : Vec Ideal S1024x128 .bf16) (j : Fin 128), (k0_pay8 (k0_pay2 P0 P1) W) (ix2 r j)
      = entry (fun k => P0 (ix2 r k)) (fun k => P1 (ix2 0 k)) (fun k => W (ix2 k j)))
    ∧ (∀ (W : Vec Ideal S1024x512 .bf16) (j : Fin 512), (k0_pay9 (k0_pay2 P0 P1) W) (ix2 r j)
      = entry (fun k => P0 (ix2 r k)) (fun k => P1 (ix2 0 k)) (fun k => W (ix2 k j)))
    ∧ (∀ (W : Vec Ideal S1024x512 .bf16) (j : Fin 512), (k0_pay10 (k0_pay2 P0 P1) W) (ix2 r j)
      = entry (fun k => P0 (ix2 r k)) (fun k => P1 (ix2 0 k)) (fun k => W (ix2 k j)))
    ∧ (∀ (W : Vec Ideal S1024x512 .bf16) (j : Fin 512), (k0_pay11 (k0_pay2 P0 P1) W) (ix2 r j)
      = entry (fun k => P0 (ix2 r k)) (fun k => P1 (ix2 0 k)) (fun k => W (ix2 k j))) := by
  refine ⟨fun W j => ?_, fun W j => ?_, fun W j => ?_, fun W j => ?_, fun W j => ?_, fun W j => ?_, fun W j => ?_, fun W j => ?_⟩ <;> pointwise [k0_pay2, k0_pay3, k0_pay4, k0_pay5, k0_pay6, k0_pay7, k0_pay8, k0_pay9, k0_pay10, k0_pay11] <;> rfl

/-- The entries of the blocks that a grid point stores with a token's entries in a column. -/
theorem blockT (r : Fin 512) :
    (∀ (W : Vec Ideal S512x1024 .bf16) (j : Fin 512), (k0_pay12 (k0_pay2 P0 P1) W) (ix3 0 j r)
      = entry (fun k => P0 (ix2 r k)) (fun k => P1 (ix2 0 k)) (fun k => W (ix2 j k)))
    ∧ (∀ (W : Vec Ideal S512x1024 .bf16) (j : Fin 512), (k0_pay1 (k0_pay2 P0 P1) W) (ix3 0 j r)
      = entry (fun k => P0 (ix2 r k)) (fun k => P1 (ix2 0 k)) (fun k => W (ix2 j k))) := by
  refine ⟨fun W j => ?_, fun W j => ?_⟩ <;> pointwise [k0_pay1, k0_pay2, k0_pay12] <;> exact entry_comm _ _ _
end blocks

variable (m : (ℓ : Loc nD τ sig) → Buf (Elt Ideal) ℓ)

/-- The block index of each window at a grid point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![t.val, 0] ∧ win0_13.index t = ![t.val, 0] ∧ win0_14.index t = ![t.val, 0] ∧ win0_15.index t = ![t.val, 0]
    ∧ win0_16.index t = ![t.val, 0] ∧ win0_17.index t = ![t.val, 0] ∧ win0_18.index t = ![t.val, 0] ∧ win0_19.index t = ![t.val, 0]
    ∧ win0_20.index t = ![t.val / 8, 0, t.val % 8] ∧ win0_21.index t = ![t.val / 8, 0, t.val % 8] :=
  (by decide +kernel : ∀ t : Fin grid0.N, _)

section reads
variable (c : Dev nD) (t : Fin cfg0.N)

/-- What the kernel finds in the arrays behind its windows, read from the arguments: the rows, the scale, the weights. -/
theorem host :
    (∀ (r : Fin 16384) (j : Fin 1024), V m c main_v17 (ix2 r j) = m ((c : Thread nD τ).loc main_arg0) (ix3 ⟨(r).val / 4096, by omega⟩ ⟨(r).val % 4096, by omega⟩ j))
    ∧ (∀ j : Fin 1024, V m c main_v20 (ix2 0 j) = m ((c : Thread nD τ).loc main_arg1) (ix1 j))
    ∧ (∀ (k : Fin 1024) (j : Fin 256), V m c main_v9 (ix2 k j) = m ((c : Thread nD τ).loc main_arg2) (ix2 k ⟨j.val, by omega⟩))
    ∧ (∀ (k : Fin 1024) (j : Fin 256), V m c main_v10 (ix2 k j) = m ((c : Thread nD τ).loc main_arg2) (ix2 k ⟨256 + j.val, by omega⟩))
    ∧ (∀ (k : Fin 1024) (j : Fin 512), V m c main_v11 (ix2 k j) = m ((c : Thread nD τ).loc main_arg2) (ix2 k ⟨512 + j.val, by omega⟩))
    ∧ (∀ (k : Fin 1024) (j : Fin 512), V m c main_v12 (ix2 k j) = m ((c : Thread nD τ).loc main_arg2) (ix2 k ⟨1024 + j.val, by omega⟩))
    ∧ (∀ (k : Fin 1024) (j : Fin 128), V m c main_v13 (ix2 k j) = if h : j.val < 8 then m ((c : Thread nD τ).loc main_arg2) (ix2 k ⟨1536 + j.val, by omega⟩) else (0 : EReal))
    ∧ (∀ (k : Fin 1024) (j : Fin 512), V m c main_v14 (ix2 k j) = m ((c : Thread nD τ).loc main_arg2) (ix2 k ⟨1544 + j.val, by omega⟩))
    ∧ (∀ (k : Fin 1024) (j : Fin 512), V m c main_v15 (ix2 k j) = m ((c : Thread nD τ).loc main_arg2) (ix2 k ⟨2056 + j.val, by omega⟩))
    ∧ (∀ (k : Fin 1024) (j : Fin 512), V m c main_v16 (ix2 k j) = m ((c : Thread nD τ).loc main_arg2) (ix2 k ⟨2568 + j.val, by omega⟩))
    ∧ (∀ (k : Fin 1024) (j : Fin 512), V m c main_v18 (ix2 j k) = m ((c : Thread nD τ).loc main_arg2) (ix2 k ⟨2056 + j.val, by omega⟩))
    ∧ (∀ (k : Fin 1024) (j : Fin 512), V m c main_v19 (ix2 j k) = m ((c : Thread nD τ).loc main_arg2) (ix2 k ⟨2568 + j.val, by omega⟩)) := by
  refine ⟨fun r j => ?_, fun j => ?_, fun k j => ?_, fun k j => ?_, fun k j => ?_, fun k j => ?_, fun k j => ?_, fun k j => ?_, fun k j => ?_, fun k j => ?_, fun k j => ?_, fun k j => ?_⟩ <;>
    (unfold V
     simp only [hostOps0, hostOps0_1, hostOps0_2, List.flatten_cons, List.flatten_nil, List.append_nil, List.cons_append,
       List.nil_append, StableHlo.TRef.binary, StableHlo.TRef.unary, StableHlo.TRef.toBuf, StableHlo.TRef.ofBuf, cast_eq]
     after_results_simp
     pointwise []) <;> rw [sitofp_zero]

/-- The rows' window shows the grid point's rows, the other windows show their whole arrays. -/
theorem read :
    (∀ (r : Fin 512) (j : Fin 1024), (iblk m c 0 t) (ix2 r j) = m ((c : Thread nD τ).loc main_arg0) (ix3 ⟨(rowOf t r).val / 4096, by omega⟩ ⟨(rowOf t r).val % 4096, by omega⟩ j))
    ∧ (∀ j : Fin 1024, (iblk m c 1 t) (ix2 0 j) = m ((c : Thread nD τ).loc main_arg1) (ix1 j))
    ∧ (∀ (k : Fin 1024) (j : Fin 256), (iblk m c 2 t) (ix2 k j) = m ((c : Thread nD τ).loc main_arg2) (ix2 k ⟨j.val, by omega⟩))
    ∧ (∀ (k : Fin 1024) (j : Fin 256), (iblk m c 3 t) (ix2 k j) = m ((c : Thread nD τ).loc main_arg2) (ix2 k ⟨256 + j.val, by omega⟩))
    ∧ (∀ (k : Fin 1024) (j : Fin 512), (iblk m c 4 t) (ix2 k j) = m ((c : Thread nD τ).loc main_arg2) (ix2 k ⟨512 + j.val, by omega⟩))
    ∧ (∀ (k : Fin 1024) (j : Fin 512), (iblk m c 5 t) (ix2 k j) = m ((c : Thread nD τ).loc main_arg2) (ix2 k ⟨1024 + j.val, by omega⟩))
    ∧ (∀ (k : Fin 1024) (j : Fin 128), (iblk m c 6 t) (ix2 k j) = if h : j.val < 8 then m ((c : Thread nD τ).loc main_arg2) (ix2 k ⟨1536 + j.val, by omega⟩) else (0 : EReal))
    ∧ (∀ (k : Fin 1024) (j : Fin 512), (iblk m c 7 t) (ix2 k j) = m ((c : Thread nD τ).loc main_arg2) (ix2 k ⟨1544 + j.val, by omega⟩))
    ∧ (∀ (k : Fin 1024) (j : Fin 512), (iblk m c 8 t) (ix2 k j) = m ((c : Thread nD τ).loc main_arg2) (ix2 k ⟨2056 + j.val, by omega⟩))
    ∧ (∀ (k : Fin 1024) (j : Fin 512), (iblk m c 9 t) (ix2 k j) = m ((c : Thread nD τ).loc main_arg2) (ix2 k ⟨2568 + j.val, by omega⟩))
    ∧ (∀ (k : Fin 1024) (j : Fin 512), (iblk m c 10 t) (ix2 j k) = m ((c : Thread nD τ).loc main_arg2) (ix2 k ⟨2056 + j.val, by omega⟩))
    ∧ (∀ (k : Fin 1024) (j : Fin 512), (iblk m c 11 t) (ix2 j k) = m ((c : Thread nD τ).loc main_arg2) (ix2 k ⟨2568 + j.val, by omega⟩)) := by
  refine ⟨fun r j => (congrArg (V m c main_v17) (show (win0_0.blk t).view.emb (ix2 r j) = ix2 (rowOf t r) j from ?_)).trans ((host m c).1 _ j),
    fun j => (congrArg (V m c main_v20) (show (win0_1.blk t).view.emb (ix2 0 j) = ix2 0 j from ?_)).trans ((host m c).2.1 j),
    fun k j => (congrArg (V m c main_v9) (show (win0_2.blk t).view.emb (ix2 k j) = ix2 k j from ?_)).trans ((host m c).2.2.1 k j),
    fun k j => (congrArg (V m c main_v10) (show (win0_3.blk t).view.emb (ix2 k j) = ix2 k j from ?_)).trans ((host m c).2.2.2.1 k j),
    fun k j => (congrArg (V m c main_v11) (show (win0_4.blk t).view.emb (ix2 k j) = ix2 k j from ?_)).trans ((host m c).2.2.2.2.1 k j),
    fun k j => (congrArg (V m c main_v12) (show (win0_5.blk t).view.emb (ix2 k j) = ix2 k j from ?_)).trans ((host m c).2.2.2.2.2.1 k j),
    fun k j => (congrArg (V m c main_v13) (show (win0_6.blk t).view.emb (ix2 k j) = ix2 k j from ?_)).trans ((host m c).2.2.2.2.2.2.1 k j),
    fun k j => (congrArg (V m c main_v14) (show (win0_7.blk t).view.emb (ix2 k j) = ix2 k j from ?_)).trans ((host m c).2.2.2.2.2.2.2.1 k j),
    fun k j => (congrArg (V m c main_v15) (show (win0_8.blk t).view.emb (ix2 k j) = ix2 k j from ?_)).trans ((host m c).2.2.2.2.2.2.2.2.1 k j),
    fun k j => (congrArg (V m c main_v16) (show (win0_9.blk t).view.emb (ix2 k j) = ix2 k j from ?_)).trans ((host m c).2.2.2.2.2.2.2.2.2.1 k j),
    fun k j => (congrArg (V m c main_v18) (show (win0_10.blk t).view.emb (ix2 j k) = ix2 j k from ?_)).trans ((host m c).2.2.2.2.2.2.2.2.2.2.1 k j),
    fun k j => (congrArg (V m c main_v19) (show (win0_11.blk t).view.emb (ix2 j k) = ix2 j k from ?_)).trans ((host m c).2.2.2.2.2.2.2.2.2.2.2 k j)⟩ <;> blk_ext [rowOf, idx t]
end reads

/-! Each output array of the kernel is the textbook's output of the kernel's arguments. -/

theorem final12 (c : Dev nD) : (dats m 0 c).arrAt 12 cfg0.N
    = val_main_v19 (F := Ideal) (m ((c : Thread nD τ).loc main_arg0)) (m ((c : Thread nD τ).loc main_arg1)) (m ((c : Thread nD τ).loc main_arg2)) := by
  refine (dats m 0 c).arrAt_eq_of_covers 12 _ (by decide +kernel) fun t hf y => ?_
  blk_simp
  rw [after0_12]
  unfold_out out0_12
  frame_out
  idx_vars y
  have e : (win0_12.blk t).view.emb (ix2 y0 y1) = ix2 (rowOf t y0) y1 := by blk_ext [rowOf, idx t]
  rw [e, (text _ _ _ _).1]
  refine ((block _ _ y0).1 _ y1).trans ?_
  simp only [read m c t]

theorem final13 (c : Dev nD) : (dats m 0 c).arrAt 13 cfg0.N
    = val_main_v20 (F := Ideal) (m ((c : Thread nD τ).loc main_arg0)) (m ((c : Thread nD τ).loc main_arg1)) (m ((c : Thread nD τ).loc main_arg2)) := by
  refine (dats m 0 c).arrAt_eq_of_covers 13 _ (by decide +kernel) fun t hf y => ?_
  blk_simp
  rw [after0_13]
  unfold_out out0_13
  frame_out
  idx_vars y
  have e : (win0_13.blk t).view.emb (ix2 y0 y1) = ix2 (rowOf t y0) y1 := by blk_ext [rowOf, idx t]
  rw [e, (text _ _ _ _).2.1]
  refine ((block _ _ y0).2.1 _ y1).trans ?_
  simp only [read m c t]

theorem final14 (c : Dev nD) : (dats m 0 c).arrAt 14 cfg0.N
    = val_main_v21 (F := Ideal) (m ((c : Thread nD τ).loc main_arg0)) (m ((c : Thread nD τ).loc main_arg1)) (m ((c : Thread nD τ).loc main_arg2)) := by
  refine (dats m 0 c).arrAt_eq_of_covers 14 _ (by decide +kernel) fun t hf y => ?_
  blk_simp
  rw [after0_14]
  unfold_out out0_14
  frame_out
  idx_vars y
  have e : (win0_14.blk t).view.emb (ix2 y0 y1) = ix2 (rowOf t y0) y1 := by blk_ext [rowOf, idx t]
  rw [e, (text _ _ _ _).2.2.1]
  refine ((block _ _ y0).2.2.1 _ y1).trans ?_
  simp only [read m c t]

theorem final15 (c : Dev nD) : (dats m 0 c).arrAt 15 cfg0.N
    = val_main_v22 (F := Ideal) (m ((c : Thread nD τ).loc main_arg0)) (m ((c : Thread nD τ).loc main_arg1)) (m ((c : Thread nD τ).loc main_arg2)) := by
  refine (dats m 0 c).arrAt_eq_of_covers 15 _ (by decide +kernel) fun t hf y => ?_
  blk_simp
  rw [after0_15]
  unfold_out out0_15
  frame_out
  idx_vars y
  have e : (win0_15.blk t).view.emb (ix2 y0 y1) = ix2 (rowOf t y0) y1 := by blk_ext [rowOf, idx t]
  rw [e, (text _ _ _ _).2.2.2.1]
  refine ((block _ _ y0).2.2.2.1 _ y1).trans ?_
  simp only [read m c t]

theorem final16 (c : Dev nD) : (dats m 0 c).arrAt 16 cfg0.N
    = val_main_v18 (F := Ideal) (m ((c : Thread nD τ).loc main_arg0)) (m ((c : Thread nD τ).loc main_arg1)) (m ((c : Thread nD τ).loc main_arg2)) := by
  refine (dats m 0 c).arrAt_eq_of_covers 16 _ (by decide +kernel) fun t hf y => ?_
  blk_simp
  rw [after0_16]
  unfold_out out0_16
  frame_out
  idx_vars y
  have e : (win0_16.blk t).view.emb (ix2 y0 y1) = ix2 (rowOf t y0) y1 := by blk_ext [rowOf, idx t]
  rw [e, (text _ _ _ _).2.2.2.2.1]
  refine ((block _ _ y0).2.2.2.2.1 _ y1).trans ?_
  simp only [read m c t]

theorem final17 (c : Dev nD) : (dats m 0 c).arrAt 17 cfg0.N
    = val_main_v23 (F := Ideal) (m ((c : Thread nD τ).loc main_arg0)) (m ((c : Thread nD τ).loc main_arg1)) (m ((c : Thread nD τ).loc main_arg2)) := by
  refine (dats m 0 c).arrAt_eq_of_covers 17 _ (by decide +kernel) fun t hf y => ?_
  blk_simp
  rw [after0_17]
  unfold_out out0_17
  frame_out
  idx_vars y
  have e : (win0_17.blk t).view.emb (ix2 y0 y1) = ix2 (rowOf t y0) y1 := by blk_ext [rowOf, idx t]
  rw [e, (text _ _ _ _).2.2.2.2.2.1]
  refine ((block _ _ y0).2.2.2.2.2.1 _ y1).trans ?_
  simp only [read m c t]

theorem final18 (c : Dev nD) : (dats m 0 c).arrAt 18 cfg0.N
    = val_main_v24 (F := Ideal) (m ((c : Thread nD τ).loc main_arg0)) (m ((c : Thread nD τ).loc main_arg1)) (m ((c : Thread nD τ).loc main_arg2)) := by
  refine (dats m 0 c).arrAt_eq_of_covers 18 _ (by decide +kernel) fun t hf y => ?_
  blk_simp
  rw [after0_18]
  unfold_out out0_18
  frame_out
  idx_vars y
  have e : (win0_18.blk t).view.emb (ix2 y0 y1) = ix2 (rowOf t y0) y1 := by blk_ext [rowOf, idx t]
  rw [e, (text _ _ _ _).2.2.2.2.2.2.1]
  refine ((block _ _ y0).2.2.2.2.2.2.1 _ y1).trans ?_
  simp only [read m c t]

theorem final19 (c : Dev nD) : (dats m 0 c).arrAt 19 cfg0.N
    = val_main_v25 (F := Ideal) (m ((c : Thread nD τ).loc main_arg0)) (m ((c : Thread nD τ).loc main_arg1)) (m ((c : Thread nD τ).loc main_arg2)) := by
  refine (dats m 0 c).arrAt_eq_of_covers 19 _ (by decide +kernel) fun t hf y => ?_
  blk_simp
  rw [after0_19]
  unfold_out out0_19
  frame_out
  idx_vars y
  have e : (win0_19.blk t).view.emb (ix2 y0 y1) = ix2 (rowOf t y0) y1 := by blk_ext [rowOf, idx t]
  rw [e, (text _ _ _ _).2.2.2.2.2.2.2]
  refine ((block _ _ y0).2.2.2.2.2.2.2 _ y1).trans ?_
  simp only [read m c t]

theorem final20 (c : Dev nD) : (dats m 0 c).arrAt 20 cfg0.N
    = val_main_v26 (F := Ideal) (m ((c : Thread nD τ).loc main_arg0)) (m ((c : Thread nD τ).loc main_arg1)) (m ((c : Thread nD τ).loc main_arg2)) := by
  refine (dats m 0 c).arrAt_eq_of_covers 20 _ (by decide +kernel) fun t hf y => ?_
  blk_simp
  rw [after0_20]
  unfold_out out0_20
  frame_out
  idx_vars y
  obtain rfl : y0 = 0 := Subsingleton.elim _ _
  have ht : t.val < 32 := t.isLt
  have e : (win0_20.blk t).view.emb (ix3 0 y1 y2) = ix3 ⟨t.val / 8, by omega⟩ y1 ⟨512 * (t.val % 8) + y2.val, by omega⟩ := by blk_ext [idx t]
  rw [e, (textT _ _ _ _ _).1]
  refine ((blockT _ _ y2).1 _ y1).trans ?_
  simp only [read m c t]
  have a : (rowOf t y2).val / 4096 = t.val / 8 := by simp only [rowOf]; omega
  have b : (rowOf t y2).val % 4096 = 512 * (t.val % 8) + y2.val := by simp only [rowOf]; omega
  simp only [a, b]

theorem final21 (c : Dev nD) : (dats m 0 c).arrAt 21 cfg0.N
    = val_main_v27 (F := Ideal) (m ((c : Thread nD τ).loc main_arg0)) (m ((c : Thread nD τ).loc main_arg1)) (m ((c : Thread nD τ).loc main_arg2)) := by
  refine (dats m 0 c).arrAt_eq_of_covers 21 _ (by decide +kernel) fun t hf y => ?_
  blk_simp
  rw [after0_21]
  unfold_out out0_21
  frame_out
  idx_vars y
  obtain rfl : y0 = 0 := Subsingleton.elim _ _
  have ht : t.val < 32 := t.isLt
  have e : (win0_21.blk t).view.emb (ix3 0 y1 y2) = ix3 ⟨t.val / 8, by omega⟩ y1 ⟨512 * (t.val % 8) + y2.val, by omega⟩ := by blk_ext [idx t]
  rw [e, (textT _ _ _ _ _).2]
  refine ((blockT _ _ y2).2 _ y1).trans ?_
  simp only [read m c t]
  have a : (rowOf t y2).val / 4096 = t.val / 8 := by simp only [rowOf]; omega
  have b : (rowOf t y2).val % 4096 = 512 * (t.val % 8) + y2.val := by simp only [rowOf]; omega
  simp only [a, b]

/-- Over the reals the kernel and the textbook lines have the same results on the same arguments. -/
theorem algebraic : Cert.algebraic_EvenProjIdeal_EvenProjReferenceIdeal := by
  intro m ρ m' ρ' _ hagree
  refine ⟨fun c => val_main_v19 (F := Ideal) (m ((c : Thread nD τ).loc main_arg0)) (m ((c : Thread nD τ).loc main_arg1)) (m ((c : Thread nD τ).loc main_arg2)), fun c => val_main_v20 (F := Ideal) (m ((c : Thread nD τ).loc main_arg0)) (m ((c : Thread nD τ).loc main_arg1)) (m ((c : Thread nD τ).loc main_arg2)), fun c => val_main_v21 (F := Ideal) (m ((c : Thread nD τ).loc main_arg0)) (m ((c : Thread nD τ).loc main_arg1)) (m ((c : Thread nD τ).loc main_arg2)), fun c => val_main_v22 (F := Ideal) (m ((c : Thread nD τ).loc main_arg0)) (m ((c : Thread nD τ).loc main_arg1)) (m ((c : Thread nD τ).loc main_arg2)), fun c => val_main_v18 (F := Ideal) (m ((c : Thread nD τ).loc main_arg0)) (m ((c : Thread nD τ).loc main_arg1)) (m ((c : Thread nD τ).loc main_arg2)), fun c => val_main_v23 (F := Ideal) (m ((c : Thread nD τ).loc main_arg0)) (m ((c : Thread nD τ).loc main_arg1)) (m ((c : Thread nD τ).loc main_arg2)), fun c => val_main_v24 (F := Ideal) (m ((c : Thread nD τ).loc main_arg0)) (m ((c : Thread nD τ).loc main_arg1)) (m ((c : Thread nD τ).loc main_arg2)), fun c => val_main_v25 (F := Ideal) (m ((c : Thread nD τ).loc main_arg0)) (m ((c : Thread nD τ).loc main_arg1)) (m ((c : Thread nD τ).loc main_arg2)), fun c => val_main_v26 (F := Ideal) (m ((c : Thread nD τ).loc main_arg0)) (m ((c : Thread nD τ).loc main_arg1)) (m ((c : Thread nD τ).loc main_arg2)), fun c => val_main_v27 (F := Ideal) (m ((c : Thread nD τ).loc main_arg0)) (m ((c : Thread nD τ).loc main_arg1)) (m ((c : Thread nD τ).loc main_arg2)),
    (θ_run Cert.EvenProjIdeal.defs _ _).mono (fun _ h c => ⟨(h c).1.trans (final12 m c), (h c).2.1.trans (final13 m c), (h c).2.2.1.trans (final14 m c), (h c).2.2.2.1.trans (final15 m c), (h c).2.2.2.2.1.trans (final16 m c), (h c).2.2.2.2.2.1.trans (final17 m c), (h c).2.2.2.2.2.2.1.trans (final18 m c), (h c).2.2.2.2.2.2.2.1.trans (final19 m c), (h c).2.2.2.2.2.2.2.2.1.trans (final20 m c), (h c).2.2.2.2.2.2.2.2.2.1.trans (final21 m c), (h c).2.2.2.2.2.2.2.2.2.2⟩)
      (Cert.EvenProjIdeal.Value.run_blocks m ρ), ?_⟩
  refine (θ_run Cert.EvenProjReferenceIdeal.defs _ _).mono (fun _ h c => ?_) (Cert.EvenProjReferenceIdeal.Value.run (F := Ideal) m' ρ')
  obtain ⟨h0, h1, h2⟩ := hagree c
  exact ⟨(h c).1.trans (by rw [Cert.EvenProjReferenceIdeal.Read.val_main_v19_eq, h0, h1, h2]), (h c).2.1.trans (by rw [Cert.EvenProjReferenceIdeal.Read.val_main_v20_eq, h0, h1, h2]), (h c).2.2.1.trans (by rw [Cert.EvenProjReferenceIdeal.Read.val_main_v21_eq, h0, h1, h2]), (h c).2.2.2.1.trans (by rw [Cert.EvenProjReferenceIdeal.Read.val_main_v22_eq, h0, h1, h2]), (h c).2.2.2.2.1.trans (by rw [Cert.EvenProjReferenceIdeal.Read.val_main_v18_eq, h0, h1, h2]), (h c).2.2.2.2.2.1.trans (by rw [Cert.EvenProjReferenceIdeal.Read.val_main_v23_eq, h0, h1, h2]), (h c).2.2.2.2.2.2.1.trans (by rw [Cert.EvenProjReferenceIdeal.Read.val_main_v24_eq, h0, h1, h2]), (h c).2.2.2.2.2.2.2.1.trans (by rw [Cert.EvenProjReferenceIdeal.Read.val_main_v25_eq, h0, h1, h2]), (h c).2.2.2.2.2.2.2.2.1.trans (by rw [Cert.EvenProjReferenceIdeal.Read.val_main_v26_eq, h0, h1, h2]), (h c).2.2.2.2.2.2.2.2.2.1.trans (by rw [Cert.EvenProjReferenceIdeal.Read.val_main_v27_eq, h0, h1, h2]), (h c).2.2.2.2.2.2.2.2.2.2⟩

end Cert.Proof.EvenProj
-- ==== Proof.OddProjValue.lean ====
/-
The value of an odd layer's projection of the prompt: every output array is the textbook projection of the same arguments.
-/
module

public import proofs.«01_k».proof.Proof.ProjMath
public import proofs.«01_k».proof.Proof.Gen.OddProjIdeal.Value
public import proofs.«01_k».proof.Proof.Gen.OddProjReferenceIdeal.Run
public import proofs.«01_k».proof.Proof.Gen.OddProjReferenceIdeal.Read
public import proofs.«01_k».proof.Defs
public import Idealize.ShloMosaic.Lib.Pointwise
public import Idealize.ShloMosaic.Lib.Pipeline.ValueKit
public import Idealize.ShloMosaic.Lib.StableHlo.ReadAt
public import Idealize.ShloMosaic.Lib.StableHlo.Run

@[expose] public section

set_option maxHeartbeats 4000000
noncomputable section

namespace Cert.Proof.OddProj

open Idealize.ShloMosaic Idealize.ShloMosaic.TcCoe Idealize.SL.Sem
open scoped BigOperators
open Cert.OddProjIdeal Cert.OddProjIdeal.Gen Cert.Proof.Proj
open Cert.OddProjReferenceIdeal.Read (val_main_v0 val_main_cst val_main_v1 val_main_v2 val_main_cst_0 val_main_v3 val_main_v4 val_main_cst_1 val_main_v5 val_main_v6 val_main_v7 val_main_v8 val_main_v9 val_main_v10 val_main_v11 val_main_v12 val_main_v13 val_main_v14 val_main_v15 val_main_c val_main_call0_v0 val_main_v16 val_main_v17 val_main_v18 val_main_v19 val_main_v20 val_main_v21 val_main_v22 val_main_v23)

/-- The row of the whole arrays that grid point `t` holds at row `r` of its block. -/
def rowOf (t : Fin 32) (r : Fin 512) : Fin 16384 := ⟨512 * t.val + r.val, by omega⟩

section textbook
variable (x : (⟨S16384x1024, .f32⟩ : BufTy).Contents (Elt Ideal)) (g : (⟨S1024, .f32⟩ : BufTy).Contents (Elt Ideal)) (w : (⟨S1024x3088, .f32⟩ : BufTy).Contents (Elt Ideal))

/-- The textbook's outputs with a token's entries in a row. The gates' columns past the last gate are zero. -/
theorem text (i : Fin 16384) :
    (∀ j : Fin 1024, val_main_v17 (F := Ideal) x g w (ix2 i j)
      = entry (fun k => x (ix2 (i) k)) (fun k => g (ix1 k)) (fun k => w (ix2 k ⟨j.val, by omega⟩)))
    ∧ (∀ j : Fin 1024, val_main_v18 (F := Ideal) x g w (ix2 i j)
      = entry (fun k => x (ix2 (i) k)) (fun k => g (ix1 k)) (fun k => w (ix2 k ⟨1024 + j.val, by omega⟩)))
    ∧ (∀ j : Fin 1024, val_main_v19 (F := Ideal) x g w (ix2 i j)
      = entry (fun k => x (ix2 (i) k)) (fun k => g (ix1 k)) (fun k => w (ix2 k ⟨2048 + j.val, by omega⟩)))
    ∧ (∀ j : Fin 128, val_main_v16 (F := Ideal) x g w (ix2 i j)
      = entry (fun k => x (ix2 (i) k)) (fun k => g (ix1 k)) (fun k => if h : j.val < 16 then w (ix2 k ⟨3072 + j.val, by omega⟩) else (0 : EReal))) := by
  refine ⟨fun j => ?_, fun j => ?_, fun j => ?_, fun j => ?_⟩ <;> pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v15, val_main_c, val_main_call0_v0, val_main_v16, val_main_v17, val_main_v18, val_main_v19] <;>
    first
    | rfl
    | split
      · rfl
      · exact sitofp_zero.trans (entry_zero _ _).symm

/-- The textbook's outputs with a token's entries in a column. -/
theorem textT (b : Fin 4) (i : Fin 4096) :
    (∀ j : Fin 1024, val_main_v21 (F := Ideal) x g w (ix3 b j i)
      = entry (fun k => x (ix2 ⟨b.val * 4096 + i.val, by omega⟩ k)) (fun k => g (ix1 k)) (fun k => w (ix2 k ⟨1024 + j.val, by omega⟩)))
    ∧ (∀ j : Fin 1024, val_main_v23 (F := Ideal) x g w (ix3 b j i)
      = entry (fun k => x (ix2 ⟨b.val * 4096 + i.val, by omega⟩ k)) (fun k => g (ix1 k)) (fun k => w (ix2 k ⟨2048 + j.val, by omega⟩))) := by
  refine ⟨fun j => ?_, fun j => ?_⟩ <;> pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v20, val_main_v21, val_main_v22, val_main_v23] <;> rfl
end textbook

section blocks
variable (P0 : Vec Ideal S512x1024 .f32) (P1 : Vec Ideal S1x1024 .f32)

/-- The entries of the blocks that a grid point stores with a token's entries in a row. -/
theorem block (r : Fin 512) :
    (∀ (W : Vec Ideal S1024x1024 .bf16) (j : Fin 1024), (k0_pay4 P0 P1 W) (ix2 r j)
      = entry (fun k => P0 (ix2 r k)) (fun k => P1 (ix2 0 k)) (fun k => W (ix2 k j)))
    ∧ (∀ (W : Vec Ideal S1024x1024 .bf16) (j : Fin 1024), (k0_pay5 P0 P1 W) (ix2 r j)
      = entry (fun k => P0 (ix2 r k)) (fun k => P1 (ix2 0 k)) (fun k => W (ix2 k j)))
    ∧ (∀ (W : Vec Ideal S1024x1024 .bf16) (j : Fin 1024), (k0_pay6 P0 P1 W) (ix2 r j)
      = entry (fun k => P0 (ix2 r k)) (fun k => P1 (ix2 0 k)) (fun k => W (ix2 k j)))
    ∧ (∀ (W : Vec Ideal S1024x128 .bf16) (j : Fin 128), (k0_pay7 P0 P1 W) (ix2 r j)
      = entry (fun k => P0 (ix2 r k)) (fun k => P1 (ix2 0 k)) (fun k => W (ix2 k j))) := by
  refine ⟨fun W j => ?_, fun W j => ?_, fun W j => ?_, fun W j => ?_⟩ <;> pointwise [k0_pay3, k0_pay4, k0_pay5, k0_pay6, k0_pay7] <;> rfl

/-- The entries of the blocks that a grid point stores with a token's entries in a column. -/
theorem blockT (r : Fin 512) :
    (∀ (W : Vec Ideal S1024x1024 .bf16) (j : Fin 1024), (k0_pay1 (k0_pay3 P0 P1) W) (ix3 0 j r)
      = entry (fun k => P0 (ix2 r k)) (fun k => P1 (ix2 0 k)) (fun k => W (ix2 j k)))
    ∧ (∀ (W : Vec Ideal S1024x1024 .bf16) (j : Fin 1024), (k0_pay2 (k0_pay3 P0 P1) W) (ix3 0 j r)
      = entry (fun k => P0 (ix2 r k)) (fun k => P1 (ix2 0 k)) (fun k => W (ix2 j k))) := by
  refine ⟨fun W j => ?_, fun W j => ?_⟩ <;> pointwise [k0_pay1, k0_pay2, k0_pay3] <;> exact entry_comm _ _ _
end blocks

variable (m : (ℓ : Loc nD τ sig) → Buf (Elt Ideal) ℓ)

/-- The block index of each window at a grid point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0]
    ∧ win0_12.index t = ![t.val / 8, 0, t.val % 8] ∧ win0_13.index t = ![t.val / 8, 0, t.val % 8] :=
  (by decide +kernel : ∀ t : Fin grid0.N, _)

section reads
variable (c : Dev nD) (t : Fin cfg0.N)

/-- What the kernel finds in the arrays behind its windows, read from the arguments: the rows, the scale, the weights. -/
theorem host :
    (∀ j : Fin 1024, V m c main_v11 (ix2 0 j) = m ((c : Thread nD τ).loc main_arg1) (ix1 j))
    ∧ (∀ (k : Fin 1024) (j : Fin 1024), V m c main_v5 (ix2 k j) = m ((c : Thread nD τ).loc main_arg2) (ix2 k ⟨j.val, by omega⟩))
    ∧ (∀ (k : Fin 1024) (j : Fin 1024), V m c main_v6 (ix2 k j) = m ((c : Thread nD τ).loc main_arg2) (ix2 k ⟨1024 + j.val, by omega⟩))
    ∧ (∀ (k : Fin 1024) (j : Fin 1024), V m c main_v7 (ix2 k j) = m ((c : Thread nD τ).loc main_arg2) (ix2 k ⟨2048 + j.val, by omega⟩))
    ∧ (∀ (k : Fin 1024) (j : Fin 128), V m c main_v8 (ix2 k j) = if h : j.val < 16 then m ((c : Thread nD τ).loc main_arg2) (ix2 k ⟨3072 + j.val, by omega⟩) else (0 : EReal))
    ∧ (∀ (k : Fin 1024) (j : Fin 1024), V m c main_v9 (ix2 j k) = m ((c : Thread nD τ).loc main_arg2) (ix2 k ⟨1024 + j.val, by omega⟩))
    ∧ (∀ (k : Fin 1024) (j : Fin 1024), V m c main_v10 (ix2 j k) = m ((c : Thread nD τ).loc main_arg2) (ix2 k ⟨2048 + j.val, by omega⟩)) := by
  refine ⟨fun j => ?_, fun k j => ?_, fun k j => ?_, fun k j => ?_, fun k j => ?_, fun k j => ?_, fun k j => ?_⟩ <;>
    (unfold V
     simp only [hostOps0, hostOps0_1, hostOps0_2, List.flatten_cons, List.flatten_nil, List.append_nil, List.cons_append,
       List.nil_append, StableHlo.TRef.binary, StableHlo.TRef.unary, StableHlo.TRef.toBuf, StableHlo.TRef.ofBuf, cast_eq]
     after_results_simp
     pointwise []) <;> rw [sitofp_zero]

/-- The rows' window shows the grid point's rows, the other windows show their whole arrays. -/
theorem read :
    (∀ (r : Fin 512) (j : Fin 1024), (iblk m c 0 t) (ix2 r j) = m ((c : Thread nD τ).loc main_arg0) (ix2 (rowOf t r) j))
    ∧ (∀ j : Fin 1024, (iblk m c 1 t) (ix2 0 j) = m ((c : Thread nD τ).loc main_arg1) (ix1 j))
    ∧ (∀ (k : Fin 1024) (j : Fin 1024), (iblk m c 2 t) (ix2 k j) = m ((c : Thread nD τ).loc main_arg2) (ix2 k ⟨j.val, by omega⟩))
    ∧ (∀ (k : Fin 1024) (j : Fin 1024), (iblk m c 3 t) (ix2 k j) = m ((c : Thread nD τ).loc main_arg2) (ix2 k ⟨1024 + j.val, by omega⟩))
    ∧ (∀ (k : Fin 1024) (j : Fin 1024), (iblk m c 4 t) (ix2 k j) = m ((c : Thread nD τ).loc main_arg2) (ix2 k ⟨2048 + j.val, by omega⟩))
    ∧ (∀ (k : Fin 1024) (j : Fin 128), (iblk m c 5 t) (ix2 k j) = if h : j.val < 16 then m ((c : Thread nD τ).loc main_arg2) (ix2 k ⟨3072 + j.val, by omega⟩) else (0 : EReal))
    ∧ (∀ (k : Fin 1024) (j : Fin 1024), (iblk m c 6 t) (ix2 j k) = m ((c : Thread nD τ).loc main_arg2) (ix2 k ⟨1024 + j.val, by omega⟩))
    ∧ (∀ (k : Fin 1024) (j : Fin 1024), (iblk m c 7 t) (ix2 j k) = m ((c : Thread nD τ).loc main_arg2) (ix2 k ⟨2048 + j.val, by omega⟩)) := by
  refine ⟨fun r j => (congrArg (V m c main_arg0) (show (win0_0.blk t).view.emb (ix2 r j) = ix2 (rowOf t r) j from ?_)).trans (by rw [V_main_arg0]),
    fun j => (congrArg (V m c main_v11) (show (win0_1.blk t).view.emb (ix2 0 j) = ix2 0 j from ?_)).trans ((host m c).1 j),
    fun k j => (congrArg (V m c main_v5) (show (win0_2.blk t).view.emb (ix2 k j) = ix2 k j from ?_)).trans ((host m c).2.1 k j),
    fun k j => (congrArg (V m c main_v6) (show (win0_3.blk t).view.emb (ix2 k j) = ix2 k j from ?_)).trans ((host m c).2.2.1 k j),
    fun k j => (congrArg (V m c main_v7) (show (win0_4.blk t).view.emb (ix2 k j) = ix2 k j from ?_)).trans ((host m c).2.2.2.1 k j),
    fun k j => (congrArg (V m c main_v8) (show (win0_5.blk t).view.emb (ix2 k j) = ix2 k j from ?_)).trans ((host m c).2.2.2.2.1 k j),
    fun k j => (congrArg (V m c main_v9) (show (win0_6.blk t).view.emb (ix2 j k) = ix2 j k from ?_)).trans ((host m c).2.2.2.2.2.1 k j),
    fun k j => (congrArg (V m c main_v10) (show (win0_7.blk t).view.emb (ix2 j k) = ix2 j k from ?_)).trans ((host m c).2.2.2.2.2.2 k j)⟩ <;> blk_ext [rowOf, idx t]
end reads

/-! Each output array of the kernel is the textbook's output of the kernel's arguments. -/

theorem final8 (c : Dev nD) : (dats m 0 c).arrAt 8 cfg0.N
    = val_main_v17 (F := Ideal) (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  unfold_out out0_8
  frame_out
  idx_vars y
  have e : (win0_8.blk t).view.emb (ix2 y0 y1) = ix2 (rowOf t y0) y1 := by blk_ext [rowOf, idx t]
  rw [e, (text _ _ _ _).1]
  refine ((block _ _ y0).1 _ y1).trans ?_
  simp only [read m c t]

theorem final9 (c : Dev nD) : (dats m 0 c).arrAt 9 cfg0.N
    = val_main_v18 (F := Ideal) (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  unfold_out out0_9
  frame_out
  idx_vars y
  have e : (win0_9.blk t).view.emb (ix2 y0 y1) = ix2 (rowOf t y0) y1 := by blk_ext [rowOf, idx t]
  rw [e, (text _ _ _ _).2.1]
  refine ((block _ _ y0).2.1 _ y1).trans ?_
  simp only [read m c t]

theorem final10 (c : Dev nD) : (dats m 0 c).arrAt 10 cfg0.N
    = val_main_v19 (F := Ideal) (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10]
  unfold_out out0_10
  frame_out
  idx_vars y
  have e : (win0_10.blk t).view.emb (ix2 y0 y1) = ix2 (rowOf t y0) y1 := by blk_ext [rowOf, idx t]
  rw [e, (text _ _ _ _).2.2.1]
  refine ((block _ _ y0).2.2.1 _ y1).trans ?_
  simp only [read m c t]

theorem final11 (c : Dev nD) : (dats m 0 c).arrAt 11 cfg0.N
    = val_main_v16 (F := Ideal) (m ((c : Thread nD τ).loc main_arg0)) (m ((c : Thread nD τ).loc main_arg1)) (m ((c : Thread nD τ).loc main_arg2)) := by
  refine (dats m 0 c).arrAt_eq_of_covers 11 _ (by decide +kernel) fun t hf y => ?_
  blk_simp
  rw [after0_11]
  unfold_out out0_11
  frame_out
  idx_vars y
  have e : (win0_11.blk t).view.emb (ix2 y0 y1) = ix2 (rowOf t y0) y1 := by blk_ext [rowOf, idx t]
  rw [e, (text _ _ _ _).2.2.2]
  refine ((block _ _ y0).2.2.2 _ y1).trans ?_
  simp only [read m c t]

theorem final12 (c : Dev nD) : (dats m 0 c).arrAt 12 cfg0.N
    = val_main_v21 (F := Ideal) (m ((c : Thread nD τ).loc main_arg0)) (m ((c : Thread nD τ).loc main_arg1)) (m ((c : Thread nD τ).loc main_arg2)) := by
  refine (dats m 0 c).arrAt_eq_of_covers 12 _ (by decide +kernel) fun t hf y => ?_
  blk_simp
  rw [after0_12]
  unfold_out out0_12
  frame_out
  idx_vars y
  obtain rfl : y0 = 0 := Subsingleton.elim _ _
  have ht : t.val < 32 := t.isLt
  have e : (win0_12.blk t).view.emb (ix3 0 y1 y2) = ix3 ⟨t.val / 8, by omega⟩ y1 ⟨512 * (t.val % 8) + y2.val, by omega⟩ := by blk_ext [idx t]
  rw [e, (textT _ _ _ _ _).1]
  refine ((blockT _ _ y2).1 _ y1).trans ?_
  simp only [read m c t]
  have a : rowOf t y2 = ⟨t.val / 8 * 4096 + (512 * (t.val % 8) + y2.val), by omega⟩ := by ext; simp only [rowOf]; omega
  simp only [a]

theorem final13 (c : Dev nD) : (dats m 0 c).arrAt 13 cfg0.N
    = val_main_v23 (F := Ideal) (m ((c : Thread nD τ).loc main_arg0)) (m ((c : Thread nD τ).loc main_arg1)) (m ((c : Thread nD τ).loc main_arg2)) := by
  refine (dats m 0 c).arrAt_eq_of_covers 13 _ (by decide +kernel) fun t hf y => ?_
  blk_simp
  rw [after0_13]
  unfold_out out0_13
  frame_out
  idx_vars y
  obtain rfl : y0 = 0 := Subsingleton.elim _ _
  have ht : t.val < 32 := t.isLt
  have e : (win0_13.blk t).view.emb (ix3 0 y1 y2) = ix3 ⟨t.val / 8, by omega⟩ y1 ⟨512 * (t.val % 8) + y2.val, by omega⟩ := by blk_ext [idx t]
  rw [e, (textT _ _ _ _ _).2]
  refine ((blockT _ _ y2).2 _ y1).trans ?_
  simp only [read m c t]
  have a : rowOf t y2 = ⟨t.val / 8 * 4096 + (512 * (t.val % 8) + y2.val), by omega⟩ := by ext; simp only [rowOf]; omega
  simp only [a]

/-- Over the reals the kernel and the textbook lines have the same results on the same arguments. -/
theorem algebraic : Cert.algebraic_OddProjIdeal_OddProjReferenceIdeal := by
  intro m ρ m' ρ' _ hagree
  refine ⟨fun c => val_main_v17 (F := Ideal) (m ((c : Thread nD τ).loc main_arg0)) (m ((c : Thread nD τ).loc main_arg1)) (m ((c : Thread nD τ).loc main_arg2)), fun c => val_main_v18 (F := Ideal) (m ((c : Thread nD τ).loc main_arg0)) (m ((c : Thread nD τ).loc main_arg1)) (m ((c : Thread nD τ).loc main_arg2)), fun c => val_main_v19 (F := Ideal) (m ((c : Thread nD τ).loc main_arg0)) (m ((c : Thread nD τ).loc main_arg1)) (m ((c : Thread nD τ).loc main_arg2)), fun c => val_main_v16 (F := Ideal) (m ((c : Thread nD τ).loc main_arg0)) (m ((c : Thread nD τ).loc main_arg1)) (m ((c : Thread nD τ).loc main_arg2)), fun c => val_main_v21 (F := Ideal) (m ((c : Thread nD τ).loc main_arg0)) (m ((c : Thread nD τ).loc main_arg1)) (m ((c : Thread nD τ).loc main_arg2)), fun c => val_main_v23 (F := Ideal) (m ((c : Thread nD τ).loc main_arg0)) (m ((c : Thread nD τ).loc main_arg1)) (m ((c : Thread nD τ).loc main_arg2)),
    (θ_run Cert.OddProjIdeal.defs _ _).mono (fun _ h c => ⟨(h c).1.trans (final8 m c), (h c).2.1.trans (final9 m c), (h c).2.2.1.trans (final10 m c), (h c).2.2.2.1.trans (final11 m c), (h c).2.2.2.2.1.trans (final12 m c), (h c).2.2.2.2.2.1.trans (final13 m c), (h c).2.2.2.2.2.2⟩)
      (Cert.OddProjIdeal.Value.run_blocks m ρ), ?_⟩
  refine (θ_run Cert.OddProjReferenceIdeal.defs _ _).mono (fun _ h c => ?_) (Cert.OddProjReferenceIdeal.Value.run (F := Ideal) m' ρ')
  obtain ⟨h0, h1, h2⟩ := hagree c
  exact ⟨(h c).1.trans (by rw [Cert.OddProjReferenceIdeal.Read.val_main_v17_eq, h0, h1, h2]), (h c).2.1.trans (by rw [Cert.OddProjReferenceIdeal.Read.val_main_v18_eq, h0, h1, h2]), (h c).2.2.1.trans (by rw [Cert.OddProjReferenceIdeal.Read.val_main_v19_eq, h0, h1, h2]), (h c).2.2.2.1.trans (by rw [Cert.OddProjReferenceIdeal.Read.val_main_v16_eq, h0, h1, h2]), (h c).2.2.2.2.1.trans (by rw [Cert.OddProjReferenceIdeal.Read.val_main_v21_eq, h0, h1, h2]), (h c).2.2.2.2.2.1.trans (by rw [Cert.OddProjReferenceIdeal.Read.val_main_v23_eq, h0, h1, h2]), (h c).2.2.2.2.2.2⟩

end Cert.Proof.OddProj
-- ==== Proof.SampleEvenProjValue.lean ====
/-
The value of an even layer's projection of the sample batch: every output array is the textbook projection of the same arguments.
-/
module

public import proofs.«01_k».proof.Proof.ProjMath
public import proofs.«01_k».proof.Proof.Gen.SampleEvenProjIdeal.Value
public import proofs.«01_k».proof.Proof.Gen.SampleEvenProjReferenceIdeal.Run
public import proofs.«01_k».proof.Proof.Gen.SampleEvenProjReferenceIdeal.Read
public import proofs.«01_k».proof.Defs
public import Idealize.ShloMosaic.Lib.Pointwise
public import Idealize.ShloMosaic.Lib.Pipeline.ValueKit
public import Idealize.ShloMosaic.Lib.StableHlo.ReadAt
public import Idealize.ShloMosaic.Lib.StableHlo.Run

@[expose] public section

set_option maxHeartbeats 4000000
noncomputable section

namespace Cert.Proof.SampleEvenProj

open Idealize.ShloMosaic Idealize.ShloMosaic.TcCoe Idealize.SL.Sem
open scoped BigOperators
open Cert.SampleEvenProjIdeal Cert.SampleEvenProjIdeal.Gen Cert.Proof.Proj
open Cert.SampleEvenProjReferenceIdeal.Read (val_main_v0 val_main_cst val_main_v1 val_main_v2 val_main_cst_0 val_main_v3 val_main_v4 val_main_cst_1 val_main_v5 val_main_v6 val_main_v7 val_main_v8 val_main_v9 val_main_v10 val_main_v11 val_main_v12 val_main_v13 val_main_v14 val_main_v15 val_main_c val_main_call0_v0 val_main_v16 val_main_v17 val_main_v18 val_main_v19 val_main_v20 val_main_v21 val_main_v22 val_main_v23)

/-- The row of the whole arrays that grid point `t` holds at row `r` of its block. -/
def rowOf (t : Fin 1) (r : Fin 256) : Fin 256 := ⟨256 * t.val + r.val, by omega⟩

section textbook
variable (x : (⟨S32x8x1024, .f32⟩ : BufTy).Contents (Elt Ideal)) (g : (⟨S1024, .f32⟩ : BufTy).Contents (Elt Ideal)) (w : (⟨S1024x3080, .f32⟩ : BufTy).Contents (Elt Ideal))

/-- The textbook's outputs with a token's entries in a row. The gates' columns past the last gate are zero. -/
theorem text (i : Fin 256) :
    (∀ j : Fin 256, val_main_v17 (F := Ideal) x g w (ix2 i j)
      = entry (fun k => x (ix3 ⟨(i).val / 8, by omega⟩ ⟨(i).val % 8, by omega⟩ k)) (fun k => g (ix1 k)) (fun k => w (ix2 k ⟨j.val, by omega⟩)))
    ∧ (∀ j : Fin 256, val_main_v18 (F := Ideal) x g w (ix2 i j)
      = entry (fun k => x (ix3 ⟨(i).val / 8, by omega⟩ ⟨(i).val % 8, by omega⟩ k)) (fun k => g (ix1 k)) (fun k => w (ix2 k ⟨256 + j.val, by omega⟩)))
    ∧ (∀ j : Fin 512, val_main_v19 (F := Ideal) x g w (ix2 i j)
      = entry (fun k => x (ix3 ⟨(i).val / 8, by omega⟩ ⟨(i).val % 8, by omega⟩ k)) (fun k => g (ix1 k)) (fun k => w (ix2 k ⟨512 + j.val, by omega⟩)))
    ∧ (∀ j : Fin 512, val_main_v20 (F := Ideal) x g w (ix2 i j)
      = entry (fun k => x (ix3 ⟨(i).val / 8, by omega⟩ ⟨(i).val % 8, by omega⟩ k)) (fun k => g (ix1 k)) (fun k => w (ix2 k ⟨1024 + j.val, by omega⟩)))
    ∧ (∀ j : Fin 128, val_main_v16 (F := Ideal) x g w (ix2 i j)
      = entry (fun k => x (ix3 ⟨(i).val / 8, by omega⟩ ⟨(i).val % 8, by omega⟩ k)) (fun k => g (ix1 k)) (fun k => if h : j.val < 8 then w (ix2 k ⟨1536 + j.val, by omega⟩) else (0 : EReal)))
    ∧ (∀ j : Fin 512, val_main_v21 (F := Ideal) x g w (ix2 i j)
      = entry (fun k => x (ix3 ⟨(i).val / 8, by omega⟩ ⟨(i).val % 8, by omega⟩ k)) (fun k => g (ix1 k)) (fun k => w (ix2 k ⟨1544 + j.val, by omega⟩)))
    ∧ (∀ j : Fin 512, val_main_v22 (F := Ideal) x g w (ix2 i j)
      = entry (fun k => x (ix3 ⟨(i).val / 8, by omega⟩ ⟨(i).val % 8, by omega⟩ k)) (fun k => g (ix1 k)) (fun k => w (ix2 k ⟨2056 + j.val, by omega⟩)))
    ∧ (∀ j : Fin 512, val_main_v23 (F := Ideal) x g w (ix2 i j)
      = entry (fun k => x (ix3 ⟨(i).val / 8, by omega⟩ ⟨(i).val % 8, by omega⟩ k)) (fun k => g (ix1 k)) (fun k => w (ix2 k ⟨2568 + j.val, by omega⟩))) := by
  refine ⟨fun j => ?_, fun j => ?_, fun j => ?_, fun j => ?_, fun j => ?_, fun j => ?_, fun j => ?_, fun j => ?_⟩ <;> pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_c, val_main_call0_v0, val_main_v16, val_main_v17, val_main_v18, val_main_v19, val_main_v20, val_main_v21, val_main_v22, val_main_v23] <;>
    first
    | rfl
    | split
      · rfl
      · exact sitofp_zero.trans (entry_zero _ _).symm
end textbook

section blocks
variable (P0 : Vec Ideal S256x1024 .f32) (P1 : Vec Ideal S1x1024 .f32)

/-- The entries of the blocks that a grid point stores with a token's entries in a row. -/
theorem block (r : Fin 256) :
    (∀ (W : Vec Ideal S1024x256 .bf16) (j : Fin 256), (k0_pay7 P0 P1 W) (ix2 r j)
      = entry (fun k => P0 (ix2 r k)) (fun k => P1 (ix2 0 k)) (fun k => W (ix2 k j)))
    ∧ (∀ (W : Vec Ideal S1024x256 .bf16) (j : Fin 256), (k0_pay8 P0 P1 W) (ix2 r j)
      = entry (fun k => P0 (ix2 r k)) (fun k => P1 (ix2 0 k)) (fun k => W (ix2 k j)))
    ∧ (∀ (W : Vec Ideal S1024x512 .bf16) (j : Fin 512), (k0_pay9 P0 P1 W) (ix2 r j)
      = entry (fun k => P0 (ix2 r k)) (fun k => P1 (ix2 0 k)) (fun k => W (ix2 k j)))
    ∧ (∀ (W : Vec Ideal S1024x512 .bf16) (j : Fin 512), (k0_pay1 (k0_pay6 P0 P1) (k0_pay10 W) (constant S256x512 .f32 0x00000000#32)) (ix2 r j)
      = entry (fun k => P0 (ix2 r k)) (fun k => P1 (ix2 0 k)) (fun k => W (ix2 k j)))
    ∧ (∀ (W : Vec Ideal S1024x128 .bf16) (j : Fin 128), (k0_pay2 (k0_pay6 P0 P1) W) (ix2 r j)
      = entry (fun k => P0 (ix2 r k)) (fun k => P1 (ix2 0 k)) (fun k => W (ix2 k j)))
    ∧ (∀ (W : Vec Ideal S1024x512 .bf16) (j : Fin 512), (k0_pay3 (k0_pay6 P0 P1) W) (ix2 r j)
      = entry (fun k => P0 (ix2 r k)) (fun k => P1 (ix2 0 k)) (fun k => W (ix2 k j)))
    ∧ (∀ (W : Vec Ideal S1024x512 .bf16) (j : Fin 512), (k0_pay4 (k0_pay6 P0 P1) W) (ix2 r j)
      = entry (fun k => P0 (ix2 r k)) (fun k => P1 (ix2 0 k)) (fun k => W (ix2 k j)))
    ∧ (∀ (W : Vec Ideal S1024x512 .bf16) (j : Fin 512), (k0_pay5 (k0_pay6 P0 P1) W) (ix2 r j)
      = entry (fun k => P0 (ix2 r k)) (fun k => P1 (ix2 0 k)) (fun k => W (ix2 k j))) := by
  refine ⟨fun W j => ?_, fun W j => ?_, fun W j => ?_, fun W j => ?_, fun W j => ?_, fun W j => ?_, fun W j => ?_, fun W j => ?_⟩ <;> pointwise [k0_pay1, k0_pay2, k0_pay3, k0_pay4, k0_pay5, k0_pay6, k0_pay7, k0_pay8, k0_pay9, k0_pay10] <;> rfl
end blocks

variable (m : (ℓ : Loc nD τ sig) → Buf (Elt Ideal) ℓ)

/-- The block index of each window at a grid point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![t.val, 0]
    ∧ win0_16.index t = ![t.val, 0] ∧ win0_17.index t = ![t.val, 0] :=
  (by decide +kernel : ∀ t : Fin grid0.N, _)

section reads
variable (c : Dev nD) (t : Fin cfg0.N)

/-- What the kernel finds in the arrays behind its windows, read from the arguments: the rows, the scale, the weights. -/
theorem host :
    (∀ (r : Fin 256) (j : Fin 1024), V m c main_v0 (ix2 r j) = m ((c : Thread nD τ).loc main_arg0) (ix3 ⟨(r).val / 8, by omega⟩ ⟨(r).val % 8, by omega⟩ j))
    ∧ (∀ j : Fin 1024, V m c main_v18 (ix2 0 j) = m ((c : Thread nD τ).loc main_arg1) (ix1 j))
    ∧ (∀ (k : Fin 1024) (j : Fin 256), V m c main_v10 (ix2 k j) = m ((c : Thread nD τ).loc main_arg2) (ix2 k ⟨j.val, by omega⟩))
    ∧ (∀ (k : Fin 1024) (j : Fin 256), V m c main_v11 (ix2 k j) = m ((c : Thread nD τ).loc main_arg2) (ix2 k ⟨256 + j.val, by omega⟩))
    ∧ (∀ (k : Fin 1024) (j : Fin 512), V m c main_v12 (ix2 k j) = m ((c : Thread nD τ).loc main_arg2) (ix2 k ⟨512 + j.val, by omega⟩))
    ∧ (∀ (k : Fin 1024) (j : Fin 512), V m c main_v13 (ix2 k j) = m ((c : Thread nD τ).loc main_arg2) (ix2 k ⟨1024 + j.val, by omega⟩))
    ∧ (∀ (k : Fin 1024) (j : Fin 128), V m c main_v14 (ix2 k j) = if h : j.val < 8 then m ((c : Thread nD τ).loc main_arg2) (ix2 k ⟨1536 + j.val, by omega⟩) else (0 : EReal))
    ∧ (∀ (k : Fin 1024) (j : Fin 512), V m c main_v15 (ix2 k j) = m ((c : Thread nD τ).loc main_arg2) (ix2 k ⟨1544 + j.val, by omega⟩))
    ∧ (∀ (k : Fin 1024) (j : Fin 512), V m c main_v16 (ix2 k j) = m ((c : Thread nD τ).loc main_arg2) (ix2 k ⟨2056 + j.val, by omega⟩))
    ∧ (∀ (k : Fin 1024) (j : Fin 512), V m c main_v17 (ix2 k j) = m ((c : Thread nD τ).loc main_arg2) (ix2 k ⟨2568 + j.val, by omega⟩)) := by
  refine ⟨fun r j => ?_, fun j => ?_, fun k j => ?_, fun k j => ?_, fun k j => ?_, fun k j => ?_, fun k j => ?_, fun k j => ?_, fun k j => ?_, fun k j => ?_⟩ <;>
    (unfold V
     simp only [hostOps0, hostOps0_1, hostOps0_2, List.flatten_cons, List.flatten_nil, List.append_nil, List.cons_append,
       List.nil_append, StableHlo.TRef.binary, StableHlo.TRef.unary, StableHlo.TRef.toBuf, StableHlo.TRef.ofBuf, cast_eq]
     after_results_simp
     pointwise []) <;> rw [sitofp_zero]

/-- The rows' window shows the grid point's rows, the other windows show their whole arrays. -/
theorem read :
    (∀ (r : Fin 256) (j : Fin 1024), (iblk m c 0 t) (ix2 r j) = m ((c : Thread nD τ).loc main_arg0) (ix3 ⟨(rowOf t r).val / 8, by omega⟩ ⟨(rowOf t r).val % 8, by omega⟩ j))
    ∧ (∀ j : Fin 1024, (iblk m c 1 t) (ix2 0 j) = m ((c : Thread nD τ).loc main_arg1) (ix1 j))
    ∧ (∀ (k : Fin 1024) (j : Fin 256), (iblk m c 2 t) (ix2 k j) = m ((c : Thread nD τ).loc main_arg2) (ix2 k ⟨j.val, by omega⟩))
    ∧ (∀ (k : Fin 1024) (j : Fin 256), (iblk m c 3 t) (ix2 k j) = m ((c : Thread nD τ).loc main_arg2) (ix2 k ⟨256 + j.val, by omega⟩))
    ∧ (∀ (k : Fin 1024) (j : Fin 512), (iblk m c 4 t) (ix2 k j) = m ((c : Thread nD τ).loc main_arg2) (ix2 k ⟨512 + j.val, by omega⟩))
    ∧ (∀ (k : Fin 1024) (j : Fin 512), (iblk m c 5 t) (ix2 k j) = m ((c : Thread nD τ).loc main_arg2) (ix2 k ⟨1024 + j.val, by omega⟩))
    ∧ (∀ (k : Fin 1024) (j : Fin 128), (iblk m c 6 t) (ix2 k j) = if h : j.val < 8 then m ((c : Thread nD τ).loc main_arg2) (ix2 k ⟨1536 + j.val, by omega⟩) else (0 : EReal))
    ∧ (∀ (k : Fin 1024) (j : Fin 512), (iblk m c 7 t) (ix2 k j) = m ((c : Thread nD τ).loc main_arg2) (ix2 k ⟨1544 + j.val, by omega⟩))
    ∧ (∀ (k : Fin 1024) (j : Fin 512), (iblk m c 8 t) (ix2 k j) = m ((c : Thread nD τ).loc main_arg2) (ix2 k ⟨2056 + j.val, by omega⟩))
    ∧ (∀ (k : Fin 1024) (j : Fin 512), (iblk m c 9 t) (ix2 k j) = m ((c : Thread nD τ).loc main_arg2) (ix2 k ⟨2568 + j.val, by omega⟩)) := by
  refine ⟨fun r j => (congrArg (V m c main_v0) (show (win0_0.blk t).view.emb (ix2 r j) = ix2 (rowOf t r) j from ?_)).trans ((host m c).1 _ j),
    fun j => (congrArg (V m c main_v18) (show (win0_1.blk t).view.emb (ix2 0 j) = ix2 0 j from ?_)).trans ((host m c).2.1 j),
    fun k j => (congrArg (V m c main_v10) (show (win0_2.blk t).view.emb (ix2 k j) = ix2 k j from ?_)).trans ((host m c).2.2.1 k j),
    fun k j => (congrArg (V m c main_v11) (show (win0_3.blk t).view.emb (ix2 k j) = ix2 k j from ?_)).trans ((host m c).2.2.2.1 k j),
    fun k j => (congrArg (V m c main_v12) (show (win0_4.blk t).view.emb (ix2 k j) = ix2 k j from ?_)).trans ((host m c).2.2.2.2.1 k j),
    fun k j => (congrArg (V m c main_v13) (show (win0_5.blk t).view.emb (ix2 k j) = ix2 k j from ?_)).trans ((host m c).2.2.2.2.2.1 k j),
    fun k j => (congrArg (V m c main_v14) (show (win0_6.blk t).view.emb (ix2 k j) = ix2 k j from ?_)).trans ((host m c).2.2.2.2.2.2.1 k j),
    fun k j => (congrArg (V m c main_v15) (show (win0_7.blk t).view.emb (ix2 k j) = ix2 k j from ?_)).trans ((host m c).2.2.2.2.2.2.2.1 k j),
    fun k j => (congrArg (V m c main_v16) (show (win0_8.blk t).view.emb (ix2 k j) = ix2 k j from ?_)).trans ((host m c).2.2.2.2.2.2.2.2.1 k j),
    fun k j => (congrArg (V m c main_v17) (show (win0_9.blk t).view.emb (ix2 k j) = ix2 k j from ?_)).trans ((host m c).2.2.2.2.2.2.2.2.2 k j)⟩ <;> blk_ext [rowOf, idx t]
end reads

/-! Each output array of the kernel is the textbook's output of the kernel's arguments. -/

theorem final10 (c : Dev nD) : (dats m 0 c).arrAt 10 cfg0.N
    = val_main_v17 (F := Ideal) (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10]
  unfold_out out0_10
  frame_out
  idx_vars y
  have e : (win0_10.blk t).view.emb (ix2 y0 y1) = ix2 (rowOf t y0) y1 := by blk_ext [rowOf, idx t]
  rw [e, (text _ _ _ _).1]
  refine ((block _ _ y0).1 _ y1).trans ?_
  simp only [read m c t]

theorem final11 (c : Dev nD) : (dats m 0 c).arrAt 11 cfg0.N
    = val_main_v18 (F := Ideal) (m ((c : Thread nD τ).loc main_arg0)) (m ((c : Thread nD τ).loc main_arg1)) (m ((c : Thread nD τ).loc main_arg2)) := by
  refine (dats m 0 c).arrAt_eq_of_covers 11 _ (by decide +kernel) fun t hf y => ?_
  blk_simp
  rw [after0_11]
  unfold_out out0_11
  frame_out
  idx_vars y
  have e : (win0_11.blk t).view.emb (ix2 y0 y1) = ix2 (rowOf t y0) y1 := by blk_ext [rowOf, idx t]
  rw [e, (text _ _ _ _).2.1]
  refine ((block _ _ y0).2.1 _ y1).trans ?_
  simp only [read m c t]

theorem final12 (c : Dev nD) : (dats m 0 c).arrAt 12 cfg0.N
    = val_main_v19 (F := Ideal) (m ((c : Thread nD τ).loc main_arg0)) (m ((c : Thread nD τ).loc main_arg1)) (m ((c : Thread nD τ).loc main_arg2)) := by
  refine (dats m 0 c).arrAt_eq_of_covers 12 _ (by decide +kernel) fun t hf y => ?_
  blk_simp
  rw [after0_12]
  unfold_out out0_12
  frame_out
  idx_vars y
  have e : (win0_12.blk t).view.emb (ix2 y0 y1) = ix2 (rowOf t y0) y1 := by blk_ext [rowOf, idx t]
  rw [e, (text _ _ _ _).2.2.1]
  refine ((block _ _ y0).2.2.1 _ y1).trans ?_
  simp only [read m c t]

theorem final13 (c : Dev nD) : (dats m 0 c).arrAt 13 cfg0.N
    = val_main_v20 (F := Ideal) (m ((c : Thread nD τ).loc main_arg0)) (m ((c : Thread nD τ).loc main_arg1)) (m ((c : Thread nD τ).loc main_arg2)) := by
  refine (dats m 0 c).arrAt_eq_of_covers 13 _ (by decide +kernel) fun t hf y => ?_
  blk_simp
  rw [after0_13]
  unfold_out out0_13
  frame_out
  idx_vars y
  have e : (win0_13.blk t).view.emb (ix2 y0 y1) = ix2 (rowOf t y0) y1 := by blk_ext [rowOf, idx t]
  rw [e, (text _ _ _ _).2.2.2.1]
  refine ((block _ _ y0).2.2.2.1 _ y1).trans ?_
  simp only [read m c t]

theorem final14 (c : Dev nD) : (dats m 0 c).arrAt 14 cfg0.N
    = val_main_v16 (F := Ideal) (m ((c : Thread nD τ).loc main_arg0)) (m ((c : Thread nD τ).loc main_arg1)) (m ((c : Thread nD τ).loc main_arg2)) := by
  refine (dats m 0 c).arrAt_eq_of_covers 14 _ (by decide +kernel) fun t hf y => ?_
  blk_simp
  rw [after0_14]
  unfold_out out0_14
  frame_out
  idx_vars y
  have e : (win0_14.blk t).view.emb (ix2 y0 y1) = ix2 (rowOf t y0) y1 := by blk_ext [rowOf, idx t]
  rw [e, (text _ _ _ _).2.2.2.2.1]
  refine ((block _ _ y0).2.2.2.2.1 _ y1).trans ?_
  simp only [read m c t]

theorem final15 (c : Dev nD) : (dats m 0 c).arrAt 15 cfg0.N
    = val_main_v21 (F := Ideal) (m ((c : Thread nD τ).loc main_arg0)) (m ((c : Thread nD τ).loc main_arg1)) (m ((c : Thread nD τ).loc main_arg2)) := by
  refine (dats m 0 c).arrAt_eq_of_covers 15 _ (by decide +kernel) fun t hf y => ?_
  blk_simp
  rw [after0_15]
  unfold_out out0_15
  frame_out
  idx_vars y
  have e : (win0_15.blk t).view.emb (ix2 y0 y1) = ix2 (rowOf t y0) y1 := by blk_ext [rowOf, idx t]
  rw [e, (text _ _ _ _).2.2.2.2.2.1]
  refine ((block _ _ y0).2.2.2.2.2.1 _ y1).trans ?_
  simp only [read m c t]

theorem final16 (c : Dev nD) : (dats m 0 c).arrAt 16 cfg0.N
    = val_main_v22 (F := Ideal) (m ((c : Thread nD τ).loc main_arg0)) (m ((c : Thread nD τ).loc main_arg1)) (m ((c : Thread nD τ).loc main_arg2)) := by
  refine (dats m 0 c).arrAt_eq_of_covers 16 _ (by decide +kernel) fun t hf y => ?_
  blk_simp
  rw [after0_16]
  unfold_out out0_16
  frame_out
  idx_vars y
  have e : (win0_16.blk t).view.emb (ix2 y0 y1) = ix2 (rowOf t y0) y1 := by blk_ext [rowOf, idx t]
  rw [e, (text _ _ _ _).2.2.2.2.2.2.1]
  refine ((block _ _ y0).2.2.2.2.2.2.1 _ y1).trans ?_
  simp only [read m c t]

theorem final17 (c : Dev nD) : (dats m 0 c).arrAt 17 cfg0.N
    = val_main_v23 (F := Ideal) (m ((c : Thread nD τ).loc main_arg0)) (m ((c : Thread nD τ).loc main_arg1)) (m ((c : Thread nD τ).loc main_arg2)) := by
  refine (dats m 0 c).arrAt_eq_of_covers 17 _ (by decide +kernel) fun t hf y => ?_
  blk_simp
  rw [after0_17]
  unfold_out out0_17
  frame_out
  idx_vars y
  have e : (win0_17.blk t).view.emb (ix2 y0 y1) = ix2 (rowOf t y0) y1 := by blk_ext [rowOf, idx t]
  rw [e, (text _ _ _ _).2.2.2.2.2.2.2]
  refine ((block _ _ y0).2.2.2.2.2.2.2 _ y1).trans ?_
  simp only [read m c t]

/-- Over the reals the kernel and the textbook lines have the same results on the same arguments. -/
theorem algebraic : Cert.algebraic_SampleEvenProjIdeal_SampleEvenProjReferenceIdeal := by
  intro m ρ m' ρ' _ hagree
  refine ⟨fun c => val_main_v17 (F := Ideal) (m ((c : Thread nD τ).loc main_arg0)) (m ((c : Thread nD τ).loc main_arg1)) (m ((c : Thread nD τ).loc main_arg2)), fun c => val_main_v18 (F := Ideal) (m ((c : Thread nD τ).loc main_arg0)) (m ((c : Thread nD τ).loc main_arg1)) (m ((c : Thread nD τ).loc main_arg2)), fun c => val_main_v19 (F := Ideal) (m ((c : Thread nD τ).loc main_arg0)) (m ((c : Thread nD τ).loc main_arg1)) (m ((c : Thread nD τ).loc main_arg2)), fun c => val_main_v20 (F := Ideal) (m ((c : Thread nD τ).loc main_arg0)) (m ((c : Thread nD τ).loc main_arg1)) (m ((c : Thread nD τ).loc main_arg2)), fun c => val_main_v16 (F := Ideal) (m ((c : Thread nD τ).loc main_arg0)) (m ((c : Thread nD τ).loc main_arg1)) (m ((c : Thread nD τ).loc main_arg2)), fun c => val_main_v21 (F := Ideal) (m ((c : Thread nD τ).loc main_arg0)) (m ((c : Thread nD τ).loc main_arg1)) (m ((c : Thread nD τ).loc main_arg2)), fun c => val_main_v22 (F := Ideal) (m ((c : Thread nD τ).loc main_arg0)) (m ((c : Thread nD τ).loc main_arg1)) (m ((c : Thread nD τ).loc main_arg2)), fun c => val_main_v23 (F := Ideal) (m ((c : Thread nD τ).loc main_arg0)) (m ((c : Thread nD τ).loc main_arg1)) (m ((c : Thread nD τ).loc main_arg2)),
    (θ_run Cert.SampleEvenProjIdeal.defs _ _).mono (fun _ h c => ⟨(h c).1.trans (final10 m c), (h c).2.1.trans (final11 m c), (h c).2.2.1.trans (final12 m c), (h c).2.2.2.1.trans (final13 m c), (h c).2.2.2.2.1.trans (final14 m c), (h c).2.2.2.2.2.1.trans (final15 m c), (h c).2.2.2.2.2.2.1.trans (final16 m c), (h c).2.2.2.2.2.2.2.1.trans (final17 m c), (h c).2.2.2.2.2.2.2.2⟩)
      (Cert.SampleEvenProjIdeal.Value.run_blocks m ρ), ?_⟩
  refine (θ_run Cert.SampleEvenProjReferenceIdeal.defs _ _).mono (fun _ h c => ?_) (Cert.SampleEvenProjReferenceIdeal.Value.run (F := Ideal) m' ρ')
  obtain ⟨h0, h1, h2⟩ := hagree c
  exact ⟨(h c).1.trans (by rw [Cert.SampleEvenProjReferenceIdeal.Read.val_main_v17_eq, h0, h1, h2]), (h c).2.1.trans (by rw [Cert.SampleEvenProjReferenceIdeal.Read.val_main_v18_eq, h0, h1, h2]), (h c).2.2.1.trans (by rw [Cert.SampleEvenProjReferenceIdeal.Read.val_main_v19_eq, h0, h1, h2]), (h c).2.2.2.1.trans (by rw [Cert.SampleEvenProjReferenceIdeal.Read.val_main_v20_eq, h0, h1, h2]), (h c).2.2.2.2.1.trans (by rw [Cert.SampleEvenProjReferenceIdeal.Read.val_main_v16_eq, h0, h1, h2]), (h c).2.2.2.2.2.1.trans (by rw [Cert.SampleEvenProjReferenceIdeal.Read.val_main_v21_eq, h0, h1, h2]), (h c).2.2.2.2.2.2.1.trans (by rw [Cert.SampleEvenProjReferenceIdeal.Read.val_main_v22_eq, h0, h1, h2]), (h c).2.2.2.2.2.2.2.1.trans (by rw [Cert.SampleEvenProjReferenceIdeal.Read.val_main_v23_eq, h0, h1, h2]), (h c).2.2.2.2.2.2.2.2⟩

end Cert.Proof.SampleEvenProj
-- ==== Proof.SampleOddProjValue.lean ====
/-
The value of an odd layer's projection of the sample batch: every output array is the textbook projection of the same arguments.
-/
module

public import proofs.«01_k».proof.Proof.ProjMath
public import proofs.«01_k».proof.Proof.Gen.SampleOddProjIdeal.Value
public import proofs.«01_k».proof.Proof.Gen.SampleOddProjReferenceIdeal.Run
public import proofs.«01_k».proof.Proof.Gen.SampleOddProjReferenceIdeal.Read
public import proofs.«01_k».proof.Defs
public import Idealize.ShloMosaic.Lib.Pointwise
public import Idealize.ShloMosaic.Lib.Pipeline.ValueKit
public import Idealize.ShloMosaic.Lib.StableHlo.ReadAt
public import Idealize.ShloMosaic.Lib.StableHlo.Run

@[expose] public section

set_option maxHeartbeats 4000000
noncomputable section

namespace Cert.Proof.SampleOddProj

open Idealize.ShloMosaic Idealize.ShloMosaic.TcCoe Idealize.SL.Sem
open scoped BigOperators
open Cert.SampleOddProjIdeal Cert.SampleOddProjIdeal.Gen Cert.Proof.Proj
open Cert.SampleOddProjReferenceIdeal.Read (val_main_v0 val_main_cst val_main_v1 val_main_v2 val_main_cst_0 val_main_v3 val_main_v4 val_main_cst_1 val_main_v5 val_main_v6 val_main_v7 val_main_v8 val_main_v9 val_main_v10 val_main_v11 val_main_v12 val_main_v13 val_main_v14 val_main_v15 val_main_v16 val_main_v17 val_main_c val_main_call0_v0 val_main_v18)

/-- The row of the whole arrays that grid point `t` holds at row `r` of its block. -/
def rowOf (t : Fin 1) (r : Fin 256) : Fin 256 := ⟨256 * t.val + r.val, by omega⟩

section textbook
variable (x : (⟨S256x1024, .f32⟩ : BufTy).Contents (Elt Ideal)) (g : (⟨S1024, .f32⟩ : BufTy).Contents (Elt Ideal)) (w : (⟨S1024x3088, .f32⟩ : BufTy).Contents (Elt Ideal))

/-- The textbook's outputs with a token's entries in a row. The gates' columns past the last gate are zero. -/
theorem text (i : Fin 256) :
    (∀ j : Fin 1024, val_main_v14 (F := Ideal) x g w (ix2 i j)
      = entry (fun k => x (ix2 (i) k)) (fun k => g (ix1 k)) (fun k => w (ix2 k ⟨j.val, by omega⟩)))
    ∧ (∀ j : Fin 1024, val_main_v15 (F := Ideal) x g w (ix2 i j)
      = entry (fun k => x (ix2 (i) k)) (fun k => g (ix1 k)) (fun k => w (ix2 k ⟨1024 + j.val, by omega⟩)))
    ∧ (∀ j : Fin 1024, val_main_v16 (F := Ideal) x g w (ix2 i j)
      = entry (fun k => x (ix2 (i) k)) (fun k => g (ix1 k)) (fun k => w (ix2 k ⟨2048 + j.val, by omega⟩)))
    ∧ (∀ j : Fin 128, val_main_v18 (F := Ideal) x g w (ix2 i j)
      = entry (fun k => x (ix2 (i) k)) (fun k => g (ix1 k)) (fun k => if h : j.val < 16 then w (ix2 k ⟨3072 + j.val, by omega⟩) else (0 : EReal))) := by
  refine ⟨fun j => ?_, fun j => ?_, fun j => ?_, fun j => ?_⟩ <;> pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16, val_main_v17, val_main_c, val_main_call0_v0, val_main_v18] <;>
    first
    | rfl
    | split
      · rfl
      · exact sitofp_zero.trans (entry_zero _ _).symm
end textbook

section blocks
variable (P0 : Vec Ideal S256x1024 .f32) (P1 : Vec Ideal S1x1024 .f32)

/-- The entries of the blocks that a grid point stores with a token's entries in a row. -/
theorem block (r : Fin 256) :
    (∀ (W : Vec Ideal S1024x1024 .bf16) (j : Fin 1024), (k0_pay2 P0 P1 W) (ix2 r j)
      = entry (fun k => P0 (ix2 r k)) (fun k => P1 (ix2 0 k)) (fun k => W (ix2 k j)))
    ∧ (∀ (W : Vec Ideal S1024x1024 .bf16) (j : Fin 1024), (k0_pay3 P0 P1 W) (ix2 r j)
      = entry (fun k => P0 (ix2 r k)) (fun k => P1 (ix2 0 k)) (fun k => W (ix2 k j)))
    ∧ (∀ (W : Vec Ideal S1024x1024 .bf16) (j : Fin 1024), (k0_pay4 P0 P1 W) (ix2 r j)
      = entry (fun k => P0 (ix2 r k)) (fun k => P1 (ix2 0 k)) (fun k => W (ix2 k j)))
    ∧ (∀ (W : Vec Ideal S1024x128 .bf16) (j : Fin 128), (k0_pay5 P0 P1 W) (ix2 r j)
      = entry (fun k => P0 (ix2 r k)) (fun k => P1 (ix2 0 k)) (fun k => W (ix2 k j))) := by
  refine ⟨fun W j => ?_, fun W j => ?_, fun W j => ?_, fun W j => ?_⟩ <;> pointwise [k0_pay1, k0_pay2, k0_pay3, k0_pay4, k0_pay5] <;> rfl
end blocks

variable (m : (ℓ : Loc nD τ sig) → Buf (Elt Ideal) ℓ)

/-- The block index of each window at a grid point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] ∧ win0_7.index t = ![t.val, 0]
    ∧ win0_8.index t = ![t.val, 0] ∧ win0_9.index t = ![t.val, 0] :=
  (by decide +kernel : ∀ t : Fin grid0.N, _)

section reads
variable (c : Dev nD) (t : Fin cfg0.N)

/-- What the kernel finds in the arrays behind its windows, read from the arguments: the rows, the scale, the weights. -/
theorem host :
    (∀ j : Fin 1024, V m c main_v9 (ix2 0 j) = m ((c : Thread nD τ).loc main_arg1) (ix1 j))
    ∧ (∀ (k : Fin 1024) (j : Fin 1024), V m c main_v5 (ix2 k j) = m ((c : Thread nD τ).loc main_arg2) (ix2 k ⟨j.val, by omega⟩))
    ∧ (∀ (k : Fin 1024) (j : Fin 1024), V m c main_v6 (ix2 k j) = m ((c : Thread nD τ).loc main_arg2) (ix2 k ⟨1024 + j.val, by omega⟩))
    ∧ (∀ (k : Fin 1024) (j : Fin 1024), V m c main_v7 (ix2 k j) = m ((c : Thread nD τ).loc main_arg2) (ix2 k ⟨2048 + j.val, by omega⟩))
    ∧ (∀ (k : Fin 1024) (j : Fin 128), V m c main_v8 (ix2 k j) = if h : j.val < 16 then m ((c : Thread nD τ).loc main_arg2) (ix2 k ⟨3072 + j.val, by omega⟩) else (0 : EReal)) := by
  refine ⟨fun j => ?_, fun k j => ?_, fun k j => ?_, fun k j => ?_, fun k j => ?_⟩ <;>
    (unfold V
     simp only [hostOps0, hostOps0_1, hostOps0_2, List.flatten_cons, List.flatten_nil, List.append_nil, List.cons_append,
       List.nil_append, StableHlo.TRef.binary, StableHlo.TRef.unary, StableHlo.TRef.toBuf, StableHlo.TRef.ofBuf, cast_eq]
     after_results_simp
     pointwise []) <;> rw [sitofp_zero]

/-- The rows' window shows the grid point's rows, the other windows show their whole arrays. -/
theorem read :
    (∀ (r : Fin 256) (j : Fin 1024), (iblk m c 0 t) (ix2 r j) = m ((c : Thread nD τ).loc main_arg0) (ix2 (rowOf t r) j))
    ∧ (∀ j : Fin 1024, (iblk m c 1 t) (ix2 0 j) = m ((c : Thread nD τ).loc main_arg1) (ix1 j))
    ∧ (∀ (k : Fin 1024) (j : Fin 1024), (iblk m c 2 t) (ix2 k j) = m ((c : Thread nD τ).loc main_arg2) (ix2 k ⟨j.val, by omega⟩))
    ∧ (∀ (k : Fin 1024) (j : Fin 1024), (iblk m c 3 t) (ix2 k j) = m ((c : Thread nD τ).loc main_arg2) (ix2 k ⟨1024 + j.val, by omega⟩))
    ∧ (∀ (k : Fin 1024) (j : Fin 1024), (iblk m c 4 t) (ix2 k j) = m ((c : Thread nD τ).loc main_arg2) (ix2 k ⟨2048 + j.val, by omega⟩))
    ∧ (∀ (k : Fin 1024) (j : Fin 128), (iblk m c 5 t) (ix2 k j) = if h : j.val < 16 then m ((c : Thread nD τ).loc main_arg2) (ix2 k ⟨3072 + j.val, by omega⟩) else (0 : EReal)) := by
  refine ⟨fun r j => (congrArg (V m c main_arg0) (show (win0_0.blk t).view.emb (ix2 r j) = ix2 (rowOf t r) j from ?_)).trans (by rw [V_main_arg0]),
    fun j => (congrArg (V m c main_v9) (show (win0_1.blk t).view.emb (ix2 0 j) = ix2 0 j from ?_)).trans ((host m c).1 j),
    fun k j => (congrArg (V m c main_v5) (show (win0_2.blk t).view.emb (ix2 k j) = ix2 k j from ?_)).trans ((host m c).2.1 k j),
    fun k j => (congrArg (V m c main_v6) (show (win0_3.blk t).view.emb (ix2 k j) = ix2 k j from ?_)).trans ((host m c).2.2.1 k j),
    fun k j => (congrArg (V m c main_v7) (show (win0_4.blk t).view.emb (ix2 k j) = ix2 k j from ?_)).trans ((host m c).2.2.2.1 k j),
    fun k j => (congrArg (V m c main_v8) (show (win0_5.blk t).view.emb (ix2 k j) = ix2 k j from ?_)).trans ((host m c).2.2.2.2 k j)⟩ <;> blk_ext [rowOf, idx t]
end reads

/-! Each output array of the kernel is the textbook's output of the kernel's arguments. -/

theorem final6 (c : Dev nD) : (dats m 0 c).arrAt 6 cfg0.N
    = val_main_v14 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  frame_out
  idx_vars y
  have e : (win0_6.blk t).view.emb (ix2 y0 y1) = ix2 (rowOf t y0) y1 := by blk_ext [rowOf, idx t]
  rw [e, (text _ _ _ _).1]
  refine ((block _ _ y0).1 _ y1).trans ?_
  simp only [read m c t]

theorem final7 (c : Dev nD) : (dats m 0 c).arrAt 7 cfg0.N
    = val_main_v15 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  frame_out
  idx_vars y
  have e : (win0_7.blk t).view.emb (ix2 y0 y1) = ix2 (rowOf t y0) y1 := by blk_ext [rowOf, idx t]
  rw [e, (text _ _ _ _).2.1]
  refine ((block _ _ y0).2.1 _ y1).trans ?_
  simp only [read m c t]

theorem final8 (c : Dev nD) : (dats m 0 c).arrAt 8 cfg0.N
    = val_main_v16 (F := Ideal) (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  frame_out
  idx_vars y
  have e : (win0_8.blk t).view.emb (ix2 y0 y1) = ix2 (rowOf t y0) y1 := by blk_ext [rowOf, idx t]
  rw [e, (text _ _ _ _).2.2.1]
  refine ((block _ _ y0).2.2.1 _ y1).trans ?_
  simp only [read m c t]

theorem final9 (c : Dev nD) : (dats m 0 c).arrAt 9 cfg0.N
    = val_main_v18 (F := Ideal) (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  frame_out
  idx_vars y
  have e : (win0_9.blk t).view.emb (ix2 y0 y1) = ix2 (rowOf t y0) y1 := by blk_ext [rowOf, idx t]
  rw [e, (text _ _ _ _).2.2.2]
  refine ((block _ _ y0).2.2.2 _ y1).trans ?_
  simp only [read m c t]

/-- Over the reals the kernel and the textbook lines have the same results on the same arguments. -/
theorem algebraic : Cert.algebraic_SampleOddProjIdeal_SampleOddProjReferenceIdeal := by
  intro m ρ m' ρ' _ hagree
  refine ⟨fun c => val_main_v14 (F := Ideal) (m ((c : Thread nD τ).loc main_arg0)) (m ((c : Thread nD τ).loc main_arg1)) (m ((c : Thread nD τ).loc main_arg2)), fun c => val_main_v15 (F := Ideal) (m ((c : Thread nD τ).loc main_arg0)) (m ((c : Thread nD τ).loc main_arg1)) (m ((c : Thread nD τ).loc main_arg2)), fun c => val_main_v16 (F := Ideal) (m ((c : Thread nD τ).loc main_arg0)) (m ((c : Thread nD τ).loc main_arg1)) (m ((c : Thread nD τ).loc main_arg2)), fun c => val_main_v18 (F := Ideal) (m ((c : Thread nD τ).loc main_arg0)) (m ((c : Thread nD τ).loc main_arg1)) (m ((c : Thread nD τ).loc main_arg2)),
    (θ_run Cert.SampleOddProjIdeal.defs _ _).mono (fun _ h c => ⟨(h c).1.trans (final6 m c), (h c).2.1.trans (final7 m c), (h c).2.2.1.trans (final8 m c), (h c).2.2.2.1.trans (final9 m c), (h c).2.2.2.2⟩)
      (Cert.SampleOddProjIdeal.Value.run_blocks m ρ), ?_⟩
  refine (θ_run Cert.SampleOddProjReferenceIdeal.defs _ _).mono (fun _ h c => ?_) (Cert.SampleOddProjReferenceIdeal.Value.run (F := Ideal) m' ρ')
  obtain ⟨h0, h1, h2⟩ := hagree c
  exact ⟨(h c).1.trans (by rw [Cert.SampleOddProjReferenceIdeal.Read.val_main_v14_eq, h0, h1, h2]), (h c).2.1.trans (by rw [Cert.SampleOddProjReferenceIdeal.Read.val_main_v15_eq, h0, h1, h2]), (h c).2.2.1.trans (by rw [Cert.SampleOddProjReferenceIdeal.Read.val_main_v16_eq, h0, h1, h2]), (h c).2.2.2.1.trans (by rw [Cert.SampleOddProjReferenceIdeal.Read.val_main_v18_eq, h0, h1, h2]), (h c).2.2.2.2⟩

end Cert.Proof.SampleOddProj
-- ==== Proof.EvenFfnValue.lean ====
/-
The value of the kernel that closes an even layer: the attention's output comes in two halves, the textbook
formula takes it as one array, and the two sums of 512 products are the one sum of 1024.
-/
module

public import proofs.«01_k».proof.Proof.Gen.EvenFfnIdeal.Value
public import proofs.«01_k».proof.Proof.Gen.EvenFfnReferenceIdeal.Run
public import proofs.«01_k».proof.Proof.Gen.EvenFfnReferenceIdeal.Read
public import proofs.«01_k».proof.Defs
public import Idealize.ShloMosaic.Lib.Pointwise
public import Idealize.ShloMosaic.Lib.Pipeline.ValueKit
public import Idealize.ShloMosaic.Lib.StableHlo.ReadAt
public import Idealize.ShloMosaic.Lib.StableHlo.Run

@[expose] public section

set_option maxHeartbeats 4000000
noncomputable section

namespace Cert.Proof.EvenFfn

open Idealize.ShloMosaic Idealize.ShloMosaic.TcCoe Idealize.SL.Sem
open scoped BigOperators
open Cert.EvenFfnIdeal Cert.EvenFfnIdeal.Gen
open Cert.EvenFfnReferenceIdeal.Read (val_main_v0 val_main_v1 val_main_v2 val_main_v3 val_main_cst val_main_v4 val_main_v5 val_main_cst_0 val_main_v6 val_main_v7 val_main_cst_1 val_main_v8 val_main_v9 val_main_v10 val_main_v11 val_main_v12 val_main_v13 val_main_v14 val_main_v15 val_main_v16 val_main_call0_v0 val_main_call0_v1 val_main_call0_cst val_main_call0_v2 val_main_call0_v3 val_main_call0_cst_0 val_main_call0_v4 val_main_call0_v5 val_main_v17 val_main_v18 val_main_v19 val_main_v20 val_main_v21)

/-- Row `512 t + r` of the whole arrays, the row that grid point `t` holds at row `r` of its block. -/
def rowOf (t : Fin 32) (r : Fin 512) : Fin 16384 := ⟨512 * t.val + r.val, by omega⟩

/-- The block that a grid point writes is the block of the textbook formula at the same rows. -/
theorem block_eq (t : Fin 32)
    (P0 : Vec Ideal S512x1024 .f32) (P1 P2 : Vec Ideal S512x512 .f32) (P3 P4 : Vec Ideal S512x1024 .bf16) (P5 : Vec Ideal S1x1024 .f32)
    (P7 P8 : Vec Ideal S1024x2816 .bf16) (P9 : Vec Ideal S2816x1024 .bf16)
    (x0 : (⟨S16384x1024, .f32⟩ : BufTy).Contents (Elt Ideal)) (x1 x2 : (⟨S16384x512, .f32⟩ : BufTy).Contents (Elt Ideal))
    (x3 : (⟨S1024x1024, .f32⟩ : BufTy).Contents (Elt Ideal)) (x4 : (⟨S1024, .f32⟩ : BufTy).Contents (Elt Ideal))
    (x6 x7 : (⟨S1024x2816, .f32⟩ : BufTy).Contents (Elt Ideal)) (x8 : (⟨S2816x1024, .f32⟩ : BufTy).Contents (Elt Ideal))
    (h0 : ∀ r j, P0 (ix2 r j) = x0 (ix2 (rowOf t r) j)) (h1 : ∀ r j, P1 (ix2 r j) = x1 (ix2 (rowOf t r) j))
    (h2 : ∀ r j, P2 (ix2 r j) = x2 (ix2 (rowOf t r) j)) (h3 : ∀ (k : Fin 512) j, P3 (ix2 k j) = x3 (ix2 ⟨k.val, by omega⟩ j))
    (h4 : ∀ (k : Fin 512) j, P4 (ix2 k j) = x3 (ix2 ⟨512 + k.val, by omega⟩ j)) (h5 : ∀ j, P5 (ix2 0 j) = x4 (ix1 j))
    (h7 : ∀ k j, P7 (ix2 k j) = x6 (ix2 k j)) (h8 : ∀ k j, P8 (ix2 k j) = x7 (ix2 k j))
    (h9 : ∀ k j, P9 (ix2 k j) = x8 (ix2 k j)) (r : Fin 512) (j : Fin 1024) :
    k0_pay1 (k0_pay2 P0 P1 P3 P2 P4) (k0_pay4 P0 P1 P3 P2 P4 P5 P8) (k0_pay5 P0 P1 P3 P2 P4 P5 P7) P9 (ix2 r j)
      = val_main_v21 (F := Ideal) x0 x1 x2 x3 x4 x6 x7 x8 (ix2 (rowOf t r) j) := by
  pointwise [k0_pay1, k0_pay2, k0_pay3, k0_pay4, k0_pay5, val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_v16, val_main_call0_v0, val_main_call0_v1, val_main_call0_cst, val_main_call0_v2, val_main_call0_v3, val_main_call0_cst_0, val_main_call0_v4, val_main_call0_v5, val_main_v17, val_main_v18, val_main_v19, val_main_v20, val_main_v21]
  simp only [h0, h1, h2, h3, h4, h5, h7, h8, h9, add_assoc]
  rfl

variable (m : (ℓ : Loc nD τ sig) → Buf (Elt Ideal) ℓ)

/-- The block index of each window at a point: the rows' windows move, the weights' windows stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

/-- The textbook formula's result of the kernel's arguments. -/
def want (c : Dev nD) : (⟨S16384x1024, .f32⟩ : BufTy).Contents (Elt Ideal) :=
  val_main_v21 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg6)) (m ((c : Thread nD τ).loc main_arg7)) (m ((c : Thread nD τ).loc main_arg8))

/-- The blocks of a point, read from the arguments. -/
theorem read (c : Dev nD) (t : Fin cfg0.N) :
    (∀ (r : Fin 512) (j : Fin 1024), (iblk m c 0 t) (ix2 r j) = m ((c : Thread nD τ).loc main_arg0) (ix2 (rowOf t r) j))
    ∧ (∀ (r : Fin 512) (j : Fin 512), (iblk m c 1 t) (ix2 r j) = m ((c : Thread nD τ).loc main_arg1) (ix2 (rowOf t r) j))
    ∧ (∀ (r : Fin 512) (j : Fin 512), (iblk m c 2 t) (ix2 r j) = m ((c : Thread nD τ).loc main_arg2) (ix2 (rowOf t r) j))
    ∧ (∀ (k : Fin 512) (j : Fin 1024), (iblk m c 3 t) (ix2 k j) = m ((c : Thread nD τ).loc main_arg3) (ix2 ⟨k.val, by omega⟩ j))
    ∧ (∀ (k : Fin 512) (j : Fin 1024), (iblk m c 4 t) (ix2 k j) = m ((c : Thread nD τ).loc main_arg3) (ix2 ⟨512 + k.val, by omega⟩ j))
    ∧ (∀ j : Fin 1024, (iblk m c 5 t) (ix2 0 j) = m ((c : Thread nD τ).loc main_arg4) (ix1 j))
    ∧ (∀ (k : Fin 1024) (j : Fin 2816), (iblk m c 7 t) (ix2 k j) = m ((c : Thread nD τ).loc main_arg6) (ix2 k j))
    ∧ (∀ (k : Fin 1024) (j : Fin 2816), (iblk m c 8 t) (ix2 k j) = m ((c : Thread nD τ).loc main_arg7) (ix2 k j))
    ∧ (∀ (k : Fin 2816) (j : Fin 1024), (iblk m c 9 t) (ix2 k j) = m ((c : Thread nD τ).loc main_arg8) (ix2 k j)) := by
  refine ⟨fun r j => ?_, fun r j => ?_, fun r j => ?_, fun k j => ?_, fun k j => ?_, fun j => ?_, fun k j => ?_, fun k j => ?_, fun k j => ?_⟩ <;>
    blk_point [iblk, V, rowOf, idx t]

/-- The kernel's output array is the textbook formula's result. -/
theorem final (c : Dev nD) : (dats m 0 c).arrAt 10 cfg0.N = want m c := by
  refine (dats m 0 c).arrAt_eq_of_covers 10 _ (by decide +kernel) fun t hf y => ?_
  blk_simp
  rw [after0_10]
  frame_out
  idx_vars y
  have e : (win0_10.blk t).view.emb (ix2 y0 y1) = ix2 (rowOf t y0) y1 := by blk_ext [rowOf, idx t]
  rw [e]
  obtain ⟨h0, h1, h2, h3, h4, h5, h7, h8, h9⟩ := read m c t
  exact block_eq t _ _ _ _ _ _ _ _ _ _ _ _ _ _ _ _ _ h0 h1 h2 h3 h4 h5 h7 h8 h9 y0 y1

/-- Over the reals the kernel and the textbook formula have the same result on the same arguments. -/
theorem algebraic : Cert.algebraic_EvenFfnIdeal_EvenFfnReferenceIdeal := by
  intro m ρ m' ρ' _ hagree
  refine ⟨fun c => want m c, (θ_run Cert.EvenFfnIdeal.defs _ _).mono (fun _ h c => ⟨(h c).1.trans (final m c), (h c).2⟩) (Cert.EvenFfnIdeal.Value.run_blocks m ρ), ?_⟩
  refine (θ_run Cert.EvenFfnReferenceIdeal.defs _ _).mono (fun _ h c => ?_) (Cert.EvenFfnReferenceIdeal.Value.run (F := Ideal) m' ρ')
  refine ⟨(h c).1.trans ?_, (h c).2⟩
  rw [Cert.EvenFfnReferenceIdeal.Read.val_main_v21_eq]
  obtain ⟨h0, h1, h2, h3, h4, h5, h6, h7, h8⟩ := hagree c
  unfold want
  rw [h0, h1, h2, h3, h4, h6, h7, h8]

end Cert.Proof.EvenFfn
-- ==== Proof.SampleFfnValue.lean ====
/-
The value of the kernel that closes the last layer on the sample batch: its one block of 256 rows is the
textbook formula's result of the same arguments.
-/
module

public import proofs.«01_k».proof.Proof.Gen.SampleFfnIdeal.Value
public import proofs.«01_k».proof.Proof.Gen.SampleFfnReferenceIdeal.Run
public import proofs.«01_k».proof.Proof.Gen.SampleFfnReferenceIdeal.Read
public import proofs.«01_k».proof.Defs
public import Idealize.ShloMosaic.Lib.Pointwise
public import Idealize.ShloMosaic.Lib.Pipeline.ValueKit
public import Idealize.ShloMosaic.Lib.StableHlo.ReadAt
public import Idealize.ShloMosaic.Lib.StableHlo.Run

@[expose] public section

set_option maxHeartbeats 4000000
noncomputable section

namespace Cert.Proof.SampleFfn

open Idealize.ShloMosaic Idealize.ShloMosaic.TcCoe Idealize.SL.Sem
open scoped BigOperators
open Cert.SampleFfnIdeal Cert.SampleFfnIdeal.Gen
open Cert.SampleFfnReferenceIdeal.Read (val_main_v0 val_main_v1 val_main_v2 val_main_cst val_main_v3 val_main_v4 val_main_cst_0 val_main_v5 val_main_v6 val_main_cst_1 val_main_v7 val_main_v8 val_main_v9 val_main_v10 val_main_v11 val_main_v12 val_main_v13 val_main_v14 val_main_v15 val_main_call0_v0 val_main_call0_v1 val_main_call0_cst val_main_call0_v2 val_main_call0_v3 val_main_call0_cst_0 val_main_call0_v4 val_main_call0_v5 val_main_v16 val_main_v17 val_main_v18 val_main_v19 val_main_v20 val_main_v21 val_main_cst_2 val_main_v22 val_main_v23 val_main_cst_3 val_main_v24 val_main_v25 val_main_cst_4 val_main_v26 val_main_v27 val_main_v28 val_main_v29 val_main_v30 val_main_v31 val_main_v32 val_main_v33)

/-- The block that the one grid point writes is the textbook formula's result. -/
theorem block_eq
    (P0 P1 : Vec Ideal S256x1024 .f32) (P2 : Vec Ideal S1024x1024 .bf16) (P3 : Vec Ideal S1x1024 .f32)
    (P4 P5 : Vec Ideal S1024x2816 .bf16) (P6 : Vec Ideal S2816x1024 .bf16) (P7 : Vec Ideal S1x1024 .f32)
    (x0 x1 : (⟨S256x1024, .f32⟩ : BufTy).Contents (Elt Ideal)) (x2 : (⟨S1024x1024, .f32⟩ : BufTy).Contents (Elt Ideal))
    (x3 x4 : (⟨S1024, .f32⟩ : BufTy).Contents (Elt Ideal)) (x5 x6 : (⟨S1024x2816, .f32⟩ : BufTy).Contents (Elt Ideal))
    (x7 : (⟨S2816x1024, .f32⟩ : BufTy).Contents (Elt Ideal))
    (h0 : ∀ r j, P0 (ix2 r j) = x0 (ix2 r j)) (h1 : ∀ r j, P1 (ix2 r j) = x1 (ix2 r j))
    (h2 : ∀ k j, P2 (ix2 k j) = x2 (ix2 k j)) (h3 : ∀ j, P3 (ix2 0 j) = x3 (ix1 j))
    (h4 : ∀ j, P7 (ix2 0 j) = x4 (ix1 j)) (h5 : ∀ k j, P4 (ix2 k j) = x5 (ix2 k j))
    (h6 : ∀ k j, P5 (ix2 k j) = x6 (ix2 k j)) (h7 : ∀ k j, P6 (ix2 k j) = x7 (ix2 k j)) (r : Fin 256) (j : Fin 1024) :
    k0_pay1 (k0_pay2 P0 P1 P2 P3 P4 P5 P6) P7 (ix2 r j) = val_main_v33 (F := Ideal) x0 x1 x2 x3 x4 x5 x6 x7 (ix2 r j) := by
  pointwise [k0_pay1, k0_pay2, val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_call0_v0, val_main_call0_v1, val_main_call0_cst, val_main_call0_v2, val_main_call0_v3, val_main_call0_cst_0, val_main_call0_v4, val_main_call0_v5, val_main_v16, val_main_v17, val_main_v18, val_main_v19, val_main_v20, val_main_v21, val_main_cst_2, val_main_v22, val_main_v23, val_main_cst_3, val_main_v24, val_main_v25, val_main_cst_4, val_main_v26, val_main_v27, val_main_v28, val_main_v29, val_main_v30, val_main_v31, val_main_v32, val_main_v33]
  simp only [h0, h1, h2, h3, h4, h5, h6, h7]
  rfl

variable (m : (ℓ : Loc nD τ sig) → Buf (Elt Ideal) ℓ)

/-- Every window stays at the origin. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

/-- The textbook formula's result of the kernel's arguments. -/
def want (c : Dev nD) : (⟨S256x1024, .f32⟩ : BufTy).Contents (Elt Ideal) :=
  val_main_v33 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The blocks, read from the arguments. -/
theorem read (c : Dev nD) (t : Fin cfg0.N) :
    (∀ (r : Fin 256) (j : Fin 1024), (iblk m c 0 t) (ix2 r j) = m ((c : Thread nD τ).loc main_arg0) (ix2 r j))
    ∧ (∀ (r : Fin 256) (j : Fin 1024), (iblk m c 1 t) (ix2 r j) = m ((c : Thread nD τ).loc main_arg1) (ix2 r j))
    ∧ (∀ (k : Fin 1024) (j : Fin 1024), (iblk m c 2 t) (ix2 k j) = m ((c : Thread nD τ).loc main_arg2) (ix2 k j))
    ∧ (∀ j : Fin 1024, (iblk m c 3 t) (ix2 0 j) = m ((c : Thread nD τ).loc main_arg3) (ix1 j))
    ∧ (∀ j : Fin 1024, (iblk m c 4 t) (ix2 0 j) = m ((c : Thread nD τ).loc main_arg4) (ix1 j))
    ∧ (∀ (k : Fin 1024) (j : Fin 2816), (iblk m c 5 t) (ix2 k j) = m ((c : Thread nD τ).loc main_arg5) (ix2 k j))
    ∧ (∀ (k : Fin 1024) (j : Fin 2816), (iblk m c 6 t) (ix2 k j) = m ((c : Thread nD τ).loc main_arg6) (ix2 k j))
    ∧ (∀ (k : Fin 2816) (j : Fin 1024), (iblk m c 7 t) (ix2 k j) = m ((c : Thread nD τ).loc main_arg7) (ix2 k j)) := by
  refine ⟨fun r j => ?_, fun r j => ?_, fun k j => ?_, fun j => ?_, fun j => ?_, fun k j => ?_, fun k j => ?_, fun k j => ?_⟩ <;>
    blk_point [iblk, V, idx t]

/-- The kernel's output array is the textbook formula's result. -/
theorem final (c : Dev nD) : (dats m 0 c).arrAt 8 cfg0.N = want m c := by
  refine (dats m 0 c).arrAt_eq_of_covers 8 _ (by decide +kernel) fun t hf y => ?_
  blk_simp
  rw [after0_8]
  frame_out
  idx_vars y
  have e : (win0_8.blk t).view.emb (ix2 y0 y1) = ix2 y0 y1 := by blk_ext [idx t]
  rw [e]
  obtain ⟨h0, h1, h2, h3, h4, h5, h6, h7⟩ := read m c t
  exact block_eq _ _ _ _ _ _ _ _ _ _ _ _ _ _ _ _ h0 h1 h2 h3 h4 h5 h6 h7 y0 y1

/-- Over the reals the kernel and the textbook formula have the same result on the same arguments. -/
theorem algebraic : Cert.algebraic_SampleFfnIdeal_SampleFfnReferenceIdeal := by
  intro m ρ m' ρ' _ hagree
  refine ⟨fun c => want m c, (θ_run Cert.SampleFfnIdeal.defs _ _).mono (fun _ h c => ⟨(h c).1.trans (final m c), (h c).2⟩) (Cert.SampleFfnIdeal.Value.run_blocks m ρ), ?_⟩
  refine (θ_run Cert.SampleFfnReferenceIdeal.defs _ _).mono (fun _ h c => ?_) (Cert.SampleFfnReferenceIdeal.Value.run (F := Ideal) m' ρ')
  refine ⟨(h c).1.trans ?_, (h c).2⟩
  rw [Cert.SampleFfnReferenceIdeal.Read.val_main_v33_eq]
  obtain ⟨h0, h1, h2, h3, h4, h5, h6, h7⟩ := hagree c
  unfold want
  rw [h0, h1, h2, h3, h4, h5, h6, h7]

end Cert.Proof.SampleFfn
-- ==== Proof.FoxGatesMath.lean ====
/-
Running sums: the textbook's window sum over one axis, the lower-triangular product, and the logarithm of the sigmoid.
-/
module

public import proofs.«01_k».proof.Proof.ProjMath
public import Idealize.ShloMosaic.Lib.Pointwise
public import Idealize.ShloMosaic.Lib.Routing.Ops
public import Mathlib.Algebra.BigOperators.Fin

@[expose] public section

noncomputable section

namespace Cert.Proof.Gates

open Idealize.ShloMosaic Idealize.ShloMosaic.TcCoe
open scoped BigOperators

/-- The logarithm of the sigmoid, written so that no exponential overflows. -/
def logSigmoid (x : EReal) : EReal := -(max (-x) 0 + Ideal.log1p (Ideal.exp (-max x (-x))))

/-- Folding an addition over a list adds the list's sum. -/
theorem foldl_add {ι : Type} (g : ι → EReal) (l : List ι) (v : EReal) :
    l.foldl (fun r a => r + g a) v = v + (l.map g).sum := by
  induction l generalizing v with
  | nil => simp
  | cons a l ih => rw [List.foldl_cons, ih, List.map_cons, List.sum_cons, add_assoc]

/-- A window as long as the sequence, ending at position `j`, holds zeros and then the entries up to `j`. -/
theorem sum_window (f : ℕ → EReal) (M j : ℕ) (hj : j ≤ M) :
    (∑ w ∈ Finset.range (M + 1), if M ≤ j + w then f (j + w - M) else 0) = ∑ k ∈ Finset.range (j + 1), f k := by
  obtain ⟨d, rfl⟩ : ∃ d, M = j + d := ⟨M - j, by omega⟩
  rw [show j + d + 1 = d + (j + 1) by omega, Finset.sum_range_add,
    Finset.sum_eq_zero (fun w hw => if_neg (by have := Finset.mem_range.1 hw; omega)), zero_add]
  refine Finset.sum_congr rfl fun k _ => ?_
  rw [if_pos (by omega), show j + (d + k) - (j + d) = k by omega]

/-- A position of a window that is one long on the outer axes and `N` long on the middle one. -/
theorem window_at (N : ℕ) (n : Fin (⟨3, ![1, N, 1]⟩ : Shape).numel) (hn : n.val < N) :
    (⟨3, ![1, N, 1]⟩ : Shape).rowMajor.symm n = ix3 (0 : Fin 1) (⟨n.val, hn⟩ : Fin N) (0 : Fin 1) :=
  ((⟨3, ![1, N, 1]⟩ : Shape).rowMajor.symm_apply_eq).2 (Fin.ext (by
    rw [Shape.rowMajor_val_three]
    show n.val = (0 * N + n.val) * 1 + 0
    omega))

/-- The running sum along the middle axis, as a sum over windows: entry `j` is the sum of the entries up to `j`. -/
theorem cumsum {A M C : ℕ} (x : (⟨3, ![A, M + 1, C]⟩ : Shape).Idx → EReal) (f : ℕ → EReal) (a : Fin A) (j : Fin (M + 1)) (c : Fin C)
    (hx : ∀ i : Fin (M + 1), x (ix3 a i c) = f i.val)
    (h : (⟨3, ![A, M + 1, C]⟩ : Shape).ReduceWindows (![1, M + 1, 1] : Fin 3 → ℕ) ![1, 1, 1] ![0, M, 0] ![0, 0, 0] ⟨3, ![A, M + 1, C]⟩) :
    Ideal.hostReduceWindowAdd ![1, M + 1, 1] ![1, 1, 1] ![0, M, 0] ![0, 0, 0] h x 0 (ix3 a j c)
      = ∑ k ∈ Finset.range (j.val + 1), f k := by
  have hj := j.isLt
  have hN : (⟨3, ![1, M + 1, 1]⟩ : Shape).numel = M + 1 := by simp [Shape.numel, Fin.prod_univ_three]
  rw [← sum_window f M j.val (by omega), ← Fin.sum_univ_eq_sum_range (fun w => if M ≤ j.val + w then f (j.val + w - M) else 0) (M + 1),
    ← Fin.sum_congr' _ hN, Fin.sum_univ_def]
  unfold Ideal.hostReduceWindowAdd Host.reduceWindow
  refine (foldl_add _ _ _).trans ?_
  rw [zero_add]
  refine congrArg List.sum (List.map_congr_left fun n _ => ?_)
  have hn : n.val < M + 1 := lt_of_lt_of_eq n.isLt hN
  have w0 : ((⟨3, ![1, M + 1, 1]⟩ : Shape).rowMajor.symm n 0).val = 0 := by rw [window_at (M + 1) n hn]; rfl
  have w1 : ((⟨3, ![1, M + 1, 1]⟩ : Shape).rowMajor.symm n 1).val = n.val := by rw [window_at (M + 1) n hn]; rfl
  have w2 : ((⟨3, ![1, M + 1, 1]⟩ : Shape).rowMajor.symm n 2).val = 0 := by rw [window_at (M + 1) n hn]; rfl
  dsimp only
  show _ = if M ≤ j.val + n.val then f (j.val + n.val - M) else 0
  split
  · next hin =>
    have h1 := hin 1
    change M ≤ j.val * 1 + ((⟨3, ![1, M + 1, 1]⟩ : Shape).rowMajor.symm n 1).val
      ∧ j.val * 1 + ((⟨3, ![1, M + 1, 1]⟩ : Shape).rowMajor.symm n 1).val - M < M + 1 at h1
    rw [w1] at h1
    rw [if_pos (by omega)]
    refine (congrArg x (funext fun b => Fin.ext ?_)).trans (hx ⟨j.val + n.val - M, by omega⟩)
    match b with
    | ⟨0, _⟩ => show a.val * 1 + ((⟨3, ![1, M + 1, 1]⟩ : Shape).rowMajor.symm n 0).val - 0 = a.val; rw [w0]; omega
    | ⟨1, _⟩ => show j.val * 1 + ((⟨3, ![1, M + 1, 1]⟩ : Shape).rowMajor.symm n 1).val - M = j.val + n.val - M; rw [w1]; omega
    | ⟨2, _⟩ => show c.val * 1 + ((⟨3, ![1, M + 1, 1]⟩ : Shape).rowMajor.symm n 2).val - 0 = c.val; rw [w2]; omega
  · next hin =>
    rw [if_neg fun hle => hin fun b => ?_]
    match b with
    | ⟨0, _⟩ =>
      show 0 ≤ a.val * 1 + ((⟨3, ![1, M + 1, 1]⟩ : Shape).rowMajor.symm n 0).val
        ∧ a.val * 1 + ((⟨3, ![1, M + 1, 1]⟩ : Shape).rowMajor.symm n 0).val - 0 < A
      have := a.isLt
      rw [w0]; omega
    | ⟨1, _⟩ =>
      show M ≤ j.val * 1 + ((⟨3, ![1, M + 1, 1]⟩ : Shape).rowMajor.symm n 1).val
        ∧ j.val * 1 + ((⟨3, ![1, M + 1, 1]⟩ : Shape).rowMajor.symm n 1).val - M < M + 1
      rw [w1]; omega
    | ⟨2, _⟩ =>
      show 0 ≤ c.val * 1 + ((⟨3, ![1, M + 1, 1]⟩ : Shape).rowMajor.symm n 2).val
        ∧ c.val * 1 + ((⟨3, ![1, M + 1, 1]⟩ : Shape).rowMajor.symm n 2).val - 0 < C
      have := c.isLt
      rw [w2]; omega

/-- A row of the lower-triangular matrix of ones, times a column, is the sum of the column's entries up to that row. -/
theorem tril_sum (n : ℕ) (r : Fin n) (w : Fin n → EReal) (f : ℕ → EReal) (g : Fin n → EReal) (hg : ∀ k, g k = f k.val)
    (hw : ∀ k, w k = if k ≤ r then 1 else 0) : ∑ k : Fin n, w k * g k = ∑ k ∈ Finset.range (r.val + 1), f k := by
  have e : ∀ k : Fin n, w k * g k = if k.val < r.val + 1 then f k.val else 0 := fun k => by
    rw [hw, hg]
    by_cases hk : k ≤ r
    · rw [if_pos hk, if_pos (Nat.lt_succ_of_le hk), one_mul]
    · rw [if_neg hk, if_neg (fun h => hk (Nat.le_of_lt_succ h)), zero_mul]
  rw [Finset.sum_congr rfl fun k _ => e k, Fin.sum_univ_eq_sum_range (fun k => if k < r.val + 1 then f k else 0) n,
    ← Finset.sum_filter]
  congr 1
  ext k
  have := r.isLt
  simp only [Finset.mem_filter, Finset.mem_range]
  omega

end Cert.Proof.Gates
-- ==== Proof.FoxGatesValue.lean ====
/-
The value of the forget gates' call: the logarithms of the gates and their running sums over each sequence are the textbook's.
-/
module

public import proofs.«01_k».proof.Proof.FoxGatesMath
public import proofs.«01_k».proof.Proof.Gen.FoxGatesIdeal.Value
public import proofs.«01_k».proof.Proof.Gen.FoxGatesReferenceIdeal.Run
public import proofs.«01_k».proof.Proof.Gen.FoxGatesReferenceIdeal.Read
public import proofs.«01_k».proof.Defs
public import Idealize.ShloMosaic.Lib.Pointwise
public import Idealize.ShloMosaic.Lib.Pipeline.ValueKit
public import Idealize.ShloMosaic.Lib.StableHlo.ReadAt
public import Idealize.ShloMosaic.Lib.StableHlo.Run

@[expose] public section

set_option maxHeartbeats 4000000
noncomputable section

namespace Cert.Proof.FoxGates

open Idealize.ShloMosaic Idealize.ShloMosaic.TcCoe Idealize.SL.Sem
open scoped BigOperators
open Cert.FoxGatesIdeal Cert.FoxGatesIdeal.Gen Cert.Proof.Proj Cert.Proof.Gates
open Cert.FoxGatesReferenceIdeal.Read

/-- The row of the whole arrays that grid point `t` holds at row `r` of its block. -/
def rowOf (t : Fin 32) (r : Fin 512) : Fin 16384 := ⟨512 * t.val + r.val, by omega⟩

/-- The bias of a lane: the lanes past the last head have none. -/
def bias (b : (⟨S16, .f32⟩ : BufTy).Contents (Elt Ideal)) (j : Fin 128) : EReal :=
  if h : j.val < 16 then b (ix1 ⟨j.val, h⟩) else 0

/-- The logarithm of a token's gate at a lane. -/
def gate (x : (⟨S16384x128, .f32⟩ : BufTy).Contents (Elt Ideal)) (b : (⟨S16, .f32⟩ : BufTy).Contents (Elt Ideal)) (j : Fin 128) (i : ℕ) : EReal :=
  if h : i < 16384 then logSigmoid (x (ix2 ⟨i, h⟩ j) + bias b j) else 0

section textbook
variable (x : (⟨S16384x128, .f32⟩ : BufTy).Contents (Elt Ideal)) (b : (⟨S16, .f32⟩ : BufTy).Contents (Elt Ideal))

/-- The textbook's bias, spread over the tokens. -/
theorem text_bias (i : Fin 16384) (j : Fin 128) : val_main_v2 (F := Ideal) b (ix2 i j) = bias b j := by
  pointwise [val_main_c, val_main_call0_v0, val_main_v0, val_main_v1, val_main_v2]
  unfold bias
  split
  · rfl
  · exact sitofp_zero

/-- The textbook's logarithm of a gate. -/
theorem text (i : Fin 16384) (j : Fin 128) : val_main_v4 (F := Ideal) x b (ix2 i j) = gate x b j i.val := by
  rw [gate, dif_pos i.isLt, ← text_bias b i j]
  pointwise [val_main_v3, val_main_call1_v0, val_main_call1_call0_cst, val_main_call1_call0_v0, val_main_call1_call0_v1,
    val_main_call1_call0_v2, val_main_call1_call0_v3, val_main_call1_call0_v4, val_main_call1_call0_v5, val_main_call1_call0_v6,
    val_main_call1_call0_v7, val_main_call1_call0_v8, val_main_call1_call0_v9, val_main_call1_call0_v10, val_main_call1_call0_v11,
    val_main_call1_v1, val_main_v4]
  refine congrArg (fun z : EReal => -z) ((if_neg (not_not_intro rfl)).trans ?_)
  show _ + Ideal.log1p (Ideal.exp (-max (-(x (ix2 i j) + val_main_v2 (F := Ideal) b (ix2 i j))) (- -(x (ix2 i j) + val_main_v2 (F := Ideal) b (ix2 i j))))) = _
  rw [neg_neg, max_comm (-(x (ix2 i j) + val_main_v2 (F := Ideal) b (ix2 i j))) (x (ix2 i j) + val_main_v2 (F := Ideal) b (ix2 i j))]
end textbook

section blocks
variable (P0 : Vec Ideal S512x128 .f32) (P1 : Vec Ideal S1x128 .f32)

/-- The logarithms of the gates of a block of tokens. -/
theorem block (r : Fin 512) (j : Fin 128) : k0_pay4 P0 P1 (ix2 r j) = logSigmoid (P0 (ix2 r j) + P1 (ix2 0 j)) := by
  pointwise [k0_pay4]
  simp only [zero_sub]
  rfl

/-- Their running sums within the block. -/
theorem blockSum (r : Fin 512) (j : Fin 128) (f : ℕ → EReal) (hf : ∀ k : Fin 512, k0_pay4 P0 P1 (ix2 k j) = f k.val) :
    k0_pay5 P0 P1 (ix2 r j) = ∑ k ∈ Finset.range (r.val + 1), f k := by
  pointwise [k0_pay5]
  refine tril_sum 512 r _ f (fun k => k0_pay4 P0 P1 (ix2 k j)) hf fun k => ?_
  have := r.isLt
  have := k.isLt
  by_cases h : k.val ≤ r.val
  · rw [if_pos (Fin.le_def.2 h), (WordCmp.cmpi_sge_ofNat_eq_one_iff (by omega) (by omega)).2 h]
    show (((1#32 : BitVec 32).toInt : ℝ) : EReal) = 1
    simp
  · rw [if_neg (fun hk => h (Fin.le_def.1 hk)), (WordCmp.cmpi_sge_ofNat_eq_zero_iff (by omega) (by omega)).2 h]
    exact sitofp_zero

/-- The block's running sums, continued from the carried row. -/
theorem carried (A : FVec Ideal S512x128 .f32) (s : Vec Ideal S1x128 .f32) (r : Fin 512) (j : Fin 128) :
    k0_pay1 A s (ix2 r j) = A (ix2 r j) + s (ix2 0 j) := by
  pointwise [k0_pay1]

/-- The row carried on is the last row of the block's running sums. -/
theorem carry (A : FVec Ideal S512x128 .f32) (s : Vec Ideal S1x128 .f32) (j : Fin 128) :
    k0_pay2 A s (ix2 0 j) = A (ix2 ⟨511, by omega⟩ j) + s (ix2 0 j) := by
  pointwise [k0_pay2, k0_pay1]

/-- A sequence starts from a row of zeros. -/
theorem start (j : Fin 128) : (k0_pay3 (F := Ideal)) (ix2 0 j) = (0 : EReal) := by
  pointwise [k0_pay3]
end blocks

variable (m : (ℓ : Loc nD τ sig) → Buf (Elt Ideal) ℓ)

/-- The block index of each window at a grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- What the kernel finds in the bias' array. -/
theorem host (c : Dev nD) (j : Fin 128) : V m c main_v1 (ix2 0 j) = bias (m ((c : Thread nD τ).loc main_arg1)) j := by
  unfold V
  simp only [hostOps0, hostOps0_1, List.flatten_cons, List.flatten_nil, List.append_nil, List.cons_append,
    List.nil_append, StableHlo.TRef.binary, StableHlo.TRef.unary, StableHlo.TRef.toBuf, StableHlo.TRef.ofBuf, cast_eq]
  after_results_simp
  pointwise []
  unfold bias
  split
  · rfl
  · exact sitofp_zero

/-- The tokens' window shows the grid point's rows, the bias' window its whole array. -/
theorem read (c : Dev nD) (t : Fin cfg0.N) :
    (∀ (r : Fin 512) (j : Fin 128), (iblk m c 0 t) (ix2 r j) = m ((c : Thread nD τ).loc main_arg0) (ix2 (rowOf t r) j))
    ∧ (∀ j : Fin 128, (iblk m c 1 t) (ix2 0 j) = bias (m ((c : Thread nD τ).loc main_arg1)) j) := by
  refine ⟨fun r j => (congrArg (V m c main_arg0) (show (win0_0.blk t).view.emb (ix2 r j) = ix2 (rowOf t r) j from ?_)).trans (by rw [V_main_arg0]),
    fun j => (congrArg (V m c main_v1) (show (win0_1.blk t).view.emb (ix2 0 j) = ix2 0 j from ?_)).trans (host m c j)⟩ <;> blk_ext [rowOf, idx t]

section state
variable (c : Dev nD)

/-- The gates of the kernel's arguments. -/
abbrev G (j : Fin 128) : ℕ → EReal := gate (m ((c : Thread nD τ).loc main_arg0)) (m ((c : Thread nD τ).loc main_arg1)) j

/-- A grid point's block of gates. -/
theorem gates_at (t : Fin cfg0.N) (r : Fin 512) (j : Fin 128) :
    k0_pay4 (iblk m c 0 t) (iblk m c 1 t) (ix2 r j) = G m c j (512 * t.val + r.val) := by
  have ht : t.val < 32 := t.isLt
  rw [block, (read m c t).1, (read m c t).2, G, gate, dif_pos (by omega)]
  rfl

/-- A grid point's running sums within its block. -/
theorem sums_at (t : Fin cfg0.N) (r : Fin 512) (j : Fin 128) :
    k0_pay5 (iblk m c 0 t) (iblk m c 1 t) (ix2 r j) = ∑ k ∈ Finset.range (r.val + 1), G m c j (512 * t.val + k) :=
  blockSum _ _ r j (fun k => G m c j (512 * t.val + k)) fun k => gates_at m c t k j

/-- The sum of a sequence's gates from its first token up to the row `r` of grid point `t`. -/
def upTo (t : ℕ) (r : ℕ) (j : Fin 128) : EReal := ∑ k ∈ Finset.range (512 * (t % 8) + r + 1), G m c j (4096 * (t / 8) + k)

/-- In a sequence's first block the running sums are the block's own. -/
theorem upTo_first (t : ℕ) (h : t % 8 = 0) (r : ℕ) (j : Fin 128) :
    upTo m c t r j = ∑ k ∈ Finset.range (r + 1), G m c j (512 * t + k) := by
  unfold upTo
  rw [h, show 512 * 0 + r + 1 = r + 1 by omega, show 4096 * (t / 8) = 512 * t by omega]

/-- In a later block they continue from the last row of the block before. -/
theorem upTo_next (t : ℕ) (h : ¬t % 8 = 0) (r : ℕ) (j : Fin 128) :
    upTo m c t r j = (∑ k ∈ Finset.range (r + 1), G m c j (512 * t + k)) + upTo m c (t - 1) 511 j := by
  unfold upTo
  rw [show 512 * ((t - 1) % 8) + 511 + 1 = 512 * (t % 8) by omega, show (t - 1) / 8 = t / 8 by omega, add_assoc,
    Finset.sum_range_add, add_comm]
  congr 1
  refine Finset.sum_congr rfl fun k _ => congrArg _ ?_
  omega

/-- After a grid point the carried row is the running sums' last row. -/
theorem row_after (t : Fin cfg0.N) (j : Fin 128) : (outsAt0 m c t.val t.isLt).2.2 (ix2 0 j) = upTo m c t.val 511 j := by
  obtain ⟨n, hn⟩ := t
  induction n with
  | zero =>
    rw [outsAt0_A m c ⟨0, hn⟩ (Nat.zero_mod _)]
    frame_out
    rw [carry, sums_at, start, add_zero, upTo_first m c 0 (Nat.zero_mod _)]
  | succ n ih =>
    by_cases h : (n + 1) % 8 = 0
    · rw [outsAt0_A m c ⟨n + 1, hn⟩ h]
      frame_out
      rw [carry, sums_at, start, add_zero, upTo_first m c (n + 1) h]
    · rw [outsAt0_B m c ⟨n + 1, hn⟩ h]
      frame_out
      rw [carry, sums_at, upTo_next m c (n + 1) h]
      exact congrArg _ ((congrFun ((Memref.isWhole_whole cc0_scratch0).read_unread _) _).trans (ih (by omega)))

/-- At a grid point the running sums are stored. -/
theorem sums_after (t : Fin cfg0.N) (r : Fin 512) (j : Fin 128) :
    (outsAt0 m c t.val t.isLt).2.1 (ix2 r j) = upTo m c t.val r.val j := by
  by_cases h : t.val % 8 = 0
  · rw [outsAt0_A m c t h]
    frame_out
    rw [carried, sums_at, start, add_zero, upTo_first m c t.val h]
  · rw [outsAt0_B m c t h]
    frame_out
    rw [carried, sums_at, upTo_next m c t.val h]
    exact congrArg _ ((congrFun ((Memref.isWhole_whole cc0_scratch0).read_unread _) _).trans (row_after m c ⟨t.val - 1, by omega⟩ j))

/-- At a grid point the gates are stored. -/
theorem gates_after (t : Fin cfg0.N) (r : Fin 512) (j : Fin 128) :
    (outsAt0 m c t.val t.isLt).1 (ix2 r j) = G m c j (512 * t.val + r.val) := by
  by_cases h : t.val % 8 = 0
  · rw [outsAt0_A m c t h]
    frame_out
    rw [gates_at]
  · rw [outsAt0_B m c t h]
    frame_out
    rw [gates_at]

/-! Each output array of the kernel is the textbook's output of the kernel's arguments. -/

theorem final2 : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  idx_vars y
  have e : (win0_2.blk t).view.emb (ix2 y0 y1) = ix2 (rowOf t y0) y1 := by blk_ext [rowOf, idx t]
  rw [e, text]
  exact gates_after m c t y0 y1

/-- The textbook's running sum at the row `r` of grid point `t`. -/
theorem text_sum (t : Fin 32) (r : Fin 512) (j : Fin 128) :
    val_main_v7 (F := Ideal) (m ((c : Thread nD τ).loc main_arg0)) (m ((c : Thread nD τ).loc main_arg1)) (ix2 (rowOf t r) j)
      = upTo m c t.val r.val j := by
  have ht := t.isLt
  rw [val_main_v7_apply]
  have e : idx_main_v7 (ix2 (rowOf t r) j) = ix3 (⟨t.val / 8, by omega⟩ : Fin 4) (⟨512 * (t.val % 8) + r.val, by omega⟩ : Fin 4096) j := by
    funext a
    match a with
    | ⟨0, _⟩ => exact Fin.ext (show ((512 * t.val + r.val) * 128 + j.val) / 524288 = t.val / 8 by omega)
    | ⟨1, _⟩ => exact Fin.ext (show ((512 * t.val + r.val) * 128 + j.val) / 128 % 4096 = 512 * (t.val % 8) + r.val by omega)
    | ⟨2, _⟩ => exact Fin.ext (show ((512 * t.val + r.val) * 128 + j.val) % 128 = j.val by omega)
  rw [e]
  have z : val_main_call2_call0_v0 (F := Ideal) (Shape.Idx.first h_S_) = (0 : EReal) := by
    rw [val_main_call2_call0_v0_apply, val_main_call2_call0_cst_apply]
    exact Ideal.ofBits_zero_f32
  unfold val_main_v6 Host.reduceWindowAdd
  rw [z]
  refine cumsum (M := 4095) _ (fun k => G m c j (4096 * (t.val / 8) + k)) _ _ _ (fun i => ?_) _
  have hi := i.isLt
  rw [val_main_v5_apply]
  have e : idx_main_v5 (ix3 (⟨t.val / 8, by omega⟩ : Fin 4) i j) = ix2 (⟨4096 * (t.val / 8) + i.val, by omega⟩ : Fin 16384) j := by
    funext a
    match a with
    | ⟨0, _⟩ => exact Fin.ext (show ((t.val / 8 * 4096 + i.val) * 128 + j.val) / 128 = 4096 * (t.val / 8) + i.val by omega)
    | ⟨1, _⟩ => exact Fin.ext (show ((t.val / 8 * 4096 + i.val) * 128 + j.val) % 128 = j.val by omega)
  rw [e, text]

theorem final3 : (dats m 0 c).arrAt 3 cfg0.N
    = val_main_v7 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  idx_vars y
  have e : (win0_3.blk t).view.emb (ix2 y0 y1) = ix2 (rowOf t y0) y1 := by blk_ext [rowOf, idx t]
  rw [e, text_sum m c t]
  exact sums_after m c t y0 y1
end state

/-- Over the reals the kernel and the textbook lines have the same results on the same arguments. -/
theorem algebraic : Cert.algebraic_FoxGatesIdeal_FoxGatesReferenceIdeal := by
  intro m ρ m' ρ' _ hagree
  refine ⟨fun c => val_main_v4 (F := Ideal) (m ((c : Thread nD τ).loc main_arg0)) (m ((c : Thread nD τ).loc main_arg1)),
    fun c => val_main_v7 (F := Ideal) (m ((c : Thread nD τ).loc main_arg0)) (m ((c : Thread nD τ).loc main_arg1)),
    (θ_run Cert.FoxGatesIdeal.defs _ _).mono (fun _ h c => ⟨(h c).1.trans (final2 m c), (h c).2.1.trans (final3 m c), (h c).2.2⟩)
      (Cert.FoxGatesIdeal.Value.run_blocks m ρ), ?_⟩
  refine (θ_run Cert.FoxGatesReferenceIdeal.defs _ _).mono (fun _ h c => ?_) (Cert.FoxGatesReferenceIdeal.Value.run (F := Ideal) m' ρ')
  obtain ⟨h0, h1⟩ := hagree c
  exact ⟨(h c).1.trans (by rw [Cert.FoxGatesReferenceIdeal.Read.val_main_v4_eq, h0, h1]),
    (h c).2.1.trans (by rw [Cert.FoxGatesReferenceIdeal.Read.val_main_v7_eq, h0, h1]), (h c).2.2⟩

end Cert.Proof.FoxGates
-- ==== Proof.MlstmMath.lean ====
/-
One chunk of the stabilised matrix-memory recurrence, for one head: its formulas, and the same over the kernel's vectors.
-/
module

public import proofs.«01_k».proof.Proof.FoxGatesMath
public import proofs.«01_k».proof.SampleMlstmIdeal
public import Idealize.ShloMosaic.Lib.Pointwise
public import Idealize.ShloMosaic.Lib.WordCmp

@[expose] public section

set_option maxHeartbeats 4000000
noncomputable section

namespace Cert.Proof.Mlstm

open Idealize.ShloMosaic Idealize.ShloMosaic.TcCoe
open scoped BigOperators
open Cert.SampleMlstmIdeal Cert.SampleMlstmIdeal.Facts₀ Cert.Proof.Proj Cert.Proof.Gates

section formulas
variable (ig bc : Fin 8 → EReal) (mp : EReal)

/-- The logarithm of the weight with which token `t` sees token `s` of its chunk. -/
def weight (t s : Fin 8) : EReal := if s ≤ t then bc t - bc s + ig s else ⊥

/-- The running maximum that keeps the exponentials of token `t` bounded. -/
def peak (t : Fin 8) : EReal := max (bc t + mp) (Finset.univ.fold max ⊥ fun s => weight ig bc t s)

/-- The factor of the state that the chunk started from, in the state after the chunk. -/
def decay : EReal := Ideal.exp (bc 7 + mp - peak ig bc mp 7)

/-- The factor of token `s` in the state after the chunk. -/
def late (s : Fin 8) : EReal := Ideal.exp (bc 7 - bc s + ig s - peak ig bc mp 7)

/-- A number of the state after the chunk, of the one before it, the tokens' keys and what they add per key. -/
def after (x : EReal) (k w : Fin 8 → EReal) : EReal := decay ig bc mp * x + ∑ s, k s * late ig bc mp s * w s

/-- The factor of the state that the chunk started from, in what token `t` reads. -/
def early (t : Fin 8) : EReal := Ideal.exp (bc t + mp - peak ig bc mp t)

/-- The weighted score of token `t` against token `s`, of their plain score. -/
def score (qk : EReal) (t s : Fin 8) : EReal := qk * Ideal.exp (weight ig bc t s - peak ig bc mp t)

/-- What token `t` reads of one entry of the memory's rows, before it is normalised. -/
def reading (q k : Fin 8 → Fin 64 → EReal) (c : Fin 64 → EReal) (w : Fin 8 → EReal) (t : Fin 8) : EReal :=
  early ig bc mp t * (∑ d, q t d * c d) + ∑ s, score ig bc mp (∑ d, q t d * k s d) t s * w s

/-- The normalised reading, of the memory's column and of the normaliser. -/
def hidden (q k : Fin 8 → Fin 64 → EReal) (c n : Fin 64 → EReal) (w : Fin 8 → EReal) (t : Fin 8) : EReal :=
  Ideal.div (reading ig bc mp q k c w t) (max (max (reading ig bc mp q k n (fun _ => 1) t) (-reading ig bc mp q k n (fun _ => 1) t)) (Ideal.exp (-peak ig bc mp t)))

/-- The readings `h` of one token, scaled to a root mean square of one, by the scale `g` and by the gate of `o`. -/
def output (h : Fin 128 → EReal) (o g : EReal) (j : Fin 128) : EReal :=
  Ideal.logistic o * (h j * Ideal.rsqrt (Ideal.div (∑ x, h x * h x) (Ideal.ofBits .f32 1124073472#32) + Ideal.ofBits .f32 897988541#32) * g)

end formulas

/-- The mask's fill is minus infinity. -/
theorem ofBits_bot : Ideal.ofBits .f32 0xFF800000#32 = ⊥ := by simp [Ideal.ofBits, Ideal.ieee]

section vectors
variable [Facts]
variable (ig bc : FVec Ideal S8x1 .f32) (mp : FVec Ideal S1x1 .f32) (k : FVec Ideal S8x64 .f32) (v : FVec Ideal S8x128 .f32)

/-- The lower triangle's mask. -/
def lower : IVec S8x8 1 := cmpi .sge (iota .tc S8x8 32 [0] iota_S8x8_d0_w32) (iota .tc S8x8 32 [1] iota_S8x8_d1_w32)

/-- The diagonal's mask. -/
def diag : IVec S8x8 1 := cmpi .eq (iota .tc S8x8 32 [0] iota_S8x8_d0_w32) (iota .tc S8x8 32 [1] iota_S8x8_d1_w32)

/-- A column laid along a row. -/
def toRow (x : FVec Ideal S8x1 .f32) : FVec Ideal S1x8 .f32 :=
  shapeCast S1x8 (multiReduction .add [0] S8 (select diag (broadcastTo S8x8 (shapeCast S8x1 x shapeCasts_S8x1_S8x1) broadcasts_S8x1_S8x8)
    (broadcast S8x8 (Scalar.ofBits .f32 0x00000000#32))) 0x00000000#32 reduces_S8x8_S8 (.inl rfl) rfl) shapeCasts_S8_S1x8

/-- The weights' logarithms. -/
def dmat : FVec Ideal S8x8 .f32 :=
  select lower (addf (subf (broadcastTo S8x8 bc broadcasts_S8x1_S8x8) (broadcastTo S8x8 (toRow bc) broadcasts_S1x8_S8x8))
    (broadcastTo S8x8 (toRow ig) broadcasts_S1x8_S8x8)) (broadcast S8x8 (Scalar.ofBits .f32 0xFF800000#32))

/-- The logarithms of the factors of the state before the chunk. -/
def inter : FVec Ideal S8x1 .f32 := addf bc (broadcastTo S8x1 mp broadcasts_S1x1_S8x1)

/-- The tokens' running maxima. -/
def mt : FVec Ideal S8x1 .f32 :=
  maximumf (inter bc mp) (shapeCast S8x1 (multiReduction .maximumf [1] S8 (dmat ig bc) 0xFF800000#32 reduces_S8x8_S8_2 (.inl rfl) rfl) shapeCasts_S8_S8x1)

/-- The last token's entry of a column. -/
def last (x : FVec Ideal S8x1 .f32) : FVec Ideal S1x1 .f32 := extractStridedSlice S1x1 ![7, 0] x slices_S8x1_o7_0_S1x1

/-- The factor of the state before the chunk. -/
def fade : FVec Ideal S1x1 .f32 := exp (subf (addf (last bc) mp) (last (mt ig bc mp)))

/-- The keys with their factors. -/
def kw : FVec Ideal S8x64 .f32 :=
  mulf k (broadcastTo S8x64 (exp (subf (addf (subf (broadcastTo S8x1 (last bc) broadcasts_S1x1_S8x1) bc) ig)
    (broadcastTo S8x1 (last (mt ig bc mp)) broadcasts_S1x1_S8x1))) broadcasts_S8x1_S8x64)

/-- The normaliser after the chunk. -/
def newN (n : FVec Ideal S1x64 .f32) : FVec Ideal S1x64 .f32 :=
  addf (mulf (broadcastTo S1x64 (fade ig bc mp) broadcasts_S1x1_S1x64) n)
    (shapeCast S1x64 (multiReduction .add [0] S64 (kw ig bc mp k) 0x00000000#32 reduces_S8x64_S64 (.inl rfl) rfl) shapeCasts_S64_S1x64)

/-- The identity matrix of the heads' width. -/
def eye : FVec Ideal S64x64 .bf16 :=
  truncf .bf16 (sitofp .f32 (extui 32 (cmpi .eq (iota .tc S64x64 32 [0] iota_S64x64_d0_w32) (iota .tc S64x64 32 [1] iota_S64x64_d1_w32)) natLt_1_32))
    bitsLt_bf16_f32

/-- The memory after the chunk. -/
def newC (c : FVec Ideal S64x128 .f32) : FVec Ideal S64x128 .f32 :=
  addf (mulf (broadcastTo S64x128 (fade ig bc mp) broadcasts_S1x1_S64x128) c)
    (matmul dot_S64x8_S8x128_S64x128_1_0_0_1_n_n none
      (truncf .bf16 (matmul dot_S64x64_S8x64_S64x8_1_1_0_0_n_n none eye (truncf .bf16 (kw ig bc mp k) bitsLt_bf16_f32) (constant S64x8 .f32 0x00000000#32)) bitsLt_bf16_f32)
      (truncf .bf16 v bitsLt_bf16_f32) (constant S64x128 .f32 0x00000000#32))

/-- The factors of the state before the chunk, token by token. -/
def lead : FVec Ideal S8x1 .f32 := exp (subf (inter bc mp) (mt ig bc mp))

variable (q : FVec Ideal S8x64 .f32) (c : FVec Ideal S64x128 .f32) (n : FVec Ideal S1x64 .f32)

/-- The weighted scores. -/
def scores : FVec Ideal S8x8 .f32 :=
  mulf (matmul dot_S8x64_S8x64_S8x8_1_1_0_0_n_n none (truncf .bf16 q bitsLt_bf16_f32) (truncf .bf16 k bitsLt_bf16_f32) (constant S8x8 .f32 0x00000000#32))
    (exp (subf (dmat ig bc) (broadcastTo S8x8 (mt ig bc mp) broadcasts_S8x1_S8x8)))

/-- The readings. -/
def num : FVec Ideal S8x128 .f32 :=
  addf (mulf (broadcastTo S8x128 (lead ig bc mp) broadcasts_S8x1_S8x128)
      (matmul dot_S8x64_S64x128_S8x128_1_0_0_1_n_n none (truncf .bf16 q bitsLt_bf16_f32) (truncf .bf16 c bitsLt_bf16_f32) (constant S8x128 .f32 0x00000000#32)))
    (matmul dot_S8x8_S8x128_S8x128_1_0_0_1_n_n none (truncf .bf16 (scores ig bc mp k q) bitsLt_bf16_f32) (truncf .bf16 v bitsLt_bf16_f32) (constant S8x128 .f32 0x00000000#32))

/-- The readings of the normaliser. -/
def den : FVec Ideal S8x1 .f32 :=
  addf (mulf (lead ig bc mp) (shapeCast S8x1 (multiReduction .add [1] S8 (mulf q (broadcastTo S8x64 n broadcasts_S1x64_S8x64)) 0x00000000#32 reduces_S8x64_S8 (.inl rfl) rfl) shapeCasts_S8_S8x1))
    (shapeCast S8x1 (multiReduction .add [1] S8 (scores ig bc mp k q) 0x00000000#32 reduces_S8x8_S8_2 (.inl rfl) rfl) shapeCasts_S8_S8x1)

/-- The normalised readings. -/
def hid : FVec Ideal S8x128 .f32 :=
  divf (num ig bc mp k v q c) (broadcastTo S8x128 (maximumf (absf (den ig bc mp k q n)) (exp (subf (broadcast S8x1 (Scalar.ofBits .f32 0x00000000#32)) (mt ig bc mp)))) broadcasts_S8x1_S8x128)

/-- The readings scaled to a root mean square of one, and gated. -/
def gated (h o : FVec Ideal S8x128 .f32) (g : FVec Ideal S1x128 .f32) : FVec Ideal S8x128 .f32 :=
  mulf (logistic o) (mulf (mulf h (broadcastTo S8x128 (rsqrt (addf (divf (shapeCast S8x1 (multiReduction .add [1] S8 (mulf h h) 0x00000000#32 reduces_S8x128_S8 (.inl rfl) rfl) shapeCasts_S8_S8x1)
    (broadcast S8x1 (Scalar.ofBits .f32 0x43000000#32))) (broadcast S8x1 (Scalar.ofBits .f32 0x358637BD#32)))) broadcasts_S8x1_S8x128))
    (broadcastTo S8x128 g broadcasts_S1x128_S8x128))

/-- The column turned into a row, read at a place: the masked sum has the one term. -/
theorem toRow_at (x : FVec Ideal S8x1 .f32) (s : Fin 8) : toRow x (ix2 0 s) = x (ix2 s 0) := by
  pointwise [toRow, diag]
  refine (Finset.sum_eq_single s (fun a _ h => if_neg fun e => h ?_) fun h => (h (Finset.mem_univ _)).elim).trans (if_pos ?_)
  · exact Fin.ext ((WordCmp.cmpi_eq_ofNat_eq_one_iff (by omega) (by omega)).1 e)
  · exact (WordCmp.cmpi_eq_ofNat_eq_one_iff (by omega) (by omega)).2 rfl

/-- The weights' exponents, read at a pair of tokens. -/
theorem dmat_at (t s : Fin 8) : dmat ig bc (ix2 t s) = weight (fun s => ig (ix2 s 0)) (fun s => bc (ix2 s 0)) t s := by
  pointwise [dmat, lower]
  rw [toRow_at, toRow_at, ofBits_bot, weight]
  refine if_congr ((WordCmp.cmpi_sge_ofNat_eq_one_iff (by omega) (by omega)).trans Fin.le_def.symm) rfl rfl

/-- The running maximum, read at a token. -/
theorem mt_at (t : Fin 8) : mt ig bc mp (ix2 t 0) = peak (fun s => ig (ix2 s 0)) (fun s => bc (ix2 s 0)) (mp (ix2 0 0)) t := by
  pointwise [mt, inter]
  rw [ofBits_bot, peak]
  simp only [dmat_at]

/-- The weighted keys, read at a token and a lane. -/
theorem kw_at (s : Fin 8) (i : Fin 64) :
    kw ig bc mp k (ix2 s i) = k (ix2 s i) * late (fun s => ig (ix2 s 0)) (fun s => bc (ix2 s 0)) (mp (ix2 0 0)) s := by
  pointwise [kw, last]
  rw [mt_at]
  rfl

/-- The integer one, read as a real, is one. -/
theorem sitofp_one : (FloatOps.sitofp .f32 (BitVec.setWidth 32 1#1) : Ideal .f32) = (1 : EReal) := by
  show (((1#32 : BitVec 32).toInt : ℝ) : EReal) = 1
  simp

/-- The new memory, read at a place: the product with the identity matrix turns the keys over and changes none. -/
theorem newC_at (i : Fin 64) (j : Fin 128) :
    newC ig bc mp k v c (ix2 i j) = after (fun s => ig (ix2 s 0)) (fun s => bc (ix2 s 0)) (mp (ix2 0 0)) (c (ix2 i j)) (fun s => k (ix2 s i)) (fun s => v (ix2 s j)) := by
  pointwise [newC, eye, fade, last]
  rw [mt_at]
  refine congrArg (_ + ·) (Finset.sum_congr rfl fun s _ => congrArg (· * _) ?_)
  refine (Finset.sum_eq_single i (fun a _ h => ?_) fun h => (h (Finset.mem_univ _)).elim).trans ?_
  · rw [(WordCmp.cmpi_eq_ofNat_eq_zero_iff (by omega) (by omega)).2 fun e => h (Fin.ext e.symm)]
    exact (congrArg (· * _) sitofp_zero).trans (zero_mul _)
  · rw [kw_at, (WordCmp.cmpi_eq_ofNat_eq_one_iff (by omega) (by omega)).2 rfl]
    exact (congrArg (· * _) sitofp_one).trans (one_mul _)

/-- The new normaliser, read at a lane. -/
theorem newN_at (i : Fin 64) :
    newN ig bc mp k n (ix2 0 i) = after (fun s => ig (ix2 s 0)) (fun s => bc (ix2 s 0)) (mp (ix2 0 0)) (n (ix2 0 i)) (fun s => k (ix2 s i)) (fun _ => 1) := by
  pointwise [newN, fade, last]
  rw [mt_at]
  refine congrArg (_ + ·) (Finset.sum_congr rfl fun s _ => ?_)
  rw [kw_at, mul_one]

/-- The weighted scores, read at a pair of tokens. -/
theorem scores_at (t s : Fin 8) : scores ig bc mp k q (ix2 t s)
    = score (fun s => ig (ix2 s 0)) (fun s => bc (ix2 s 0)) (mp (ix2 0 0)) (∑ d, q (ix2 t d) * k (ix2 s d)) t s := by
  pointwise [scores]
  rw [dmat_at, mt_at]
  rfl

/-- The numerator, read at a token and a lane. -/
theorem num_at (t : Fin 8) (j : Fin 128) : num ig bc mp k v q c (ix2 t j)
    = reading (fun s => ig (ix2 s 0)) (fun s => bc (ix2 s 0)) (mp (ix2 0 0)) (fun t d => q (ix2 t d)) (fun s d => k (ix2 s d)) (fun d => c (ix2 d j)) (fun s => v (ix2 s j)) t := by
  pointwise [num, lead, inter]
  simp only [mt_at, scores_at]
  rfl

/-- The denominator, read at a token. -/
theorem den_at (t : Fin 8) : den ig bc mp k q n (ix2 t 0)
    = reading (fun s => ig (ix2 s 0)) (fun s => bc (ix2 s 0)) (mp (ix2 0 0)) (fun t d => q (ix2 t d)) (fun s d => k (ix2 s d)) (fun d => n (ix2 0 d)) (fun _ => 1) t := by
  pointwise [den, lead, inter]
  simp only [mt_at, scores_at, reading, mul_one]
  rfl

/-- The quotient, read at a token and a lane. -/
theorem hid_at (t : Fin 8) (j : Fin 128) : hid ig bc mp k v q c n (ix2 t j)
    = hidden (fun s => ig (ix2 s 0)) (fun s => bc (ix2 s 0)) (mp (ix2 0 0)) (fun t d => q (ix2 t d)) (fun s d => k (ix2 s d)) (fun d => c (ix2 d j)) (fun d => n (ix2 0 d)) (fun s => v (ix2 s j)) t := by
  pointwise [hid]
  rw [num_at, den_at, mt_at, zero_sub]
  rfl

/-- The output, read at a token and a lane: the normed quotient times its scale and the output gate. -/
theorem gated_at (h o : FVec Ideal S8x128 .f32) (g : FVec Ideal S1x128 .f32) (t : Fin 8) (j : Fin 128) :
    gated h o g (ix2 t j) = output (fun j => h (ix2 t j)) (o (ix2 t j)) (g (ix2 0 j)) j := by
  pointwise [gated]
  rfl

variable (g : Vec Ideal S1x8x128 .f32) (bias : Vec Ideal S1x128 .f32)

/-- A sequence's gates with their bias: the input gates in the first four lanes, the logarithms of the forget gates past them. -/
def acts : FVec Ideal S8x128 .f32 :=
  select (cmpi .slt (iota .tc S8x128 32 [1] iota_S8x128_d1_w32) (broadcast S8x128 4#32))
    (addf (shapeCast S8x128 g shapeCasts_S1x8x128_S8x128) (broadcastTo S8x128 (shapeCast S1x128 bias shapeCasts_S1x128_S1x128) broadcasts_S1x128_S8x128))
    (subf (broadcast S8x128 (Scalar.ofBits .f32 0x00000000#32))
      (addf (maximumf (subf (broadcast S8x128 (Scalar.ofBits .f32 0x00000000#32)) (addf (shapeCast S8x128 g shapeCasts_S1x8x128_S8x128) (broadcastTo S8x128 (shapeCast S1x128 bias shapeCasts_S1x128_S1x128) broadcasts_S1x128_S8x128)))
          (broadcast S8x128 (Scalar.ofBits .f32 0x00000000#32)))
        (log1p (exp (subf (broadcast S8x128 (Scalar.ofBits .f32 0x00000000#32)) (absf (addf (shapeCast S8x128 g shapeCasts_S1x8x128_S8x128) (broadcastTo S8x128 (shapeCast S1x128 bias shapeCasts_S1x128_S1x128) broadcasts_S1x128_S8x128))))))))

/-- The gates' running sums. -/
def sums : FVec Ideal S8x128 .f32 :=
  matmul dot_S8x8_S8x128_S8x128_1_0_0_1_n_n (some .fp32) (sitofp .f32 (extui 32 lower natLt_1_32)) (acts g bias) (constant S8x128 .f32 0x00000000#32)

/-- The first four gate lanes hold the input gates. -/
theorem acts_input (s : Fin 8) (j : Fin 128) (hj : j.val < 4) : acts g bias (ix2 s j) = g (ix3 0 s j) + bias (ix2 0 j) := by
  pointwise [acts]
  rw [(WordCmp.cmpi_slt_ofNat_eq_one_iff (by omega) (by omega)).2 hj]
  rfl

/-- The later gate lanes hold the logarithms of the forget gates. -/
theorem acts_forget (s : Fin 8) (j : Fin 128) (hj : ¬j.val < 4) : acts g bias (ix2 s j) = logSigmoid (g (ix3 0 s j) + bias (ix2 0 j)) := by
  pointwise [acts]
  rw [(WordCmp.cmpi_slt_ofNat_eq_zero_iff (by omega) (by omega)).2 hj]
  simp only [zero_sub]
  rfl

/-- The product with the lower triangle is the running sum of the gate lanes. -/
theorem sums_at (t : Fin 8) (j : Fin 128) (f : ℕ → EReal) (hf : ∀ k : Fin 8, acts g bias (ix2 k j) = f k.val) :
    sums g bias (ix2 t j) = ∑ k ∈ Finset.range (t.val + 1), f k := by
  pointwise [sums, lower]
  refine tril_sum 8 t _ f (fun k => acts g bias (ix2 k j)) hf fun k => ?_
  have := t.isLt
  have := k.isLt
  by_cases h : k ≤ t
  · rw [if_pos h, (WordCmp.cmpi_sge_ofNat_eq_one_iff (by omega) (by omega)).2 (Fin.le_def.1 h)]
    exact sitofp_one
  · rw [if_neg h, (WordCmp.cmpi_sge_ofNat_eq_zero_iff (by omega) (by omega)).2 fun l => h (Fin.le_def.2 l)]
    exact sitofp_zero

end vectors

end Cert.Proof.Mlstm
-- ==== Proof.MlstmBlock.lean ====
/-
What the sample's matrix-memory kernel stores for the eight sequences of a grid point, as functions of the blocks it loads.
-/
module

public import proofs.«01_k».proof.Proof.MlstmMath
public import proofs.«01_k».proof.Proof.Gen.SampleMlstmIdeal.Value
public import Idealize.ShloMosaic.Lib.Pointwise
public import Idealize.ShloMosaic.Lib.Pipeline.ValueKit
public import Idealize.ShloMosaic.Lib.Pipeline.ReadBack

@[expose] public section

set_option maxHeartbeats 4000000
noncomputable section

namespace Cert.Proof.Mlstm

open Idealize.ShloMosaic Idealize.ShloMosaic.TcCoe Idealize.SL.Sem
open scoped BigOperators
open Cert.SampleMlstmIdeal Cert.SampleMlstmIdeal.Gen Cert.Proof.Proj Cert.Proof.Gates

/-! ## The stores, one for each sequence of the block and each head -/

section stores
variable {s : Shape}

/-- One thing for each sequence and head, the last first. -/
def stores {α : Type} (f : Fin 8 → Fin 4 → α) : List α :=
  [f 7 3, f 7 2, f 7 1, f 7 0, f 6 3, f 6 2, f 6 1, f 6 0, f 5 3, f 5 2, f 5 1, f 5 0, f 4 3, f 4 2, f 4 1, f 4 0,
   f 3 3, f 3 2, f 3 1, f 3 0, f 2 3, f 2 2, f 2 1, f 2 0, f 1 3, f 1 2, f 1 1, f 1 0, f 0 3, f 0 2, f 0 1, f 0 0]

/-- Each of the stores is one sequence's and head's. -/
theorem stores_of {α : Type} (f : Fin 8 → Fin 4 → α) (p : α) (h : p ∈ stores f) : ∃ b g, p = f b g := by
  simp only [stores, List.mem_cons, List.not_mem_nil, or_false] at h
  rcases h with h | h | h | h | h | h | h | h | h | h | h | h | h | h | h | h | h | h | h | h | h | h | h | h | h | h | h | h | h | h | h | h <;>
    exact ⟨_, _, h⟩

/-- Each sequence and head has its store. -/
theorem of_stores {α : Type} (f : Fin 8 → Fin 4 → α) (b : Fin 8) (g : Fin 4) : f b g ∈ stores f := by
  match b, g with
  | 0, 0 | 0, 1 | 0, 2 | 0, 3 | 1, 0 | 1, 1 | 1, 2 | 1, 3 | 2, 0 | 2, 1 | 2, 2 | 2, 3 | 3, 0 | 3, 1 | 3, 2 | 3, 3
  | 4, 0 | 4, 1 | 4, 2 | 4, 3 | 5, 0 | 5, 1 | 5, 2 | 5, 3 | 6, 0 | 6, 1 | 6, 2 | 6, 3 | 7, 0 | 7, 1 | 7, 2 | 7, 3 => simp [stores]

/-- Where every store writes what `G` says of the places it writes to, a place that some store writes to holds what `G` says. -/
theorem stored (f : Fin 8 → Fin 4 → View.Piece (Elt Ideal) s .f32) (G : s.Idx → Elt Ideal .f32) (L : List (View.Piece (Elt Ideal) s .f32))
    (hG : ∀ b g x, (f b g).2 x = G ((f b g).1.emb x)) (y : s.Idx) (b : Fin 8) (g : Fin 4) (hy : y ∈ (f b g).1.set) :
    View.canon (stores f ++ L) y = G y :=
  View.canon_append_of_pieces G L (stores f)
    (fun p hp x => by obtain ⟨b, g, rfl⟩ := stores_of f p hp; exact hG b g x) y ⟨f b g, of_stores f b g, hy⟩

end stores

/-- A sequence's and head's part of a state's block. -/
abbrev cell (u v : ℕ) (b : Fin 8) (h : Fin 4) : Rect ⟨4, ![8, 4, u, v]⟩ :=
  Rect.unit ![b.val, h.val, 0, 0] ![1, 1, u, v] (by
    have := b.isLt
    have := h.isLt
    intro a
    match a with
    | ⟨0, _⟩ => show b.val + 1 ≤ 8; omega
    | ⟨1, _⟩ => show h.val + 1 ≤ 4; omega
    | ⟨2, _⟩ => show 0 + u ≤ u; omega
    | ⟨3, _⟩ => show 0 + v ≤ v; omega)

/-- A state's whole block. -/
abbrev entire (u v : ℕ) : Rect ⟨4, ![8, 4, u, v]⟩ :=
  Rect.unit ![0, 0, 0, 0] ![8, 4, u, v] (by
    intro a
    match a with
    | ⟨0, _⟩ => exact le_refl 8
    | ⟨1, _⟩ => exact le_refl 4
    | ⟨2, _⟩ => show 0 + u ≤ u; omega
    | ⟨3, _⟩ => show 0 + v ≤ v; omega)

/-- A sequence's tokens, at the lanes of a head: `w` of `n` lanes from lane `o` on. -/
abbrev toks (n w : ℕ) (b : Fin 8) (o : ℕ) (ho : o + w ≤ n) : Rect ⟨3, ![8, 8, n]⟩ :=
  Rect.unit ![b.val, 0, o] ![1, 8, w] (by
    have := b.isLt
    intro a
    match a with
    | ⟨0, _⟩ => show b.val + 1 ≤ 8; omega
    | ⟨1, _⟩ => exact le_refl 8
    | ⟨2, _⟩ => exact ho)

/-- A head's lanes of a row. -/
abbrev lanes (n w : ℕ) (o : ℕ) (ho : o + w ≤ n) : Rect ⟨2, ![1, n]⟩ :=
  Rect.unit ![0, o] ![1, w] (by
    intro a
    match a with
    | ⟨0, _⟩ => exact le_refl 1
    | ⟨1, _⟩ => exact ho)

/-- A state's place lies in the part of its sequence and head. -/
theorem mem_cell (u v : ℕ) (b : Fin 8) (h : Fin 4) (i : Fin u) (j : Fin v) : (ix4 b h i j : Shape.Idx ⟨4, ![8, 4, u, v]⟩) ∈ (cell u v b h).set :=
  Rect.mem_set_unit.2 fun a => by
    have := i.isLt
    have := j.isLt
    match a with
    | ⟨0, _⟩ => exact ⟨le_refl b.val, Nat.lt_succ_self b.val⟩
    | ⟨1, _⟩ => exact ⟨le_refl h.val, Nat.lt_succ_self h.val⟩
    | ⟨2, _⟩ => exact ⟨Nat.zero_le i.val, show i.val < 0 + u by omega⟩
    | ⟨3, _⟩ => exact ⟨Nat.zero_le j.val, show j.val < 0 + v by omega⟩

/-- Each of the first eight gate lanes is a column of the gates. -/
theorem slices_col (j : Fin 8) : S8x128.Slices ![0, j.val] S8x1 := by
  revert j
  decide

/-- The stores of a state, of what each sequence and head writes. -/
def parts {u v : ℕ} (w : Fin 8 → Fin 4 → Vec Ideal ⟨4, ![1, 1, u, v]⟩ .f32) (b : Fin 8) (h : Fin 4) :
    View.Piece (Elt Ideal) ⟨4, ![8, 4, u, v]⟩ .f32 := ⟨cell u v b h, w b h⟩

/-- The stores of the output, of what each sequence and head writes. -/
def bands (w : Fin 8 → Fin 4 → Vec Ideal S1x8x128 .f32) (b : Fin 8) (h : Fin 4) : View.Piece (Elt Ideal) S8x8x512 .f32 :=
  ⟨toks 512 128 b (128 * h.val) (by omega), w b h⟩

section block
variable (X0 X1 : Vec Ideal S8x8x256 .f32) (X2 X3 : Vec Ideal S8x8x512 .f32) (X4 : Vec Ideal S8x8x128 .f32) (X5 : Vec Ideal S1x128 .f32)
  (X6 : Vec Ideal S1x512 .f32) (X7 : Vec Ideal S8x4x64x128 .f32) (X8 : Vec Ideal S8x4x1x64 .f32) (X9 : Vec Ideal S8x4x1x1 .f32)
  (b : Fin 8) (h : Fin 4)

/-- A head's input gates. -/
def igv : FVec Ideal S8x1 .f32 :=
  extractStridedSlice S8x1 ![0, h.val] (acts (View.ld X4 (toks 128 128 b 0 (by decide))) X5) (slices_col ⟨h.val, by omega⟩)

/-- The running sums of a head's forget gates. -/
def bcv : FVec Ideal S8x1 .f32 :=
  extractStridedSlice S8x1 ![0, 4 + h.val] (sums (View.ld X4 (toks 128 128 b 0 (by decide))) X5) (slices_col ⟨4 + h.val, by omega⟩)

/-- A head's running maximum before the chunk. -/
def mpv : FVec Ideal S1x1 .f32 :=
  shapeCast S1x1 ((View.whole cc0_scratch2).readCov (Val := Elt Ideal) [⟨entire 1 1, k0_pay4 X9⟩] (cell 1 1 b h).toLoadRect) shapeCasts_S1x1x1x1_S1x1

/-- What a head writes of the running maximum. -/
def writeM : Vec Ideal S1x1x1x1 .f32 :=
  shapeCast S1x1x1x1 (last (mt (igv X4 X5 b h) (bcv X4 X5 b h) (mpv X9 b h))) shapeCasts_S1x1_S1x1x1x1

/-- A head's keys. -/
def kv : FVec Ideal S8x64 .f32 :=
  shapeCast S8x64 (View.ld X1 (toks 256 64 b (64 * h.val) (by omega)) : Vec Ideal S1x8x64 .f32) shapeCasts_S1x8x64_S8x64

/-- A head's queries, scaled. -/
def qv : FVec Ideal S8x64 .f32 :=
  mulf (shapeCast S8x64 (View.ld X0 (toks 256 64 b (64 * h.val) (by omega)) : Vec Ideal S1x8x64 .f32) shapeCasts_S1x8x64_S8x64)
    (broadcast S8x64 (Scalar.ofBits .f32 0x3E000000#32))

/-- A head's lanes of an array as wide as the values. -/
def wide (X : Vec Ideal S8x8x512 .f32) : FVec Ideal S8x128 .f32 :=
  shapeCast S8x128 (View.ld X (toks 512 128 b (128 * h.val) (by omega)) : Vec Ideal S1x8x128 .f32) shapeCasts_S1x8x128_S8x128

/-- A head's scales. -/
def gv : FVec Ideal S1x128 .f32 :=
  shapeCast S1x128 (View.ld X6 (lanes 512 128 (128 * h.val) (by omega)) : Vec Ideal S1x128 .f32) shapeCasts_S1x128_S1x128

/-- A head's normaliser before the chunk. -/
def nv : FVec Ideal S1x64 .f32 :=
  shapeCast S1x64 ((View.whole cc0_scratch1).readCov (Val := Elt Ideal) [⟨entire 1 64, k0_pay3 X8⟩] (cell 1 64 b h).toLoadRect) shapeCasts_S1x1x1x64_S1x64

/-- A head's memory before the chunk. -/
def cv : FVec Ideal S64x128 .f32 :=
  shapeCast S64x128 ((View.whole cc0_scratch0).readCov (Val := Elt Ideal) [⟨entire 64 128, k0_pay2 X7⟩] (cell 64 128 b h).toLoadRect)
    shapeCasts_S1x1x64x128_S64x128

/-- What a head writes of the normaliser. -/
def writeN : Vec Ideal S1x1x1x64 .f32 :=
  shapeCast S1x1x1x64 (newN (igv X4 X5 b h) (bcv X4 X5 b h) (mpv X9 b h) (kv X1 b h) (nv X8 b h)) shapeCasts_S1x64_S1x1x1x64

/-- What a head writes of the memory. -/
def writeC : Vec Ideal S1x1x64x128 .f32 :=
  shapeCast S1x1x64x128 (newC (igv X4 X5 b h) (bcv X4 X5 b h) (mpv X9 b h) (kv X1 b h) (wide b h X2) (cv X7 b h))
    shapeCasts_S64x128_S1x1x64x128

/-- What a head writes of the output. -/
def writeY : Vec Ideal S1x8x128 .f32 :=
  shapeCast S1x8x128
    (gated (hid (igv X4 X5 b h) (bcv X4 X5 b h) (mpv X9 b h) (kv X1 b h) (wide b h X2) (qv X0 b h) (cv X7 b h) (nv X8 b h)) (wide b h X3) (gv X6 h))
    shapeCasts_S8x128_S1x8x128

/-- A state's part, read at a place: the state's block at the sequence, the head and the place. -/
theorem cell_at {u v : ℕ} (X : Shape.Idx ⟨4, ![8, 4, u, v]⟩ → Elt Ideal .f32) (i : Fin u) (j : Fin v) :
    View.ld X (cell u v b h) (ix4 (0 : Fin 1) (0 : Fin 1) i j) = X (ix4 b h i j) :=
  View.ld_unit_apply_of X _ _ _ _ _ fun a => by
    match a with
    | ⟨0, _⟩ => rfl
    | ⟨1, _⟩ => rfl
    | ⟨2, _⟩ => exact (Nat.zero_add _).symm
    | ⟨3, _⟩ => exact (Nat.zero_add _).symm

/-- A head's lanes of a sequence's tokens, read at a token and a lane. -/
theorem toks_at {n w : ℕ} (o : ℕ) (ho : o + w ≤ n) (X : Shape.Idx ⟨3, ![8, 8, n]⟩ → Elt Ideal .f32) (s : Fin 8) (j : Fin w) :
    View.ld X (toks n w b o ho) (ix3 (0 : Fin 1) s j) = X (ix3 b s ⟨o + j.val, by omega⟩) :=
  View.ld_unit_apply_of X _ _ _ _ _ fun a => by
    match a with
    | ⟨0, _⟩ => rfl
    | ⟨1, _⟩ => exact (Nat.zero_add _).symm
    | ⟨2, _⟩ => rfl

/-- A head's input gates are the gate lane plus its bias. -/
theorem igv_at (s : Fin 8) : igv X4 X5 b h (ix2 s 0) = X4 (ix3 b s ⟨h.val, by omega⟩) + X5 (ix2 0 ⟨h.val, by omega⟩) := by
  have e : igv X4 X5 b h (ix2 s 0) = acts (View.ld X4 (toks 128 128 b 0 (by decide))) X5 (ix2 s ⟨h.val, by omega⟩) := by
    pointwise [igv]
  rw [e, acts_input _ _ _ _ h.isLt, toks_at]
  simp only [Nat.zero_add]

/-- A head's running sums of the logarithms of the forget gates. -/
theorem bcv_at (t : Fin 8) (f : ℕ → EReal)
    (hf : ∀ k : Fin 8, logSigmoid (X4 (ix3 b k ⟨4 + h.val, by omega⟩) + X5 (ix2 0 ⟨4 + h.val, by omega⟩)) = f k.val) :
    bcv X4 X5 b h (ix2 t 0) = ∑ k ∈ Finset.range (t.val + 1), f k := by
  have e : bcv X4 X5 b h (ix2 t 0) = sums (View.ld X4 (toks 128 128 b 0 (by decide))) X5 (ix2 t ⟨4 + h.val, by omega⟩) := by
    pointwise [bcv]
  rw [e]
  refine sums_at _ _ t _ f fun k => ?_
  rw [acts_forget _ _ _ _ (by simp), toks_at, ← hf k]
  simp only [Nat.zero_add]

/-- A state's part, loaded after the whole block was filled: the part of what filled it. -/
theorem filled {u v : ℕ} (M : View sig .tc .vmem ⟨4, ![8, 4, u, v]⟩ .f32) (X : Shape.Idx ⟨4, ![8, 4, u, v]⟩ → Elt Ideal .f32) :
    M.readCov (Val := Elt Ideal) [⟨entire u v, X⟩] (cell u v b h).toLoadRect = View.ld X (cell u v b h) :=
  View.readCov_fill M _ X [] (cell u v b h) fun a => by
    match a with
    | ⟨0, _⟩ => rfl
    | ⟨1, _⟩ => rfl
    | ⟨2, _⟩ => rfl
    | ⟨3, _⟩ => rfl

/-! Reshapes that drop or add unit axes, read at a place. -/

theorem cast_one (x : Vec Ideal S1x1x1x1 .f32) : shapeCast S1x1 x shapeCasts_S1x1x1x1_S1x1 (ix2 0 0) = x (ix4 0 0 0 0) := by
  pointwise []

theorem cast_row (x : Vec Ideal S1x1x1x64 .f32) (d : Fin 64) : shapeCast S1x64 x shapeCasts_S1x1x1x64_S1x64 (ix2 0 d) = x (ix4 0 0 0 d) := by
  pointwise []

theorem cast_memory (x : Vec Ideal S1x1x64x128 .f32) (i : Fin 64) (j : Fin 128) :
    shapeCast S64x128 x shapeCasts_S1x1x64x128_S64x128 (ix2 i j) = x (ix4 0 0 i j) := by
  pointwise []

theorem cast_keys (x : Vec Ideal S1x8x64 .f32) (s : Fin 8) (d : Fin 64) : shapeCast S8x64 x shapeCasts_S1x8x64_S8x64 (ix2 s d) = x (ix3 0 s d) := by
  pointwise []

theorem cast_wide (x : Vec Ideal S1x8x128 .f32) (s : Fin 8) (j : Fin 128) :
    shapeCast S8x128 x shapeCasts_S1x8x128_S8x128 (ix2 s j) = x (ix3 0 s j) := by
  pointwise []

/-- The memory starts as the block that came in. -/
theorem init_memory : k0_pay2 X7 = X7 := by
  funext y
  idx_vars y
  pointwise [k0_pay2]

/-- The normaliser starts as the block that came in. -/
theorem init_row : k0_pay3 X8 = X8 := by
  funext y
  idx_vars y
  pointwise [k0_pay3]

/-- The maximum starts as the block that came in. -/
theorem init_one : k0_pay4 X9 = X9 := by
  funext y
  idx_vars y
  pointwise [k0_pay4]

/-- The old maximum of a sequence and head. -/
theorem mpv_at : mpv X9 b h (ix2 0 0) = X9 (ix4 b h 0 0) := by
  unfold mpv
  rw [init_one]
  exact (cast_one _).trans ((congrFun (filled b h _ X9) _).trans (cell_at b h X9 0 0))

/-- The old normaliser of a sequence and head. -/
theorem nv_at (d : Fin 64) : nv X8 b h (ix2 0 d) = X8 (ix4 b h 0 d) := by
  unfold nv
  rw [init_row]
  exact (cast_row _ d).trans ((congrFun (filled b h _ X8) _).trans (cell_at b h X8 0 d))

/-- The old memory of a sequence and head. -/
theorem cv_at (i : Fin 64) (j : Fin 128) : cv X7 b h (ix2 i j) = X7 (ix4 b h i j) := by
  unfold cv
  rw [init_memory]
  exact (cast_memory _ i j).trans ((congrFun (filled b h _ X7) _).trans (cell_at b h X7 i j))

/-- The keys of a sequence and head. -/
theorem kv_at (s : Fin 8) (d : Fin 64) : kv X1 b h (ix2 s d) = X1 (ix3 b s ⟨64 * h.val + d.val, by omega⟩) :=
  (cast_keys _ s d).trans (toks_at b _ _ X1 s d)

/-- The queries of a sequence and head, scaled. -/
theorem qv_at (s : Fin 8) (d : Fin 64) :
    qv X0 b h (ix2 s d) = X0 (ix3 b s ⟨64 * h.val + d.val, by omega⟩) * Ideal.ofBits .f32 1040187392#32 :=
  congrArg (· * Ideal.ofBits .f32 1040187392#32) ((cast_keys _ s d).trans (toks_at b _ _ X0 s d))

/-- The values, or the output gates, of a sequence and head. -/
theorem wide_at (X : Vec Ideal S8x8x512 .f32) (s : Fin 8) (j : Fin 128) :
    wide b h X (ix2 s j) = X (ix3 b s ⟨128 * h.val + j.val, by omega⟩) :=
  (cast_wide _ s j).trans (toks_at b _ _ X s j)

theorem cast_scales (x : Vec Ideal S1x128 .f32) (j : Fin 128) : shapeCast S1x128 x shapeCasts_S1x128_S1x128 (ix2 0 j) = x (ix2 0 j) := by
  pointwise []

/-- The scales of a head's lanes. -/
theorem gv_at (j : Fin 128) : gv X6 h (ix2 0 j) = X6 (ix2 0 ⟨128 * h.val + j.val, by omega⟩) :=
  (cast_scales _ j).trans (View.ld_unit_apply_of X6 _ _ _ _ _ fun a => by
    match a with
    | ⟨0, _⟩ => rfl
    | ⟨1, _⟩ => rfl)

/-! What a head stores, at a place: the formulas, of what the kernel loads. -/

/-- A head's input gates, as numbers. -/
abbrev igs : Fin 8 → EReal := fun s => igv X4 X5 b h (ix2 s 0)

/-- The running sums of a head's forget gates, as numbers. -/
abbrev bcs : Fin 8 → EReal := fun s => bcv X4 X5 b h (ix2 s 0)

/-- A place of a sequence's and head's part, found in the block. -/
theorem cell_emb {u v : ℕ} (i : Fin u) (j : Fin v) : (cell u v b h).idx (ix4 (0 : Fin 1) (0 : Fin 1) i j) = ix4 b h i j :=
  funext fun a => Fin.ext ((Rect.idx_unit_val _ _ _ _ a).trans (by
    match a with
    | ⟨0, _⟩ => rfl
    | ⟨1, _⟩ => rfl
    | ⟨2, _⟩ => exact Nat.zero_add _
    | ⟨3, _⟩ => exact Nat.zero_add _))

/-- A place of the whole block is itself. -/
theorem entire_emb {u v : ℕ} (i : Fin u) (j : Fin v) : (entire u v).idx (ix4 b h i j) = ix4 b h i j :=
  funext fun a => Fin.ext ((Rect.idx_unit_val _ _ _ _ a).trans (by
    match a with
    | ⟨0, _⟩ => exact Nat.zero_add _
    | ⟨1, _⟩ => exact Nat.zero_add _
    | ⟨2, _⟩ => exact Nat.zero_add _
    | ⟨3, _⟩ => exact Nat.zero_add _))

/-- The places of a sequence's and head's part. -/
theorem cell_places {u v : ℕ} (x : Shape.Idx ⟨4, ![1, 1, u, v]⟩) : ∃ (i : Fin u) (j : Fin v), x = ix4 (0 : Fin 1) (0 : Fin 1) i j :=
  ⟨x 2, x 3, funext fun a => by
    match a with
    | ⟨0, _⟩ => exact Subsingleton.elim (α := Fin 1) _ _
    | ⟨1, _⟩ => exact Subsingleton.elim (α := Fin 1) _ _
    | ⟨2, _⟩ => rfl
    | ⟨3, _⟩ => rfl⟩

/-- Numbers given by sequence, head and place, as an array. -/
def spread {u v : ℕ} (G : Fin 8 → Fin 4 → Fin u → Fin v → EReal) (y : Shape.Idx ⟨4, ![8, 4, u, v]⟩) : EReal := G (y 0) (y 1) (y 2) (y 3)

/-- Read back through the whole block, a state's stores hold at each place what its sequence's and head's store wrote there. -/
theorem stored_cell {u v : ℕ} (M : View sig .tc .vmem ⟨4, ![8, 4, u, v]⟩ .f32) (G : Fin 8 → Fin 4 → Fin u → Fin v → EReal)
    (w : Fin 8 → Fin 4 → Vec Ideal ⟨4, ![1, 1, u, v]⟩ .f32)
    (hG : ∀ b h i j, w b h (ix4 (0 : Fin 1) (0 : Fin 1) i j) = G b h i j)
    (L : List (View.Piece (Elt Ideal) ⟨4, ![8, 4, u, v]⟩ .f32)) (i : Fin u) (j : Fin v) :
    M.readCov (stores (parts w) ++ L) (entire u v).toLoadRect (ix4 b h i j) = G b h i j := by
  have hm : (ix4 b h i j : Shape.Idx ⟨4, ![8, 4, u, v]⟩) ∈ (parts w b h).1.set := mem_cell u v b h i j
  have hw : ∀ b h x, (parts w b h).2 x = spread G ((parts w b h).1.emb x) := by
    intro b h x
    obtain ⟨i, j, e⟩ := cell_places x
    have e' := cell_emb b h i j
    rw [← e] at e'
    exact ((congrArg (w b h) e).trans (hG b h i j)).trans (congrArg (spread G) e').symm
  rw [View.readCov_eq_canon']
  refine (congrArg (View.canon _) (entire_emb b h i j)).trans ?_
  exact stored (parts w) (spread G) L hw (ix4 b h i j) b h hm

/-- Each place of the output lies in some store. -/
theorem bands_mem (w : Fin 8 → Fin 4 → Vec Ideal S1x8x128 .f32) (t : Fin 8) (j : Fin 128) :
    ix3 b t (⟨128 * h.val + j.val, by omega⟩ : Fin 512) ∈ (bands w b h).1.set := by
  show _ ∈ (toks 512 128 b (128 * h.val) (by omega)).set
  exact Rect.mem_set_unit.2 fun a => by
    have := t.isLt
    have := j.isLt
    match a with
    | ⟨0, _⟩ => exact ⟨le_refl b.val, Nat.lt_succ_self b.val⟩
    | ⟨1, _⟩ => exact ⟨Nat.zero_le t.val, show t.val < 0 + 8 by omega⟩
    | ⟨2, _⟩ => exact ⟨Nat.le_add_right _ _, show 128 * h.val + j.val < 128 * h.val + 128 by omega⟩

/-- A token and a lane of a head, found in the block. -/
theorem toks_emb (t : Fin 8) (j : Fin 128) :
    (toks 512 128 b (128 * h.val) (by omega)).idx (ix3 (0 : Fin 1) t j) = ix3 b t (⟨128 * h.val + j.val, by omega⟩ : Fin 512) :=
  funext fun a => Fin.ext ((Rect.idx_unit_val _ _ _ _ a).trans (by
    match a with
    | ⟨0, _⟩ => rfl
    | ⟨1, _⟩ => exact Nat.zero_add _
    | ⟨2, _⟩ => rfl))

/-- The places of a sequence's tokens at a head's lanes. -/
theorem toks_places (x : Shape.Idx S1x8x128) : ∃ (t : Fin 8) (j : Fin 128), x = ix3 (0 : Fin 1) t j :=
  ⟨x 1, x 2, funext fun a => by
    match a with
    | ⟨0, _⟩ => exact Subsingleton.elim (α := Fin 1) _ _
    | ⟨1, _⟩ => rfl
    | ⟨2, _⟩ => rfl⟩

/-- Numbers given by sequence, head, token and place, as an array of the heads side by side. -/
def laid (G : Fin 8 → Fin 4 → Fin 8 → Fin 128 → EReal) (y : Shape.Idx S8x8x512) : EReal :=
  G (y 0) ⟨(y 2).val / 128, by have : (y 2).val < 512 := (y 2).isLt; omega⟩ (y 1) ⟨(y 2).val % 128, by omega⟩

/-- The output's block, read at a token and a head's lane. -/
theorem laid_at (G : Fin 8 → Fin 4 → Fin 8 → Fin 128 → EReal) (t : Fin 8) (j : Fin 128) :
    laid G (ix3 b t (⟨128 * h.val + j.val, by omega⟩ : Fin 512)) = G b h t j := by
  have eh : (⟨(128 * h.val + j.val) / 128, by omega⟩ : Fin 4) = h := Fin.ext (by show (128 * h.val + j.val) / 128 = h.val; omega)
  have ej : (⟨(128 * h.val + j.val) % 128, by omega⟩ : Fin 128) = j := Fin.ext (by show (128 * h.val + j.val) % 128 = j.val; omega)
  show G b ⟨(128 * h.val + j.val) / 128, _⟩ t ⟨(128 * h.val + j.val) % 128, _⟩ = _
  rw [eh, ej]

/-- The output's stores hold at each place what its sequence's and head's store wrote there. -/
theorem stored_band (G : Fin 8 → Fin 4 → Fin 8 → Fin 128 → EReal) (w : Fin 8 → Fin 4 → Vec Ideal S1x8x128 .f32)
    (hG : ∀ b h t j, w b h (ix3 (0 : Fin 1) t j) = G b h t j) (L : List (View.Piece (Elt Ideal) S8x8x512 .f32)) (t : Fin 8) (j : Fin 128) :
    View.canon (stores (bands w) ++ L) (ix3 b t (⟨128 * h.val + j.val, by omega⟩ : Fin 512)) = G b h t j := by
  have hw : ∀ b h x, (bands w b h).2 x = laid G ((bands w b h).1.emb x) := by
    intro b h x
    obtain ⟨t, j, e⟩ := toks_places x
    have e' := toks_emb b h t j
    rw [← e] at e'
    exact ((congrArg (w b h) e).trans (hG b h t j)).trans (((congrArg (laid G) e').trans (laid_at b h G t j)).symm)
  exact (stored (bands w) (laid G) L hw _ b h (bands_mem b h w t j)).trans (laid_at b h G t j)

/-- What the store of the maximum writes. -/
theorem writeM_at (i j : Fin 1) : writeM X4 X5 X9 b h (ix4 (0 : Fin 1) (0 : Fin 1) i j)
    = peak (igs X4 X5 b h) (bcs X4 X5 b h) (mpv X9 b h (ix2 0 0)) 7 := by
  rw [Subsingleton.elim i 0, Subsingleton.elim j 0, ← mt_at]
  unfold writeM
  generalize mt (igv X4 X5 b h) (bcv X4 X5 b h) (mpv X9 b h) = x
  pointwise [last]

/-- What the store of the normaliser writes. -/
theorem writeN_at (i : Fin 1) (j : Fin 64) : writeN X1 X4 X5 X8 X9 b h (ix4 (0 : Fin 1) (0 : Fin 1) i j)
    = after (igs X4 X5 b h) (bcs X4 X5 b h) (mpv X9 b h (ix2 0 0)) (nv X8 b h (ix2 0 j)) (fun s => kv X1 b h (ix2 s j)) (fun _ => 1) := by
  rw [Subsingleton.elim i 0, ← newN_at]
  unfold writeN
  generalize newN (igv X4 X5 b h) (bcv X4 X5 b h) (mpv X9 b h) (kv X1 b h) (nv X8 b h) = x
  pointwise []

/-- What the store of the memory writes. -/
theorem writeC_at (i : Fin 64) (j : Fin 128) : writeC X1 X2 X4 X5 X7 X9 b h (ix4 (0 : Fin 1) (0 : Fin 1) i j)
    = after (igs X4 X5 b h) (bcs X4 X5 b h) (mpv X9 b h (ix2 0 0)) (cv X7 b h (ix2 i j)) (fun s => kv X1 b h (ix2 s i))
      (fun s => wide b h X2 (ix2 s j)) := by
  rw [← newC_at]
  unfold writeC
  generalize newC (igv X4 X5 b h) (bcv X4 X5 b h) (mpv X9 b h) (kv X1 b h) (wide b h X2) (cv X7 b h) = x
  pointwise []

/-- What the store of the output writes. -/
theorem writeY_at (t : Fin 8) (j : Fin 128) : writeY X0 X1 X2 X3 X4 X5 X6 X7 X8 X9 b h (ix3 (0 : Fin 1) t j)
    = output (fun j => hidden (igs X4 X5 b h) (bcs X4 X5 b h) (mpv X9 b h (ix2 0 0)) (fun t d => qv X0 b h (ix2 t d)) (fun s d => kv X1 b h (ix2 s d))
        (fun d => cv X7 b h (ix2 d j)) (fun d => nv X8 b h (ix2 0 d)) (fun s => wide b h X2 (ix2 s j)) t)
      (wide b h X3 (ix2 t j)) (gv X6 h (ix2 0 j)) j := by
  simp only [← hid_at]
  rw [← gated_at]
  unfold writeY
  generalize gated (hid (igv X4 X5 b h) (bcv X4 X5 b h) (mpv X9 b h) (kv X1 b h) (wide b h X2) (qv X0 b h) (cv X7 b h) (nv X8 b h)) (wide b h X3) (gv X6 h) = x
  pointwise []

end block

variable (m : (ℓ : Loc nD τ sig) → Buf (Elt Ideal) ℓ)

/-- The maximum's block after a grid point. -/
theorem afterM (c : Dev nD) (t : Fin cfg0.N) (y : S8x4x1x1.Idx) : (outsAt0 m c t).2.2.2 y
    = (View.whole cc0_scratch2).readCov (stores (parts <| writeM (iblk m c 4 t) (iblk m c 5 t) (iblk m c 9 t)) ++ [⟨entire 1 1, k0_pay4 (iblk m c 9 t)⟩])
      (entire 1 1).toLoadRect y := by
  frame_out
  rfl

/-- The normaliser's block after a grid point. -/
theorem afterN (c : Dev nD) (t : Fin cfg0.N) (y : S8x4x1x64.Idx) : (outsAt0 m c t).2.2.1 y
    = (View.whole cc0_scratch1).readCov (stores (parts <| writeN (iblk m c 1 t) (iblk m c 4 t) (iblk m c 5 t) (iblk m c 8 t) (iblk m c 9 t))
      ++ [⟨entire 1 64, k0_pay3 (iblk m c 8 t)⟩]) (entire 1 64).toLoadRect y := by
  frame_out
  rfl

/-- The memory's block after a grid point. -/
theorem afterC (c : Dev nD) (t : Fin cfg0.N) (y : S8x4x64x128.Idx) : (outsAt0 m c t).2.1 y
    = (View.whole cc0_scratch0).readCov (stores (parts <| writeC (iblk m c 1 t) (iblk m c 2 t) (iblk m c 4 t) (iblk m c 5 t) (iblk m c 7 t) (iblk m c 9 t))
      ++ [⟨entire 64 128, k0_pay2 (iblk m c 7 t)⟩]) (entire 64 128).toLoadRect y := by
  frame_out
  rfl

/-- The output's block after a grid point. -/
theorem afterY (c : Dev nD) (t : Fin cfg0.N) : (outsAt0 m c t).1
    = View.canon (stores (bands <| writeY (iblk m c 0 t) (iblk m c 1 t) (iblk m c 2 t) (iblk m c 3 t) (iblk m c 4 t) (iblk m c 5 t) (iblk m c 6 t)
      (iblk m c 7 t) (iblk m c 8 t) (iblk m c 9 t)) ++ []) := by
  frame_out
  rfl

end Cert.Proof.Mlstm
-- ==== Proof.MlstmReference.lean ====
/-
The recurrence's reference, read entry by entry: its lines give the formulas of one chunk.
-/
module

public import proofs.«01_k».proof.Proof.MlstmMath
public import proofs.«01_k».proof.Proof.Gen.SampleMlstmReferenceIdeal.Run
public import proofs.«01_k».proof.Proof.Gen.SampleMlstmReferenceIdeal.Read
public import Idealize.ShloMosaic.Lib.StableHlo.ReadAt

@[expose] public section

set_option maxHeartbeats 4000000
noncomputable section

namespace Cert.Proof.Mlstm

open Idealize.ShloMosaic Idealize.ShloMosaic.TcCoe
open scoped BigOperators
open Cert.SampleMlstmIdeal Cert.Proof.Proj Cert.Proof.Gates
open Cert.SampleMlstmReferenceIdeal.Read

/-- The row of the flat arrays that holds token `t` of sequence `b`. -/
def row (b : Fin 32) (t : Fin 8) : Fin 256 := ⟨b.val * 8 + t.val, by omega⟩

/-- The lane of a flat array that holds entry `i` of head `h`, of a head's width `n`. -/
def lane {n w : ℕ} (hw : 4 * n = w) (h : Fin 4) (i : Fin n) : Fin w :=
  ⟨h.val * n + i.val, by have := h.isLt; have := i.isLt; subst hw; nlinarith⟩

section textbook
variable (x0 x1 : (⟨S256x256, .f32⟩ : BufTy).Contents (Elt Ideal)) (x2 x3 : (⟨S256x512, .f32⟩ : BufTy).Contents (Elt Ideal))
  (x4 : (⟨S256x128, .f32⟩ : BufTy).Contents (Elt Ideal)) (x5 x6 : (⟨S4, .f32⟩ : BufTy).Contents (Elt Ideal))
  (x7 : (⟨S512, .f32⟩ : BufTy).Contents (Elt Ideal)) (x8 : (⟨S32x4x64x128, .f32⟩ : BufTy).Contents (Elt Ideal))
  (x9 : (⟨S32x4x64, .f32⟩ : BufTy).Contents (Elt Ideal)) (x10 : (⟨S32x4, .f32⟩ : BufTy).Contents (Elt Ideal))
  (b : Fin 32) (h : Fin 4)

/-- The logarithm of a token's input gate. -/
def igate (s : Fin 8) : EReal := x4 (ix2 (row b s) ⟨h.val, by omega⟩) + x5 (ix1 h)

/-- The logarithm of a token's forget gate. -/
def fgate (k : ℕ) : EReal := if hk : k < 8 then logSigmoid (x4 (ix2 (row b ⟨k, hk⟩) ⟨4 + h.val, by omega⟩) + x6 (ix1 h)) else 0

/-- Their running sums. -/
def fsum (t : Fin 8) : EReal := ∑ k ∈ Finset.range (t.val + 1), fgate x4 x6 b h k

/-- A token's query, scaled. -/
def query (t : Fin 8) (d : Fin 64) : EReal := x0 (ix2 (row b t) (lane (by decide) h d)) * Ideal.ofBits .f32 1040187392#32

/-- A token's key. -/
def key (s : Fin 8) (d : Fin 64) : EReal := x1 (ix2 (row b s) (lane (by decide) h d))

/-- A token's value. -/
def val (s : Fin 8) (j : Fin 128) : EReal := x2 (ix2 (row b s) (lane (by decide) h j))

/-- The text's input gates. -/
theorem text_ig (s : Fin 8) : val_main_v13 (F := Ideal) x4 x5 (ix3 b h s) = igate x4 x5 b h s := by
  pointwise [val_main_v13, val_main_v12, val_main_v11, val_main_v10, val_main_v9, val_main_v8]
  rfl

/-- The text's logarithms of the forget gates. -/
theorem text_logf (s : Fin 8) : val_main_v19 (F := Ideal) x4 x6 (ix3 b s h) = fgate x4 x6 b h s.val := by
  rw [fgate, dif_pos s.isLt]
  pointwise [val_main_v14, val_main_v15, val_main_v16, val_main_v17, val_main_v18, val_main_call0_v0, val_main_call0_call0_cst, val_main_call0_call0_v0, val_main_call0_call0_v1,
    val_main_call0_call0_v2, val_main_call0_call0_v3, val_main_call0_call0_v4, val_main_call0_call0_v5, val_main_call0_call0_v6,
    val_main_call0_call0_v7, val_main_call0_call0_v8, val_main_call0_call0_v9, val_main_call0_call0_v10, val_main_call0_call0_v11,
    val_main_call0_v1, val_main_v19]
  refine congrArg (fun z : EReal => -z) ((if_neg (not_not_intro rfl)).trans ?_)
  show _ + Ideal.log1p (Ideal.exp (-max (-(x4 (ix2 (row b s) ⟨4 + h.val, by omega⟩) + x6 (ix1 h))) (- -(x4 (ix2 (row b s) ⟨4 + h.val, by omega⟩) + x6 (ix1 h))))) = _
  rw [neg_neg, max_comm (-(x4 (ix2 (row b s) ⟨4 + h.val, by omega⟩) + x6 (ix1 h)))]
  rfl

/-- The text's running sums of these. -/
theorem text_bc (t : Fin 8) : val_main_v23 (F := Ideal) x4 x6 (ix3 b h t) = fsum x4 x6 b h t := by
  pointwise [val_main_v23]
  unfold val_main_v22 Host.reduceWindowAdd
  have z : val_main_call2_call0_v0 (F := Ideal) (Shape.Idx.first Cert.SampleMlstmReferenceIdeal.Facts₀.h_S_) = (0 : EReal) := by
    rw [val_main_call2_call0_v0_apply, val_main_call2_call0_cst_apply]
    exact Ideal.ofBits_zero_f32
  rw [z]
  exact cumsum (M := 7) _ (fgate x4 x6 b h) _ _ _ (fun i => text_logf x4 x6 b h i) _

/-- The text's exponents at a pair of tokens. -/
theorem text_weight (t s : Fin 8) : val_main_v32 (F := Ideal) x4 x5 x6 (ix4 b h t s) = weight (igate x4 x5 b h) (fsum x4 x6 b h) t s := by
  pointwise [val_main_v32, val_main_v31, val_main_v30, val_main_v29, val_main_v28, val_main_v27, val_main_v26, val_main_v25, val_main_v24, val_main_v21, val_main_v20, val_main_c,
    val_main_call1_v0, val_main_call1_c, val_main_call1_v1, val_main_call1_v2, val_main_call1_v3, val_main_call1_v4, val_main_call1_c_0, val_main_call1_v5, val_main_cst_0,
    val_main_call3_v0, val_main_call3_v1, val_main_call3_v2]
  simp only [text_bc, text_ig]
  have e : IntOp.addi (BitVec.ofNat 32 t.val) 0#32 = BitVec.ofNat 32 t.val := BitVec.add_zero _
  rw [e, weight]
  by_cases hs : s ≤ t
  · rw [(WordCmp.cmpi_sge_ofNat_eq_one_iff (by omega) (by omega)).2 (Fin.le_def.1 hs), if_pos hs]
    rfl
  · rw [(WordCmp.cmpi_sge_ofNat_eq_zero_iff (by omega) (by omega)).2 fun l => hs (Fin.le_def.2 l), if_neg hs]
    exact ofBits_bot

/-- The text's running maximum. -/
theorem text_peak (t : Fin 8) : val_main_v37 (F := Ideal) x4 x5 x6 x10 (ix3 b h t) = peak (igate x4 x5 b h) (fsum x4 x6 b h) (x10 (ix2 b h)) t := by
  pointwise [val_main_v33, val_main_v34, val_main_v35, val_main_v36, val_main_v37, val_main_cst_1]
  simp only [text_bc, text_weight]
  rw [ofBits_bot]
  rfl

/-- The text's weighted keys. -/
theorem text_keys (s : Fin 8) (d : Fin 64) : val_main_v80 (F := Ideal) x1 x4 x5 x6 x10 (ix4 b h s d)
    = key x1 b h s d * late (igate x4 x5 b h) (fsum x4 x6 b h) (x10 (ix2 b h)) s := by
  pointwise [val_main_v4, val_main_v5, val_main_v63, val_main_v64, val_main_v70, val_main_v71, val_main_v72, val_main_v73, val_main_v74, val_main_v75, val_main_v76, val_main_v77, val_main_v78, val_main_v79, val_main_v80]
  simp only [text_bc, text_ig, text_peak]
  rfl

/-- The text's new memory. -/
theorem text_C (i : Fin 64) (j : Fin 128) : val_main_v85 (F := Ideal) x1 x2 x4 x5 x6 x8 x10 (ix4 b h i j)
    = after (igate x4 x5 b h) (fsum x4 x6 b h) (x10 (ix2 b h)) (x8 (ix4 b h i j)) (fun s => key x1 b h s i) (fun s => val x2 b h s j) := by
  pointwise [val_main_v6, val_main_v7, val_main_v63, val_main_v64, val_main_v65, val_main_v66, val_main_v67, val_main_v68, val_main_v69, val_main_v81, val_main_v82, val_main_v83, val_main_v84, val_main_v85]
  simp only [text_bc, text_ig, text_peak, text_keys]
  rfl

/-- The text's new normaliser. -/
theorem text_n (i : Fin 64) : val_main_v114 (F := Ideal) x1 x4 x5 x6 x9 x10 (ix4 b h 0 i)
    = after (igate x4 x5 b h) (fsum x4 x6 b h) (x10 (ix2 b h)) (x9 (ix3 b h i)) (fun s => key x1 b h s i) (fun _ => 1) := by
  pointwise [val_main_v63, val_main_v64, val_main_v65, val_main_v66, val_main_v67, val_main_v68, val_main_v69, val_main_v86, val_main_v87, val_main_v88, val_main_v89, val_main_v90, val_main_v114, val_main_cst_3]
  simp only [text_bc, text_ig, text_peak, text_keys]
  simp only [after, mul_one]
  rfl

/-- The text's new maximum is that of the last token. -/
theorem text_m : val_main_v115 (F := Ideal) x4 x5 x6 x10 (ix4 b h 0 0) = peak (igate x4 x5 b h) (fsum x4 x6 b h) (x10 (ix2 b h)) 7 := by
  pointwise [val_main_v63, val_main_v64, val_main_v115]
  rw [text_peak]

/-- The text's scaled queries. -/
theorem text_q (t : Fin 8) (d : Fin 64) : val_main_v3 (F := Ideal) x0 (ix4 b h t d) = query x0 b h t d := by
  pointwise [val_main_v0, val_main_v1, val_main_v2, val_main_v3, val_main_cst]
  rfl

/-- The text's weighted scores. -/
theorem text_score (t s : Fin 8) : val_main_v45 (F := Ideal) x0 x1 x4 x5 x6 x10 (ix4 b h t s)
    = score (igate x4 x5 b h) (fsum x4 x6 b h) (x10 (ix2 b h)) (∑ d, query x0 b h t d * key x1 b h s d) t s := by
  pointwise [val_main_v4, val_main_v5, val_main_v38, val_main_v39, val_main_v40, val_main_v41, val_main_v44, val_main_v45]
  simp only [text_weight, text_peak, text_q]
  rfl

/-- The text's quotient of numerator and denominator. -/
theorem text_h (t : Fin 8) (j : Fin 128) : val_main_v62 (F := Ideal) x0 x1 x2 x4 x5 x6 x8 x9 x10 (ix4 b h t j)
    = hidden (igate x4 x5 b h) (fsum x4 x6 b h) (x10 (ix2 b h)) (query x0 b h) (key x1 b h) (fun d => x8 (ix4 b h d j)) (fun d => x9 (ix3 b h d)) (fun s => val x2 b h s j) t := by
  pointwise [val_main_v6, val_main_v7, val_main_v33, val_main_v34, val_main_v35, val_main_v42, val_main_v43, val_main_v46, val_main_v47, val_main_v48, val_main_v49, val_main_v50, val_main_v51, val_main_v52, val_main_v53, val_main_v54, val_main_v55,
    val_main_v56, val_main_v57, val_main_v58, val_main_v59, val_main_v60, val_main_v61, val_main_v62, val_main_cst_2]
  simp only [text_bc, text_peak, text_q, text_score]
  simp only [hidden, reading, mul_one]
  rfl

/-- The text's output at a token and a head's lane. -/
theorem text_y (t : Fin 8) (j : Fin 128) : val_main_v113 (F := Ideal) x0 x1 x2 x3 x4 x5 x6 x7 x8 x9 x10 (ix3 b t (lane (by decide) h j))
    = output (fun j => val_main_v62 (F := Ideal) x0 x1 x2 x4 x5 x6 x8 x9 x10 (ix4 b h t j)) (x3 (ix2 (row b t) (lane (by decide) h j))) (x7 (ix1 (lane (by decide) h j))) j := by
  pointwise [val_main_v91, val_main_v92, val_main_v93, val_main_v94, val_main_v95, val_main_v96, val_main_v97, val_main_v98, val_main_v99, val_main_v100, val_main_v101, val_main_v102, val_main_v103, val_main_v104, val_main_v105,
    val_main_v106, val_main_v107, val_main_v108, val_main_v109, val_main_v110, val_main_v111, val_main_v112, val_main_v113, val_main_cst_4, val_main_cst_5, val_main_cst_6, val_main_cst_7, val_main_cst_8]
  have eh : (⟨(lane (by decide : 4 * 128 = 512) h j).val / 128, by omega⟩ : Fin 4) = h := Fin.ext (by show (h.val * 128 + j.val) / 128 = h.val; omega)
  have ej : (⟨(lane (by decide : 4 * 128 = 512) h j).val % 128, by omega⟩ : Fin 128) = j := Fin.ext (by show (h.val * 128 + j.val) % 128 = j.val; omega)
  change output (fun x => val_main_v62 (F := Ideal) x0 x1 x2 x4 x5 x6 x8 x9 x10 (ix4 b (⟨(lane (by decide : 4 * 128 = 512) h j).val / 128, by omega⟩ : Fin 4) t x)) _ _
    (⟨(lane (by decide : 4 * 128 = 512) h j).val % 128, by omega⟩ : Fin 128) = _
  rw [eh, ej]
  rfl
end textbook

end Cert.Proof.Mlstm
-- ==== Proof.SampleMlstmValue.lean ====
/-
The value of the sample's matrix-memory call: its outputs and the states after it are the textbook's.
-/
module

public import proofs.«01_k».proof.Proof.MlstmBlock
public import proofs.«01_k».proof.Proof.MlstmReference
public import proofs.«01_k».proof.Defs
public import Idealize.ShloMosaic.Lib.StableHlo.ReadAt
public import Idealize.ShloMosaic.Lib.StableHlo.Run

@[expose] public section

set_option maxHeartbeats 4000000
noncomputable section

namespace Cert.Proof.SampleMlstm

open Idealize.ShloMosaic Idealize.ShloMosaic.TcCoe Idealize.SL.Sem
open scoped BigOperators
open Cert.SampleMlstmIdeal Cert.SampleMlstmIdeal.Gen Cert.Proof.Proj Cert.Proof.Gates Cert.Proof.Mlstm
open Cert.SampleMlstmReferenceIdeal.Read

variable (m : (ℓ : Loc nD τ sig) → Buf (Elt Ideal) ℓ)

/-- The block index of each window at a grid point. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![0, 0] ∧ win0_6.index t = ![0, 0]
    ∧ win0_7.index t = ![t.val, 0, 0, 0] ∧ win0_8.index t = ![t.val, 0, 0, 0] ∧ win0_9.index t = ![t.val, 0, 0, 0]
    ∧ win0_10.index t = ![t.val, 0, 0] ∧ win0_11.index t = ![t.val, 0, 0, 0] ∧ win0_12.index t = ![t.val, 0, 0, 0]
    ∧ win0_13.index t = ![t.val, 0, 0, 0] :=
  (by decide +kernel : ∀ t : Fin grid0.N, _)

section state
variable (c : Dev nD)

/-- The kernel's arguments: queries, keys, values, output gates, the two gates' numbers, their biases, the scales and the states. -/
abbrev A0 : (⟨S256x256, .f32⟩ : BufTy).Contents (Elt Ideal) := m ((c : Thread nD τ).loc main_arg0)
abbrev A1 : (⟨S256x256, .f32⟩ : BufTy).Contents (Elt Ideal) := m ((c : Thread nD τ).loc main_arg1)
abbrev A2 : (⟨S256x512, .f32⟩ : BufTy).Contents (Elt Ideal) := m ((c : Thread nD τ).loc main_arg2)
abbrev A3 : (⟨S256x512, .f32⟩ : BufTy).Contents (Elt Ideal) := m ((c : Thread nD τ).loc main_arg3)
abbrev A4 : (⟨S256x128, .f32⟩ : BufTy).Contents (Elt Ideal) := m ((c : Thread nD τ).loc main_arg4)
abbrev A5 : (⟨S4, .f32⟩ : BufTy).Contents (Elt Ideal) := m ((c : Thread nD τ).loc main_arg5)
abbrev A6 : (⟨S4, .f32⟩ : BufTy).Contents (Elt Ideal) := m ((c : Thread nD τ).loc main_arg6)
abbrev A7 : (⟨S512, .f32⟩ : BufTy).Contents (Elt Ideal) := m ((c : Thread nD τ).loc main_arg7)
abbrev A8 : (⟨S32x4x64x128, .f32⟩ : BufTy).Contents (Elt Ideal) := m ((c : Thread nD τ).loc main_arg8)
abbrev A9 : (⟨S32x4x64, .f32⟩ : BufTy).Contents (Elt Ideal) := m ((c : Thread nD τ).loc main_arg9)
abbrev A10 : (⟨S32x4, .f32⟩ : BufTy).Contents (Elt Ideal) := m ((c : Thread nD τ).loc main_arg10)

/-- What the kernel finds in the arrays the host lines made for it. -/
theorem host :
    (∀ (b : Fin 32) (s : Fin 8) (j : Fin 256), V m c main_v3 (ix3 b s j) = A0 m c (ix2 (row b s) j))
    ∧ (∀ (b : Fin 32) (s : Fin 8) (j : Fin 256), V m c main_v4 (ix3 b s j) = A1 m c (ix2 (row b s) j))
    ∧ (∀ (b : Fin 32) (s : Fin 8) (j : Fin 512), V m c main_v5 (ix3 b s j) = A2 m c (ix2 (row b s) j))
    ∧ (∀ (b : Fin 32) (s : Fin 8) (j : Fin 512), V m c main_v6 (ix3 b s j) = A3 m c (ix2 (row b s) j))
    ∧ (∀ (b : Fin 32) (s : Fin 8) (j : Fin 128), V m c main_v7 (ix3 b s j) = A4 m c (ix2 (row b s) j))
    ∧ (∀ h : Fin 4, V m c main_v2 (ix2 0 (⟨h.val, by omega⟩ : Fin 128)) = A5 m c (ix1 h))
    ∧ (∀ h : Fin 4, V m c main_v2 (ix2 0 (⟨4 + h.val, by omega⟩ : Fin 128)) = A6 m c (ix1 h))
    ∧ (∀ j : Fin 512, V m c main_v8 (ix2 0 j) = A7 m c (ix1 j))
    ∧ (∀ (b : Fin 32) (h : Fin 4) (i : Fin 64), V m c main_v9 (ix4 b h 0 i) = A9 m c (ix3 b h i))
    ∧ (∀ (b : Fin 32) (h : Fin 4), V m c main_v10 (ix4 b h 0 0) = A10 m c (ix2 b h)) := by
  unfold V
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp
  refine ⟨fun b s j => ?_, fun b s j => ?_, fun b s j => ?_, fun b s j => ?_, fun b s j => ?_, fun h => ?_, fun h => ?_, fun j => ?_,
    fun b h i => ?_, fun b h => ?_⟩ <;> pointwise []
  case refine_6 => exact dif_pos (by omega)
  case refine_7 => exact dif_pos (by omega)
  all_goals rfl

/-- The sequence that grid point `t` holds at place `b` of its block. -/
def seq (t : Fin cfg0.N) (b : Fin 8) : Fin 32 := ⟨8 * t.val + b.val, by have : t.val < 4 := t.isLt; omega⟩

section point
variable (t : Fin cfg0.N)

/-! Each window shows the grid point's sequences, the biases' and the scales' windows their whole arrays. -/

theorem read_q (b s : Fin 8) (j : Fin 256) : (iblk m c 0 t) (ix3 b s j) = A0 m c (ix2 (row (seq t b) s) j) := by
  have e : (win0_0.blk t).view.emb (ix3 b s j) = ix3 (seq t b) s j := by blk_ext [seq, idx t]
  exact (congrArg (V m c main_v3) e).trans ((host m c).1 _ s j)

theorem read_k (b s : Fin 8) (j : Fin 256) : (iblk m c 1 t) (ix3 b s j) = A1 m c (ix2 (row (seq t b) s) j) := by
  have e : (win0_1.blk t).view.emb (ix3 b s j) = ix3 (seq t b) s j := by blk_ext [seq, idx t]
  exact (congrArg (V m c main_v4) e).trans ((host m c).2.1 _ s j)

theorem read_v (b s : Fin 8) (j : Fin 512) : (iblk m c 2 t) (ix3 b s j) = A2 m c (ix2 (row (seq t b) s) j) := by
  have e : (win0_2.blk t).view.emb (ix3 b s j) = ix3 (seq t b) s j := by blk_ext [seq, idx t]
  exact (congrArg (V m c main_v5) e).trans ((host m c).2.2.1 _ s j)

theorem read_o (b s : Fin 8) (j : Fin 512) : (iblk m c 3 t) (ix3 b s j) = A3 m c (ix2 (row (seq t b) s) j) := by
  have e : (win0_3.blk t).view.emb (ix3 b s j) = ix3 (seq t b) s j := by blk_ext [seq, idx t]
  exact (congrArg (V m c main_v6) e).trans ((host m c).2.2.2.1 _ s j)

theorem read_gates (b s : Fin 8) (j : Fin 128) : (iblk m c 4 t) (ix3 b s j) = A4 m c (ix2 (row (seq t b) s) j) := by
  have e : (win0_4.blk t).view.emb (ix3 b s j) = ix3 (seq t b) s j := by blk_ext [seq, idx t]
  exact (congrArg (V m c main_v7) e).trans ((host m c).2.2.2.2.1 _ s j)

theorem read_in (h : Fin 4) : (iblk m c 5 t) (ix2 0 (⟨h.val, by omega⟩ : Fin 128)) = A5 m c (ix1 h) := by
  have e : (win0_5.blk t).view.emb (ix2 0 (⟨h.val, by omega⟩ : Fin 128)) = ix2 0 (⟨h.val, by omega⟩ : Fin 128) := by blk_ext [seq, idx t]
  exact (congrArg (V m c main_v2) e).trans ((host m c).2.2.2.2.2.1 h)

theorem read_forget (h : Fin 4) : (iblk m c 5 t) (ix2 0 (⟨4 + h.val, by omega⟩ : Fin 128)) = A6 m c (ix1 h) := by
  have e : (win0_5.blk t).view.emb (ix2 0 (⟨4 + h.val, by omega⟩ : Fin 128)) = ix2 0 (⟨4 + h.val, by omega⟩ : Fin 128) := by blk_ext [seq, idx t]
  exact (congrArg (V m c main_v2) e).trans ((host m c).2.2.2.2.2.2.1 h)

theorem read_g (j : Fin 512) : (iblk m c 6 t) (ix2 0 j) = A7 m c (ix1 j) := by
  have e : (win0_6.blk t).view.emb (ix2 0 j) = ix2 0 j := by blk_ext [seq, idx t]
  exact (congrArg (V m c main_v8) e).trans ((host m c).2.2.2.2.2.2.2.1 j)

theorem read_c (b : Fin 8) (h : Fin 4) (i : Fin 64) (j : Fin 128) : (iblk m c 7 t) (ix4 b h i j) = A8 m c (ix4 (seq t b) h i j) := by
  have e : (win0_7.blk t).view.emb (ix4 b h i j) = ix4 (seq t b) h i j := by blk_ext [seq, idx t]
  exact (congrArg (V m c main_arg8) e).trans (by rw [V_main_arg8])

theorem read_n (b : Fin 8) (h : Fin 4) (i : Fin 64) : (iblk m c 8 t) (ix4 b h 0 i) = A9 m c (ix3 (seq t b) h i) := by
  have e : (win0_8.blk t).view.emb (ix4 b h 0 i) = ix4 (seq t b) h 0 i := by blk_ext [seq, idx t]
  exact (congrArg (V m c main_v9) e).trans ((host m c).2.2.2.2.2.2.2.2.1 _ h i)

theorem read_m (b : Fin 8) (h : Fin 4) : (iblk m c 9 t) (ix4 b h 0 0) = A10 m c (ix2 (seq t b) h) := by
  have e : (win0_9.blk t).view.emb (ix4 b h 0 0) = ix4 (seq t b) h 0 0 := by blk_ext [seq, idx t]
  exact (congrArg (V m c main_v10) e).trans ((host m c).2.2.2.2.2.2.2.2.2 _ h)

variable (b : Fin 8) (h : Fin 4)

/-- A head's lanes counted from its first one. -/
theorem lane_eq {n w : ℕ} (hw : 4 * n = w) (i : Fin n) (hi : n * h.val + i.val < w) : (⟨n * h.val + i.val, hi⟩ : Fin w) = lane hw h i :=
  Fin.ext (by show n * h.val + i.val = h.val * n + i.val; rw [mul_comm])

/-! The parts that the kernel takes at a grid point are those of the text, sequence by sequence and head by head. -/

theorem ig_eq : igs (iblk m c 4 t) (iblk m c 5 t) b h = igate (A4 m c) (A5 m c) (seq t b) h := by
  funext s
  exact (igv_at _ _ b h s).trans (congrArg₂ (· + ·) (read_gates m c t b s _) (read_in m c t h))

theorem bc_eq : bcs (iblk m c 4 t) (iblk m c 5 t) b h = fsum (A4 m c) (A6 m c) (seq t b) h := by
  funext s
  refine bcv_at _ _ b h s (fgate (A4 m c) (A6 m c) (seq t b) h) fun k => ?_
  rw [fgate, dif_pos k.isLt]
  exact congrArg logSigmoid (congrArg₂ (· + ·) (read_gates m c t b k _) (read_forget m c t h))

theorem mp_eq : mpv (iblk m c 9 t) b h (ix2 0 0) = A10 m c (ix2 (seq t b) h) :=
  (mpv_at _ b h).trans (read_m m c t b h)

theorem n_eq (i : Fin 64) : nv (iblk m c 8 t) b h (ix2 0 i) = A9 m c (ix3 (seq t b) h i) :=
  (nv_at _ b h i).trans (read_n m c t b h i)

theorem c_eq (i : Fin 64) (j : Fin 128) : cv (iblk m c 7 t) b h (ix2 i j) = A8 m c (ix4 (seq t b) h i j) :=
  (cv_at _ b h i j).trans (read_c m c t b h i j)

theorem k_eq (s : Fin 8) (d : Fin 64) : kv (iblk m c 1 t) b h (ix2 s d) = key (A1 m c) (seq t b) h s d :=
  (kv_at _ b h s d).trans ((read_k m c t b s _).trans (by rw [lane_eq h (by decide)]; rfl))

theorem q_eq (s : Fin 8) (d : Fin 64) : qv (iblk m c 0 t) b h (ix2 s d) = query (A0 m c) (seq t b) h s d :=
  (qv_at _ b h s d).trans (congrArg (· * Ideal.ofBits .f32 1040187392#32) ((read_q m c t b s _).trans (by rw [lane_eq h (by decide)])))

theorem v_eq (s : Fin 8) (j : Fin 128) : wide b h (iblk m c 2 t) (ix2 s j) = val (A2 m c) (seq t b) h s j :=
  (wide_at b h _ s j).trans ((read_v m c t b s _).trans (by rw [lane_eq h (by decide)]; rfl))

theorem o_eq (s : Fin 8) (j : Fin 128) : wide b h (iblk m c 3 t) (ix2 s j) = A3 m c (ix2 (row (seq t b) s) (lane (by decide) h j)) :=
  (wide_at b h _ s j).trans ((read_o m c t b s _).trans (by rw [lane_eq h (by decide)]))

theorem g_eq (j : Fin 128) : gv (iblk m c 6 t) h (ix2 0 j) = A7 m c (ix1 (lane (by decide) h j)) :=
  (gv_at _ h j).trans ((read_g m c t _).trans (by rw [lane_eq h (by decide)]))

/-- After a grid point the maximum's block holds what the text says. -/
theorem m_after : (outsAt0 m c t).2.2.2 (ix4 b h 0 0) = val_main_v115 (F := Ideal) (A4 m c) (A5 m c) (A6 m c) (A10 m c) (ix4 (seq t b) h 0 0) := by
  rw [afterM, text_m]
  refine (stored_cell b h _ _ _ (writeM_at _ _ _) _ 0 0).trans ?_
  rw [ig_eq, bc_eq, mp_eq]

/-- After a grid point the normaliser's block holds what the text says. -/
theorem n_after (i : Fin 64) : (outsAt0 m c t).2.2.1 (ix4 b h 0 i)
    = val_main_v114 (F := Ideal) (A1 m c) (A4 m c) (A5 m c) (A6 m c) (A9 m c) (A10 m c) (ix4 (seq t b) h 0 i) := by
  rw [afterN, text_n]
  refine (stored_cell b h _ _ _ (writeN_at _ _ _ _ _) _ 0 i).trans ?_
  simp only [ig_eq, bc_eq, mp_eq, n_eq, k_eq]

/-- After a grid point the memory's block holds what the text says. -/
theorem c_after (i : Fin 64) (j : Fin 128) : (outsAt0 m c t).2.1 (ix4 b h i j)
    = val_main_v85 (F := Ideal) (A1 m c) (A2 m c) (A4 m c) (A5 m c) (A6 m c) (A8 m c) (A10 m c) (ix4 (seq t b) h i j) := by
  rw [afterC, text_C]
  refine (stored_cell b h _ _ _ (writeC_at _ _ _ _ _ _) _ i j).trans ?_
  simp only [ig_eq, bc_eq, mp_eq, c_eq, k_eq, v_eq]

/-- After a grid point the output's block holds what the text says. -/
theorem y_after (s : Fin 8) (j : Fin 128) : (outsAt0 m c t).1 (ix3 b s (⟨128 * h.val + j.val, by omega⟩ : Fin 512))
    = val_main_v113 (F := Ideal) (A0 m c) (A1 m c) (A2 m c) (A3 m c) (A4 m c) (A5 m c) (A6 m c) (A7 m c) (A8 m c) (A9 m c) (A10 m c)
      (ix3 (seq t b) s (lane (by decide) h j)) := by
  rw [afterY, text_y]
  refine (stored_band b h _ _ (writeY_at _ _ _ _ _ _ _ _ _ _) _ s j).trans ?_
  simp only [ig_eq, bc_eq, mp_eq, c_eq, n_eq, q_eq, k_eq, v_eq, o_eq, g_eq, text_h]

end point

/-! Each output array of the kernel is the textbook's output of the kernel's arguments. -/

theorem final10 : (dats m 0 c).arrAt 10 cfg0.N = val_main_v113 (F := Ideal) (A0 m c) (A1 m c) (A2 m c) (A3 m c) (A4 m c) (A5 m c) (A6 m c) (A7 m c) (A8 m c) (A9 m c) (A10 m c) := by
  refine (dats m 0 c).arrAt_eq_of_covers 10 _ (by decide +kernel) fun t hf y => ?_
  blk_simp
  rw [after0_10]
  idx_vars y
  obtain ⟨h, j, rfl⟩ : ∃ (h : Fin 4) (j : Fin 128), y2 = ⟨128 * h.val + j.val, by omega⟩ :=
    ⟨⟨y2.val / 128, by have := y2.isLt; omega⟩, ⟨y2.val % 128, by omega⟩, Fin.ext (by show y2.val = 128 * (y2.val / 128) + y2.val % 128; omega)⟩
  have e : (win0_10.blk t).view.emb (ix3 y0 y1 (⟨128 * h.val + j.val, by omega⟩ : Fin 512)) = ix3 (seq t y0) y1 (⟨128 * h.val + j.val, by omega⟩ : Fin 512) := by
    blk_ext [seq, idx t]
  rw [e.trans (congrArg (fun z => ix3 (seq t y0) y1 z) (lane_eq h (by decide : 4 * 128 = 512) j _))]
  exact y_after m c t y0 h y1 j

theorem final11 : (dats m 0 c).arrAt 11 cfg0.N = val_main_v85 (F := Ideal) (A1 m c) (A2 m c) (A4 m c) (A5 m c) (A6 m c) (A8 m c) (A10 m c) := by
  refine (dats m 0 c).arrAt_eq_of_covers 11 _ (by decide +kernel) fun t hf y => ?_
  blk_simp
  rw [after0_11]
  idx_vars y
  have e : (win0_11.blk t).view.emb (ix4 y0 y1 y2 y3) = ix4 (seq t y0) y1 y2 y3 := by blk_ext [seq, idx t]
  rw [e]
  exact c_after m c t y0 y1 y2 y3

theorem final12 : (dats m 0 c).arrAt 12 cfg0.N = val_main_v114 (F := Ideal) (A1 m c) (A4 m c) (A5 m c) (A6 m c) (A9 m c) (A10 m c) := by
  refine (dats m 0 c).arrAt_eq_of_covers 12 _ (by decide +kernel) fun t hf y => ?_
  blk_simp
  rw [after0_12]
  idx_vars y
  have e : (win0_12.blk t).view.emb (ix4 y0 y1 0 y3) = ix4 (seq t y0) y1 0 y3 := by blk_ext [seq, idx t]
  rw [Subsingleton.elim y2 0, e]
  exact n_after m c t y0 y1 y3

theorem final13 : (dats m 0 c).arrAt 13 cfg0.N = val_main_v115 (F := Ideal) (A4 m c) (A5 m c) (A6 m c) (A10 m c) := by
  refine (dats m 0 c).arrAt_eq_of_covers 13 _ (by decide +kernel) fun t hf y => ?_
  blk_simp
  rw [after0_13]
  idx_vars y
  have e : (win0_13.blk t).view.emb (ix4 y0 y1 0 0) = ix4 (seq t y0) y1 0 0 := by blk_ext [seq, idx t]
  rw [Subsingleton.elim y2 0, Subsingleton.elim y3 0, e]
  exact m_after m c t y0 y1

end state

/-- Over the reals the kernel and the textbook lines have the same results on the same arguments. -/
theorem algebraic : Cert.algebraic_SampleMlstmIdeal_SampleMlstmReferenceIdeal := by
  intro m ρ m' ρ' _ hagree
  refine ⟨fun c => val_main_v113 (F := Ideal) (A0 m c) (A1 m c) (A2 m c) (A3 m c) (A4 m c) (A5 m c) (A6 m c) (A7 m c) (A8 m c) (A9 m c) (A10 m c), fun c => val_main_v85 (F := Ideal) (A1 m c) (A2 m c) (A4 m c) (A5 m c) (A6 m c) (A8 m c) (A10 m c),
    fun c => val_main_v114 (F := Ideal) (A1 m c) (A4 m c) (A5 m c) (A6 m c) (A9 m c) (A10 m c), fun c => val_main_v115 (F := Ideal) (A4 m c) (A5 m c) (A6 m c) (A10 m c),
    (θ_run Cert.SampleMlstmIdeal.defs _ _).mono (fun _ h c => ⟨(h c).1.trans (final10 m c), (h c).2.1.trans (final11 m c),
      (h c).2.2.1.trans (final12 m c), (h c).2.2.2.1.trans (final13 m c), (h c).2.2.2.2⟩)
      (Cert.SampleMlstmIdeal.Value.run_blocks m ρ), ?_⟩
  refine (θ_run Cert.SampleMlstmReferenceIdeal.defs _ _).mono (fun _ h c => ?_) (Cert.SampleMlstmReferenceIdeal.Value.run (F := Ideal) m' ρ')
  obtain ⟨h0, h1, h2, h3, h4, h5, h6, h7, h8, h9, h10⟩ :
    StableHlo.launchContents m' c (Proc.tc.devRef Cert.SampleMlstmReferenceIdeal.main_arg0) = A0 m c
    ∧ StableHlo.launchContents m' c (Proc.tc.devRef Cert.SampleMlstmReferenceIdeal.main_arg1) = A1 m c
    ∧ StableHlo.launchContents m' c (Proc.tc.devRef Cert.SampleMlstmReferenceIdeal.main_arg2) = A2 m c
    ∧ StableHlo.launchContents m' c (Proc.tc.devRef Cert.SampleMlstmReferenceIdeal.main_arg3) = A3 m c
    ∧ StableHlo.launchContents m' c (Proc.tc.devRef Cert.SampleMlstmReferenceIdeal.main_arg4) = A4 m c
    ∧ StableHlo.launchContents m' c (Proc.tc.devRef Cert.SampleMlstmReferenceIdeal.main_arg5) = A5 m c
    ∧ StableHlo.launchContents m' c (Proc.tc.devRef Cert.SampleMlstmReferenceIdeal.main_arg6) = A6 m c
    ∧ StableHlo.launchContents m' c (Proc.tc.devRef Cert.SampleMlstmReferenceIdeal.main_arg7) = A7 m c
    ∧ StableHlo.launchContents m' c (Proc.tc.devRef Cert.SampleMlstmReferenceIdeal.main_arg8) = A8 m c
    ∧ StableHlo.launchContents m' c (Proc.tc.devRef Cert.SampleMlstmReferenceIdeal.main_arg9) = A9 m c
    ∧ StableHlo.launchContents m' c (Proc.tc.devRef Cert.SampleMlstmReferenceIdeal.main_arg10) = A10 m c := hagree c
  exact ⟨(h c).1.trans (by rw [Cert.SampleMlstmReferenceIdeal.Read.val_main_v113_eq, h0, h1, h2, h3, h4, h5, h6, h7, h8, h9, h10]),
    (h c).2.1.trans (by rw [Cert.SampleMlstmReferenceIdeal.Read.val_main_v85_eq, h1, h2, h4, h5, h6, h8, h10]),
    (h c).2.2.1.trans (by rw [Cert.SampleMlstmReferenceIdeal.Read.val_main_v114_eq, h1, h4, h5, h6, h9, h10]),
    (h c).2.2.2.1.trans (by rw [Cert.SampleMlstmReferenceIdeal.Read.val_main_v115_eq, h4, h5, h6, h10]), (h c).2.2.2.2⟩

end Cert.Proof.SampleMlstm
-- ==== Proof.lean ====
/-
The claims about the forgetting attention of the prompt, the closing calls of the two layers and their projections, put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Ffn
public import proofs.«01_k».proof.Proof.Gen.FfnIdeal
public import proofs.«01_k».proof.Proof.Gen.FfnReferenceIdeal
public import proofs.«01_k».proof.Proof.Gen.FfnIdeal.Value
public import proofs.«01_k».proof.Proof.Gen.FfnReferenceIdeal.Run
public import proofs.«01_k».proof.Proof.Gen.FfnReferenceIdeal.Read
public import proofs.«01_k».proof.Proof.Gen.ReferenceIdeal.Run
public import proofs.«01_k».proof.Proof.Gen.ReferenceIdeal.Read
public import proofs.«01_k».proof.Proof.Gen.EvenProj
public import proofs.«01_k».proof.Proof.Gen.EvenProjIdeal
public import proofs.«01_k».proof.Proof.Gen.EvenProjReferenceIdeal
public import proofs.«01_k».proof.Proof.Gen.EvenProj.Frame
public import proofs.«01_k».proof.Proof.Gen.EvenProjIdeal.Value
public import proofs.«01_k».proof.Proof.Gen.EvenProjIdeal.Frame
public import proofs.«01_k».proof.Proof.Gen.EvenProjReferenceIdeal.Run
public import proofs.«01_k».proof.Proof.Gen.EvenProjReferenceIdeal.Read
public import proofs.«01_k».proof.Proof.Gen.OddProj
public import proofs.«01_k».proof.Proof.Gen.OddProjIdeal
public import proofs.«01_k».proof.Proof.Gen.OddProjReferenceIdeal
public import proofs.«01_k».proof.Proof.Gen.OddProj.Frame
public import proofs.«01_k».proof.Proof.Gen.OddProjIdeal.Value
public import proofs.«01_k».proof.Proof.Gen.OddProjIdeal.Frame
public import proofs.«01_k».proof.Proof.Gen.OddProjReferenceIdeal.Run
public import proofs.«01_k».proof.Proof.Gen.OddProjReferenceIdeal.Read
public import proofs.«01_k».proof.Proof.Gen.SampleEvenProj
public import proofs.«01_k».proof.Proof.Gen.SampleEvenProjIdeal
public import proofs.«01_k».proof.Proof.Gen.SampleEvenProjReferenceIdeal
public import proofs.«01_k».proof.Proof.Gen.SampleEvenProj.Frame
public import proofs.«01_k».proof.Proof.Gen.SampleEvenProjIdeal.Value
public import proofs.«01_k».proof.Proof.Gen.SampleEvenProjIdeal.Frame
public import proofs.«01_k».proof.Proof.Gen.SampleEvenProjReferenceIdeal.Run
public import proofs.«01_k».proof.Proof.Gen.SampleEvenProjReferenceIdeal.Read
public import proofs.«01_k».proof.Proof.Gen.SampleOddProj
public import proofs.«01_k».proof.Proof.Gen.SampleOddProjIdeal
public import proofs.«01_k».proof.Proof.Gen.SampleOddProjReferenceIdeal
public import proofs.«01_k».proof.Proof.Gen.SampleOddProj.Frame
public import proofs.«01_k».proof.Proof.Gen.SampleOddProjIdeal.Value
public import proofs.«01_k».proof.Proof.Gen.SampleOddProjIdeal.Frame
public import proofs.«01_k».proof.Proof.Gen.SampleOddProjReferenceIdeal.Run
public import proofs.«01_k».proof.Proof.Gen.SampleOddProjReferenceIdeal.Read
public import proofs.«01_k».proof.Proof.Gen.EvenFfn
public import proofs.«01_k».proof.Proof.Gen.EvenFfnIdeal
public import proofs.«01_k».proof.Proof.Gen.EvenFfnReferenceIdeal
public import proofs.«01_k».proof.Proof.Gen.EvenFfn.Frame
public import proofs.«01_k».proof.Proof.Gen.EvenFfnIdeal.Value
public import proofs.«01_k».proof.Proof.Gen.EvenFfnIdeal.Frame
public import proofs.«01_k».proof.Proof.Gen.EvenFfnReferenceIdeal.Run
public import proofs.«01_k».proof.Proof.Gen.EvenFfnReferenceIdeal.Read
public import proofs.«01_k».proof.Proof.Gen.SampleFfn
public import proofs.«01_k».proof.Proof.Gen.SampleFfnIdeal
public import proofs.«01_k».proof.Proof.Gen.SampleFfnReferenceIdeal
public import proofs.«01_k».proof.Proof.Gen.SampleFfn.Frame
public import proofs.«01_k».proof.Proof.Gen.SampleFfnIdeal.Value
public import proofs.«01_k».proof.Proof.Gen.SampleFfnIdeal.Frame
public import proofs.«01_k».proof.Proof.Gen.SampleFfnReferenceIdeal.Run
public import proofs.«01_k».proof.Proof.Gen.SampleFfnReferenceIdeal.Read
public import proofs.«01_k».proof.Proof.Gen.FoxGates
public import proofs.«01_k».proof.Proof.Gen.FoxGatesIdeal
public import proofs.«01_k».proof.Proof.Gen.FoxGatesReferenceIdeal
public import proofs.«01_k».proof.Proof.Gen.FoxGates.Frame
public import proofs.«01_k».proof.Proof.Gen.FoxGatesIdeal.Value
public import proofs.«01_k».proof.Proof.Gen.FoxGatesIdeal.Frame
public import proofs.«01_k».proof.Proof.Gen.FoxGatesReferenceIdeal.Run
public import proofs.«01_k».proof.Proof.Gen.FoxGatesReferenceIdeal.Read
public import proofs.«01_k».proof.Proof.Gen.SampleMlstm
public import proofs.«01_k».proof.Proof.Gen.SampleMlstmIdeal
public import proofs.«01_k».proof.Proof.Gen.SampleMlstmReferenceIdeal
public import proofs.«01_k».proof.Proof.Gen.SampleMlstm.Frame
public import proofs.«01_k».proof.Proof.Gen.SampleMlstmIdeal.Value
public import proofs.«01_k».proof.Proof.Gen.SampleMlstmIdeal.Frame
public import proofs.«01_k».proof.Proof.Gen.SampleMlstmReferenceIdeal.Run
public import proofs.«01_k».proof.Proof.Gen.SampleMlstmReferenceIdeal.Read
public import proofs.«01_k».proof.Proof.Frames
public import proofs.«01_k».proof.Proof.FfnValue
public import proofs.«01_k».proof.Proof.FoxValue
public import proofs.«01_k».proof.Proof.EvenProjValue
public import proofs.«01_k».proof.Proof.OddProjValue
public import proofs.«01_k».proof.Proof.SampleEvenProjValue
public import proofs.«01_k».proof.Proof.SampleOddProjValue
public import proofs.«01_k».proof.Proof.EvenFfnValue
public import proofs.«01_k».proof.Proof.SampleFfnValue
public import proofs.«01_k».proof.Proof.FoxGatesValue
public import proofs.«01_k».proof.Proof.SampleMlstmValue

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Ffn.Gen.facts, Cert.FfnIdeal.Gen.facts, Cert.FfnReferenceIdeal.Gen.facts, Cert.EvenProj.Gen.facts, Cert.EvenProjIdeal.Gen.facts, Cert.EvenProjReferenceIdeal.Gen.facts, Cert.OddProj.Gen.facts, Cert.OddProjIdeal.Gen.facts, Cert.OddProjReferenceIdeal.Gen.facts, Cert.SampleEvenProj.Gen.facts, Cert.SampleEvenProjIdeal.Gen.facts, Cert.SampleEvenProjReferenceIdeal.Gen.facts, Cert.SampleOddProj.Gen.facts, Cert.SampleOddProjIdeal.Gen.facts, Cert.SampleOddProjReferenceIdeal.Gen.facts, Cert.EvenFfn.Gen.facts, Cert.EvenFfnIdeal.Gen.facts, Cert.EvenFfnReferenceIdeal.Gen.facts, Cert.SampleFfn.Gen.facts, Cert.SampleFfnIdeal.Gen.facts, Cert.SampleFfnReferenceIdeal.Gen.facts, Cert.FoxGates.Gen.facts, Cert.FoxGatesIdeal.Gen.facts, Cert.FoxGatesReferenceIdeal.Gen.facts, Cert.SampleMlstm.Gen.facts, Cert.SampleMlstmIdeal.Gen.facts, Cert.SampleMlstmReferenceIdeal.Gen.facts, Fox.finiteFacts,
    Frames.kernel, Frames.kernelIdeal, fun m ρ _ => Frames.kernelIdeal m ρ trivial, Frames.referenceIdeal, fun m ρ _ => Frames.referenceIdeal m ρ trivial, Frames.ffn, Frames.ffnIdeal, Frames.ffnReferenceIdeal, Frames.evenProj, Frames.evenProjIdeal, Frames.evenProjReferenceIdeal, Frames.oddProj, Frames.oddProjIdeal, Frames.oddProjReferenceIdeal, Frames.sampleEvenProj, Frames.sampleEvenProjIdeal, Frames.sampleEvenProjReferenceIdeal, Frames.sampleOddProj, Frames.sampleOddProjIdeal, Frames.sampleOddProjReferenceIdeal, Frames.evenFfn, Frames.evenFfnIdeal, Frames.evenFfnReferenceIdeal, Frames.sampleFfn, Frames.sampleFfnIdeal, Frames.sampleFfnReferenceIdeal, Frames.foxGates, Frames.foxGatesIdeal, Frames.foxGatesReferenceIdeal, Frames.sampleMlstm, Frames.sampleMlstmIdeal, Frames.sampleMlstmReferenceIdeal,
    trivial, Fox.algebraic, trivial, Ffn.algebraic, trivial, EvenProj.algebraic, trivial, OddProj.algebraic, trivial, SampleEvenProj.algebraic, trivial, SampleOddProj.algebraic, trivial, EvenFfn.algebraic, trivial, SampleFfn.algebraic, trivial, FoxGates.algebraic, trivial, SampleMlstm.algebraic⟩

end Cert.Proof

end
